-- ==== Defs.lean ====
def Pre_Kernel [hPre_tokens_exist : Cert.Pre_tokens_exist.Facts] (m : (ℓ : Loc Cert.Kernel.nD Cert.Kernel.τ Cert.Kernel.sig) → Buf (Elt Bits) ℓ) : Prop :=
  ∀ c : Dev Cert.Kernel.nD,
    (Cert.Pre_tokens_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_tokens_exist : Cert.Pre_tokens_exist.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_tokens_exist_router_finite [hPre_tokens_exist_router_finite : Cert.Pre_tokens_exist_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_exist_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_exist_router_finite [hPre_tokens_exist_router_finite : Cert.Pre_tokens_exist_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_exist_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_ReferenceIdeal_tokens_exist [hPre_tokens_exist : Cert.Pre_tokens_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_tokens_exist : Cert.Pre_tokens_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_tokens_exist : Cert.Pre_tokens_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tokens_exist_router_finite [hKernelIdeal : Cert.KernelIdeal.Facts] [hPre_tokens_exist_router_finite : Cert.Pre_tokens_exist_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_exist_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tokens_exist_router_finite [hReferenceIdeal : Cert.ReferenceIdeal.Facts] [hPre_tokens_exist_router_finite : Cert.Pre_tokens_exist_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_exist_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tokens_exist [hReferenceIdeal : Cert.ReferenceIdeal.Facts] [hPre_tokens_exist : Cert.Pre_tokens_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_tokens_exist_router_finite [hKernelIdeal : Cert.KernelIdeal.Facts] [hReferenceIdeal : Cert.ReferenceIdeal.Facts] [hPre_tokens_exist_router_finite : Cert.Pre_tokens_exist_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_exist_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37_0) = v0 c
          ∧ r.2.mem ((c.tc : Thread Cert.ReferenceIdeal.nD Cert.ReferenceIdeal.τ).loc Cert.ReferenceIdeal.main_v37_1) = v1 c
          ∧ r.2.mem ((c.tc : Thread Cert.ReferenceIdeal.nD Cert.ReferenceIdeal.τ).loc Cert.ReferenceIdeal.main_v37_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def algebraic_KernelIdeal_ReferenceIdeal_on_codes_and_scales [hKernelIdeal : Cert.KernelIdeal.Facts] [hReferenceIdeal : Cert.ReferenceIdeal.Facts] [hPre_tokens_exist : Cert.Pre_tokens_exist.Facts] [hOn_codes_and_scales : Cert.On_codes_and_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 2048]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v1_0) i = v0 c i)
          ∧ (∀ i : (⟨2, ![1024, 2048]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v1_1) i = v1 c i)
          ∧ (∀ i : (⟨2, ![1, 1024]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.KernelIdeal.nD Cert.KernelIdeal.τ).loc Cert.KernelIdeal.main_v1_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 2048]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v37_0) i = v0 c i)
          ∧ (∀ i : (⟨2, ![1024, 2048]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v37_1) i = v1 c i)
          ∧ (∀ i : (⟨2, ![1, 1024]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.ReferenceIdeal.nD Cert.ReferenceIdeal.τ).loc Cert.ReferenceIdeal.main_v37_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tokens_exist : Cert.Pre_tokens_exist.Facts) (hPre_tokens_exist_router_finite : Cert.Pre_tokens_exist_router_finite.Facts) (hOn_codes_and_scales : Cert.On_codes_and_scales.Facts),
    quiescent_Kernel (hKernel := hKernel) (hPre_tokens_exist := hPre_tokens_exist)
    ∧ quiescent_KernelIdeal (hKernelIdeal := hKernelIdeal) (hPre_tokens_exist := hPre_tokens_exist)
    ∧ quiescent_KernelIdeal_pre_tokens_exist_router_finite (hKernelIdeal := hKernelIdeal) (hPre_tokens_exist_router_finite := hPre_tokens_exist_router_finite)
    ∧ quiescent_ReferenceIdeal (hReferenceIdeal := hReferenceIdeal)
    ∧ quiescent_ReferenceIdeal_pre_tokens_exist_router_finite (hReferenceIdeal := hReferenceIdeal) (hPre_tokens_exist_router_finite := hPre_tokens_exist_router_finite)
    ∧ quiescent_ReferenceIdeal_pre_tokens_exist (hReferenceIdeal := hReferenceIdeal) (hPre_tokens_exist := hPre_tokens_exist)
    ∧ preserves_Kernel_KernelIdeal
    ∧ algebraic_KernelIdeal_ReferenceIdeal_pre_tokens_exist_router_finite (hKernelIdeal := hKernelIdeal) (hReferenceIdeal := hReferenceIdeal) (hPre_tokens_exist_router_finite := hPre_tokens_exist_router_finite)
    ∧ algebraic_KernelIdeal_ReferenceIdeal_on_codes_and_scales (hKernelIdeal := hKernelIdeal) (hReferenceIdeal := hReferenceIdeal) (hPre_tokens_exist := hPre_tokens_exist) (hOn_codes_and_scales := hOn_codes_and_scales)
-- ==== On_codes_and_scales.lean ====
abbrev S1024x2048 : Shape := ⟨2, ![1024, 2048]⟩
abbrev S2048x64 : Shape := ⟨2, ![2048, 64]⟩
abbrev S64x32 : Shape := ⟨2, ![64, 32]⟩
abbrev S64x2048x1408 : Shape := ⟨3, ![64, 2048, 1408]⟩
abbrev S64x1408 : Shape := ⟨2, ![64, 1408]⟩
abbrev S64x1408x2048 : Shape := ⟨3, ![64, 1408, 2048]⟩
abbrev S64x2048 : Shape := ⟨2, ![64, 2048]⟩
abbrev S_ : Shape := ⟨0, ![]⟩
abbrev S1x1024 : Shape := ⟨2, ![1, 1024]⟩

class Facts : Prop where
  bcast_S_S1024x2048 : S_.BroadcastsInDim S1024x2048 (![] : Fin 0 → Fin S1024x2048.rank)
  bcast_S_S1x1024 : S_.BroadcastsInDim S1x1024 (![] : Fin 0 → Fin S1x1024.rank)

variable [Facts]

def fn {F : FTy → Type} [FloatOps F] (main_arg0 : FVec F S1024x2048 .bf16) (main_arg1 : FVec F S2048x64 .f32) (main_arg2 : IVec S64x32 32) (main_arg3 : FVec F S64x2048x1408 .fp8e4m3) (main_arg4 : FVec F S64x2048x1408 .fp8e4m3) (main_arg5 : FVec F S64x1408 .f32) (main_arg6 : FVec F S64x1408 .f32) (main_arg7 : FVec F S64x1408x2048 .fp8e4m3) (main_arg8 : FVec F S64x2048 .f32) : IVec S1024x2048 1 × IVec S1024x2048 1 × IVec S1x1024 1 :=
  let main_c : IVec S_ 1 := constantI S_ 1 0#1
  let main_v0 : IVec S1024x2048 1 := broadcastInDim S1024x2048 ![] bcast_S_S1024x2048 main_c
  let main_c_0 : IVec S_ 1 := constantI S_ 1 1#1
  let main_v1 : IVec S1024x2048 1 := broadcastInDim S1024x2048 ![] bcast_S_S1024x2048 main_c_0
  let main_c_1 : IVec S_ 1 := constantI S_ 1 1#1
  let main_v2 : IVec S1x1024 1 := broadcastInDim S1x1024 ![] bcast_S_S1x1024 main_c_1
  (main_v0, main_v1, main_v2)
-- ==== Pre_tokens_exist.lean ====
abbrev S1024x2048 : Shape := ⟨2, ![1024, 2048]⟩
abbrev S2048x64 : Shape := ⟨2, ![2048, 64]⟩
abbrev S64x32 : Shape := ⟨2, ![64, 32]⟩
abbrev S64x2048x1408 : Shape := ⟨3, ![64, 2048, 1408]⟩
abbrev S64x1408 : Shape := ⟨2, ![64, 1408]⟩
abbrev S64x1408x2048 : Shape := ⟨3, ![64, 1408, 2048]⟩
abbrev S64x2048 : Shape := ⟨2, ![64, 2048]⟩
abbrev S_ : Shape := ⟨0, ![]⟩

class Facts : Prop where
  bcast_S_S64x32 : S_.BroadcastsInDim S64x32 (![] : Fin 0 → Fin S64x32.rank)

variable [Facts]

def fn {F : FTy → Type} [FloatOps F] (main_arg0 : FVec F S1024x2048 .bf16) (main_arg1 : FVec F S2048x64 .f32) (main_arg2 : IVec S64x32 32) (main_arg3 : FVec F S64x2048x1408 .fp8e4m3) (main_arg4 : FVec F S64x2048x1408 .fp8e4m3) (main_arg5 : FVec F S64x1408 .f32) (main_arg6 : FVec F S64x1408 .f32) (main_arg7 : FVec F S64x1408x2048 .fp8e4m3) (main_arg8 : FVec F S64x2048 .f32) : IVec S64x32 1 :=
  let main_c : IVec S_ 32 := constantI S_ 32 0#32
  let main_v0 : IVec S64x32 32 := broadcastInDim S64x32 ![] bcast_S_S64x32 main_c
  let main_v1 : IVec S64x32 1 := cmpi .sge main_arg2 main_v0
  let main_c_0 : IVec S_ 32 := constantI S_ 32 1024#32
  let main_v2 : IVec S64x32 32 := broadcastInDim S64x32 ![] bcast_S_S64x32 main_c_0
  let main_v3 : IVec S64x32 1 := cmpi .slt main_arg2 main_v2
  let main_v4 : IVec S64x32 1 := andi main_v1 main_v3
  main_v4
-- ==== Pre_tokens_exist_router_finite.lean ====
abbrev S1024x2048 : Shape := ⟨2, ![1024, 2048]⟩
abbrev S2048x64 : Shape := ⟨2, ![2048, 64]⟩
abbrev S64x32 : Shape := ⟨2, ![64, 32]⟩
abbrev S64x2048x1408 : Shape := ⟨3, ![64, 2048, 1408]⟩
abbrev S64x1408 : Shape := ⟨2, ![64, 1408]⟩
abbrev S64x1408x2048 : Shape := ⟨3, ![64, 1408, 2048]⟩
abbrev S64x2048 : Shape := ⟨2, ![64, 2048]⟩
abbrev S_ : Shape := ⟨0, ![]⟩

class Facts : Prop where
  bcast_S_S64x32 : S_.BroadcastsInDim S64x32 (![] : Fin 0 → Fin S64x32.rank)
  reducesTo_S64x32_S_d0_1 : S64x32.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S1024x2048 .bf16) (main_arg1 : FVec F S2048x64 .f32) (main_arg2 : IVec S64x32 32) (main_arg3 : FVec F S64x2048x1408 .fp8e4m3) (main_arg4 : FVec F S64x2048x1408 .fp8e4m3) (main_arg5 : FVec F S64x1408 .f32) (main_arg6 : FVec F S64x1408 .f32) (main_arg7 : FVec F S64x1408x2048 .fp8e4m3) (main_arg8 : FVec F S64x2048 .f32) : IVec S_ 1 :=
  let main_c : IVec S_ 32 := constantI S_ 32 0#32
  let main_v0 : IVec S64x32 32 := broadcastInDim S64x32 ![] bcast_S_S64x32 main_c
  let main_v1 : IVec S64x32 1 := cmpi .sge main_arg2 main_v0
  let main_c_0 : IVec S_ 32 := constantI S_ 32 1024#32
  let main_v2 : IVec S64x32 32 := broadcastInDim S64x32 ![] bcast_S_S64x32 main_c_0
  let main_v3 : IVec S64x32 1 := cmpi .slt main_arg2 main_v2
  let main_v4 : IVec S64x32 1 := andi main_v1 main_v3
  let main_c_1 : IVec S_ 1 := constantI S_ 1 1#1
  let main_v5 : IVec S_ 1 := (fun x v => Host.reduce IntOp.andi x v reducesTo_S64x32_S_d0_1 h_S_) main_v4 main_c_1
  let main_v6 : FVec F S2048x64 .f32 := Host.absf main_arg1
  let main_cst : FVec F S_ .f32 := constant S_ .f32 0x7F800000#32
  let main_v7 : FVec F S2048x64 .f32 := broadcastInDim S2048x64 ![] bcast_S_S2048x64 main_cst
  let main_v8 : IVec S2048x64 1 := cmpf .olt main_v6 main_v7
  let main_c_2 : IVec S_ 1 := constantI S_ 1 1#1
  let main_v9 : IVec S_ 1 := (fun x v => Host.reduce IntOp.andi x v reducesTo_S2048x64_S_d0_1 h_S_) main_v8 main_c_2
  let main_v10 : IVec S_ 1 := andi main_v5 main_v9
  main_v10
-- ==== Kernel.lean ====
abbrev S1024x2048 : Shape := ⟨2, ![1024, 2048]⟩
abbrev S2048x64 : Shape := ⟨2, ![2048, 64]⟩
abbrev S64x32 : Shape := ⟨2, ![64, 32]⟩
abbrev S64x2048x1408 : Shape := ⟨3, ![64, 2048, 1408]⟩
abbrev S64x1408 : Shape := ⟨2, ![64, 1408]⟩
abbrev S64x1408x2048 : Shape := ⟨3, ![64, 1408, 2048]⟩
abbrev S64x2048 : Shape := ⟨2, ![64, 2048]⟩
abbrev S1x1024 : Shape := ⟨2, ![1, 1024]⟩
abbrev S192x2048 : Shape := ⟨2, ![192, 2048]⟩
abbrev S64x1024 : Shape := ⟨2, ![64, 1024]⟩
abbrev S4x2048x1408 : Shape := ⟨3, ![4, 2048, 1408]⟩
abbrev S4x4x1408x512 : Shape := ⟨4, ![4, 4, 1408, 512]⟩
abbrev S2x32x1408 : Shape := ⟨3, ![2, 32, 1408]⟩
abbrev S32x2048 : Shape := ⟨2, ![32, 2048]⟩
abbrev S4 : Shape := ⟨1, ![4]⟩
abbrev S6 : Shape := ⟨1, ![6]⟩
abbrev S4x2 : Shape := ⟨2, ![4, 2]⟩
abbrev S4x4 : Shape := ⟨2, ![4, 4]⟩
abbrev S2 : Shape := ⟨1, ![2]⟩
abbrev S1 : Shape := ⟨1, ![1]⟩
abbrev S_ : Shape := ⟨0, ![]⟩
abbrev S256x2048 : Shape := ⟨2, ![256, 2048]⟩
abbrev S1x1 : Shape := ⟨2, ![1, 1]⟩
abbrev S1x2048x1408 : Shape := ⟨3, ![1, 2048, 1408]⟩
abbrev S2048x1408 : Shape := ⟨2, ![2048, 1408]⟩
abbrev S1x1x1408x512 : Shape := ⟨4, ![1, 1, 1408, 512]⟩
abbrev S1408x512 : Shape := ⟨2, ![1408, 512]⟩
abbrev S1x1408x512 : Shape := ⟨3, ![1, 1408, 512]⟩
abbrev S128x128 : Shape := ⟨2, ![128, 128]⟩
abbrev S256 : Shape := ⟨1, ![256]⟩
abbrev S256x1 : Shape := ⟨2, ![256, 1]⟩
abbrev S128x1 : Shape := ⟨2, ![128, 1]⟩
abbrev S128 : Shape := ⟨1, ![128]⟩
abbrev S1x128 : Shape := ⟨2, ![1, 128]⟩
abbrev S192x256 : Shape := ⟨2, ![192, 256]⟩
abbrev S64x256 : Shape := ⟨2, ![64, 256]⟩
abbrev S1x256 : Shape := ⟨2, ![1, 256]⟩
abbrev S32x32 : Shape := ⟨2, ![32, 32]⟩
abbrev S1x32 : Shape := ⟨2, ![1, 32]⟩
abbrev S32 : Shape := ⟨1, ![32]⟩
abbrev S32x1 : Shape := ⟨2, ![32, 1]⟩
abbrev S32x1024 : Shape := ⟨2, ![32, 1024]⟩
abbrev S32x1408 : Shape := ⟨2, ![32, 1408]⟩
abbrev S1x1408 : Shape := ⟨2, ![1, 1408]⟩
abbrev S1x32x1408 : Shape := ⟨3, ![1, 32, 1408]⟩
abbrev S32x512 : Shape := ⟨2, ![32, 512]⟩
abbrev S1x512 : Shape := ⟨2, ![1, 512]⟩
abbrev S1024x512 : Shape := ⟨2, ![1024, 512]⟩

abbrev nBuf : Space → Nat
  | .hbm => 13
  | .vmem => 16
  | .smem => 1
  | _ => 0

abbrev bufTy : (tb : Table) → Fin (tcTables nBuf tb) → BufTy
  | .hbm, ⟨0, _⟩ => ⟨S1024x2048, .bf16⟩
  | .hbm, ⟨1, _⟩ => ⟨S2048x64, .f32⟩
  | .hbm, ⟨2, _⟩ => ⟨S64x32, .i32⟩
  | .hbm, ⟨3, _⟩ => ⟨S64x2048x1408, .fp8e4m3⟩
  | .hbm, ⟨4, _⟩ => ⟨S64x2048x1408, .fp8e4m3⟩
  | .hbm, ⟨5, _⟩ => ⟨S64x1408, .f32⟩
  | .hbm, ⟨6, _⟩ => ⟨S64x1408, .f32⟩
  | .hbm, ⟨7, _⟩ => ⟨S64x1408x2048, .fp8e4m3⟩
  | .hbm, ⟨8, _⟩ => ⟨S64x2048, .f32⟩
  | .hbm, ⟨9, _⟩ => ⟨S64x2048, .f32⟩
  | .hbm, ⟨10, _⟩ => ⟨S1024x2048, .bf16⟩
  | .hbm, ⟨11, _⟩ => ⟨S1024x2048, .fp8e4m3⟩
  | .hbm, ⟨12, _⟩ => ⟨S1x1024, .f32⟩
  | .local _ .vmem, ⟨0, _⟩ => ⟨S1024x2048, .bf16⟩
  | .local _ .vmem, ⟨1, _⟩ => ⟨S1024x2048, .fp8e4m3⟩
  | .local _ .vmem, ⟨2, _⟩ => ⟨S1024x2048, .f32⟩
  | .local _ .vmem, ⟨3, _⟩ => ⟨S64x2048, .f32⟩
  | .local _ .vmem, ⟨4, _⟩ => ⟨S192x2048, .bf16⟩
  | .local _ .vmem, ⟨5, _⟩ => ⟨S64x1408, .f32⟩
  | .local _ .vmem, ⟨6, _⟩ => ⟨S64x1408, .f32⟩
  | .local _ .vmem, ⟨7, _⟩ => ⟨S64x2048, .f32⟩
  | .local _ .vmem, ⟨8, _⟩ => ⟨S64x32, .i32⟩
  | .local _ .vmem, ⟨9, _⟩ => ⟨S64x1024, .f32⟩
  | .local _ .vmem, ⟨10, _⟩ => ⟨S1x1024, .f32⟩
  | .local _ .vmem, ⟨11, _⟩ => ⟨S4x2048x1408, .fp8e4m3⟩
  | .local _ .vmem, ⟨12, _⟩ => ⟨S4x2048x1408, .fp8e4m3⟩
  | .local _ .vmem, ⟨13, _⟩ => ⟨S4x4x1408x512, .fp8e4m3⟩
  | .local _ .vmem, ⟨14, _⟩ => ⟨S2x32x1408, .fp8e4m3⟩
  | .local _ .vmem, ⟨15, _⟩ => ⟨S32x2048, .f32⟩
  | .local _ .smem, ⟨0, _⟩ => ⟨S64x32, .i32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch16 : Ref sig .tc := ⟨.vmem, 15, rfl⟩
abbrev cc0_scratch9 : Ref sig .tc := ⟨.smem, 0, rfl⟩

abbrev nD : Nat := 1
abbrev τ : Topo := Topo.v7x

variable {F : FTy → Type} [FloatOps F]

abbrev grid0 : Pipeline.Grid := .none

def k0_off1 (c0_i32_17 : BitVec 32) : Fin 2 → Nat :=
  let c4_i32_18 : BitVec 32 := 4#32
  let v28 : BitVec 32 := Scalar.remsi c0_i32_17 c4_i32_18
  let c0_i32_20 : BitVec 32 := 0#32
  ![v28.toNat, 0]
def k0_off2 (c0_i32_17 : BitVec 32) : Fin 3 → Nat :=
  let c4_i32_18 : BitVec 32 := 4#32
  let v28 : BitVec 32 := Scalar.remsi c0_i32_17 c4_i32_18
  let c0_i32_21 : BitVec 32 := 0#32
  let c0_i32_22 : BitVec 32 := 0#32
  ![v28.toNat, 0, 0]
def k0_off3 (c0_i32_17 : BitVec 32) : Fin 2 → Nat :=
  let c4_i32_18 : BitVec 32 := 4#32
  let v28 : BitVec 32 := Scalar.remsi c0_i32_17 c4_i32_18
  let c1_i32_26 : BitVec 32 := 1#32
  ![v28.toNat, 1]
def k0_off4 (c0_i32_45 : BitVec 32) : Fin 2 → Nat :=
  let c4_i32_46 : BitVec 32 := 4#32
  let v54 : BitVec 32 := Scalar.remsi c0_i32_45 c4_i32_46
  let c0_i32_49 : BitVec 32 := 0#32
  ![v54.toNat, 0]
def k0_off4_at (r : Fin 5) : BitVec 32 :=
  if r.val < 2 then
    if r.val < 1 then
      0#32
    else
      1#32
  else
    if r.val < 3 then
      2#32
    else
      if r.val < 4 then
        3#32
      else
        63#32
def k0_off5 (c0_i32_45 : BitVec 32) : Fin 4 → Nat :=
  let c4_i32_46 : BitVec 32 := 4#32
  let v54 : BitVec 32 := Scalar.remsi c0_i32_45 c4_i32_46
  let c0_i32_48 : BitVec 32 := 0#32
  let c0_i32_50 : BitVec 32 := 0#32
  let c0_i32_51 : BitVec 32 := 0#32
  ![v54.toNat, 0, 0, 0]
def k0_off5_at (r : Fin 5) : BitVec 32 :=
  if r.val < 2 then
    if r.val < 1 then
      0#32
    else
      1#32
  else
    if r.val < 3 then
      2#32
    else
      if r.val < 4 then
        3#32
      else
        63#32
def k0_off6 (c0_i32_54 : BitVec 32) : Fin 2 → Nat :=
  let c4_i32_55 : BitVec 32 := 4#32
  let v61 : BitVec 32 := Scalar.remsi c0_i32_54 c4_i32_55
  let c1_i32_58 : BitVec 32 := 1#32
  ![v61.toNat, 1]
def k0_off7 (c0_i32_54 : BitVec 32) : Fin 4 → Nat :=
  let c4_i32_55 : BitVec 32 := 4#32
  let v61 : BitVec 32 := Scalar.remsi c0_i32_54 c4_i32_55
  let c1_i32_57 : BitVec 32 := 1#32
  let c0_i32_59 : BitVec 32 := 0#32
  let c0_i32_60 : BitVec 32 := 0#32
  ![v61.toNat, 1, 0, 0]
def k0_off8 (c0_i32_63 : BitVec 32) : Fin 2 → Nat :=
  let c4_i32_64 : BitVec 32 := 4#32
  let v68 : BitVec 32 := Scalar.remsi c0_i32_63 c4_i32_64
  let c2_i32_67 : BitVec 32 := 2#32
  ![v68.toNat, 2]
def k0_off9 (c0_i32_63 : BitVec 32) : Fin 4 → Nat :=
  let c4_i32_64 : BitVec 32 := 4#32
  let v68 : BitVec 32 := Scalar.remsi c0_i32_63 c4_i32_64
  let c2_i32_66 : BitVec 32 := 2#32
  let c0_i32_68 : BitVec 32 := 0#32
  let c0_i32_69 : BitVec 32 := 0#32
  ![v68.toNat, 2, 0, 0]
def k0_off10 (c0_i32_71 : BitVec 32) : Fin 2 → Nat :=
  let c4_i32_72 : BitVec 32 := 4#32
  let v75 : BitVec 32 := Scalar.remsi c0_i32_71 c4_i32_72
  let c3_i32_75 : BitVec 32 := 3#32
  ![v75.toNat, 3]
def k0_off11 (c0_i32_71 : BitVec 32) : Fin 4 → Nat :=
  let c4_i32_72 : BitVec 32 := 4#32
  let v75 : BitVec 32 := Scalar.remsi c0_i32_71 c4_i32_72
  let c3_i32_74 : BitVec 32 := 3#32
  let c0_i32_76 : BitVec 32 := 0#32
  let c0_i32_77 : BitVec 32 := 0#32
  ![v75.toNat, 3, 0, 0]
@[reducible] def k0_t1_loop : Scf.Loop 32 :=
  let c0_i32_221 : BitVec 32 := 0#32
  let c4_i32_222 : BitVec 32 := 4#32
  let v214 : BitVec 32 := Scalar.addi c0_i32_221 c4_i32_222
  let c1_i32_223 : BitVec 32 := 1#32
  ⟨c0_i32_221, v214, c1_i32_223⟩
def k0_off12 (k0_t1 : Fin k0_t1_loop.trips) : Fin 1 → Nat :=
  let c0_i32_221 : BitVec 32 := 0#32
  let c1_i32_223 : BitVec 32 := 1#32
  let arg35 : BitVec 32 := Scf.iv c0_i32_221 c1_i32_223 k0_t1
  ![arg35.toNat]
def k0_off13 (k0_t1 : Fin k0_t1_loop.trips) : Fin 2 → Nat :=
  let c0_i32_221 : BitVec 32 := 0#32
  let c1_i32_223 : BitVec 32 := 1#32
  let arg35 : BitVec 32 := Scf.iv c0_i32_221 c1_i32_223 k0_t1
  let c256_i32_1188 : BitVec 32 := 256#32
  let v1662 : BitVec 32 := Scalar.muli arg35 c256_i32_1188
  let c0_i32_1189 : BitVec 32 := 0#32
  ![v1662.toNat, 0]
def k0_mult1 (k0_t1 : Fin k0_t1_loop.trips) : BitVec 32 :=
  let c0_i32_221 : BitVec 32 := 0#32
  let c1_i32_223 : BitVec 32 := 1#32
  let arg35 : BitVec 32 := Scf.iv c0_i32_221 c1_i32_223 k0_t1
  let c256_i32_1191 : BitVec 32 := 256#32
  let v1667 : BitVec 32 := Scalar.muli arg35 c256_i32_1191
  v1667
def k0_off14 (k0_t1 : Fin k0_t1_loop.trips) : Fin 2 → Nat :=
  let c0_i32_221 : BitVec 32 := 0#32
  let c1_i32_223 : BitVec 32 := 1#32
  let arg35 : BitVec 32 := Scf.iv c0_i32_221 c1_i32_223 k0_t1
  let c256_i32_1191 : BitVec 32 := 256#32
  let v1667 : BitVec 32 := Scalar.muli arg35 c256_i32_1191
  let v1668 : BitVec 32 := v1667
  let v1669 : Index := Scalar.indexCast v1668
  let c0_1192 : Index := 0#32
  ![v1669.toNat, 0]
def k0_mult2 (k0_t1 : Fin k0_t1_loop.trips) : BitVec 32 :=
  let c0_i32_221 : BitVec 32 := 0#32
  let c1_i32_223 : BitVec 32 := 1#32
  let arg35 : BitVec 32 := Scf.iv c0_i32_221 c1_i32_223 k0_t1
  let c256_i32_1204 : BitVec 32 := 256#32
  let v1707 : BitVec 32 := Scalar.muli arg35 c256_i32_1204
  v1707
def k0_off15 (k0_t1 : Fin k0_t1_loop.trips) (c0_i32_1205 : BitVec 32) : Fin 2 → Nat :=
  let c0_1208 : Index := 0#32
  let c0_i32_221 : BitVec 32 := 0#32
  let c1_i32_223 : BitVec 32 := 1#32
  let arg35 : BitVec 32 := Scf.iv c0_i32_221 c1_i32_223 k0_t1
  let c256_i32_1204 : BitVec 32 := 256#32
  let v1707 : BitVec 32 := Scalar.muli arg35 c256_i32_1204
  let v1708 : BitVec 32 := v1707
  let v1709 : BitVec 32 := Scalar.addi v1708 c0_i32_1205
  let v1716 : Index := Scalar.indexCast v1709
  ![0, v1716.toNat]
def k0_mult3 (k0_t1 : Fin k0_t1_loop.trips) : BitVec 32 :=
  let c0_i32_221 : BitVec 32 := 0#32
  let c1_i32_223 : BitVec 32 := 1#32
  let arg35 : BitVec 32 := Scf.iv c0_i32_221 c1_i32_223 k0_t1
  let c256_i32_1209 : BitVec 32 := 256#32
  let v1721 : BitVec 32 := Scalar.muli arg35 c256_i32_1209
  v1721
def k0_off16 (k0_t1 : Fin k0_t1_loop.trips) : Fin 2 → Nat :=
  let c0_1218 : Index := 0#32
  let c0_i32_221 : BitVec 32 := 0#32
  let c1_i32_223 : BitVec 32 := 1#32
  let arg35 : BitVec 32 := Scf.iv c0_i32_221 c1_i32_223 k0_t1
  let c256_i32_1191 : BitVec 32 := 256#32
  let v1667 : BitVec 32 := Scalar.muli arg35 c256_i32_1191
  let v1668 : BitVec 32 := v1667
  let v1750 : Index := Scalar.indexCast v1668
  ![0, v1750.toNat]
def k0_off17 : Fin 3 → Nat :=
  let c0_i32_262 : BitVec 32 := 0#32
  let c4_i32_263 : BitVec 32 := 4#32
  let v278 : BitVec 32 := Scalar.remsi c0_i32_262 c4_i32_263
  let v279 : Index := Scalar.indexCast v278
  let c0_264 : Index := 0#32
  let c0_265 : Index := 0#32
  ![v279.toNat, 0, 0]
def k0_off18 (c0_i32_284 : BitVec 32) : Fin 3 → Nat :=
  let c2_i32_285 : BitVec 32 := 2#32
  let v330 : BitVec 32 := Scalar.remsi c0_i32_284 c2_i32_285
  let v331 : Index := Scalar.indexCast v330
  let c0_286 : Index := 0#32
  let c0_287 : Index := 0#32
  ![v331.toNat, 0, 0]
@[reducible] def k0_t2_loop : Scf.Loop 32 :=
  let c0_i32_302 : BitVec 32 := 0#32
  let c63_i32 : BitVec 32 := 63#32
  let v348 : BitVec 32 := Scalar.addi c0_i32_302 c63_i32
  let c1_i32_303 : BitVec 32 := 1#32
  ⟨c0_i32_302, v348, c1_i32_303⟩
def k0_off19 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c1_i32_1188 : BitVec 32 := 1#32
  let v1662 : BitVec 32 := Scalar.addi arg35 c1_i32_1188
  let v1663 : Index := Scalar.indexCast v1662
  let c0_1189 : Index := 0#32
  ![v1663.toNat, 0]
def k0_off20 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c1_i32_1188 : BitVec 32 := 1#32
  let v1662 : BitVec 32 := Scalar.addi arg35 c1_i32_1188
  let v1676 : Index := Scalar.indexCast v1662
  let c0_1192 : Index := 0#32
  ![v1676.toNat, 0]
def k0_off21 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c1_i32_1188 : BitVec 32 := 1#32
  let v1662 : BitVec 32 := Scalar.addi arg35 c1_i32_1188
  let c4_i32_1204 : BitVec 32 := 4#32
  let v1698 : BitVec 32 := Scalar.remsi v1662 c4_i32_1204
  let c0_i32_1205 : BitVec 32 := 0#32
  ![v1698.toNat, 0]
def k0_off22 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c1_i32_1188 : BitVec 32 := 1#32
  let v1662 : BitVec 32 := Scalar.addi arg35 c1_i32_1188
  let c4_i32_1204 : BitVec 32 := 4#32
  let v1698 : BitVec 32 := Scalar.remsi v1662 c4_i32_1204
  let c0_i32_1206 : BitVec 32 := 0#32
  let c0_i32_1207 : BitVec 32 := 0#32
  ![v1698.toNat, 0, 0]
def k0_off23 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c1_i32_1188 : BitVec 32 := 1#32
  let v1662 : BitVec 32 := Scalar.addi arg35 c1_i32_1188
  let c0_i32_1208 : BitVec 32 := 0#32
  let c0_i32_1209 : BitVec 32 := 0#32
  ![v1662.toNat, 0, 0]
def k0_off24 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c1_i32_1188 : BitVec 32 := 1#32
  let v1662 : BitVec 32 := Scalar.addi arg35 c1_i32_1188
  let c4_i32_1204 : BitVec 32 := 4#32
  let v1698 : BitVec 32 := Scalar.remsi v1662 c4_i32_1204
  let c1_i32_1210 : BitVec 32 := 1#32
  ![v1698.toNat, 1]
def k0_off25 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c1_i32_1188 : BitVec 32 := 1#32
  let v1662 : BitVec 32 := Scalar.addi arg35 c1_i32_1188
  let c4_i32_1215 : BitVec 32 := 4#32
  let v1711 : BitVec 32 := Scalar.remsi v1662 c4_i32_1215
  let v1712 : Index := Scalar.indexCast v1711
  let c0_1216 : Index := 0#32
  let c0_1217 : Index := 0#32
  ![v1712.toNat, 0, 0]
def k0_off26 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c1_i32_1188 : BitVec 32 := 1#32
  let v1662 : BitVec 32 := Scalar.addi arg35 c1_i32_1188
  let v1718 : Index := Scalar.indexCast v1662
  let c0_1219 : Index := 0#32
  ![v1718.toNat, 0]
def k0_off27 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c1_i32_1188 : BitVec 32 := 1#32
  let v1662 : BitVec 32 := Scalar.addi arg35 c1_i32_1188
  let c2_i32_1234 : BitVec 32 := 2#32
  let v1765 : BitVec 32 := Scalar.remsi v1662 c2_i32_1234
  let v1766 : Index := Scalar.indexCast v1765
  let c0_1235 : Index := 0#32
  let c0_1236 : Index := 0#32
  ![v1766.toNat, 0, 0]
def k0_cond1 (k0_t2 : Fin k0_t2_loop.trips) : BitVec 1 :=
  let c0_i32_302 : BitVec 32 := 0#32
  let c1_i32_303 : BitVec 32 := 1#32
  let arg35 : BitVec 32 := Scf.iv c0_i32_302 c1_i32_303 k0_t2
  let c1_i32_1237 : BitVec 32 := 1#32
  let v1770 : BitVec 32 := Scalar.addi arg35 c1_i32_1237
  let c4_i32_1238 : BitVec 32 := 4#32
  let v1771 : BitVec 32 := Scalar.addi v1770 c4_i32_1238
  let c64_i32 : BitVec 32 := 64#32
  let v1772 : BitVec 1 := Scalar.cmpi .slt v1771 c64_i32
  let v1773 : BitVec 32 := Scalar.extui v1772
  let c0_i32_1239 : BitVec 32 := 0#32
  let v1774 : BitVec 1 := Scalar.cmpi .ne v1773 c0_i32_1239
  v1774

def k0_off28 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c1_i32_1955 : BitVec 32 := 1#32
  let v3167 : BitVec 32 := Scalar.addi arg35 c1_i32_1955
  let c4_i32_1956 : BitVec 32 := 4#32
  let v3168 : BitVec 32 := Scalar.addi v3167 c4_i32_1956
  let c4_i32_1957 : BitVec 32 := 4#32
  let v3169 : BitVec 32 := Scalar.remsi v3168 c4_i32_1957
  let c0_i32_1958 : BitVec 32 := 0#32
  ![v3169.toNat, 0]
def k0_off29 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c1_i32_1955 : BitVec 32 := 1#32
  let v3167 : BitVec 32 := Scalar.addi arg35 c1_i32_1955
  let c4_i32_1956 : BitVec 32 := 4#32
  let v3168 : BitVec 32 := Scalar.addi v3167 c4_i32_1956
  let c4_i32_1957 : BitVec 32 := 4#32
  let v3169 : BitVec 32 := Scalar.remsi v3168 c4_i32_1957
  let c0_i32_1959 : BitVec 32 := 0#32
  let c0_i32_1960 : BitVec 32 := 0#32
  ![v3169.toNat, 0, 0]
def k0_off30 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c1_i32_1955 : BitVec 32 := 1#32
  let v3167 : BitVec 32 := Scalar.addi arg35 c1_i32_1955
  let c4_i32_1956 : BitVec 32 := 4#32
  let v3168 : BitVec 32 := Scalar.addi v3167 c4_i32_1956
  let c0_i32_1961 : BitVec 32 := 0#32
  let c0_i32_1962 : BitVec 32 := 0#32
  ![v3168.toNat, 0, 0]
def k0_off31 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c1_i32_1955 : BitVec 32 := 1#32
  let v3167 : BitVec 32 := Scalar.addi arg35 c1_i32_1955
  let c4_i32_1956 : BitVec 32 := 4#32
  let v3168 : BitVec 32 := Scalar.addi v3167 c4_i32_1956
  let c4_i32_1957 : BitVec 32 := 4#32
  let v3169 : BitVec 32 := Scalar.remsi v3168 c4_i32_1957
  let c1_i32_1963 : BitVec 32 := 1#32
  ![v3169.toNat, 1]
def k0_off32 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c4_i32_1240 : BitVec 32 := 4#32
  let v1775 : BitVec 32 := Scalar.remsi arg35 c4_i32_1240
  let c0_i32_1242 : BitVec 32 := 0#32
  ![v1775.toNat, 0]
def k0_off33 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1240 : BitVec 32 := 4#32
  let v1775 : BitVec 32 := Scalar.remsi arg35 c4_i32_1240
  let c0_i32_1241 : BitVec 32 := 0#32
  let c0_i32_1243 : BitVec 32 := 0#32
  let c0_i32_1244 : BitVec 32 := 0#32
  ![v1775.toNat, 0, 0, 0]
def k0_off34 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c0_i32_1245 : BitVec 32 := 0#32
  let c0_i32_1246 : BitVec 32 := 0#32
  ![arg35.toNat, 0, 0]
def k0_off35 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c4_i32_1247 : BitVec 32 := 4#32
  let v1782 : BitVec 32 := Scalar.remsi arg35 c4_i32_1247
  let c1_i32_1249 : BitVec 32 := 1#32
  ![v1782.toNat, 1]
def k0_off36 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1247 : BitVec 32 := 4#32
  let v1782 : BitVec 32 := Scalar.remsi arg35 c4_i32_1247
  let c1_i32_1248 : BitVec 32 := 1#32
  let c0_i32_1250 : BitVec 32 := 0#32
  let c0_i32_1251 : BitVec 32 := 0#32
  ![v1782.toNat, 1, 0, 0]
def k0_off37 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c0_i32_1252 : BitVec 32 := 0#32
  let c512_i32_1253 : BitVec 32 := 512#32
  ![arg35.toNat, 0, 512]
def k0_off38 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c4_i32_1254 : BitVec 32 := 4#32
  let v1789 : BitVec 32 := Scalar.remsi arg35 c4_i32_1254
  let c2_i32_1256 : BitVec 32 := 2#32
  ![v1789.toNat, 2]
def k0_off39 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1254 : BitVec 32 := 4#32
  let v1789 : BitVec 32 := Scalar.remsi arg35 c4_i32_1254
  let c2_i32_1255 : BitVec 32 := 2#32
  let c0_i32_1257 : BitVec 32 := 0#32
  let c0_i32_1258 : BitVec 32 := 0#32
  ![v1789.toNat, 2, 0, 0]
def k0_off40 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c0_i32_1259 : BitVec 32 := 0#32
  let c1024_i32_1260 : BitVec 32 := 1024#32
  ![arg35.toNat, 0, 1024]
def k0_off41 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c4_i32_1261 : BitVec 32 := 4#32
  let v1796 : BitVec 32 := Scalar.remsi arg35 c4_i32_1261
  let c3_i32_1263 : BitVec 32 := 3#32
  ![v1796.toNat, 3]
def k0_off42 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1261 : BitVec 32 := 4#32
  let v1796 : BitVec 32 := Scalar.remsi arg35 c4_i32_1261
  let c3_i32_1262 : BitVec 32 := 3#32
  let c0_i32_1264 : BitVec 32 := 0#32
  let c0_i32_1265 : BitVec 32 := 0#32
  ![v1796.toNat, 3, 0, 0]
def k0_off43 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c0_i32_1266 : BitVec 32 := 0#32
  let c1536_i32_1267 : BitVec 32 := 1536#32
  ![arg35.toNat, 0, 1536]
def k0_off44 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c2_i32_1268 : BitVec 32 := 2#32
  let v1803 : BitVec 32 := Scalar.remsi arg35 c2_i32_1268
  let v1804 : Index := Scalar.indexCast v1803
  let c0_1269 : Index := 0#32
  let c0_1270 : Index := 0#32
  ![v1804.toNat, 0, 0]
def k0_off45 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1271 : BitVec 32 := 4#32
  let v1807 : BitVec 32 := Scalar.remsi arg35 c4_i32_1271
  let v1808 : Index := Scalar.indexCast v1807
  let c0_1272 : Index := 0#32
  let c0_1273 : Index := 0#32
  let c0_1274 : Index := 0#32
  ![v1808.toNat, 0, 0, 0]
def k0_off46 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1814 : Index := Scalar.indexCast arg35
  let c0_1276 : Index := 0#32
  ![v1814.toNat, 0]
def k0_off47 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1823 : Index := Scalar.indexCast arg35
  let c0_1279 : Index := 0#32
  ![v1823.toNat, 0]
def k0_off48 (v1824 : BitVec 32) : Fin 2 → Nat :=
  let v1825 : Index := Scalar.indexCast v1824
  let c0_1280 : Index := 0#32
  ![v1825.toNat, 0]

def k0_chk1 (v1824 : BitVec 32) : Prop :=
  (∀ a, (k0_off48 v1824) a + S1x512.size a ≤ S1024x2048.size a)
theorem k0_off48_inb : ∀ (v1824 : BitVec 32) (k0_hw1 : k0_chk1 v1824), ∀ a, (k0_off48 v1824) a + S1x512.size a ≤ S1024x2048.size a := fun v1824 k0_hw1 => k0_hw1

def k0_off49 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1833 : Index := Scalar.indexCast arg35
  let c1_1284 : Index := 1#32
  ![v1833.toNat, 1]
def k0_off50 (v1834 : BitVec 32) : Fin 2 → Nat :=
  let v1835 : Index := Scalar.indexCast v1834
  let c0_1285 : Index := 0#32
  ![v1835.toNat, 0]

def k0_chk2 (v1834 : BitVec 32) : Prop :=
  (∀ a, (k0_off50 v1834) a + S1x512.size a ≤ S1024x2048.size a)
theorem k0_off50_inb : ∀ (v1834 : BitVec 32) (k0_hw2 : k0_chk2 v1834), ∀ a, (k0_off50 v1834) a + S1x512.size a ≤ S1024x2048.size a := fun v1834 k0_hw2 => k0_hw2

def k0_off51 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1843 : Index := Scalar.indexCast arg35
  let c2_1289 : Index := 2#32
  ![v1843.toNat, 2]
def k0_off52 (v1844 : BitVec 32) : Fin 2 → Nat :=
  let v1845 : Index := Scalar.indexCast v1844
  let c0_1290 : Index := 0#32
  ![v1845.toNat, 0]

def k0_chk3 (v1844 : BitVec 32) : Prop :=
  (∀ a, (k0_off52 v1844) a + S1x512.size a ≤ S1024x2048.size a)
theorem k0_off52_inb : ∀ (v1844 : BitVec 32) (k0_hw3 : k0_chk3 v1844), ∀ a, (k0_off52 v1844) a + S1x512.size a ≤ S1024x2048.size a := fun v1844 k0_hw3 => k0_hw3

def k0_off53 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1853 : Index := Scalar.indexCast arg35
  let c3_1294 : Index := 3#32
  ![v1853.toNat, 3]
def k0_off54 (v1854 : BitVec 32) : Fin 2 → Nat :=
  let v1855 : Index := Scalar.indexCast v1854
  let c0_1295 : Index := 0#32
  ![v1855.toNat, 0]

def k0_chk4 (v1854 : BitVec 32) : Prop :=
  (∀ a, (k0_off54 v1854) a + S1x512.size a ≤ S1024x2048.size a)
theorem k0_off54_inb : ∀ (v1854 : BitVec 32) (k0_hw4 : k0_chk4 v1854), ∀ a, (k0_off54 v1854) a + S1x512.size a ≤ S1024x2048.size a := fun v1854 k0_hw4 => k0_hw4

def k0_off55 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1863 : Index := Scalar.indexCast arg35
  let c4_1299 : Index := 4#32
  ![v1863.toNat, 4]
def k0_off56 (v1864 : BitVec 32) : Fin 2 → Nat :=
  let v1865 : Index := Scalar.indexCast v1864
  let c0_1300 : Index := 0#32
  ![v1865.toNat, 0]

def k0_chk5 (v1864 : BitVec 32) : Prop :=
  (∀ a, (k0_off56 v1864) a + S1x512.size a ≤ S1024x2048.size a)
theorem k0_off56_inb : ∀ (v1864 : BitVec 32) (k0_hw5 : k0_chk5 v1864), ∀ a, (k0_off56 v1864) a + S1x512.size a ≤ S1024x2048.size a := fun v1864 k0_hw5 => k0_hw5

def k0_off57 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1873 : Index := Scalar.indexCast arg35
  let c5_1304 : Index := 5#32
  ![v1873.toNat, 5]
def k0_off58 (v1874 : BitVec 32) : Fin 2 → Nat :=
  let v1875 : Index := Scalar.indexCast v1874
  let c0_1305 : Index := 0#32
  ![v1875.toNat, 0]

def k0_chk6 (v1874 : BitVec 32) : Prop :=
  (∀ a, (k0_off58 v1874) a + S1x512.size a ≤ S1024x2048.size a)
theorem k0_off58_inb : ∀ (v1874 : BitVec 32) (k0_hw6 : k0_chk6 v1874), ∀ a, (k0_off58 v1874) a + S1x512.size a ≤ S1024x2048.size a := fun v1874 k0_hw6 => k0_hw6

def k0_off59 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1883 : Index := Scalar.indexCast arg35
  let c6_1309 : Index := 6#32
  ![v1883.toNat, 6]
def k0_off60 (v1884 : BitVec 32) : Fin 2 → Nat :=
  let v1885 : Index := Scalar.indexCast v1884
  let c0_1310 : Index := 0#32
  ![v1885.toNat, 0]

def k0_chk7 (v1884 : BitVec 32) : Prop :=
  (∀ a, (k0_off60 v1884) a + S1x512.size a ≤ S1024x2048.size a)
theorem k0_off60_inb : ∀ (v1884 : BitVec 32) (k0_hw7 : k0_chk7 v1884), ∀ a, (k0_off60 v1884) a + S1x512.size a ≤ S1024x2048.size a := fun v1884 k0_hw7 => k0_hw7

def k0_off61 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1893 : Index := Scalar.indexCast arg35
  let c7_1314 : Index := 7#32
  ![v1893.toNat, 7]
def k0_off62 (v1894 : BitVec 32) : Fin 2 → Nat :=
  let v1895 : Index := Scalar.indexCast v1894
  let c0_1315 : Index := 0#32
  ![v1895.toNat, 0]

def k0_chk8 (v1894 : BitVec 32) : Prop :=
  (∀ a, (k0_off62 v1894) a + S1x512.size a ≤ S1024x2048.size a)
theorem k0_off62_inb : ∀ (v1894 : BitVec 32) (k0_hw8 : k0_chk8 v1894), ∀ a, (k0_off62 v1894) a + S1x512.size a ≤ S1024x2048.size a := fun v1894 k0_hw8 => k0_hw8

def k0_off63 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1903 : Index := Scalar.indexCast arg35
  let c8_1319 : Index := 8#32
  ![v1903.toNat, 8]
def k0_off64 (v1904 : BitVec 32) : Fin 2 → Nat :=
  let v1905 : Index := Scalar.indexCast v1904
  let c0_1320 : Index := 0#32
  ![v1905.toNat, 0]

def k0_chk9 (v1904 : BitVec 32) : Prop :=
  (∀ a, (k0_off64 v1904) a + S1x512.size a ≤ S1024x2048.size a)
theorem k0_off64_inb : ∀ (v1904 : BitVec 32) (k0_hw9 : k0_chk9 v1904), ∀ a, (k0_off64 v1904) a + S1x512.size a ≤ S1024x2048.size a := fun v1904 k0_hw9 => k0_hw9

def k0_off65 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1913 : Index := Scalar.indexCast arg35
  let c9_1324 : Index := 9#32
  ![v1913.toNat, 9]
def k0_off66 (v1914 : BitVec 32) : Fin 2 → Nat :=
  let v1915 : Index := Scalar.indexCast v1914
  let c0_1325 : Index := 0#32
  ![v1915.toNat, 0]

def k0_chk10 (v1914 : BitVec 32) : Prop :=
  (∀ a, (k0_off66 v1914) a + S1x512.size a ≤ S1024x2048.size a)
theorem k0_off66_inb : ∀ (v1914 : BitVec 32) (k0_hw10 : k0_chk10 v1914), ∀ a, (k0_off66 v1914) a + S1x512.size a ≤ S1024x2048.size a := fun v1914 k0_hw10 => k0_hw10

def k0_off67 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1923 : Index := Scalar.indexCast arg35
  let c10_1329 : Index := 10#32
  ![v1923.toNat, 10]
def k0_off68 (v1924 : BitVec 32) : Fin 2 → Nat :=
  let v1925 : Index := Scalar.indexCast v1924
  let c0_1330 : Index := 0#32
  ![v1925.toNat, 0]

def k0_chk11 (v1924 : BitVec 32) : Prop :=
  (∀ a, (k0_off68 v1924) a + S1x512.size a ≤ S1024x2048.size a)
theorem k0_off68_inb : ∀ (v1924 : BitVec 32) (k0_hw11 : k0_chk11 v1924), ∀ a, (k0_off68 v1924) a + S1x512.size a ≤ S1024x2048.size a := fun v1924 k0_hw11 => k0_hw11

def k0_off69 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1933 : Index := Scalar.indexCast arg35
  let c11_1334 : Index := 11#32
  ![v1933.toNat, 11]
def k0_off70 (v1934 : BitVec 32) : Fin 2 → Nat :=
  let v1935 : Index := Scalar.indexCast v1934
  let c0_1335 : Index := 0#32
  ![v1935.toNat, 0]

def k0_chk12 (v1934 : BitVec 32) : Prop :=
  (∀ a, (k0_off70 v1934) a + S1x512.size a ≤ S1024x2048.size a)
theorem k0_off70_inb : ∀ (v1934 : BitVec 32) (k0_hw12 : k0_chk12 v1934), ∀ a, (k0_off70 v1934) a + S1x512.size a ≤ S1024x2048.size a := fun v1934 k0_hw12 => k0_hw12

def k0_off71 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1943 : Index := Scalar.indexCast arg35
  let c12_1339 : Index := 12#32
  ![v1943.toNat, 12]
def k0_off72 (v1944 : BitVec 32) : Fin 2 → Nat :=
  let v1945 : Index := Scalar.indexCast v1944
  let c0_1340 : Index := 0#32
  ![v1945.toNat, 0]

def k0_chk13 (v1944 : BitVec 32) : Prop :=
  (∀ a, (k0_off72 v1944) a + S1x512.size a ≤ S1024x2048.size a)
theorem k0_off72_inb : ∀ (v1944 : BitVec 32) (k0_hw13 : k0_chk13 v1944), ∀ a, (k0_off72 v1944) a + S1x512.size a ≤ S1024x2048.size a := fun v1944 k0_hw13 => k0_hw13

def k0_off73 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1953 : Index := Scalar.indexCast arg35
  let c13_1344 : Index := 13#32
  ![v1953.toNat, 13]
def k0_off74 (v1954 : BitVec 32) : Fin 2 → Nat :=
  let v1955 : Index := Scalar.indexCast v1954
  let c0_1345 : Index := 0#32
  ![v1955.toNat, 0]

def k0_chk14 (v1954 : BitVec 32) : Prop :=
  (∀ a, (k0_off74 v1954) a + S1x512.size a ≤ S1024x2048.size a)
theorem k0_off74_inb : ∀ (v1954 : BitVec 32) (k0_hw14 : k0_chk14 v1954), ∀ a, (k0_off74 v1954) a + S1x512.size a ≤ S1024x2048.size a := fun v1954 k0_hw14 => k0_hw14

def k0_off75 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1963 : Index := Scalar.indexCast arg35
  let c14_1349 : Index := 14#32
  ![v1963.toNat, 14]
def k0_off76 (v1964 : BitVec 32) : Fin 2 → Nat :=
  let v1965 : Index := Scalar.indexCast v1964
  let c0_1350 : Index := 0#32
  ![v1965.toNat, 0]

def k0_chk15 (v1964 : BitVec 32) : Prop :=
  (∀ a, (k0_off76 v1964) a + S1x512.size a ≤ S1024x2048.size a)
theorem k0_off76_inb : ∀ (v1964 : BitVec 32) (k0_hw15 : k0_chk15 v1964), ∀ a, (k0_off76 v1964) a + S1x512.size a ≤ S1024x2048.size a := fun v1964 k0_hw15 => k0_hw15

def k0_off77 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1973 : Index := Scalar.indexCast arg35
  let c15_1354 : Index := 15#32
  ![v1973.toNat, 15]
def k0_off78 (v1974 : BitVec 32) : Fin 2 → Nat :=
  let v1975 : Index := Scalar.indexCast v1974
  let c0_1355 : Index := 0#32
  ![v1975.toNat, 0]

def k0_chk16 (v1974 : BitVec 32) : Prop :=
  (∀ a, (k0_off78 v1974) a + S1x512.size a ≤ S1024x2048.size a)
theorem k0_off78_inb : ∀ (v1974 : BitVec 32) (k0_hw16 : k0_chk16 v1974), ∀ a, (k0_off78 v1974) a + S1x512.size a ≤ S1024x2048.size a := fun v1974 k0_hw16 => k0_hw16

def k0_off79 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1983 : Index := Scalar.indexCast arg35
  let c16_1359 : Index := 16#32
  ![v1983.toNat, 16]
def k0_off80 (v1984 : BitVec 32) : Fin 2 → Nat :=
  let v1985 : Index := Scalar.indexCast v1984
  let c0_1360 : Index := 0#32
  ![v1985.toNat, 0]

def k0_chk17 (v1984 : BitVec 32) : Prop :=
  (∀ a, (k0_off80 v1984) a + S1x512.size a ≤ S1024x2048.size a)
theorem k0_off80_inb : ∀ (v1984 : BitVec 32) (k0_hw17 : k0_chk17 v1984), ∀ a, (k0_off80 v1984) a + S1x512.size a ≤ S1024x2048.size a := fun v1984 k0_hw17 => k0_hw17

def k0_off81 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v1993 : Index := Scalar.indexCast arg35
  let c17_1364 : Index := 17#32
  ![v1993.toNat, 17]
def k0_off82 (v1994 : BitVec 32) : Fin 2 → Nat :=
  let v1995 : Index := Scalar.indexCast v1994
  let c0_1365 : Index := 0#32
  ![v1995.toNat, 0]

def k0_chk18 (v1994 : BitVec 32) : Prop :=
  (∀ a, (k0_off82 v1994) a + S1x512.size a ≤ S1024x2048.size a)
theorem k0_off82_inb : ∀ (v1994 : BitVec 32) (k0_hw18 : k0_chk18 v1994), ∀ a, (k0_off82 v1994) a + S1x512.size a ≤ S1024x2048.size a := fun v1994 k0_hw18 => k0_hw18

def k0_off83 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2003 : Index := Scalar.indexCast arg35
  let c18_1369 : Index := 18#32
  ![v2003.toNat, 18]
def k0_off84 (v2004 : BitVec 32) : Fin 2 → Nat :=
  let v2005 : Index := Scalar.indexCast v2004
  let c0_1370 : Index := 0#32
  ![v2005.toNat, 0]

def k0_chk19 (v2004 : BitVec 32) : Prop :=
  (∀ a, (k0_off84 v2004) a + S1x512.size a ≤ S1024x2048.size a)
theorem k0_off84_inb : ∀ (v2004 : BitVec 32) (k0_hw19 : k0_chk19 v2004), ∀ a, (k0_off84 v2004) a + S1x512.size a ≤ S1024x2048.size a := fun v2004 k0_hw19 => k0_hw19

def k0_off85 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2013 : Index := Scalar.indexCast arg35
  let c19_1374 : Index := 19#32
  ![v2013.toNat, 19]
def k0_off86 (v2014 : BitVec 32) : Fin 2 → Nat :=
  let v2015 : Index := Scalar.indexCast v2014
  let c0_1375 : Index := 0#32
  ![v2015.toNat, 0]

def k0_chk20 (v2014 : BitVec 32) : Prop :=
  (∀ a, (k0_off86 v2014) a + S1x512.size a ≤ S1024x2048.size a)
theorem k0_off86_inb : ∀ (v2014 : BitVec 32) (k0_hw20 : k0_chk20 v2014), ∀ a, (k0_off86 v2014) a + S1x512.size a ≤ S1024x2048.size a := fun v2014 k0_hw20 => k0_hw20

def k0_off87 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2023 : Index := Scalar.indexCast arg35
  let c20_1379 : Index := 20#32
  ![v2023.toNat, 20]
def k0_off88 (v2024 : BitVec 32) : Fin 2 → Nat :=
  let v2025 : Index := Scalar.indexCast v2024
  let c0_1380 : Index := 0#32
  ![v2025.toNat, 0]

def k0_chk21 (v2024 : BitVec 32) : Prop :=
  (∀ a, (k0_off88 v2024) a + S1x512.size a ≤ S1024x2048.size a)
theorem k0_off88_inb : ∀ (v2024 : BitVec 32) (k0_hw21 : k0_chk21 v2024), ∀ a, (k0_off88 v2024) a + S1x512.size a ≤ S1024x2048.size a := fun v2024 k0_hw21 => k0_hw21

def k0_off89 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2033 : Index := Scalar.indexCast arg35
  let c21_1384 : Index := 21#32
  ![v2033.toNat, 21]
def k0_off90 (v2034 : BitVec 32) : Fin 2 → Nat :=
  let v2035 : Index := Scalar.indexCast v2034
  let c0_1385 : Index := 0#32
  ![v2035.toNat, 0]

def k0_chk22 (v2034 : BitVec 32) : Prop :=
  (∀ a, (k0_off90 v2034) a + S1x512.size a ≤ S1024x2048.size a)
theorem k0_off90_inb : ∀ (v2034 : BitVec 32) (k0_hw22 : k0_chk22 v2034), ∀ a, (k0_off90 v2034) a + S1x512.size a ≤ S1024x2048.size a := fun v2034 k0_hw22 => k0_hw22

def k0_off91 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2043 : Index := Scalar.indexCast arg35
  let c22_1389 : Index := 22#32
  ![v2043.toNat, 22]
def k0_off92 (v2044 : BitVec 32) : Fin 2 → Nat :=
  let v2045 : Index := Scalar.indexCast v2044
  let c0_1390 : Index := 0#32
  ![v2045.toNat, 0]

def k0_chk23 (v2044 : BitVec 32) : Prop :=
  (∀ a, (k0_off92 v2044) a + S1x512.size a ≤ S1024x2048.size a)
theorem k0_off92_inb : ∀ (v2044 : BitVec 32) (k0_hw23 : k0_chk23 v2044), ∀ a, (k0_off92 v2044) a + S1x512.size a ≤ S1024x2048.size a := fun v2044 k0_hw23 => k0_hw23

def k0_off93 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2053 : Index := Scalar.indexCast arg35
  let c23_1394 : Index := 23#32
  ![v2053.toNat, 23]
def k0_off94 (v2054 : BitVec 32) : Fin 2 → Nat :=
  let v2055 : Index := Scalar.indexCast v2054
  let c0_1395 : Index := 0#32
  ![v2055.toNat, 0]

def k0_chk24 (v2054 : BitVec 32) : Prop :=
  (∀ a, (k0_off94 v2054) a + S1x512.size a ≤ S1024x2048.size a)
theorem k0_off94_inb : ∀ (v2054 : BitVec 32) (k0_hw24 : k0_chk24 v2054), ∀ a, (k0_off94 v2054) a + S1x512.size a ≤ S1024x2048.size a := fun v2054 k0_hw24 => k0_hw24

def k0_off95 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2063 : Index := Scalar.indexCast arg35
  let c24_1399 : Index := 24#32
  ![v2063.toNat, 24]
def k0_off96 (v2064 : BitVec 32) : Fin 2 → Nat :=
  let v2065 : Index := Scalar.indexCast v2064
  let c0_1400 : Index := 0#32
  ![v2065.toNat, 0]

def k0_chk25 (v2064 : BitVec 32) : Prop :=
  (∀ a, (k0_off96 v2064) a + S1x512.size a ≤ S1024x2048.size a)
theorem k0_off96_inb : ∀ (v2064 : BitVec 32) (k0_hw25 : k0_chk25 v2064), ∀ a, (k0_off96 v2064) a + S1x512.size a ≤ S1024x2048.size a := fun v2064 k0_hw25 => k0_hw25

def k0_off97 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2073 : Index := Scalar.indexCast arg35
  let c25_1404 : Index := 25#32
  ![v2073.toNat, 25]
def k0_off98 (v2074 : BitVec 32) : Fin 2 → Nat :=
  let v2075 : Index := Scalar.indexCast v2074
  let c0_1405 : Index := 0#32
  ![v2075.toNat, 0]

def k0_chk26 (v2074 : BitVec 32) : Prop :=
  (∀ a, (k0_off98 v2074) a + S1x512.size a ≤ S1024x2048.size a)
theorem k0_off98_inb : ∀ (v2074 : BitVec 32) (k0_hw26 : k0_chk26 v2074), ∀ a, (k0_off98 v2074) a + S1x512.size a ≤ S1024x2048.size a := fun v2074 k0_hw26 => k0_hw26

def k0_off99 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2083 : Index := Scalar.indexCast arg35
  let c26_1409 : Index := 26#32
  ![v2083.toNat, 26]
def k0_off100 (v2084 : BitVec 32) : Fin 2 → Nat :=
  let v2085 : Index := Scalar.indexCast v2084
  let c0_1410 : Index := 0#32
  ![v2085.toNat, 0]

def k0_chk27 (v2084 : BitVec 32) : Prop :=
  (∀ a, (k0_off100 v2084) a + S1x512.size a ≤ S1024x2048.size a)
theorem k0_off100_inb : ∀ (v2084 : BitVec 32) (k0_hw27 : k0_chk27 v2084), ∀ a, (k0_off100 v2084) a + S1x512.size a ≤ S1024x2048.size a := fun v2084 k0_hw27 => k0_hw27

def k0_off101 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2093 : Index := Scalar.indexCast arg35
  let c27_1414 : Index := 27#32
  ![v2093.toNat, 27]
def k0_off102 (v2094 : BitVec 32) : Fin 2 → Nat :=
  let v2095 : Index := Scalar.indexCast v2094
  let c0_1415 : Index := 0#32
  ![v2095.toNat, 0]

def k0_chk28 (v2094 : BitVec 32) : Prop :=
  (∀ a, (k0_off102 v2094) a + S1x512.size a ≤ S1024x2048.size a)
theorem k0_off102_inb : ∀ (v2094 : BitVec 32) (k0_hw28 : k0_chk28 v2094), ∀ a, (k0_off102 v2094) a + S1x512.size a ≤ S1024x2048.size a := fun v2094 k0_hw28 => k0_hw28

def k0_off103 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2103 : Index := Scalar.indexCast arg35
  let c28_1419 : Index := 28#32
  ![v2103.toNat, 28]
def k0_off104 (v2104 : BitVec 32) : Fin 2 → Nat :=
  let v2105 : Index := Scalar.indexCast v2104
  let c0_1420 : Index := 0#32
  ![v2105.toNat, 0]

def k0_chk29 (v2104 : BitVec 32) : Prop :=
  (∀ a, (k0_off104 v2104) a + S1x512.size a ≤ S1024x2048.size a)
theorem k0_off104_inb : ∀ (v2104 : BitVec 32) (k0_hw29 : k0_chk29 v2104), ∀ a, (k0_off104 v2104) a + S1x512.size a ≤ S1024x2048.size a := fun v2104 k0_hw29 => k0_hw29

def k0_off105 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2113 : Index := Scalar.indexCast arg35
  let c29_1424 : Index := 29#32
  ![v2113.toNat, 29]
def k0_off106 (v2114 : BitVec 32) : Fin 2 → Nat :=
  let v2115 : Index := Scalar.indexCast v2114
  let c0_1425 : Index := 0#32
  ![v2115.toNat, 0]

def k0_chk30 (v2114 : BitVec 32) : Prop :=
  (∀ a, (k0_off106 v2114) a + S1x512.size a ≤ S1024x2048.size a)
theorem k0_off106_inb : ∀ (v2114 : BitVec 32) (k0_hw30 : k0_chk30 v2114), ∀ a, (k0_off106 v2114) a + S1x512.size a ≤ S1024x2048.size a := fun v2114 k0_hw30 => k0_hw30

def k0_off107 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2123 : Index := Scalar.indexCast arg35
  let c30_1429 : Index := 30#32
  ![v2123.toNat, 30]
def k0_off108 (v2124 : BitVec 32) : Fin 2 → Nat :=
  let v2125 : Index := Scalar.indexCast v2124
  let c0_1430 : Index := 0#32
  ![v2125.toNat, 0]

def k0_chk31 (v2124 : BitVec 32) : Prop :=
  (∀ a, (k0_off108 v2124) a + S1x512.size a ≤ S1024x2048.size a)
theorem k0_off108_inb : ∀ (v2124 : BitVec 32) (k0_hw31 : k0_chk31 v2124), ∀ a, (k0_off108 v2124) a + S1x512.size a ≤ S1024x2048.size a := fun v2124 k0_hw31 => k0_hw31

def k0_off109 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2133 : Index := Scalar.indexCast arg35
  let c31_1434 : Index := 31#32
  ![v2133.toNat, 31]
def k0_off110 (v2134 : BitVec 32) : Fin 2 → Nat :=
  let v2135 : Index := Scalar.indexCast v2134
  let c0_1435 : Index := 0#32
  ![v2135.toNat, 0]

def k0_chk32 (v2134 : BitVec 32) : Prop :=
  (∀ a, (k0_off110 v2134) a + S1x512.size a ≤ S1024x2048.size a)
theorem k0_off110_inb : ∀ (v2134 : BitVec 32) (k0_hw32 : k0_chk32 v2134), ∀ a, (k0_off110 v2134) a + S1x512.size a ≤ S1024x2048.size a := fun v2134 k0_hw32 => k0_hw32

def k0_off111 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c2_i32_1439 : BitVec 32 := 2#32
  let v2143 : BitVec 32 := Scalar.remsi arg35 c2_i32_1439
  let v2144 : Index := Scalar.indexCast v2143
  let c0_1440 : Index := 0#32
  let c0_1441 : Index := 0#32
  ![v2144.toNat, 0, 0]
def k0_off112 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1442 : BitVec 32 := 4#32
  let v2147 : BitVec 32 := Scalar.remsi arg35 c4_i32_1442
  let v2148 : Index := Scalar.indexCast v2147
  let c1_1443 : Index := 1#32
  let c0_1444 : Index := 0#32
  let c0_1445 : Index := 0#32
  ![v2148.toNat, 1, 0, 0]
def k0_off113 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2154 : Index := Scalar.indexCast arg35
  let c512_1447 : Index := 512#32
  ![v2154.toNat, 512]
def k0_off114 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2163 : Index := Scalar.indexCast arg35
  let c0_1450 : Index := 0#32
  ![v2163.toNat, 0]
def k0_off115 (v2164 : BitVec 32) : Fin 2 → Nat :=
  let v2165 : Index := Scalar.indexCast v2164
  let c512_1451 : Index := 512#32
  ![v2165.toNat, 512]

def k0_chk33 (v2164 : BitVec 32) : Prop :=
  (∀ a, (k0_off115 v2164) a + S1x512.size a ≤ S1024x2048.size a)
theorem k0_off115_inb : ∀ (v2164 : BitVec 32) (k0_hw33 : k0_chk33 v2164), ∀ a, (k0_off115 v2164) a + S1x512.size a ≤ S1024x2048.size a := fun v2164 k0_hw33 => k0_hw33

def k0_off116 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2173 : Index := Scalar.indexCast arg35
  let c1_1455 : Index := 1#32
  ![v2173.toNat, 1]
def k0_off117 (v2174 : BitVec 32) : Fin 2 → Nat :=
  let v2175 : Index := Scalar.indexCast v2174
  let c512_1456 : Index := 512#32
  ![v2175.toNat, 512]

def k0_chk34 (v2174 : BitVec 32) : Prop :=
  (∀ a, (k0_off117 v2174) a + S1x512.size a ≤ S1024x2048.size a)
theorem k0_off117_inb : ∀ (v2174 : BitVec 32) (k0_hw34 : k0_chk34 v2174), ∀ a, (k0_off117 v2174) a + S1x512.size a ≤ S1024x2048.size a := fun v2174 k0_hw34 => k0_hw34

def k0_off118 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2183 : Index := Scalar.indexCast arg35
  let c2_1460 : Index := 2#32
  ![v2183.toNat, 2]
def k0_off119 (v2184 : BitVec 32) : Fin 2 → Nat :=
  let v2185 : Index := Scalar.indexCast v2184
  let c512_1461 : Index := 512#32
  ![v2185.toNat, 512]

def k0_chk35 (v2184 : BitVec 32) : Prop :=
  (∀ a, (k0_off119 v2184) a + S1x512.size a ≤ S1024x2048.size a)
theorem k0_off119_inb : ∀ (v2184 : BitVec 32) (k0_hw35 : k0_chk35 v2184), ∀ a, (k0_off119 v2184) a + S1x512.size a ≤ S1024x2048.size a := fun v2184 k0_hw35 => k0_hw35

def k0_off120 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2193 : Index := Scalar.indexCast arg35
  let c3_1465 : Index := 3#32
  ![v2193.toNat, 3]
def k0_off121 (v2194 : BitVec 32) : Fin 2 → Nat :=
  let v2195 : Index := Scalar.indexCast v2194
  let c512_1466 : Index := 512#32
  ![v2195.toNat, 512]

def k0_chk36 (v2194 : BitVec 32) : Prop :=
  (∀ a, (k0_off121 v2194) a + S1x512.size a ≤ S1024x2048.size a)
theorem k0_off121_inb : ∀ (v2194 : BitVec 32) (k0_hw36 : k0_chk36 v2194), ∀ a, (k0_off121 v2194) a + S1x512.size a ≤ S1024x2048.size a := fun v2194 k0_hw36 => k0_hw36

def k0_off122 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2203 : Index := Scalar.indexCast arg35
  let c4_1470 : Index := 4#32
  ![v2203.toNat, 4]
def k0_off123 (v2204 : BitVec 32) : Fin 2 → Nat :=
  let v2205 : Index := Scalar.indexCast v2204
  let c512_1471 : Index := 512#32
  ![v2205.toNat, 512]

def k0_chk37 (v2204 : BitVec 32) : Prop :=
  (∀ a, (k0_off123 v2204) a + S1x512.size a ≤ S1024x2048.size a)
theorem k0_off123_inb : ∀ (v2204 : BitVec 32) (k0_hw37 : k0_chk37 v2204), ∀ a, (k0_off123 v2204) a + S1x512.size a ≤ S1024x2048.size a := fun v2204 k0_hw37 => k0_hw37

def k0_off124 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2213 : Index := Scalar.indexCast arg35
  let c5_1475 : Index := 5#32
  ![v2213.toNat, 5]
def k0_off125 (v2214 : BitVec 32) : Fin 2 → Nat :=
  let v2215 : Index := Scalar.indexCast v2214
  let c512_1476 : Index := 512#32
  ![v2215.toNat, 512]

def k0_chk38 (v2214 : BitVec 32) : Prop :=
  (∀ a, (k0_off125 v2214) a + S1x512.size a ≤ S1024x2048.size a)
theorem k0_off125_inb : ∀ (v2214 : BitVec 32) (k0_hw38 : k0_chk38 v2214), ∀ a, (k0_off125 v2214) a + S1x512.size a ≤ S1024x2048.size a := fun v2214 k0_hw38 => k0_hw38

def k0_off126 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2223 : Index := Scalar.indexCast arg35
  let c6_1480 : Index := 6#32
  ![v2223.toNat, 6]
def k0_off127 (v2224 : BitVec 32) : Fin 2 → Nat :=
  let v2225 : Index := Scalar.indexCast v2224
  let c512_1481 : Index := 512#32
  ![v2225.toNat, 512]

def k0_chk39 (v2224 : BitVec 32) : Prop :=
  (∀ a, (k0_off127 v2224) a + S1x512.size a ≤ S1024x2048.size a)
theorem k0_off127_inb : ∀ (v2224 : BitVec 32) (k0_hw39 : k0_chk39 v2224), ∀ a, (k0_off127 v2224) a + S1x512.size a ≤ S1024x2048.size a := fun v2224 k0_hw39 => k0_hw39

def k0_off128 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2233 : Index := Scalar.indexCast arg35
  let c7_1485 : Index := 7#32
  ![v2233.toNat, 7]
def k0_off129 (v2234 : BitVec 32) : Fin 2 → Nat :=
  let v2235 : Index := Scalar.indexCast v2234
  let c512_1486 : Index := 512#32
  ![v2235.toNat, 512]

def k0_chk40 (v2234 : BitVec 32) : Prop :=
  (∀ a, (k0_off129 v2234) a + S1x512.size a ≤ S1024x2048.size a)
theorem k0_off129_inb : ∀ (v2234 : BitVec 32) (k0_hw40 : k0_chk40 v2234), ∀ a, (k0_off129 v2234) a + S1x512.size a ≤ S1024x2048.size a := fun v2234 k0_hw40 => k0_hw40

def k0_off130 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2243 : Index := Scalar.indexCast arg35
  let c8_1490 : Index := 8#32
  ![v2243.toNat, 8]
def k0_off131 (v2244 : BitVec 32) : Fin 2 → Nat :=
  let v2245 : Index := Scalar.indexCast v2244
  let c512_1491 : Index := 512#32
  ![v2245.toNat, 512]

def k0_chk41 (v2244 : BitVec 32) : Prop :=
  (∀ a, (k0_off131 v2244) a + S1x512.size a ≤ S1024x2048.size a)
theorem k0_off131_inb : ∀ (v2244 : BitVec 32) (k0_hw41 : k0_chk41 v2244), ∀ a, (k0_off131 v2244) a + S1x512.size a ≤ S1024x2048.size a := fun v2244 k0_hw41 => k0_hw41

def k0_off132 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2253 : Index := Scalar.indexCast arg35
  let c9_1495 : Index := 9#32
  ![v2253.toNat, 9]
def k0_off133 (v2254 : BitVec 32) : Fin 2 → Nat :=
  let v2255 : Index := Scalar.indexCast v2254
  let c512_1496 : Index := 512#32
  ![v2255.toNat, 512]

def k0_chk42 (v2254 : BitVec 32) : Prop :=
  (∀ a, (k0_off133 v2254) a + S1x512.size a ≤ S1024x2048.size a)
theorem k0_off133_inb : ∀ (v2254 : BitVec 32) (k0_hw42 : k0_chk42 v2254), ∀ a, (k0_off133 v2254) a + S1x512.size a ≤ S1024x2048.size a := fun v2254 k0_hw42 => k0_hw42

def k0_off134 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2263 : Index := Scalar.indexCast arg35
  let c10_1500 : Index := 10#32
  ![v2263.toNat, 10]
def k0_off135 (v2264 : BitVec 32) : Fin 2 → Nat :=
  let v2265 : Index := Scalar.indexCast v2264
  let c512_1501 : Index := 512#32
  ![v2265.toNat, 512]

def k0_chk43 (v2264 : BitVec 32) : Prop :=
  (∀ a, (k0_off135 v2264) a + S1x512.size a ≤ S1024x2048.size a)
theorem k0_off135_inb : ∀ (v2264 : BitVec 32) (k0_hw43 : k0_chk43 v2264), ∀ a, (k0_off135 v2264) a + S1x512.size a ≤ S1024x2048.size a := fun v2264 k0_hw43 => k0_hw43

def k0_off136 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2273 : Index := Scalar.indexCast arg35
  let c11_1505 : Index := 11#32
  ![v2273.toNat, 11]
def k0_off137 (v2274 : BitVec 32) : Fin 2 → Nat :=
  let v2275 : Index := Scalar.indexCast v2274
  let c512_1506 : Index := 512#32
  ![v2275.toNat, 512]

def k0_chk44 (v2274 : BitVec 32) : Prop :=
  (∀ a, (k0_off137 v2274) a + S1x512.size a ≤ S1024x2048.size a)
theorem k0_off137_inb : ∀ (v2274 : BitVec 32) (k0_hw44 : k0_chk44 v2274), ∀ a, (k0_off137 v2274) a + S1x512.size a ≤ S1024x2048.size a := fun v2274 k0_hw44 => k0_hw44

def k0_off138 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2283 : Index := Scalar.indexCast arg35
  let c12_1510 : Index := 12#32
  ![v2283.toNat, 12]
def k0_off139 (v2284 : BitVec 32) : Fin 2 → Nat :=
  let v2285 : Index := Scalar.indexCast v2284
  let c512_1511 : Index := 512#32
  ![v2285.toNat, 512]

def k0_chk45 (v2284 : BitVec 32) : Prop :=
  (∀ a, (k0_off139 v2284) a + S1x512.size a ≤ S1024x2048.size a)
theorem k0_off139_inb : ∀ (v2284 : BitVec 32) (k0_hw45 : k0_chk45 v2284), ∀ a, (k0_off139 v2284) a + S1x512.size a ≤ S1024x2048.size a := fun v2284 k0_hw45 => k0_hw45

def k0_off140 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2293 : Index := Scalar.indexCast arg35
  let c13_1515 : Index := 13#32
  ![v2293.toNat, 13]
def k0_off141 (v2294 : BitVec 32) : Fin 2 → Nat :=
  let v2295 : Index := Scalar.indexCast v2294
  let c512_1516 : Index := 512#32
  ![v2295.toNat, 512]

def k0_chk46 (v2294 : BitVec 32) : Prop :=
  (∀ a, (k0_off141 v2294) a + S1x512.size a ≤ S1024x2048.size a)
theorem k0_off141_inb : ∀ (v2294 : BitVec 32) (k0_hw46 : k0_chk46 v2294), ∀ a, (k0_off141 v2294) a + S1x512.size a ≤ S1024x2048.size a := fun v2294 k0_hw46 => k0_hw46

def k0_off142 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2303 : Index := Scalar.indexCast arg35
  let c14_1520 : Index := 14#32
  ![v2303.toNat, 14]
def k0_off143 (v2304 : BitVec 32) : Fin 2 → Nat :=
  let v2305 : Index := Scalar.indexCast v2304
  let c512_1521 : Index := 512#32
  ![v2305.toNat, 512]

def k0_chk47 (v2304 : BitVec 32) : Prop :=
  (∀ a, (k0_off143 v2304) a + S1x512.size a ≤ S1024x2048.size a)
theorem k0_off143_inb : ∀ (v2304 : BitVec 32) (k0_hw47 : k0_chk47 v2304), ∀ a, (k0_off143 v2304) a + S1x512.size a ≤ S1024x2048.size a := fun v2304 k0_hw47 => k0_hw47

def k0_off144 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2313 : Index := Scalar.indexCast arg35
  let c15_1525 : Index := 15#32
  ![v2313.toNat, 15]
def k0_off145 (v2314 : BitVec 32) : Fin 2 → Nat :=
  let v2315 : Index := Scalar.indexCast v2314
  let c512_1526 : Index := 512#32
  ![v2315.toNat, 512]

def k0_chk48 (v2314 : BitVec 32) : Prop :=
  (∀ a, (k0_off145 v2314) a + S1x512.size a ≤ S1024x2048.size a)
theorem k0_off145_inb : ∀ (v2314 : BitVec 32) (k0_hw48 : k0_chk48 v2314), ∀ a, (k0_off145 v2314) a + S1x512.size a ≤ S1024x2048.size a := fun v2314 k0_hw48 => k0_hw48

def k0_off146 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2323 : Index := Scalar.indexCast arg35
  let c16_1530 : Index := 16#32
  ![v2323.toNat, 16]
def k0_off147 (v2324 : BitVec 32) : Fin 2 → Nat :=
  let v2325 : Index := Scalar.indexCast v2324
  let c512_1531 : Index := 512#32
  ![v2325.toNat, 512]

def k0_chk49 (v2324 : BitVec 32) : Prop :=
  (∀ a, (k0_off147 v2324) a + S1x512.size a ≤ S1024x2048.size a)
theorem k0_off147_inb : ∀ (v2324 : BitVec 32) (k0_hw49 : k0_chk49 v2324), ∀ a, (k0_off147 v2324) a + S1x512.size a ≤ S1024x2048.size a := fun v2324 k0_hw49 => k0_hw49

def k0_off148 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2333 : Index := Scalar.indexCast arg35
  let c17_1535 : Index := 17#32
  ![v2333.toNat, 17]
def k0_off149 (v2334 : BitVec 32) : Fin 2 → Nat :=
  let v2335 : Index := Scalar.indexCast v2334
  let c512_1536 : Index := 512#32
  ![v2335.toNat, 512]

def k0_chk50 (v2334 : BitVec 32) : Prop :=
  (∀ a, (k0_off149 v2334) a + S1x512.size a ≤ S1024x2048.size a)
theorem k0_off149_inb : ∀ (v2334 : BitVec 32) (k0_hw50 : k0_chk50 v2334), ∀ a, (k0_off149 v2334) a + S1x512.size a ≤ S1024x2048.size a := fun v2334 k0_hw50 => k0_hw50

def k0_off150 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2343 : Index := Scalar.indexCast arg35
  let c18_1540 : Index := 18#32
  ![v2343.toNat, 18]
def k0_off151 (v2344 : BitVec 32) : Fin 2 → Nat :=
  let v2345 : Index := Scalar.indexCast v2344
  let c512_1541 : Index := 512#32
  ![v2345.toNat, 512]

def k0_chk51 (v2344 : BitVec 32) : Prop :=
  (∀ a, (k0_off151 v2344) a + S1x512.size a ≤ S1024x2048.size a)
theorem k0_off151_inb : ∀ (v2344 : BitVec 32) (k0_hw51 : k0_chk51 v2344), ∀ a, (k0_off151 v2344) a + S1x512.size a ≤ S1024x2048.size a := fun v2344 k0_hw51 => k0_hw51

def k0_off152 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2353 : Index := Scalar.indexCast arg35
  let c19_1545 : Index := 19#32
  ![v2353.toNat, 19]
def k0_off153 (v2354 : BitVec 32) : Fin 2 → Nat :=
  let v2355 : Index := Scalar.indexCast v2354
  let c512_1546 : Index := 512#32
  ![v2355.toNat, 512]

def k0_chk52 (v2354 : BitVec 32) : Prop :=
  (∀ a, (k0_off153 v2354) a + S1x512.size a ≤ S1024x2048.size a)
theorem k0_off153_inb : ∀ (v2354 : BitVec 32) (k0_hw52 : k0_chk52 v2354), ∀ a, (k0_off153 v2354) a + S1x512.size a ≤ S1024x2048.size a := fun v2354 k0_hw52 => k0_hw52

def k0_off154 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2363 : Index := Scalar.indexCast arg35
  let c20_1550 : Index := 20#32
  ![v2363.toNat, 20]
def k0_off155 (v2364 : BitVec 32) : Fin 2 → Nat :=
  let v2365 : Index := Scalar.indexCast v2364
  let c512_1551 : Index := 512#32
  ![v2365.toNat, 512]

def k0_chk53 (v2364 : BitVec 32) : Prop :=
  (∀ a, (k0_off155 v2364) a + S1x512.size a ≤ S1024x2048.size a)
theorem k0_off155_inb : ∀ (v2364 : BitVec 32) (k0_hw53 : k0_chk53 v2364), ∀ a, (k0_off155 v2364) a + S1x512.size a ≤ S1024x2048.size a := fun v2364 k0_hw53 => k0_hw53

def k0_off156 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2373 : Index := Scalar.indexCast arg35
  let c21_1555 : Index := 21#32
  ![v2373.toNat, 21]
def k0_off157 (v2374 : BitVec 32) : Fin 2 → Nat :=
  let v2375 : Index := Scalar.indexCast v2374
  let c512_1556 : Index := 512#32
  ![v2375.toNat, 512]

def k0_chk54 (v2374 : BitVec 32) : Prop :=
  (∀ a, (k0_off157 v2374) a + S1x512.size a ≤ S1024x2048.size a)
theorem k0_off157_inb : ∀ (v2374 : BitVec 32) (k0_hw54 : k0_chk54 v2374), ∀ a, (k0_off157 v2374) a + S1x512.size a ≤ S1024x2048.size a := fun v2374 k0_hw54 => k0_hw54

def k0_off158 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2383 : Index := Scalar.indexCast arg35
  let c22_1560 : Index := 22#32
  ![v2383.toNat, 22]
def k0_off159 (v2384 : BitVec 32) : Fin 2 → Nat :=
  let v2385 : Index := Scalar.indexCast v2384
  let c512_1561 : Index := 512#32
  ![v2385.toNat, 512]

def k0_chk55 (v2384 : BitVec 32) : Prop :=
  (∀ a, (k0_off159 v2384) a + S1x512.size a ≤ S1024x2048.size a)
theorem k0_off159_inb : ∀ (v2384 : BitVec 32) (k0_hw55 : k0_chk55 v2384), ∀ a, (k0_off159 v2384) a + S1x512.size a ≤ S1024x2048.size a := fun v2384 k0_hw55 => k0_hw55

def k0_off160 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2393 : Index := Scalar.indexCast arg35
  let c23_1565 : Index := 23#32
  ![v2393.toNat, 23]
def k0_off161 (v2394 : BitVec 32) : Fin 2 → Nat :=
  let v2395 : Index := Scalar.indexCast v2394
  let c512_1566 : Index := 512#32
  ![v2395.toNat, 512]

def k0_chk56 (v2394 : BitVec 32) : Prop :=
  (∀ a, (k0_off161 v2394) a + S1x512.size a ≤ S1024x2048.size a)
theorem k0_off161_inb : ∀ (v2394 : BitVec 32) (k0_hw56 : k0_chk56 v2394), ∀ a, (k0_off161 v2394) a + S1x512.size a ≤ S1024x2048.size a := fun v2394 k0_hw56 => k0_hw56

def k0_off162 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2403 : Index := Scalar.indexCast arg35
  let c24_1570 : Index := 24#32
  ![v2403.toNat, 24]
def k0_off163 (v2404 : BitVec 32) : Fin 2 → Nat :=
  let v2405 : Index := Scalar.indexCast v2404
  let c512_1571 : Index := 512#32
  ![v2405.toNat, 512]

def k0_chk57 (v2404 : BitVec 32) : Prop :=
  (∀ a, (k0_off163 v2404) a + S1x512.size a ≤ S1024x2048.size a)
theorem k0_off163_inb : ∀ (v2404 : BitVec 32) (k0_hw57 : k0_chk57 v2404), ∀ a, (k0_off163 v2404) a + S1x512.size a ≤ S1024x2048.size a := fun v2404 k0_hw57 => k0_hw57

def k0_off164 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2413 : Index := Scalar.indexCast arg35
  let c25_1575 : Index := 25#32
  ![v2413.toNat, 25]
def k0_off165 (v2414 : BitVec 32) : Fin 2 → Nat :=
  let v2415 : Index := Scalar.indexCast v2414
  let c512_1576 : Index := 512#32
  ![v2415.toNat, 512]

def k0_chk58 (v2414 : BitVec 32) : Prop :=
  (∀ a, (k0_off165 v2414) a + S1x512.size a ≤ S1024x2048.size a)
theorem k0_off165_inb : ∀ (v2414 : BitVec 32) (k0_hw58 : k0_chk58 v2414), ∀ a, (k0_off165 v2414) a + S1x512.size a ≤ S1024x2048.size a := fun v2414 k0_hw58 => k0_hw58

def k0_off166 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2423 : Index := Scalar.indexCast arg35
  let c26_1580 : Index := 26#32
  ![v2423.toNat, 26]
def k0_off167 (v2424 : BitVec 32) : Fin 2 → Nat :=
  let v2425 : Index := Scalar.indexCast v2424
  let c512_1581 : Index := 512#32
  ![v2425.toNat, 512]

def k0_chk59 (v2424 : BitVec 32) : Prop :=
  (∀ a, (k0_off167 v2424) a + S1x512.size a ≤ S1024x2048.size a)
theorem k0_off167_inb : ∀ (v2424 : BitVec 32) (k0_hw59 : k0_chk59 v2424), ∀ a, (k0_off167 v2424) a + S1x512.size a ≤ S1024x2048.size a := fun v2424 k0_hw59 => k0_hw59

def k0_off168 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2433 : Index := Scalar.indexCast arg35
  let c27_1585 : Index := 27#32
  ![v2433.toNat, 27]
def k0_off169 (v2434 : BitVec 32) : Fin 2 → Nat :=
  let v2435 : Index := Scalar.indexCast v2434
  let c512_1586 : Index := 512#32
  ![v2435.toNat, 512]

def k0_chk60 (v2434 : BitVec 32) : Prop :=
  (∀ a, (k0_off169 v2434) a + S1x512.size a ≤ S1024x2048.size a)
theorem k0_off169_inb : ∀ (v2434 : BitVec 32) (k0_hw60 : k0_chk60 v2434), ∀ a, (k0_off169 v2434) a + S1x512.size a ≤ S1024x2048.size a := fun v2434 k0_hw60 => k0_hw60

def k0_off170 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2443 : Index := Scalar.indexCast arg35
  let c28_1590 : Index := 28#32
  ![v2443.toNat, 28]
def k0_off171 (v2444 : BitVec 32) : Fin 2 → Nat :=
  let v2445 : Index := Scalar.indexCast v2444
  let c512_1591 : Index := 512#32
  ![v2445.toNat, 512]

def k0_chk61 (v2444 : BitVec 32) : Prop :=
  (∀ a, (k0_off171 v2444) a + S1x512.size a ≤ S1024x2048.size a)
theorem k0_off171_inb : ∀ (v2444 : BitVec 32) (k0_hw61 : k0_chk61 v2444), ∀ a, (k0_off171 v2444) a + S1x512.size a ≤ S1024x2048.size a := fun v2444 k0_hw61 => k0_hw61

def k0_off172 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2453 : Index := Scalar.indexCast arg35
  let c29_1595 : Index := 29#32
  ![v2453.toNat, 29]
def k0_off173 (v2454 : BitVec 32) : Fin 2 → Nat :=
  let v2455 : Index := Scalar.indexCast v2454
  let c512_1596 : Index := 512#32
  ![v2455.toNat, 512]

def k0_chk62 (v2454 : BitVec 32) : Prop :=
  (∀ a, (k0_off173 v2454) a + S1x512.size a ≤ S1024x2048.size a)
theorem k0_off173_inb : ∀ (v2454 : BitVec 32) (k0_hw62 : k0_chk62 v2454), ∀ a, (k0_off173 v2454) a + S1x512.size a ≤ S1024x2048.size a := fun v2454 k0_hw62 => k0_hw62

def k0_off174 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2463 : Index := Scalar.indexCast arg35
  let c30_1600 : Index := 30#32
  ![v2463.toNat, 30]
def k0_off175 (v2464 : BitVec 32) : Fin 2 → Nat :=
  let v2465 : Index := Scalar.indexCast v2464
  let c512_1601 : Index := 512#32
  ![v2465.toNat, 512]

def k0_chk63 (v2464 : BitVec 32) : Prop :=
  (∀ a, (k0_off175 v2464) a + S1x512.size a ≤ S1024x2048.size a)
theorem k0_off175_inb : ∀ (v2464 : BitVec 32) (k0_hw63 : k0_chk63 v2464), ∀ a, (k0_off175 v2464) a + S1x512.size a ≤ S1024x2048.size a := fun v2464 k0_hw63 => k0_hw63

def k0_off176 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2473 : Index := Scalar.indexCast arg35
  let c31_1605 : Index := 31#32
  ![v2473.toNat, 31]
def k0_off177 (v2474 : BitVec 32) : Fin 2 → Nat :=
  let v2475 : Index := Scalar.indexCast v2474
  let c512_1606 : Index := 512#32
  ![v2475.toNat, 512]

def k0_chk64 (v2474 : BitVec 32) : Prop :=
  (∀ a, (k0_off177 v2474) a + S1x512.size a ≤ S1024x2048.size a)
theorem k0_off177_inb : ∀ (v2474 : BitVec 32) (k0_hw64 : k0_chk64 v2474), ∀ a, (k0_off177 v2474) a + S1x512.size a ≤ S1024x2048.size a := fun v2474 k0_hw64 => k0_hw64

def k0_off178 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c2_i32_1610 : BitVec 32 := 2#32
  let v2483 : BitVec 32 := Scalar.remsi arg35 c2_i32_1610
  let v2484 : Index := Scalar.indexCast v2483
  let c0_1611 : Index := 0#32
  let c0_1612 : Index := 0#32
  ![v2484.toNat, 0, 0]
def k0_off179 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1613 : BitVec 32 := 4#32
  let v2487 : BitVec 32 := Scalar.remsi arg35 c4_i32_1613
  let v2488 : Index := Scalar.indexCast v2487
  let c2_1614 : Index := 2#32
  let c0_1615 : Index := 0#32
  let c0_1616 : Index := 0#32
  ![v2488.toNat, 2, 0, 0]
def k0_off180 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2494 : Index := Scalar.indexCast arg35
  let c1024_1618 : Index := 1024#32
  ![v2494.toNat, 1024]
def k0_off181 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2503 : Index := Scalar.indexCast arg35
  let c0_1621 : Index := 0#32
  ![v2503.toNat, 0]
def k0_off182 (v2504 : BitVec 32) : Fin 2 → Nat :=
  let v2505 : Index := Scalar.indexCast v2504
  let c1024_1622 : Index := 1024#32
  ![v2505.toNat, 1024]

def k0_chk65 (v2504 : BitVec 32) : Prop :=
  (∀ a, (k0_off182 v2504) a + S1x512.size a ≤ S1024x2048.size a)
theorem k0_off182_inb : ∀ (v2504 : BitVec 32) (k0_hw65 : k0_chk65 v2504), ∀ a, (k0_off182 v2504) a + S1x512.size a ≤ S1024x2048.size a := fun v2504 k0_hw65 => k0_hw65

def k0_off183 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2513 : Index := Scalar.indexCast arg35
  let c1_1626 : Index := 1#32
  ![v2513.toNat, 1]
def k0_off184 (v2514 : BitVec 32) : Fin 2 → Nat :=
  let v2515 : Index := Scalar.indexCast v2514
  let c1024_1627 : Index := 1024#32
  ![v2515.toNat, 1024]

def k0_chk66 (v2514 : BitVec 32) : Prop :=
  (∀ a, (k0_off184 v2514) a + S1x512.size a ≤ S1024x2048.size a)
theorem k0_off184_inb : ∀ (v2514 : BitVec 32) (k0_hw66 : k0_chk66 v2514), ∀ a, (k0_off184 v2514) a + S1x512.size a ≤ S1024x2048.size a := fun v2514 k0_hw66 => k0_hw66

def k0_off185 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2523 : Index := Scalar.indexCast arg35
  let c2_1631 : Index := 2#32
  ![v2523.toNat, 2]
def k0_off186 (v2524 : BitVec 32) : Fin 2 → Nat :=
  let v2525 : Index := Scalar.indexCast v2524
  let c1024_1632 : Index := 1024#32
  ![v2525.toNat, 1024]

def k0_chk67 (v2524 : BitVec 32) : Prop :=
  (∀ a, (k0_off186 v2524) a + S1x512.size a ≤ S1024x2048.size a)
theorem k0_off186_inb : ∀ (v2524 : BitVec 32) (k0_hw67 : k0_chk67 v2524), ∀ a, (k0_off186 v2524) a + S1x512.size a ≤ S1024x2048.size a := fun v2524 k0_hw67 => k0_hw67

def k0_off187 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2533 : Index := Scalar.indexCast arg35
  let c3_1636 : Index := 3#32
  ![v2533.toNat, 3]
def k0_off188 (v2534 : BitVec 32) : Fin 2 → Nat :=
  let v2535 : Index := Scalar.indexCast v2534
  let c1024_1637 : Index := 1024#32
  ![v2535.toNat, 1024]

def k0_chk68 (v2534 : BitVec 32) : Prop :=
  (∀ a, (k0_off188 v2534) a + S1x512.size a ≤ S1024x2048.size a)
theorem k0_off188_inb : ∀ (v2534 : BitVec 32) (k0_hw68 : k0_chk68 v2534), ∀ a, (k0_off188 v2534) a + S1x512.size a ≤ S1024x2048.size a := fun v2534 k0_hw68 => k0_hw68

def k0_off189 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2543 : Index := Scalar.indexCast arg35
  let c4_1641 : Index := 4#32
  ![v2543.toNat, 4]
def k0_off190 (v2544 : BitVec 32) : Fin 2 → Nat :=
  let v2545 : Index := Scalar.indexCast v2544
  let c1024_1642 : Index := 1024#32
  ![v2545.toNat, 1024]

def k0_chk69 (v2544 : BitVec 32) : Prop :=
  (∀ a, (k0_off190 v2544) a + S1x512.size a ≤ S1024x2048.size a)
theorem k0_off190_inb : ∀ (v2544 : BitVec 32) (k0_hw69 : k0_chk69 v2544), ∀ a, (k0_off190 v2544) a + S1x512.size a ≤ S1024x2048.size a := fun v2544 k0_hw69 => k0_hw69

def k0_off191 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2553 : Index := Scalar.indexCast arg35
  let c5_1646 : Index := 5#32
  ![v2553.toNat, 5]
def k0_off192 (v2554 : BitVec 32) : Fin 2 → Nat :=
  let v2555 : Index := Scalar.indexCast v2554
  let c1024_1647 : Index := 1024#32
  ![v2555.toNat, 1024]

def k0_chk70 (v2554 : BitVec 32) : Prop :=
  (∀ a, (k0_off192 v2554) a + S1x512.size a ≤ S1024x2048.size a)
theorem k0_off192_inb : ∀ (v2554 : BitVec 32) (k0_hw70 : k0_chk70 v2554), ∀ a, (k0_off192 v2554) a + S1x512.size a ≤ S1024x2048.size a := fun v2554 k0_hw70 => k0_hw70

def k0_off193 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2563 : Index := Scalar.indexCast arg35
  let c6_1651 : Index := 6#32
  ![v2563.toNat, 6]
def k0_off194 (v2564 : BitVec 32) : Fin 2 → Nat :=
  let v2565 : Index := Scalar.indexCast v2564
  let c1024_1652 : Index := 1024#32
  ![v2565.toNat, 1024]

def k0_chk71 (v2564 : BitVec 32) : Prop :=
  (∀ a, (k0_off194 v2564) a + S1x512.size a ≤ S1024x2048.size a)
theorem k0_off194_inb : ∀ (v2564 : BitVec 32) (k0_hw71 : k0_chk71 v2564), ∀ a, (k0_off194 v2564) a + S1x512.size a ≤ S1024x2048.size a := fun v2564 k0_hw71 => k0_hw71

def k0_off195 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2573 : Index := Scalar.indexCast arg35
  let c7_1656 : Index := 7#32
  ![v2573.toNat, 7]
def k0_off196 (v2574 : BitVec 32) : Fin 2 → Nat :=
  let v2575 : Index := Scalar.indexCast v2574
  let c1024_1657 : Index := 1024#32
  ![v2575.toNat, 1024]

def k0_chk72 (v2574 : BitVec 32) : Prop :=
  (∀ a, (k0_off196 v2574) a + S1x512.size a ≤ S1024x2048.size a)
theorem k0_off196_inb : ∀ (v2574 : BitVec 32) (k0_hw72 : k0_chk72 v2574), ∀ a, (k0_off196 v2574) a + S1x512.size a ≤ S1024x2048.size a := fun v2574 k0_hw72 => k0_hw72

def k0_off197 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2583 : Index := Scalar.indexCast arg35
  let c8_1661 : Index := 8#32
  ![v2583.toNat, 8]
def k0_off198 (v2584 : BitVec 32) : Fin 2 → Nat :=
  let v2585 : Index := Scalar.indexCast v2584
  let c1024_1662 : Index := 1024#32
  ![v2585.toNat, 1024]

def k0_chk73 (v2584 : BitVec 32) : Prop :=
  (∀ a, (k0_off198 v2584) a + S1x512.size a ≤ S1024x2048.size a)
theorem k0_off198_inb : ∀ (v2584 : BitVec 32) (k0_hw73 : k0_chk73 v2584), ∀ a, (k0_off198 v2584) a + S1x512.size a ≤ S1024x2048.size a := fun v2584 k0_hw73 => k0_hw73

def k0_off199 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2593 : Index := Scalar.indexCast arg35
  let c9_1666 : Index := 9#32
  ![v2593.toNat, 9]
def k0_off200 (v2594 : BitVec 32) : Fin 2 → Nat :=
  let v2595 : Index := Scalar.indexCast v2594
  let c1024_1667 : Index := 1024#32
  ![v2595.toNat, 1024]

def k0_chk74 (v2594 : BitVec 32) : Prop :=
  (∀ a, (k0_off200 v2594) a + S1x512.size a ≤ S1024x2048.size a)
theorem k0_off200_inb : ∀ (v2594 : BitVec 32) (k0_hw74 : k0_chk74 v2594), ∀ a, (k0_off200 v2594) a + S1x512.size a ≤ S1024x2048.size a := fun v2594 k0_hw74 => k0_hw74

def k0_off201 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2603 : Index := Scalar.indexCast arg35
  let c10_1671 : Index := 10#32
  ![v2603.toNat, 10]
def k0_off202 (v2604 : BitVec 32) : Fin 2 → Nat :=
  let v2605 : Index := Scalar.indexCast v2604
  let c1024_1672 : Index := 1024#32
  ![v2605.toNat, 1024]

def k0_chk75 (v2604 : BitVec 32) : Prop :=
  (∀ a, (k0_off202 v2604) a + S1x512.size a ≤ S1024x2048.size a)
theorem k0_off202_inb : ∀ (v2604 : BitVec 32) (k0_hw75 : k0_chk75 v2604), ∀ a, (k0_off202 v2604) a + S1x512.size a ≤ S1024x2048.size a := fun v2604 k0_hw75 => k0_hw75

def k0_off203 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2613 : Index := Scalar.indexCast arg35
  let c11_1676 : Index := 11#32
  ![v2613.toNat, 11]
def k0_off204 (v2614 : BitVec 32) : Fin 2 → Nat :=
  let v2615 : Index := Scalar.indexCast v2614
  let c1024_1677 : Index := 1024#32
  ![v2615.toNat, 1024]

def k0_chk76 (v2614 : BitVec 32) : Prop :=
  (∀ a, (k0_off204 v2614) a + S1x512.size a ≤ S1024x2048.size a)
theorem k0_off204_inb : ∀ (v2614 : BitVec 32) (k0_hw76 : k0_chk76 v2614), ∀ a, (k0_off204 v2614) a + S1x512.size a ≤ S1024x2048.size a := fun v2614 k0_hw76 => k0_hw76

def k0_off205 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2623 : Index := Scalar.indexCast arg35
  let c12_1681 : Index := 12#32
  ![v2623.toNat, 12]
def k0_off206 (v2624 : BitVec 32) : Fin 2 → Nat :=
  let v2625 : Index := Scalar.indexCast v2624
  let c1024_1682 : Index := 1024#32
  ![v2625.toNat, 1024]

def k0_chk77 (v2624 : BitVec 32) : Prop :=
  (∀ a, (k0_off206 v2624) a + S1x512.size a ≤ S1024x2048.size a)
theorem k0_off206_inb : ∀ (v2624 : BitVec 32) (k0_hw77 : k0_chk77 v2624), ∀ a, (k0_off206 v2624) a + S1x512.size a ≤ S1024x2048.size a := fun v2624 k0_hw77 => k0_hw77

def k0_off207 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2633 : Index := Scalar.indexCast arg35
  let c13_1686 : Index := 13#32
  ![v2633.toNat, 13]
def k0_off208 (v2634 : BitVec 32) : Fin 2 → Nat :=
  let v2635 : Index := Scalar.indexCast v2634
  let c1024_1687 : Index := 1024#32
  ![v2635.toNat, 1024]

def k0_chk78 (v2634 : BitVec 32) : Prop :=
  (∀ a, (k0_off208 v2634) a + S1x512.size a ≤ S1024x2048.size a)
theorem k0_off208_inb : ∀ (v2634 : BitVec 32) (k0_hw78 : k0_chk78 v2634), ∀ a, (k0_off208 v2634) a + S1x512.size a ≤ S1024x2048.size a := fun v2634 k0_hw78 => k0_hw78

def k0_off209 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2643 : Index := Scalar.indexCast arg35
  let c14_1691 : Index := 14#32
  ![v2643.toNat, 14]
def k0_off210 (v2644 : BitVec 32) : Fin 2 → Nat :=
  let v2645 : Index := Scalar.indexCast v2644
  let c1024_1692 : Index := 1024#32
  ![v2645.toNat, 1024]

def k0_chk79 (v2644 : BitVec 32) : Prop :=
  (∀ a, (k0_off210 v2644) a + S1x512.size a ≤ S1024x2048.size a)
theorem k0_off210_inb : ∀ (v2644 : BitVec 32) (k0_hw79 : k0_chk79 v2644), ∀ a, (k0_off210 v2644) a + S1x512.size a ≤ S1024x2048.size a := fun v2644 k0_hw79 => k0_hw79

def k0_off211 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2653 : Index := Scalar.indexCast arg35
  let c15_1696 : Index := 15#32
  ![v2653.toNat, 15]
def k0_off212 (v2654 : BitVec 32) : Fin 2 → Nat :=
  let v2655 : Index := Scalar.indexCast v2654
  let c1024_1697 : Index := 1024#32
  ![v2655.toNat, 1024]

def k0_chk80 (v2654 : BitVec 32) : Prop :=
  (∀ a, (k0_off212 v2654) a + S1x512.size a ≤ S1024x2048.size a)
theorem k0_off212_inb : ∀ (v2654 : BitVec 32) (k0_hw80 : k0_chk80 v2654), ∀ a, (k0_off212 v2654) a + S1x512.size a ≤ S1024x2048.size a := fun v2654 k0_hw80 => k0_hw80

def k0_off213 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2663 : Index := Scalar.indexCast arg35
  let c16_1701 : Index := 16#32
  ![v2663.toNat, 16]
def k0_off214 (v2664 : BitVec 32) : Fin 2 → Nat :=
  let v2665 : Index := Scalar.indexCast v2664
  let c1024_1702 : Index := 1024#32
  ![v2665.toNat, 1024]

def k0_chk81 (v2664 : BitVec 32) : Prop :=
  (∀ a, (k0_off214 v2664) a + S1x512.size a ≤ S1024x2048.size a)
theorem k0_off214_inb : ∀ (v2664 : BitVec 32) (k0_hw81 : k0_chk81 v2664), ∀ a, (k0_off214 v2664) a + S1x512.size a ≤ S1024x2048.size a := fun v2664 k0_hw81 => k0_hw81

def k0_off215 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2673 : Index := Scalar.indexCast arg35
  let c17_1706 : Index := 17#32
  ![v2673.toNat, 17]
def k0_off216 (v2674 : BitVec 32) : Fin 2 → Nat :=
  let v2675 : Index := Scalar.indexCast v2674
  let c1024_1707 : Index := 1024#32
  ![v2675.toNat, 1024]

def k0_chk82 (v2674 : BitVec 32) : Prop :=
  (∀ a, (k0_off216 v2674) a + S1x512.size a ≤ S1024x2048.size a)
theorem k0_off216_inb : ∀ (v2674 : BitVec 32) (k0_hw82 : k0_chk82 v2674), ∀ a, (k0_off216 v2674) a + S1x512.size a ≤ S1024x2048.size a := fun v2674 k0_hw82 => k0_hw82

def k0_off217 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2683 : Index := Scalar.indexCast arg35
  let c18_1711 : Index := 18#32
  ![v2683.toNat, 18]
def k0_off218 (v2684 : BitVec 32) : Fin 2 → Nat :=
  let v2685 : Index := Scalar.indexCast v2684
  let c1024_1712 : Index := 1024#32
  ![v2685.toNat, 1024]

def k0_chk83 (v2684 : BitVec 32) : Prop :=
  (∀ a, (k0_off218 v2684) a + S1x512.size a ≤ S1024x2048.size a)
theorem k0_off218_inb : ∀ (v2684 : BitVec 32) (k0_hw83 : k0_chk83 v2684), ∀ a, (k0_off218 v2684) a + S1x512.size a ≤ S1024x2048.size a := fun v2684 k0_hw83 => k0_hw83

def k0_off219 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2693 : Index := Scalar.indexCast arg35
  let c19_1716 : Index := 19#32
  ![v2693.toNat, 19]
def k0_off220 (v2694 : BitVec 32) : Fin 2 → Nat :=
  let v2695 : Index := Scalar.indexCast v2694
  let c1024_1717 : Index := 1024#32
  ![v2695.toNat, 1024]

def k0_chk84 (v2694 : BitVec 32) : Prop :=
  (∀ a, (k0_off220 v2694) a + S1x512.size a ≤ S1024x2048.size a)
theorem k0_off220_inb : ∀ (v2694 : BitVec 32) (k0_hw84 : k0_chk84 v2694), ∀ a, (k0_off220 v2694) a + S1x512.size a ≤ S1024x2048.size a := fun v2694 k0_hw84 => k0_hw84

def k0_off221 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2703 : Index := Scalar.indexCast arg35
  let c20_1721 : Index := 20#32
  ![v2703.toNat, 20]
def k0_off222 (v2704 : BitVec 32) : Fin 2 → Nat :=
  let v2705 : Index := Scalar.indexCast v2704
  let c1024_1722 : Index := 1024#32
  ![v2705.toNat, 1024]

def k0_chk85 (v2704 : BitVec 32) : Prop :=
  (∀ a, (k0_off222 v2704) a + S1x512.size a ≤ S1024x2048.size a)
theorem k0_off222_inb : ∀ (v2704 : BitVec 32) (k0_hw85 : k0_chk85 v2704), ∀ a, (k0_off222 v2704) a + S1x512.size a ≤ S1024x2048.size a := fun v2704 k0_hw85 => k0_hw85

def k0_off223 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2713 : Index := Scalar.indexCast arg35
  let c21_1726 : Index := 21#32
  ![v2713.toNat, 21]
def k0_off224 (v2714 : BitVec 32) : Fin 2 → Nat :=
  let v2715 : Index := Scalar.indexCast v2714
  let c1024_1727 : Index := 1024#32
  ![v2715.toNat, 1024]

def k0_chk86 (v2714 : BitVec 32) : Prop :=
  (∀ a, (k0_off224 v2714) a + S1x512.size a ≤ S1024x2048.size a)
theorem k0_off224_inb : ∀ (v2714 : BitVec 32) (k0_hw86 : k0_chk86 v2714), ∀ a, (k0_off224 v2714) a + S1x512.size a ≤ S1024x2048.size a := fun v2714 k0_hw86 => k0_hw86

def k0_off225 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2723 : Index := Scalar.indexCast arg35
  let c22_1731 : Index := 22#32
  ![v2723.toNat, 22]
def k0_off226 (v2724 : BitVec 32) : Fin 2 → Nat :=
  let v2725 : Index := Scalar.indexCast v2724
  let c1024_1732 : Index := 1024#32
  ![v2725.toNat, 1024]

def k0_chk87 (v2724 : BitVec 32) : Prop :=
  (∀ a, (k0_off226 v2724) a + S1x512.size a ≤ S1024x2048.size a)
theorem k0_off226_inb : ∀ (v2724 : BitVec 32) (k0_hw87 : k0_chk87 v2724), ∀ a, (k0_off226 v2724) a + S1x512.size a ≤ S1024x2048.size a := fun v2724 k0_hw87 => k0_hw87

def k0_off227 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2733 : Index := Scalar.indexCast arg35
  let c23_1736 : Index := 23#32
  ![v2733.toNat, 23]
def k0_off228 (v2734 : BitVec 32) : Fin 2 → Nat :=
  let v2735 : Index := Scalar.indexCast v2734
  let c1024_1737 : Index := 1024#32
  ![v2735.toNat, 1024]

def k0_chk88 (v2734 : BitVec 32) : Prop :=
  (∀ a, (k0_off228 v2734) a + S1x512.size a ≤ S1024x2048.size a)
theorem k0_off228_inb : ∀ (v2734 : BitVec 32) (k0_hw88 : k0_chk88 v2734), ∀ a, (k0_off228 v2734) a + S1x512.size a ≤ S1024x2048.size a := fun v2734 k0_hw88 => k0_hw88

def k0_off229 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2743 : Index := Scalar.indexCast arg35
  let c24_1741 : Index := 24#32
  ![v2743.toNat, 24]
def k0_off230 (v2744 : BitVec 32) : Fin 2 → Nat :=
  let v2745 : Index := Scalar.indexCast v2744
  let c1024_1742 : Index := 1024#32
  ![v2745.toNat, 1024]

def k0_chk89 (v2744 : BitVec 32) : Prop :=
  (∀ a, (k0_off230 v2744) a + S1x512.size a ≤ S1024x2048.size a)
theorem k0_off230_inb : ∀ (v2744 : BitVec 32) (k0_hw89 : k0_chk89 v2744), ∀ a, (k0_off230 v2744) a + S1x512.size a ≤ S1024x2048.size a := fun v2744 k0_hw89 => k0_hw89

def k0_off231 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2753 : Index := Scalar.indexCast arg35
  let c25_1746 : Index := 25#32
  ![v2753.toNat, 25]
def k0_off232 (v2754 : BitVec 32) : Fin 2 → Nat :=
  let v2755 : Index := Scalar.indexCast v2754
  let c1024_1747 : Index := 1024#32
  ![v2755.toNat, 1024]

def k0_chk90 (v2754 : BitVec 32) : Prop :=
  (∀ a, (k0_off232 v2754) a + S1x512.size a ≤ S1024x2048.size a)
theorem k0_off232_inb : ∀ (v2754 : BitVec 32) (k0_hw90 : k0_chk90 v2754), ∀ a, (k0_off232 v2754) a + S1x512.size a ≤ S1024x2048.size a := fun v2754 k0_hw90 => k0_hw90

def k0_off233 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2763 : Index := Scalar.indexCast arg35
  let c26_1751 : Index := 26#32
  ![v2763.toNat, 26]
def k0_off234 (v2764 : BitVec 32) : Fin 2 → Nat :=
  let v2765 : Index := Scalar.indexCast v2764
  let c1024_1752 : Index := 1024#32
  ![v2765.toNat, 1024]

def k0_chk91 (v2764 : BitVec 32) : Prop :=
  (∀ a, (k0_off234 v2764) a + S1x512.size a ≤ S1024x2048.size a)
theorem k0_off234_inb : ∀ (v2764 : BitVec 32) (k0_hw91 : k0_chk91 v2764), ∀ a, (k0_off234 v2764) a + S1x512.size a ≤ S1024x2048.size a := fun v2764 k0_hw91 => k0_hw91

def k0_off235 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2773 : Index := Scalar.indexCast arg35
  let c27_1756 : Index := 27#32
  ![v2773.toNat, 27]
def k0_off236 (v2774 : BitVec 32) : Fin 2 → Nat :=
  let v2775 : Index := Scalar.indexCast v2774
  let c1024_1757 : Index := 1024#32
  ![v2775.toNat, 1024]

def k0_chk92 (v2774 : BitVec 32) : Prop :=
  (∀ a, (k0_off236 v2774) a + S1x512.size a ≤ S1024x2048.size a)
theorem k0_off236_inb : ∀ (v2774 : BitVec 32) (k0_hw92 : k0_chk92 v2774), ∀ a, (k0_off236 v2774) a + S1x512.size a ≤ S1024x2048.size a := fun v2774 k0_hw92 => k0_hw92

def k0_off237 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2783 : Index := Scalar.indexCast arg35
  let c28_1761 : Index := 28#32
  ![v2783.toNat, 28]
def k0_off238 (v2784 : BitVec 32) : Fin 2 → Nat :=
  let v2785 : Index := Scalar.indexCast v2784
  let c1024_1762 : Index := 1024#32
  ![v2785.toNat, 1024]

def k0_chk93 (v2784 : BitVec 32) : Prop :=
  (∀ a, (k0_off238 v2784) a + S1x512.size a ≤ S1024x2048.size a)
theorem k0_off238_inb : ∀ (v2784 : BitVec 32) (k0_hw93 : k0_chk93 v2784), ∀ a, (k0_off238 v2784) a + S1x512.size a ≤ S1024x2048.size a := fun v2784 k0_hw93 => k0_hw93

def k0_off239 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2793 : Index := Scalar.indexCast arg35
  let c29_1766 : Index := 29#32
  ![v2793.toNat, 29]
def k0_off240 (v2794 : BitVec 32) : Fin 2 → Nat :=
  let v2795 : Index := Scalar.indexCast v2794
  let c1024_1767 : Index := 1024#32
  ![v2795.toNat, 1024]

def k0_chk94 (v2794 : BitVec 32) : Prop :=
  (∀ a, (k0_off240 v2794) a + S1x512.size a ≤ S1024x2048.size a)
theorem k0_off240_inb : ∀ (v2794 : BitVec 32) (k0_hw94 : k0_chk94 v2794), ∀ a, (k0_off240 v2794) a + S1x512.size a ≤ S1024x2048.size a := fun v2794 k0_hw94 => k0_hw94

def k0_off241 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2803 : Index := Scalar.indexCast arg35
  let c30_1771 : Index := 30#32
  ![v2803.toNat, 30]
def k0_off242 (v2804 : BitVec 32) : Fin 2 → Nat :=
  let v2805 : Index := Scalar.indexCast v2804
  let c1024_1772 : Index := 1024#32
  ![v2805.toNat, 1024]

def k0_chk95 (v2804 : BitVec 32) : Prop :=
  (∀ a, (k0_off242 v2804) a + S1x512.size a ≤ S1024x2048.size a)
theorem k0_off242_inb : ∀ (v2804 : BitVec 32) (k0_hw95 : k0_chk95 v2804), ∀ a, (k0_off242 v2804) a + S1x512.size a ≤ S1024x2048.size a := fun v2804 k0_hw95 => k0_hw95

def k0_off243 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2813 : Index := Scalar.indexCast arg35
  let c31_1776 : Index := 31#32
  ![v2813.toNat, 31]
def k0_off244 (v2814 : BitVec 32) : Fin 2 → Nat :=
  let v2815 : Index := Scalar.indexCast v2814
  let c1024_1777 : Index := 1024#32
  ![v2815.toNat, 1024]

def k0_chk96 (v2814 : BitVec 32) : Prop :=
  (∀ a, (k0_off244 v2814) a + S1x512.size a ≤ S1024x2048.size a)
theorem k0_off244_inb : ∀ (v2814 : BitVec 32) (k0_hw96 : k0_chk96 v2814), ∀ a, (k0_off244 v2814) a + S1x512.size a ≤ S1024x2048.size a := fun v2814 k0_hw96 => k0_hw96

def k0_off245 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c2_i32_1781 : BitVec 32 := 2#32
  let v2823 : BitVec 32 := Scalar.remsi arg35 c2_i32_1781
  let v2824 : Index := Scalar.indexCast v2823
  let c0_1782 : Index := 0#32
  let c0_1783 : Index := 0#32
  ![v2824.toNat, 0, 0]
def k0_off246 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1784 : BitVec 32 := 4#32
  let v2827 : BitVec 32 := Scalar.remsi arg35 c4_i32_1784
  let v2828 : Index := Scalar.indexCast v2827
  let c3_1785 : Index := 3#32
  let c0_1786 : Index := 0#32
  let c0_1787 : Index := 0#32
  ![v2828.toNat, 3, 0, 0]
def k0_off247 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2834 : Index := Scalar.indexCast arg35
  let c1536_1789 : Index := 1536#32
  ![v2834.toNat, 1536]
def k0_off248 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2843 : Index := Scalar.indexCast arg35
  let c0_1792 : Index := 0#32
  ![v2843.toNat, 0]
def k0_off249 (v2844 : BitVec 32) : Fin 2 → Nat :=
  let v2845 : Index := Scalar.indexCast v2844
  let c1536_1793 : Index := 1536#32
  ![v2845.toNat, 1536]

def k0_chk97 (v2844 : BitVec 32) : Prop :=
  (∀ a, (k0_off249 v2844) a + S1x512.size a ≤ S1024x2048.size a)
theorem k0_off249_inb : ∀ (v2844 : BitVec 32) (k0_hw97 : k0_chk97 v2844), ∀ a, (k0_off249 v2844) a + S1x512.size a ≤ S1024x2048.size a := fun v2844 k0_hw97 => k0_hw97

def k0_off250 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2853 : Index := Scalar.indexCast arg35
  let c1_1797 : Index := 1#32
  ![v2853.toNat, 1]
def k0_off251 (v2854 : BitVec 32) : Fin 2 → Nat :=
  let v2855 : Index := Scalar.indexCast v2854
  let c1536_1798 : Index := 1536#32
  ![v2855.toNat, 1536]

def k0_chk98 (v2854 : BitVec 32) : Prop :=
  (∀ a, (k0_off251 v2854) a + S1x512.size a ≤ S1024x2048.size a)
theorem k0_off251_inb : ∀ (v2854 : BitVec 32) (k0_hw98 : k0_chk98 v2854), ∀ a, (k0_off251 v2854) a + S1x512.size a ≤ S1024x2048.size a := fun v2854 k0_hw98 => k0_hw98

def k0_off252 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2863 : Index := Scalar.indexCast arg35
  let c2_1802 : Index := 2#32
  ![v2863.toNat, 2]
def k0_off253 (v2864 : BitVec 32) : Fin 2 → Nat :=
  let v2865 : Index := Scalar.indexCast v2864
  let c1536_1803 : Index := 1536#32
  ![v2865.toNat, 1536]

def k0_chk99 (v2864 : BitVec 32) : Prop :=
  (∀ a, (k0_off253 v2864) a + S1x512.size a ≤ S1024x2048.size a)
theorem k0_off253_inb : ∀ (v2864 : BitVec 32) (k0_hw99 : k0_chk99 v2864), ∀ a, (k0_off253 v2864) a + S1x512.size a ≤ S1024x2048.size a := fun v2864 k0_hw99 => k0_hw99

def k0_off254 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2873 : Index := Scalar.indexCast arg35
  let c3_1807 : Index := 3#32
  ![v2873.toNat, 3]
def k0_off255 (v2874 : BitVec 32) : Fin 2 → Nat :=
  let v2875 : Index := Scalar.indexCast v2874
  let c1536_1808 : Index := 1536#32
  ![v2875.toNat, 1536]

def k0_chk100 (v2874 : BitVec 32) : Prop :=
  (∀ a, (k0_off255 v2874) a + S1x512.size a ≤ S1024x2048.size a)
theorem k0_off255_inb : ∀ (v2874 : BitVec 32) (k0_hw100 : k0_chk100 v2874), ∀ a, (k0_off255 v2874) a + S1x512.size a ≤ S1024x2048.size a := fun v2874 k0_hw100 => k0_hw100

def k0_off256 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2883 : Index := Scalar.indexCast arg35
  let c4_1812 : Index := 4#32
  ![v2883.toNat, 4]
def k0_off257 (v2884 : BitVec 32) : Fin 2 → Nat :=
  let v2885 : Index := Scalar.indexCast v2884
  let c1536_1813 : Index := 1536#32
  ![v2885.toNat, 1536]

def k0_chk101 (v2884 : BitVec 32) : Prop :=
  (∀ a, (k0_off257 v2884) a + S1x512.size a ≤ S1024x2048.size a)
theorem k0_off257_inb : ∀ (v2884 : BitVec 32) (k0_hw101 : k0_chk101 v2884), ∀ a, (k0_off257 v2884) a + S1x512.size a ≤ S1024x2048.size a := fun v2884 k0_hw101 => k0_hw101

def k0_off258 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2893 : Index := Scalar.indexCast arg35
  let c5_1817 : Index := 5#32
  ![v2893.toNat, 5]
def k0_off259 (v2894 : BitVec 32) : Fin 2 → Nat :=
  let v2895 : Index := Scalar.indexCast v2894
  let c1536_1818 : Index := 1536#32
  ![v2895.toNat, 1536]

def k0_chk102 (v2894 : BitVec 32) : Prop :=
  (∀ a, (k0_off259 v2894) a + S1x512.size a ≤ S1024x2048.size a)
theorem k0_off259_inb : ∀ (v2894 : BitVec 32) (k0_hw102 : k0_chk102 v2894), ∀ a, (k0_off259 v2894) a + S1x512.size a ≤ S1024x2048.size a := fun v2894 k0_hw102 => k0_hw102

def k0_off260 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2903 : Index := Scalar.indexCast arg35
  let c6_1822 : Index := 6#32
  ![v2903.toNat, 6]
def k0_off261 (v2904 : BitVec 32) : Fin 2 → Nat :=
  let v2905 : Index := Scalar.indexCast v2904
  let c1536_1823 : Index := 1536#32
  ![v2905.toNat, 1536]

def k0_chk103 (v2904 : BitVec 32) : Prop :=
  (∀ a, (k0_off261 v2904) a + S1x512.size a ≤ S1024x2048.size a)
theorem k0_off261_inb : ∀ (v2904 : BitVec 32) (k0_hw103 : k0_chk103 v2904), ∀ a, (k0_off261 v2904) a + S1x512.size a ≤ S1024x2048.size a := fun v2904 k0_hw103 => k0_hw103

def k0_off262 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2913 : Index := Scalar.indexCast arg35
  let c7_1827 : Index := 7#32
  ![v2913.toNat, 7]
def k0_off263 (v2914 : BitVec 32) : Fin 2 → Nat :=
  let v2915 : Index := Scalar.indexCast v2914
  let c1536_1828 : Index := 1536#32
  ![v2915.toNat, 1536]

def k0_chk104 (v2914 : BitVec 32) : Prop :=
  (∀ a, (k0_off263 v2914) a + S1x512.size a ≤ S1024x2048.size a)
theorem k0_off263_inb : ∀ (v2914 : BitVec 32) (k0_hw104 : k0_chk104 v2914), ∀ a, (k0_off263 v2914) a + S1x512.size a ≤ S1024x2048.size a := fun v2914 k0_hw104 => k0_hw104

def k0_off264 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2923 : Index := Scalar.indexCast arg35
  let c8_1832 : Index := 8#32
  ![v2923.toNat, 8]
def k0_off265 (v2924 : BitVec 32) : Fin 2 → Nat :=
  let v2925 : Index := Scalar.indexCast v2924
  let c1536_1833 : Index := 1536#32
  ![v2925.toNat, 1536]

def k0_chk105 (v2924 : BitVec 32) : Prop :=
  (∀ a, (k0_off265 v2924) a + S1x512.size a ≤ S1024x2048.size a)
theorem k0_off265_inb : ∀ (v2924 : BitVec 32) (k0_hw105 : k0_chk105 v2924), ∀ a, (k0_off265 v2924) a + S1x512.size a ≤ S1024x2048.size a := fun v2924 k0_hw105 => k0_hw105

def k0_off266 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2933 : Index := Scalar.indexCast arg35
  let c9_1837 : Index := 9#32
  ![v2933.toNat, 9]
def k0_off267 (v2934 : BitVec 32) : Fin 2 → Nat :=
  let v2935 : Index := Scalar.indexCast v2934
  let c1536_1838 : Index := 1536#32
  ![v2935.toNat, 1536]

def k0_chk106 (v2934 : BitVec 32) : Prop :=
  (∀ a, (k0_off267 v2934) a + S1x512.size a ≤ S1024x2048.size a)
theorem k0_off267_inb : ∀ (v2934 : BitVec 32) (k0_hw106 : k0_chk106 v2934), ∀ a, (k0_off267 v2934) a + S1x512.size a ≤ S1024x2048.size a := fun v2934 k0_hw106 => k0_hw106

def k0_off268 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2943 : Index := Scalar.indexCast arg35
  let c10_1842 : Index := 10#32
  ![v2943.toNat, 10]
def k0_off269 (v2944 : BitVec 32) : Fin 2 → Nat :=
  let v2945 : Index := Scalar.indexCast v2944
  let c1536_1843 : Index := 1536#32
  ![v2945.toNat, 1536]

def k0_chk107 (v2944 : BitVec 32) : Prop :=
  (∀ a, (k0_off269 v2944) a + S1x512.size a ≤ S1024x2048.size a)
theorem k0_off269_inb : ∀ (v2944 : BitVec 32) (k0_hw107 : k0_chk107 v2944), ∀ a, (k0_off269 v2944) a + S1x512.size a ≤ S1024x2048.size a := fun v2944 k0_hw107 => k0_hw107

def k0_off270 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2953 : Index := Scalar.indexCast arg35
  let c11_1847 : Index := 11#32
  ![v2953.toNat, 11]
def k0_off271 (v2954 : BitVec 32) : Fin 2 → Nat :=
  let v2955 : Index := Scalar.indexCast v2954
  let c1536_1848 : Index := 1536#32
  ![v2955.toNat, 1536]

def k0_chk108 (v2954 : BitVec 32) : Prop :=
  (∀ a, (k0_off271 v2954) a + S1x512.size a ≤ S1024x2048.size a)
theorem k0_off271_inb : ∀ (v2954 : BitVec 32) (k0_hw108 : k0_chk108 v2954), ∀ a, (k0_off271 v2954) a + S1x512.size a ≤ S1024x2048.size a := fun v2954 k0_hw108 => k0_hw108

def k0_off272 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2963 : Index := Scalar.indexCast arg35
  let c12_1852 : Index := 12#32
  ![v2963.toNat, 12]
def k0_off273 (v2964 : BitVec 32) : Fin 2 → Nat :=
  let v2965 : Index := Scalar.indexCast v2964
  let c1536_1853 : Index := 1536#32
  ![v2965.toNat, 1536]

def k0_chk109 (v2964 : BitVec 32) : Prop :=
  (∀ a, (k0_off273 v2964) a + S1x512.size a ≤ S1024x2048.size a)
theorem k0_off273_inb : ∀ (v2964 : BitVec 32) (k0_hw109 : k0_chk109 v2964), ∀ a, (k0_off273 v2964) a + S1x512.size a ≤ S1024x2048.size a := fun v2964 k0_hw109 => k0_hw109

def k0_off274 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2973 : Index := Scalar.indexCast arg35
  let c13_1857 : Index := 13#32
  ![v2973.toNat, 13]
def k0_off275 (v2974 : BitVec 32) : Fin 2 → Nat :=
  let v2975 : Index := Scalar.indexCast v2974
  let c1536_1858 : Index := 1536#32
  ![v2975.toNat, 1536]

def k0_chk110 (v2974 : BitVec 32) : Prop :=
  (∀ a, (k0_off275 v2974) a + S1x512.size a ≤ S1024x2048.size a)
theorem k0_off275_inb : ∀ (v2974 : BitVec 32) (k0_hw110 : k0_chk110 v2974), ∀ a, (k0_off275 v2974) a + S1x512.size a ≤ S1024x2048.size a := fun v2974 k0_hw110 => k0_hw110

def k0_off276 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2983 : Index := Scalar.indexCast arg35
  let c14_1862 : Index := 14#32
  ![v2983.toNat, 14]
def k0_off277 (v2984 : BitVec 32) : Fin 2 → Nat :=
  let v2985 : Index := Scalar.indexCast v2984
  let c1536_1863 : Index := 1536#32
  ![v2985.toNat, 1536]

def k0_chk111 (v2984 : BitVec 32) : Prop :=
  (∀ a, (k0_off277 v2984) a + S1x512.size a ≤ S1024x2048.size a)
theorem k0_off277_inb : ∀ (v2984 : BitVec 32) (k0_hw111 : k0_chk111 v2984), ∀ a, (k0_off277 v2984) a + S1x512.size a ≤ S1024x2048.size a := fun v2984 k0_hw111 => k0_hw111

def k0_off278 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v2993 : Index := Scalar.indexCast arg35
  let c15_1867 : Index := 15#32
  ![v2993.toNat, 15]
def k0_off279 (v2994 : BitVec 32) : Fin 2 → Nat :=
  let v2995 : Index := Scalar.indexCast v2994
  let c1536_1868 : Index := 1536#32
  ![v2995.toNat, 1536]

def k0_chk112 (v2994 : BitVec 32) : Prop :=
  (∀ a, (k0_off279 v2994) a + S1x512.size a ≤ S1024x2048.size a)
theorem k0_off279_inb : ∀ (v2994 : BitVec 32) (k0_hw112 : k0_chk112 v2994), ∀ a, (k0_off279 v2994) a + S1x512.size a ≤ S1024x2048.size a := fun v2994 k0_hw112 => k0_hw112

def k0_off280 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3003 : Index := Scalar.indexCast arg35
  let c16_1872 : Index := 16#32
  ![v3003.toNat, 16]
def k0_off281 (v3004 : BitVec 32) : Fin 2 → Nat :=
  let v3005 : Index := Scalar.indexCast v3004
  let c1536_1873 : Index := 1536#32
  ![v3005.toNat, 1536]

def k0_chk113 (v3004 : BitVec 32) : Prop :=
  (∀ a, (k0_off281 v3004) a + S1x512.size a ≤ S1024x2048.size a)
theorem k0_off281_inb : ∀ (v3004 : BitVec 32) (k0_hw113 : k0_chk113 v3004), ∀ a, (k0_off281 v3004) a + S1x512.size a ≤ S1024x2048.size a := fun v3004 k0_hw113 => k0_hw113

def k0_off282 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3013 : Index := Scalar.indexCast arg35
  let c17_1877 : Index := 17#32
  ![v3013.toNat, 17]
def k0_off283 (v3014 : BitVec 32) : Fin 2 → Nat :=
  let v3015 : Index := Scalar.indexCast v3014
  let c1536_1878 : Index := 1536#32
  ![v3015.toNat, 1536]

def k0_chk114 (v3014 : BitVec 32) : Prop :=
  (∀ a, (k0_off283 v3014) a + S1x512.size a ≤ S1024x2048.size a)
theorem k0_off283_inb : ∀ (v3014 : BitVec 32) (k0_hw114 : k0_chk114 v3014), ∀ a, (k0_off283 v3014) a + S1x512.size a ≤ S1024x2048.size a := fun v3014 k0_hw114 => k0_hw114

def k0_off284 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3023 : Index := Scalar.indexCast arg35
  let c18_1882 : Index := 18#32
  ![v3023.toNat, 18]
def k0_off285 (v3024 : BitVec 32) : Fin 2 → Nat :=
  let v3025 : Index := Scalar.indexCast v3024
  let c1536_1883 : Index := 1536#32
  ![v3025.toNat, 1536]

def k0_chk115 (v3024 : BitVec 32) : Prop :=
  (∀ a, (k0_off285 v3024) a + S1x512.size a ≤ S1024x2048.size a)
theorem k0_off285_inb : ∀ (v3024 : BitVec 32) (k0_hw115 : k0_chk115 v3024), ∀ a, (k0_off285 v3024) a + S1x512.size a ≤ S1024x2048.size a := fun v3024 k0_hw115 => k0_hw115

def k0_off286 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3033 : Index := Scalar.indexCast arg35
  let c19_1887 : Index := 19#32
  ![v3033.toNat, 19]
def k0_off287 (v3034 : BitVec 32) : Fin 2 → Nat :=
  let v3035 : Index := Scalar.indexCast v3034
  let c1536_1888 : Index := 1536#32
  ![v3035.toNat, 1536]

def k0_chk116 (v3034 : BitVec 32) : Prop :=
  (∀ a, (k0_off287 v3034) a + S1x512.size a ≤ S1024x2048.size a)
theorem k0_off287_inb : ∀ (v3034 : BitVec 32) (k0_hw116 : k0_chk116 v3034), ∀ a, (k0_off287 v3034) a + S1x512.size a ≤ S1024x2048.size a := fun v3034 k0_hw116 => k0_hw116

def k0_off288 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3043 : Index := Scalar.indexCast arg35
  let c20_1892 : Index := 20#32
  ![v3043.toNat, 20]
def k0_off289 (v3044 : BitVec 32) : Fin 2 → Nat :=
  let v3045 : Index := Scalar.indexCast v3044
  let c1536_1893 : Index := 1536#32
  ![v3045.toNat, 1536]

def k0_chk117 (v3044 : BitVec 32) : Prop :=
  (∀ a, (k0_off289 v3044) a + S1x512.size a ≤ S1024x2048.size a)
theorem k0_off289_inb : ∀ (v3044 : BitVec 32) (k0_hw117 : k0_chk117 v3044), ∀ a, (k0_off289 v3044) a + S1x512.size a ≤ S1024x2048.size a := fun v3044 k0_hw117 => k0_hw117

def k0_off290 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3053 : Index := Scalar.indexCast arg35
  let c21_1897 : Index := 21#32
  ![v3053.toNat, 21]
def k0_off291 (v3054 : BitVec 32) : Fin 2 → Nat :=
  let v3055 : Index := Scalar.indexCast v3054
  let c1536_1898 : Index := 1536#32
  ![v3055.toNat, 1536]

def k0_chk118 (v3054 : BitVec 32) : Prop :=
  (∀ a, (k0_off291 v3054) a + S1x512.size a ≤ S1024x2048.size a)
theorem k0_off291_inb : ∀ (v3054 : BitVec 32) (k0_hw118 : k0_chk118 v3054), ∀ a, (k0_off291 v3054) a + S1x512.size a ≤ S1024x2048.size a := fun v3054 k0_hw118 => k0_hw118

def k0_off292 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3063 : Index := Scalar.indexCast arg35
  let c22_1902 : Index := 22#32
  ![v3063.toNat, 22]
def k0_off293 (v3064 : BitVec 32) : Fin 2 → Nat :=
  let v3065 : Index := Scalar.indexCast v3064
  let c1536_1903 : Index := 1536#32
  ![v3065.toNat, 1536]

def k0_chk119 (v3064 : BitVec 32) : Prop :=
  (∀ a, (k0_off293 v3064) a + S1x512.size a ≤ S1024x2048.size a)
theorem k0_off293_inb : ∀ (v3064 : BitVec 32) (k0_hw119 : k0_chk119 v3064), ∀ a, (k0_off293 v3064) a + S1x512.size a ≤ S1024x2048.size a := fun v3064 k0_hw119 => k0_hw119

def k0_off294 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3073 : Index := Scalar.indexCast arg35
  let c23_1907 : Index := 23#32
  ![v3073.toNat, 23]
def k0_off295 (v3074 : BitVec 32) : Fin 2 → Nat :=
  let v3075 : Index := Scalar.indexCast v3074
  let c1536_1908 : Index := 1536#32
  ![v3075.toNat, 1536]

def k0_chk120 (v3074 : BitVec 32) : Prop :=
  (∀ a, (k0_off295 v3074) a + S1x512.size a ≤ S1024x2048.size a)
theorem k0_off295_inb : ∀ (v3074 : BitVec 32) (k0_hw120 : k0_chk120 v3074), ∀ a, (k0_off295 v3074) a + S1x512.size a ≤ S1024x2048.size a := fun v3074 k0_hw120 => k0_hw120

def k0_off296 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3083 : Index := Scalar.indexCast arg35
  let c24_1912 : Index := 24#32
  ![v3083.toNat, 24]
def k0_off297 (v3084 : BitVec 32) : Fin 2 → Nat :=
  let v3085 : Index := Scalar.indexCast v3084
  let c1536_1913 : Index := 1536#32
  ![v3085.toNat, 1536]

def k0_chk121 (v3084 : BitVec 32) : Prop :=
  (∀ a, (k0_off297 v3084) a + S1x512.size a ≤ S1024x2048.size a)
theorem k0_off297_inb : ∀ (v3084 : BitVec 32) (k0_hw121 : k0_chk121 v3084), ∀ a, (k0_off297 v3084) a + S1x512.size a ≤ S1024x2048.size a := fun v3084 k0_hw121 => k0_hw121

def k0_off298 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3093 : Index := Scalar.indexCast arg35
  let c25_1917 : Index := 25#32
  ![v3093.toNat, 25]
def k0_off299 (v3094 : BitVec 32) : Fin 2 → Nat :=
  let v3095 : Index := Scalar.indexCast v3094
  let c1536_1918 : Index := 1536#32
  ![v3095.toNat, 1536]

def k0_chk122 (v3094 : BitVec 32) : Prop :=
  (∀ a, (k0_off299 v3094) a + S1x512.size a ≤ S1024x2048.size a)
theorem k0_off299_inb : ∀ (v3094 : BitVec 32) (k0_hw122 : k0_chk122 v3094), ∀ a, (k0_off299 v3094) a + S1x512.size a ≤ S1024x2048.size a := fun v3094 k0_hw122 => k0_hw122

def k0_off300 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3103 : Index := Scalar.indexCast arg35
  let c26_1922 : Index := 26#32
  ![v3103.toNat, 26]
def k0_off301 (v3104 : BitVec 32) : Fin 2 → Nat :=
  let v3105 : Index := Scalar.indexCast v3104
  let c1536_1923 : Index := 1536#32
  ![v3105.toNat, 1536]

def k0_chk123 (v3104 : BitVec 32) : Prop :=
  (∀ a, (k0_off301 v3104) a + S1x512.size a ≤ S1024x2048.size a)
theorem k0_off301_inb : ∀ (v3104 : BitVec 32) (k0_hw123 : k0_chk123 v3104), ∀ a, (k0_off301 v3104) a + S1x512.size a ≤ S1024x2048.size a := fun v3104 k0_hw123 => k0_hw123

def k0_off302 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3113 : Index := Scalar.indexCast arg35
  let c27_1927 : Index := 27#32
  ![v3113.toNat, 27]
def k0_off303 (v3114 : BitVec 32) : Fin 2 → Nat :=
  let v3115 : Index := Scalar.indexCast v3114
  let c1536_1928 : Index := 1536#32
  ![v3115.toNat, 1536]

def k0_chk124 (v3114 : BitVec 32) : Prop :=
  (∀ a, (k0_off303 v3114) a + S1x512.size a ≤ S1024x2048.size a)
theorem k0_off303_inb : ∀ (v3114 : BitVec 32) (k0_hw124 : k0_chk124 v3114), ∀ a, (k0_off303 v3114) a + S1x512.size a ≤ S1024x2048.size a := fun v3114 k0_hw124 => k0_hw124

def k0_off304 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3123 : Index := Scalar.indexCast arg35
  let c28_1932 : Index := 28#32
  ![v3123.toNat, 28]
def k0_off305 (v3124 : BitVec 32) : Fin 2 → Nat :=
  let v3125 : Index := Scalar.indexCast v3124
  let c1536_1933 : Index := 1536#32
  ![v3125.toNat, 1536]

def k0_chk125 (v3124 : BitVec 32) : Prop :=
  (∀ a, (k0_off305 v3124) a + S1x512.size a ≤ S1024x2048.size a)
theorem k0_off305_inb : ∀ (v3124 : BitVec 32) (k0_hw125 : k0_chk125 v3124), ∀ a, (k0_off305 v3124) a + S1x512.size a ≤ S1024x2048.size a := fun v3124 k0_hw125 => k0_hw125

def k0_off306 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3133 : Index := Scalar.indexCast arg35
  let c29_1937 : Index := 29#32
  ![v3133.toNat, 29]
def k0_off307 (v3134 : BitVec 32) : Fin 2 → Nat :=
  let v3135 : Index := Scalar.indexCast v3134
  let c1536_1938 : Index := 1536#32
  ![v3135.toNat, 1536]

def k0_chk126 (v3134 : BitVec 32) : Prop :=
  (∀ a, (k0_off307 v3134) a + S1x512.size a ≤ S1024x2048.size a)
theorem k0_off307_inb : ∀ (v3134 : BitVec 32) (k0_hw126 : k0_chk126 v3134), ∀ a, (k0_off307 v3134) a + S1x512.size a ≤ S1024x2048.size a := fun v3134 k0_hw126 => k0_hw126

def k0_off308 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3143 : Index := Scalar.indexCast arg35
  let c30_1942 : Index := 30#32
  ![v3143.toNat, 30]
def k0_off309 (v3144 : BitVec 32) : Fin 2 → Nat :=
  let v3145 : Index := Scalar.indexCast v3144
  let c1536_1943 : Index := 1536#32
  ![v3145.toNat, 1536]

def k0_chk127 (v3144 : BitVec 32) : Prop :=
  (∀ a, (k0_off309 v3144) a + S1x512.size a ≤ S1024x2048.size a)
theorem k0_off309_inb : ∀ (v3144 : BitVec 32) (k0_hw127 : k0_chk127 v3144), ∀ a, (k0_off309 v3144) a + S1x512.size a ≤ S1024x2048.size a := fun v3144 k0_hw127 => k0_hw127

def k0_off310 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let v3153 : Index := Scalar.indexCast arg35
  let c31_1947 : Index := 31#32
  ![v3153.toNat, 31]
def k0_off311 (v3154 : BitVec 32) : Fin 2 → Nat :=
  let v3155 : Index := Scalar.indexCast v3154
  let c1536_1948 : Index := 1536#32
  ![v3155.toNat, 1536]

def k0_chk128 (v3154 : BitVec 32) : Prop :=
  (∀ a, (k0_off311 v3154) a + S1x512.size a ≤ S1024x2048.size a)
theorem k0_off311_inb : ∀ (v3154 : BitVec 32) (k0_hw128 : k0_chk128 v3154), ∀ a, (k0_off311 v3154) a + S1x512.size a ≤ S1024x2048.size a := fun v3154 k0_hw128 => k0_hw128

def k0_cond2 (k0_t2 : Fin k0_t2_loop.trips) : BitVec 1 :=
  let c0_i32_302 : BitVec 32 := 0#32
  let c1_i32_303 : BitVec 32 := 1#32
  let arg35 : BitVec 32 := Scf.iv c0_i32_302 c1_i32_303 k0_t2
  let c4_i32_1952 : BitVec 32 := 4#32
  let v3163 : BitVec 32 := Scalar.addi arg35 c4_i32_1952
  let c64_i32_1953 : BitVec 32 := 64#32
  let v3164 : BitVec 1 := Scalar.cmpi .slt v3163 c64_i32_1953
  let v3165 : BitVec 32 := Scalar.extui v3164
  let c0_i32_1954 : BitVec 32 := 0#32
  let v3166 : BitVec 1 := Scalar.cmpi .ne v3165 c0_i32_1954
  v3166

def k0_off312 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c4_i32_1956 : BitVec 32 := 4#32
  let v3168 : BitVec 32 := Scalar.remsi v3167 c4_i32_1956
  let c0_i32_1958 : BitVec 32 := 0#32
  ![v3168.toNat, 0]
def k0_off313 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c4_i32_1956 : BitVec 32 := 4#32
  let v3168 : BitVec 32 := Scalar.remsi v3167 c4_i32_1956
  let c0_i32_1957 : BitVec 32 := 0#32
  let c0_i32_1959 : BitVec 32 := 0#32
  let c0_i32_1960 : BitVec 32 := 0#32
  ![v3168.toNat, 0, 0, 0]
def k0_off314 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c0_i32_1961 : BitVec 32 := 0#32
  let c0_i32_1962 : BitVec 32 := 0#32
  ![v3167.toNat, 0, 0]
def k0_off315 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c4_i32_1963 : BitVec 32 := 4#32
  let v3175 : BitVec 32 := Scalar.remsi v3167 c4_i32_1963
  let c1_i32_1965 : BitVec 32 := 1#32
  ![v3175.toNat, 1]
def k0_off316 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c4_i32_1963 : BitVec 32 := 4#32
  let v3175 : BitVec 32 := Scalar.remsi v3167 c4_i32_1963
  let c1_i32_1964 : BitVec 32 := 1#32
  let c0_i32_1966 : BitVec 32 := 0#32
  let c0_i32_1967 : BitVec 32 := 0#32
  ![v3175.toNat, 1, 0, 0]
def k0_off317 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c0_i32_1968 : BitVec 32 := 0#32
  let c512_i32_1969 : BitVec 32 := 512#32
  ![v3167.toNat, 0, 512]
def k0_off318 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c4_i32_1970 : BitVec 32 := 4#32
  let v3182 : BitVec 32 := Scalar.remsi v3167 c4_i32_1970
  let c2_i32_1972 : BitVec 32 := 2#32
  ![v3182.toNat, 2]
def k0_off319 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c4_i32_1970 : BitVec 32 := 4#32
  let v3182 : BitVec 32 := Scalar.remsi v3167 c4_i32_1970
  let c2_i32_1971 : BitVec 32 := 2#32
  let c0_i32_1973 : BitVec 32 := 0#32
  let c0_i32_1974 : BitVec 32 := 0#32
  ![v3182.toNat, 2, 0, 0]
def k0_off320 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c0_i32_1975 : BitVec 32 := 0#32
  let c1024_i32_1976 : BitVec 32 := 1024#32
  ![v3167.toNat, 0, 1024]
def k0_off321 (k0_t2 : Fin k0_t2_loop.trips) : Fin 2 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c4_i32_1977 : BitVec 32 := 4#32
  let v3189 : BitVec 32 := Scalar.remsi v3167 c4_i32_1977
  let c3_i32_1979 : BitVec 32 := 3#32
  ![v3189.toNat, 3]
def k0_off322 (k0_t2 : Fin k0_t2_loop.trips) : Fin 4 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c4_i32_1977 : BitVec 32 := 4#32
  let v3189 : BitVec 32 := Scalar.remsi v3167 c4_i32_1977
  let c3_i32_1978 : BitVec 32 := 3#32
  let c0_i32_1980 : BitVec 32 := 0#32
  let c0_i32_1981 : BitVec 32 := 0#32
  ![v3189.toNat, 3, 0, 0]
def k0_off323 (k0_t2 : Fin k0_t2_loop.trips) : Fin 3 → Nat :=
  let c0_i32_302 : BitVec 32 := 0#32
  let c1_i32_303 : BitVec 32 := 1#32
  let arg35 : BitVec 32 := Scf.iv c0_i32_302 c1_i32_303 k0_t2
  let c4_i32_1955 : BitVec 32 := 4#32
  let v3167 : BitVec 32 := Scalar.addi arg35 c4_i32_1955
  let c0_i32_1982 : BitVec 32 := 0#32
  let c1536_i32_1983 : BitVec 32 := 1536#32
  ![v3167.toNat, 0, 1536]
def k0_off324 : Fin 4 → Nat :=
  let c63_i32_318 : BitVec 32 := 63#32
  let c4_i32_319 : BitVec 32 := 4#32
  let v361 : BitVec 32 := Scalar.remsi c63_i32_318 c4_i32_319
  let v362 : Index := Scalar.indexCast v361
  let c0_320 : Index := 0#32
  let c0_321 : Index := 0#32
  let c0_322 : Index := 0#32
  ![v362.toNat, 0, 0, 0]
def k0_off325 (v376 : BitVec 32) : Fin 2 → Nat :=
  let v377 : Index := Scalar.indexCast v376
  let c0_329 : Index := 0#32
  ![v377.toNat, 0]

def k0_chk129 (v376 : BitVec 32) : Prop :=
  (∀ a, (k0_off325 v376) a + S1x512.size a ≤ S1024x2048.size a)
theorem k0_off325_inb : ∀ (v376 : BitVec 32) (k0_hw129 : k0_chk129 v376), ∀ a, (k0_off325 v376) a + S1x512.size a ≤ S1024x2048.size a := fun v376 k0_hw129 => k0_hw129

def k0_off326 (v385 : BitVec 32) : Fin 2 → Nat :=
  let v386 : Index := Scalar.indexCast v385
  let c0_334 : Index := 0#32
  ![v386.toNat, 0]

def k0_chk130 (v385 : BitVec 32) : Prop :=
  (∀ a, (k0_off326 v385) a + S1x512.size a ≤ S1024x2048.size a)
theorem k0_off326_inb : ∀ (v385 : BitVec 32) (k0_hw130 : k0_chk130 v385), ∀ a, (k0_off326 v385) a + S1x512.size a ≤ S1024x2048.size a := fun v385 k0_hw130 => k0_hw130

def k0_off327 (v394 : BitVec 32) : Fin 2 → Nat :=
  let v395 : Index := Scalar.indexCast v394
  let c0_339 : Index := 0#32
  ![v395.toNat, 0]

def k0_chk131 (v394 : BitVec 32) : Prop :=
  (∀ a, (k0_off327 v394) a + S1x512.size a ≤ S1024x2048.size a)
theorem k0_off327_inb : ∀ (v394 : BitVec 32) (k0_hw131 : k0_chk131 v394), ∀ a, (k0_off327 v394) a + S1x512.size a ≤ S1024x2048.size a := fun v394 k0_hw131 => k0_hw131

def k0_off328 (v403 : BitVec 32) : Fin 2 → Nat :=
  let v404 : Index := Scalar.indexCast v403
  let c0_344 : Index := 0#32
  ![v404.toNat, 0]

def k0_chk132 (v403 : BitVec 32) : Prop :=
  (∀ a, (k0_off328 v403) a + S1x512.size a ≤ S1024x2048.size a)
theorem k0_off328_inb : ∀ (v403 : BitVec 32) (k0_hw132 : k0_chk132 v403), ∀ a, (k0_off328 v403) a + S1x512.size a ≤ S1024x2048.size a := fun v403 k0_hw132 => k0_hw132

def k0_off329 (v412 : BitVec 32) : Fin 2 → Nat :=
  let v413 : Index := Scalar.indexCast v412
  let c0_349 : Index := 0#32
  ![v413.toNat, 0]

def k0_chk133 (v412 : BitVec 32) : Prop :=
  (∀ a, (k0_off329 v412) a + S1x512.size a ≤ S1024x2048.size a)
theorem k0_off329_inb : ∀ (v412 : BitVec 32) (k0_hw133 : k0_chk133 v412), ∀ a, (k0_off329 v412) a + S1x512.size a ≤ S1024x2048.size a := fun v412 k0_hw133 => k0_hw133

def k0_off330 (v421 : BitVec 32) : Fin 2 → Nat :=
  let v422 : Index := Scalar.indexCast v421
  let c0_354 : Index := 0#32
  ![v422.toNat, 0]

def k0_chk134 (v421 : BitVec 32) : Prop :=
  (∀ a, (k0_off330 v421) a + S1x512.size a ≤ S1024x2048.size a)
theorem k0_off330_inb : ∀ (v421 : BitVec 32) (k0_hw134 : k0_chk134 v421), ∀ a, (k0_off330 v421) a + S1x512.size a ≤ S1024x2048.size a := fun v421 k0_hw134 => k0_hw134

def k0_off331 (v430 : BitVec 32) : Fin 2 → Nat :=
  let v431 : Index := Scalar.indexCast v430
  let c0_359 : Index := 0#32
  ![v431.toNat, 0]

def k0_chk135 (v430 : BitVec 32) : Prop :=
  (∀ a, (k0_off331 v430) a + S1x512.size a ≤ S1024x2048.size a)
theorem k0_off331_inb : ∀ (v430 : BitVec 32) (k0_hw135 : k0_chk135 v430), ∀ a, (k0_off331 v430) a + S1x512.size a ≤ S1024x2048.size a := fun v430 k0_hw135 => k0_hw135

def k0_off332 (v439 : BitVec 32) : Fin 2 → Nat :=
  let v440 : Index := Scalar.indexCast v439
  let c0_364 : Index := 0#32
  ![v440.toNat, 0]

def k0_chk136 (v439 : BitVec 32) : Prop :=
  (∀ a, (k0_off332 v439) a + S1x512.size a ≤ S1024x2048.size a)
theorem k0_off332_inb : ∀ (v439 : BitVec 32) (k0_hw136 : k0_chk136 v439), ∀ a, (k0_off332 v439) a + S1x512.size a ≤ S1024x2048.size a := fun v439 k0_hw136 => k0_hw136

def k0_off333 (v448 : BitVec 32) : Fin 2 → Nat :=
  let v449 : Index := Scalar.indexCast v448
  let c0_369 : Index := 0#32
  ![v449.toNat, 0]

def k0_chk137 (v448 : BitVec 32) : Prop :=
  (∀ a, (k0_off333 v448) a + S1x512.size a ≤ S1024x2048.size a)
theorem k0_off333_inb : ∀ (v448 : BitVec 32) (k0_hw137 : k0_chk137 v448), ∀ a, (k0_off333 v448) a + S1x512.size a ≤ S1024x2048.size a := fun v448 k0_hw137 => k0_hw137

def k0_off334 (v457 : BitVec 32) : Fin 2 → Nat :=
  let v458 : Index := Scalar.indexCast v457
  let c0_374 : Index := 0#32
  ![v458.toNat, 0]

def k0_chk138 (v457 : BitVec 32) : Prop :=
  (∀ a, (k0_off334 v457) a + S1x512.size a ≤ S1024x2048.size a)
theorem k0_off334_inb : ∀ (v457 : BitVec 32) (k0_hw138 : k0_chk138 v457), ∀ a, (k0_off334 v457) a + S1x512.size a ≤ S1024x2048.size a := fun v457 k0_hw138 => k0_hw138

def k0_off335 (v466 : BitVec 32) : Fin 2 → Nat :=
  let v467 : Index := Scalar.indexCast v466
  let c0_379 : Index := 0#32
  ![v467.toNat, 0]

def k0_chk139 (v466 : BitVec 32) : Prop :=
  (∀ a, (k0_off335 v466) a + S1x512.size a ≤ S1024x2048.size a)
theorem k0_off335_inb : ∀ (v466 : BitVec 32) (k0_hw139 : k0_chk139 v466), ∀ a, (k0_off335 v466) a + S1x512.size a ≤ S1024x2048.size a := fun v466 k0_hw139 => k0_hw139

def k0_off336 (v475 : BitVec 32) : Fin 2 → Nat :=
  let v476 : Index := Scalar.indexCast v475
  let c0_384 : Index := 0#32
  ![v476.toNat, 0]

def k0_chk140 (v475 : BitVec 32) : Prop :=
  (∀ a, (k0_off336 v475) a + S1x512.size a ≤ S1024x2048.size a)
theorem k0_off336_inb : ∀ (v475 : BitVec 32) (k0_hw140 : k0_chk140 v475), ∀ a, (k0_off336 v475) a + S1x512.size a ≤ S1024x2048.size a := fun v475 k0_hw140 => k0_hw140

def k0_off337 (v484 : BitVec 32) : Fin 2 → Nat :=
  let v485 : Index := Scalar.indexCast v484
  let c0_389 : Index := 0#32
  ![v485.toNat, 0]

def k0_chk141 (v484 : BitVec 32) : Prop :=
  (∀ a, (k0_off337 v484) a + S1x512.size a ≤ S1024x2048.size a)
theorem k0_off337_inb : ∀ (v484 : BitVec 32) (k0_hw141 : k0_chk141 v484), ∀ a, (k0_off337 v484) a + S1x512.size a ≤ S1024x2048.size a := fun v484 k0_hw141 => k0_hw141

def k0_off338 (v493 : BitVec 32) : Fin 2 → Nat :=
  let v494 : Index := Scalar.indexCast v493
  let c0_394 : Index := 0#32
  ![v494.toNat, 0]

def k0_chk142 (v493 : BitVec 32) : Prop :=
  (∀ a, (k0_off338 v493) a + S1x512.size a ≤ S1024x2048.size a)
theorem k0_off338_inb : ∀ (v493 : BitVec 32) (k0_hw142 : k0_chk142 v493), ∀ a, (k0_off338 v493) a + S1x512.size a ≤ S1024x2048.size a := fun v493 k0_hw142 => k0_hw142

def k0_off339 (v502 : BitVec 32) : Fin 2 → Nat :=
  let v503 : Index := Scalar.indexCast v502
  let c0_399 : Index := 0#32
  ![v503.toNat, 0]

def k0_chk143 (v502 : BitVec 32) : Prop :=
  (∀ a, (k0_off339 v502) a + S1x512.size a ≤ S1024x2048.size a)
theorem k0_off339_inb : ∀ (v502 : BitVec 32) (k0_hw143 : k0_chk143 v502), ∀ a, (k0_off339 v502) a + S1x512.size a ≤ S1024x2048.size a := fun v502 k0_hw143 => k0_hw143

def k0_off340 (v511 : BitVec 32) : Fin 2 → Nat :=
  let v512 : Index := Scalar.indexCast v511
  let c0_404 : Index := 0#32
  ![v512.toNat, 0]

def k0_chk144 (v511 : BitVec 32) : Prop :=
  (∀ a, (k0_off340 v511) a + S1x512.size a ≤ S1024x2048.size a)
theorem k0_off340_inb : ∀ (v511 : BitVec 32) (k0_hw144 : k0_chk144 v511), ∀ a, (k0_off340 v511) a + S1x512.size a ≤ S1024x2048.size a := fun v511 k0_hw144 => k0_hw144

def k0_off341 (v520 : BitVec 32) : Fin 2 → Nat :=
  let v521 : Index := Scalar.indexCast v520
  let c0_409 : Index := 0#32
  ![v521.toNat, 0]

def k0_chk145 (v520 : BitVec 32) : Prop :=
  (∀ a, (k0_off341 v520) a + S1x512.size a ≤ S1024x2048.size a)
theorem k0_off341_inb : ∀ (v520 : BitVec 32) (k0_hw145 : k0_chk145 v520), ∀ a, (k0_off341 v520) a + S1x512.size a ≤ S1024x2048.size a := fun v520 k0_hw145 => k0_hw145

def k0_off342 (v529 : BitVec 32) : Fin 2 → Nat :=
  let v530 : Index := Scalar.indexCast v529
  let c0_414 : Index := 0#32
  ![v530.toNat, 0]

def k0_chk146 (v529 : BitVec 32) : Prop :=
  (∀ a, (k0_off342 v529) a + S1x512.size a ≤ S1024x2048.size a)
theorem k0_off342_inb : ∀ (v529 : BitVec 32) (k0_hw146 : k0_chk146 v529), ∀ a, (k0_off342 v529) a + S1x512.size a ≤ S1024x2048.size a := fun v529 k0_hw146 => k0_hw146

def k0_off343 (v538 : BitVec 32) : Fin 2 → Nat :=
  let v539 : Index := Scalar.indexCast v538
  let c0_419 : Index := 0#32
  ![v539.toNat, 0]

def k0_chk147 (v538 : BitVec 32) : Prop :=
  (∀ a, (k0_off343 v538) a + S1x512.size a ≤ S1024x2048.size a)
theorem k0_off343_inb : ∀ (v538 : BitVec 32) (k0_hw147 : k0_chk147 v538), ∀ a, (k0_off343 v538) a + S1x512.size a ≤ S1024x2048.size a := fun v538 k0_hw147 => k0_hw147

def k0_off344 (v547 : BitVec 32) : Fin 2 → Nat :=
  let v548 : Index := Scalar.indexCast v547
  let c0_424 : Index := 0#32
  ![v548.toNat, 0]

def k0_chk148 (v547 : BitVec 32) : Prop :=
  (∀ a, (k0_off344 v547) a + S1x512.size a ≤ S1024x2048.size a)
theorem k0_off344_inb : ∀ (v547 : BitVec 32) (k0_hw148 : k0_chk148 v547), ∀ a, (k0_off344 v547) a + S1x512.size a ≤ S1024x2048.size a := fun v547 k0_hw148 => k0_hw148

def k0_off345 (v556 : BitVec 32) : Fin 2 → Nat :=
  let v557 : Index := Scalar.indexCast v556
  let c0_429 : Index := 0#32
  ![v557.toNat, 0]

def k0_chk149 (v556 : BitVec 32) : Prop :=
  (∀ a, (k0_off345 v556) a + S1x512.size a ≤ S1024x2048.size a)
theorem k0_off345_inb : ∀ (v556 : BitVec 32) (k0_hw149 : k0_chk149 v556), ∀ a, (k0_off345 v556) a + S1x512.size a ≤ S1024x2048.size a := fun v556 k0_hw149 => k0_hw149

def k0_off346 (v565 : BitVec 32) : Fin 2 → Nat :=
  let v566 : Index := Scalar.indexCast v565
  let c0_434 : Index := 0#32
  ![v566.toNat, 0]

def k0_chk150 (v565 : BitVec 32) : Prop :=
  (∀ a, (k0_off346 v565) a + S1x512.size a ≤ S1024x2048.size a)
theorem k0_off346_inb : ∀ (v565 : BitVec 32) (k0_hw150 : k0_chk150 v565), ∀ a, (k0_off346 v565) a + S1x512.size a ≤ S1024x2048.size a := fun v565 k0_hw150 => k0_hw150

def k0_off347 (v574 : BitVec 32) : Fin 2 → Nat :=
  let v575 : Index := Scalar.indexCast v574
  let c0_439 : Index := 0#32
  ![v575.toNat, 0]

def k0_chk151 (v574 : BitVec 32) : Prop :=
  (∀ a, (k0_off347 v574) a + S1x512.size a ≤ S1024x2048.size a)
theorem k0_off347_inb : ∀ (v574 : BitVec 32) (k0_hw151 : k0_chk151 v574), ∀ a, (k0_off347 v574) a + S1x512.size a ≤ S1024x2048.size a := fun v574 k0_hw151 => k0_hw151

def k0_off348 (v583 : BitVec 32) : Fin 2 → Nat :=
  let v584 : Index := Scalar.indexCast v583
  let c0_444 : Index := 0#32
  ![v584.toNat, 0]

def k0_chk152 (v583 : BitVec 32) : Prop :=
  (∀ a, (k0_off348 v583) a + S1x512.size a ≤ S1024x2048.size a)
theorem k0_off348_inb : ∀ (v583 : BitVec 32) (k0_hw152 : k0_chk152 v583), ∀ a, (k0_off348 v583) a + S1x512.size a ≤ S1024x2048.size a := fun v583 k0_hw152 => k0_hw152

def k0_off349 (v592 : BitVec 32) : Fin 2 → Nat :=
  let v593 : Index := Scalar.indexCast v592
  let c0_449 : Index := 0#32
  ![v593.toNat, 0]

def k0_chk153 (v592 : BitVec 32) : Prop :=
  (∀ a, (k0_off349 v592) a + S1x512.size a ≤ S1024x2048.size a)
theorem k0_off349_inb : ∀ (v592 : BitVec 32) (k0_hw153 : k0_chk153 v592), ∀ a, (k0_off349 v592) a + S1x512.size a ≤ S1024x2048.size a := fun v592 k0_hw153 => k0_hw153

def k0_off350 (v601 : BitVec 32) : Fin 2 → Nat :=
  let v602 : Index := Scalar.indexCast v601
  let c0_454 : Index := 0#32
  ![v602.toNat, 0]

def k0_chk154 (v601 : BitVec 32) : Prop :=
  (∀ a, (k0_off350 v601) a + S1x512.size a ≤ S1024x2048.size a)
theorem k0_off350_inb : ∀ (v601 : BitVec 32) (k0_hw154 : k0_chk154 v601), ∀ a, (k0_off350 v601) a + S1x512.size a ≤ S1024x2048.size a := fun v601 k0_hw154 => k0_hw154

def k0_off351 (v610 : BitVec 32) : Fin 2 → Nat :=
  let v611 : Index := Scalar.indexCast v610
  let c0_459 : Index := 0#32
  ![v611.toNat, 0]

def k0_chk155 (v610 : BitVec 32) : Prop :=
  (∀ a, (k0_off351 v610) a + S1x512.size a ≤ S1024x2048.size a)
theorem k0_off351_inb : ∀ (v610 : BitVec 32) (k0_hw155 : k0_chk155 v610), ∀ a, (k0_off351 v610) a + S1x512.size a ≤ S1024x2048.size a := fun v610 k0_hw155 => k0_hw155

def k0_off352 (v619 : BitVec 32) : Fin 2 → Nat :=
  let v620 : Index := Scalar.indexCast v619
  let c0_464 : Index := 0#32
  ![v620.toNat, 0]

def k0_chk156 (v619 : BitVec 32) : Prop :=
  (∀ a, (k0_off352 v619) a + S1x512.size a ≤ S1024x2048.size a)
theorem k0_off352_inb : ∀ (v619 : BitVec 32) (k0_hw156 : k0_chk156 v619), ∀ a, (k0_off352 v619) a + S1x512.size a ≤ S1024x2048.size a := fun v619 k0_hw156 => k0_hw156

def k0_off353 (v628 : BitVec 32) : Fin 2 → Nat :=
  let v629 : Index := Scalar.indexCast v628
  let c0_469 : Index := 0#32
  ![v629.toNat, 0]

def k0_chk157 (v628 : BitVec 32) : Prop :=
  (∀ a, (k0_off353 v628) a + S1x512.size a ≤ S1024x2048.size a)
theorem k0_off353_inb : ∀ (v628 : BitVec 32) (k0_hw157 : k0_chk157 v628), ∀ a, (k0_off353 v628) a + S1x512.size a ≤ S1024x2048.size a := fun v628 k0_hw157 => k0_hw157

def k0_off354 (v637 : BitVec 32) : Fin 2 → Nat :=
  let v638 : Index := Scalar.indexCast v637
  let c0_474 : Index := 0#32
  ![v638.toNat, 0]

def k0_chk158 (v637 : BitVec 32) : Prop :=
  (∀ a, (k0_off354 v637) a + S1x512.size a ≤ S1024x2048.size a)
theorem k0_off354_inb : ∀ (v637 : BitVec 32) (k0_hw158 : k0_chk158 v637), ∀ a, (k0_off354 v637) a + S1x512.size a ≤ S1024x2048.size a := fun v637 k0_hw158 => k0_hw158

def k0_off355 (v646 : BitVec 32) : Fin 2 → Nat :=
  let v647 : Index := Scalar.indexCast v646
  let c0_479 : Index := 0#32
  ![v647.toNat, 0]

def k0_chk159 (v646 : BitVec 32) : Prop :=
  (∀ a, (k0_off355 v646) a + S1x512.size a ≤ S1024x2048.size a)
theorem k0_off355_inb : ∀ (v646 : BitVec 32) (k0_hw159 : k0_chk159 v646), ∀ a, (k0_off355 v646) a + S1x512.size a ≤ S1024x2048.size a := fun v646 k0_hw159 => k0_hw159

def k0_off356 (v655 : BitVec 32) : Fin 2 → Nat :=
  let v656 : Index := Scalar.indexCast v655
  let c0_484 : Index := 0#32
  ![v656.toNat, 0]

def k0_chk160 (v655 : BitVec 32) : Prop :=
  (∀ a, (k0_off356 v655) a + S1x512.size a ≤ S1024x2048.size a)
theorem k0_off356_inb : ∀ (v655 : BitVec 32) (k0_hw160 : k0_chk160 v655), ∀ a, (k0_off356 v655) a + S1x512.size a ≤ S1024x2048.size a := fun v655 k0_hw160 => k0_hw160

def k0_off357 : Fin 2 → Nat :=
  let c63_i32_497 : BitVec 32 := 63#32
  let c4_i32_498 : BitVec 32 := 4#32
  let v673 : BitVec 32 := Scalar.remsi c63_i32_497 c4_i32_498
  let c1_i32_501 : BitVec 32 := 1#32
  ![v673.toNat, 1]
def k0_off358 : Fin 4 → Nat :=
  let c63_i32_497 : BitVec 32 := 63#32
  let c4_i32_498 : BitVec 32 := 4#32
  let v673 : BitVec 32 := Scalar.remsi c63_i32_497 c4_i32_498
  let c1_i32_500 : BitVec 32 := 1#32
  let c0_i32_502 : BitVec 32 := 0#32
  let c0_i32_503 : BitVec 32 := 0#32
  ![v673.toNat, 1, 0, 0]
def k0_off359 : Fin 3 → Nat :=
  let c63_i32_506 : BitVec 32 := 63#32
  let c2_i32_507 : BitVec 32 := 2#32
  let v680 : BitVec 32 := Scalar.remsi c63_i32_506 c2_i32_507
  let v681 : Index := Scalar.indexCast v680
  let c0_508 : Index := 0#32
  let c0_509 : Index := 0#32
  ![v681.toNat, 0, 0]
def k0_off360 : Fin 4 → Nat :=
  let c63_i32_510 : BitVec 32 := 63#32
  let c4_i32_511 : BitVec 32 := 4#32
  let v684 : BitVec 32 := Scalar.remsi c63_i32_510 c4_i32_511
  let v685 : Index := Scalar.indexCast v684
  let c1_512 : Index := 1#32
  let c0_513 : Index := 0#32
  let c0_514 : Index := 0#32
  ![v685.toNat, 1, 0, 0]
def k0_off361 (v699 : BitVec 32) : Fin 2 → Nat :=
  let v700 : Index := Scalar.indexCast v699
  let c512_521 : Index := 512#32
  ![v700.toNat, 512]

def k0_chk161 (v699 : BitVec 32) : Prop :=
  (∀ a, (k0_off361 v699) a + S1x512.size a ≤ S1024x2048.size a)
theorem k0_off361_inb : ∀ (v699 : BitVec 32) (k0_hw161 : k0_chk161 v699), ∀ a, (k0_off361 v699) a + S1x512.size a ≤ S1024x2048.size a := fun v699 k0_hw161 => k0_hw161

def k0_off362 (v708 : BitVec 32) : Fin 2 → Nat :=
  let v709 : Index := Scalar.indexCast v708
  let c512_527 : Index := 512#32
  ![v709.toNat, 512]

def k0_chk162 (v708 : BitVec 32) : Prop :=
  (∀ a, (k0_off362 v708) a + S1x512.size a ≤ S1024x2048.size a)
theorem k0_off362_inb : ∀ (v708 : BitVec 32) (k0_hw162 : k0_chk162 v708), ∀ a, (k0_off362 v708) a + S1x512.size a ≤ S1024x2048.size a := fun v708 k0_hw162 => k0_hw162

def k0_off363 (v717 : BitVec 32) : Fin 2 → Nat :=
  let v718 : Index := Scalar.indexCast v717
  let c512_533 : Index := 512#32
  ![v718.toNat, 512]

def k0_chk163 (v717 : BitVec 32) : Prop :=
  (∀ a, (k0_off363 v717) a + S1x512.size a ≤ S1024x2048.size a)
theorem k0_off363_inb : ∀ (v717 : BitVec 32) (k0_hw163 : k0_chk163 v717), ∀ a, (k0_off363 v717) a + S1x512.size a ≤ S1024x2048.size a := fun v717 k0_hw163 => k0_hw163

def k0_off364 (v726 : BitVec 32) : Fin 2 → Nat :=
  let v727 : Index := Scalar.indexCast v726
  let c512_539 : Index := 512#32
  ![v727.toNat, 512]

def k0_chk164 (v726 : BitVec 32) : Prop :=
  (∀ a, (k0_off364 v726) a + S1x512.size a ≤ S1024x2048.size a)
theorem k0_off364_inb : ∀ (v726 : BitVec 32) (k0_hw164 : k0_chk164 v726), ∀ a, (k0_off364 v726) a + S1x512.size a ≤ S1024x2048.size a := fun v726 k0_hw164 => k0_hw164

def k0_off365 (v735 : BitVec 32) : Fin 2 → Nat :=
  let v736 : Index := Scalar.indexCast v735
  let c512_545 : Index := 512#32
  ![v736.toNat, 512]

def k0_chk165 (v735 : BitVec 32) : Prop :=
  (∀ a, (k0_off365 v735) a + S1x512.size a ≤ S1024x2048.size a)
theorem k0_off365_inb : ∀ (v735 : BitVec 32) (k0_hw165 : k0_chk165 v735), ∀ a, (k0_off365 v735) a + S1x512.size a ≤ S1024x2048.size a := fun v735 k0_hw165 => k0_hw165

def k0_off366 (v744 : BitVec 32) : Fin 2 → Nat :=
  let v745 : Index := Scalar.indexCast v744
  let c512_551 : Index := 512#32
  ![v745.toNat, 512]

def k0_chk166 (v744 : BitVec 32) : Prop :=
  (∀ a, (k0_off366 v744) a + S1x512.size a ≤ S1024x2048.size a)
theorem k0_off366_inb : ∀ (v744 : BitVec 32) (k0_hw166 : k0_chk166 v744), ∀ a, (k0_off366 v744) a + S1x512.size a ≤ S1024x2048.size a := fun v744 k0_hw166 => k0_hw166

def k0_off367 (v753 : BitVec 32) : Fin 2 → Nat :=
  let v754 : Index := Scalar.indexCast v753
  let c512_557 : Index := 512#32
  ![v754.toNat, 512]

def k0_chk167 (v753 : BitVec 32) : Prop :=
  (∀ a, (k0_off367 v753) a + S1x512.size a ≤ S1024x2048.size a)
theorem k0_off367_inb : ∀ (v753 : BitVec 32) (k0_hw167 : k0_chk167 v753), ∀ a, (k0_off367 v753) a + S1x512.size a ≤ S1024x2048.size a := fun v753 k0_hw167 => k0_hw167

def k0_off368 (v762 : BitVec 32) : Fin 2 → Nat :=
  let v763 : Index := Scalar.indexCast v762
  let c512_563 : Index := 512#32
  ![v763.toNat, 512]

def k0_chk168 (v762 : BitVec 32) : Prop :=
  (∀ a, (k0_off368 v762) a + S1x512.size a ≤ S1024x2048.size a)
theorem k0_off368_inb : ∀ (v762 : BitVec 32) (k0_hw168 : k0_chk168 v762), ∀ a, (k0_off368 v762) a + S1x512.size a ≤ S1024x2048.size a := fun v762 k0_hw168 => k0_hw168

def k0_off369 (v771 : BitVec 32) : Fin 2 → Nat :=
  let v772 : Index := Scalar.indexCast v771
  let c512_569 : Index := 512#32
  ![v772.toNat, 512]

def k0_chk169 (v771 : BitVec 32) : Prop :=
  (∀ a, (k0_off369 v771) a + S1x512.size a ≤ S1024x2048.size a)
theorem k0_off369_inb : ∀ (v771 : BitVec 32) (k0_hw169 : k0_chk169 v771), ∀ a, (k0_off369 v771) a + S1x512.size a ≤ S1024x2048.size a := fun v771 k0_hw169 => k0_hw169

def k0_off370 (v780 : BitVec 32) : Fin 2 → Nat :=
  let v781 : Index := Scalar.indexCast v780
  let c512_575 : Index := 512#32
  ![v781.toNat, 512]

def k0_chk170 (v780 : BitVec 32) : Prop :=
  (∀ a, (k0_off370 v780) a + S1x512.size a ≤ S1024x2048.size a)
theorem k0_off370_inb : ∀ (v780 : BitVec 32) (k0_hw170 : k0_chk170 v780), ∀ a, (k0_off370 v780) a + S1x512.size a ≤ S1024x2048.size a := fun v780 k0_hw170 => k0_hw170

def k0_off371 (v789 : BitVec 32) : Fin 2 → Nat :=
  let v790 : Index := Scalar.indexCast v789
  let c512_581 : Index := 512#32
  ![v790.toNat, 512]

def k0_chk171 (v789 : BitVec 32) : Prop :=
  (∀ a, (k0_off371 v789) a + S1x512.size a ≤ S1024x2048.size a)
theorem k0_off371_inb : ∀ (v789 : BitVec 32) (k0_hw171 : k0_chk171 v789), ∀ a, (k0_off371 v789) a + S1x512.size a ≤ S1024x2048.size a := fun v789 k0_hw171 => k0_hw171

def k0_off372 (v798 : BitVec 32) : Fin 2 → Nat :=
  let v799 : Index := Scalar.indexCast v798
  let c512_587 : Index := 512#32
  ![v799.toNat, 512]

def k0_chk172 (v798 : BitVec 32) : Prop :=
  (∀ a, (k0_off372 v798) a + S1x512.size a ≤ S1024x2048.size a)
theorem k0_off372_inb : ∀ (v798 : BitVec 32) (k0_hw172 : k0_chk172 v798), ∀ a, (k0_off372 v798) a + S1x512.size a ≤ S1024x2048.size a := fun v798 k0_hw172 => k0_hw172

def k0_off373 (v807 : BitVec 32) : Fin 2 → Nat :=
  let v808 : Index := Scalar.indexCast v807
  let c512_593 : Index := 512#32
  ![v808.toNat, 512]

def k0_chk173 (v807 : BitVec 32) : Prop :=
  (∀ a, (k0_off373 v807) a + S1x512.size a ≤ S1024x2048.size a)
theorem k0_off373_inb : ∀ (v807 : BitVec 32) (k0_hw173 : k0_chk173 v807), ∀ a, (k0_off373 v807) a + S1x512.size a ≤ S1024x2048.size a := fun v807 k0_hw173 => k0_hw173

def k0_off374 (v816 : BitVec 32) : Fin 2 → Nat :=
  let v817 : Index := Scalar.indexCast v816
  let c512_599 : Index := 512#32
  ![v817.toNat, 512]

def k0_chk174 (v816 : BitVec 32) : Prop :=
  (∀ a, (k0_off374 v816) a + S1x512.size a ≤ S1024x2048.size a)
theorem k0_off374_inb : ∀ (v816 : BitVec 32) (k0_hw174 : k0_chk174 v816), ∀ a, (k0_off374 v816) a + S1x512.size a ≤ S1024x2048.size a := fun v816 k0_hw174 => k0_hw174

def k0_off375 (v825 : BitVec 32) : Fin 2 → Nat :=
  let v826 : Index := Scalar.indexCast v825
  let c512_605 : Index := 512#32
  ![v826.toNat, 512]

def k0_chk175 (v825 : BitVec 32) : Prop :=
  (∀ a, (k0_off375 v825) a + S1x512.size a ≤ S1024x2048.size a)
theorem k0_off375_inb : ∀ (v825 : BitVec 32) (k0_hw175 : k0_chk175 v825), ∀ a, (k0_off375 v825) a + S1x512.size a ≤ S1024x2048.size a := fun v825 k0_hw175 => k0_hw175

def k0_off376 (v834 : BitVec 32) : Fin 2 → Nat :=
  let v835 : Index := Scalar.indexCast v834
  let c512_611 : Index := 512#32
  ![v835.toNat, 512]

def k0_chk176 (v834 : BitVec 32) : Prop :=
  (∀ a, (k0_off376 v834) a + S1x512.size a ≤ S1024x2048.size a)
theorem k0_off376_inb : ∀ (v834 : BitVec 32) (k0_hw176 : k0_chk176 v834), ∀ a, (k0_off376 v834) a + S1x512.size a ≤ S1024x2048.size a := fun v834 k0_hw176 => k0_hw176

def k0_off377 (v843 : BitVec 32) : Fin 2 → Nat :=
  let v844 : Index := Scalar.indexCast v843
  let c512_617 : Index := 512#32
  ![v844.toNat, 512]

def k0_chk177 (v843 : BitVec 32) : Prop :=
  (∀ a, (k0_off377 v843) a + S1x512.size a ≤ S1024x2048.size a)
theorem k0_off377_inb : ∀ (v843 : BitVec 32) (k0_hw177 : k0_chk177 v843), ∀ a, (k0_off377 v843) a + S1x512.size a ≤ S1024x2048.size a := fun v843 k0_hw177 => k0_hw177

def k0_off378 (v852 : BitVec 32) : Fin 2 → Nat :=
  let v853 : Index := Scalar.indexCast v852
  let c512_623 : Index := 512#32
  ![v853.toNat, 512]

def k0_chk178 (v852 : BitVec 32) : Prop :=
  (∀ a, (k0_off378 v852) a + S1x512.size a ≤ S1024x2048.size a)
theorem k0_off378_inb : ∀ (v852 : BitVec 32) (k0_hw178 : k0_chk178 v852), ∀ a, (k0_off378 v852) a + S1x512.size a ≤ S1024x2048.size a := fun v852 k0_hw178 => k0_hw178

def k0_off379 (v861 : BitVec 32) : Fin 2 → Nat :=
  let v862 : Index := Scalar.indexCast v861
  let c512_629 : Index := 512#32
  ![v862.toNat, 512]

def k0_chk179 (v861 : BitVec 32) : Prop :=
  (∀ a, (k0_off379 v861) a + S1x512.size a ≤ S1024x2048.size a)
theorem k0_off379_inb : ∀ (v861 : BitVec 32) (k0_hw179 : k0_chk179 v861), ∀ a, (k0_off379 v861) a + S1x512.size a ≤ S1024x2048.size a := fun v861 k0_hw179 => k0_hw179

def k0_off380 (v870 : BitVec 32) : Fin 2 → Nat :=
  let v871 : Index := Scalar.indexCast v870
  let c512_635 : Index := 512#32
  ![v871.toNat, 512]

def k0_chk180 (v870 : BitVec 32) : Prop :=
  (∀ a, (k0_off380 v870) a + S1x512.size a ≤ S1024x2048.size a)
theorem k0_off380_inb : ∀ (v870 : BitVec 32) (k0_hw180 : k0_chk180 v870), ∀ a, (k0_off380 v870) a + S1x512.size a ≤ S1024x2048.size a := fun v870 k0_hw180 => k0_hw180

def k0_off381 (v879 : BitVec 32) : Fin 2 → Nat :=
  let v880 : Index := Scalar.indexCast v879
  let c512_641 : Index := 512#32
  ![v880.toNat, 512]

def k0_chk181 (v879 : BitVec 32) : Prop :=
  (∀ a, (k0_off381 v879) a + S1x512.size a ≤ S1024x2048.size a)
theorem k0_off381_inb : ∀ (v879 : BitVec 32) (k0_hw181 : k0_chk181 v879), ∀ a, (k0_off381 v879) a + S1x512.size a ≤ S1024x2048.size a := fun v879 k0_hw181 => k0_hw181

def k0_off382 (v888 : BitVec 32) : Fin 2 → Nat :=
  let v889 : Index := Scalar.indexCast v888
  let c512_647 : Index := 512#32
  ![v889.toNat, 512]

def k0_chk182 (v888 : BitVec 32) : Prop :=
  (∀ a, (k0_off382 v888) a + S1x512.size a ≤ S1024x2048.size a)
theorem k0_off382_inb : ∀ (v888 : BitVec 32) (k0_hw182 : k0_chk182 v888), ∀ a, (k0_off382 v888) a + S1x512.size a ≤ S1024x2048.size a := fun v888 k0_hw182 => k0_hw182

def k0_off383 (v897 : BitVec 32) : Fin 2 → Nat :=
  let v898 : Index := Scalar.indexCast v897
  let c512_653 : Index := 512#32
  ![v898.toNat, 512]

def k0_chk183 (v897 : BitVec 32) : Prop :=
  (∀ a, (k0_off383 v897) a + S1x512.size a ≤ S1024x2048.size a)
theorem k0_off383_inb : ∀ (v897 : BitVec 32) (k0_hw183 : k0_chk183 v897), ∀ a, (k0_off383 v897) a + S1x512.size a ≤ S1024x2048.size a := fun v897 k0_hw183 => k0_hw183

def k0_off384 (v906 : BitVec 32) : Fin 2 → Nat :=
  let v907 : Index := Scalar.indexCast v906
  let c512_659 : Index := 512#32
  ![v907.toNat, 512]

def k0_chk184 (v906 : BitVec 32) : Prop :=
  (∀ a, (k0_off384 v906) a + S1x512.size a ≤ S1024x2048.size a)
theorem k0_off384_inb : ∀ (v906 : BitVec 32) (k0_hw184 : k0_chk184 v906), ∀ a, (k0_off384 v906) a + S1x512.size a ≤ S1024x2048.size a := fun v906 k0_hw184 => k0_hw184

def k0_off385 (v915 : BitVec 32) : Fin 2 → Nat :=
  let v916 : Index := Scalar.indexCast v915
  let c512_665 : Index := 512#32
  ![v916.toNat, 512]

def k0_chk185 (v915 : BitVec 32) : Prop :=
  (∀ a, (k0_off385 v915) a + S1x512.size a ≤ S1024x2048.size a)
theorem k0_off385_inb : ∀ (v915 : BitVec 32) (k0_hw185 : k0_chk185 v915), ∀ a, (k0_off385 v915) a + S1x512.size a ≤ S1024x2048.size a := fun v915 k0_hw185 => k0_hw185

def k0_off386 (v924 : BitVec 32) : Fin 2 → Nat :=
  let v925 : Index := Scalar.indexCast v924
  let c512_671 : Index := 512#32
  ![v925.toNat, 512]

def k0_chk186 (v924 : BitVec 32) : Prop :=
  (∀ a, (k0_off386 v924) a + S1x512.size a ≤ S1024x2048.size a)
theorem k0_off386_inb : ∀ (v924 : BitVec 32) (k0_hw186 : k0_chk186 v924), ∀ a, (k0_off386 v924) a + S1x512.size a ≤ S1024x2048.size a := fun v924 k0_hw186 => k0_hw186

def k0_off387 (v933 : BitVec 32) : Fin 2 → Nat :=
  let v934 : Index := Scalar.indexCast v933
  let c512_677 : Index := 512#32
  ![v934.toNat, 512]

def k0_chk187 (v933 : BitVec 32) : Prop :=
  (∀ a, (k0_off387 v933) a + S1x512.size a ≤ S1024x2048.size a)
theorem k0_off387_inb : ∀ (v933 : BitVec 32) (k0_hw187 : k0_chk187 v933), ∀ a, (k0_off387 v933) a + S1x512.size a ≤ S1024x2048.size a := fun v933 k0_hw187 => k0_hw187

def k0_off388 (v942 : BitVec 32) : Fin 2 → Nat :=
  let v943 : Index := Scalar.indexCast v942
  let c512_683 : Index := 512#32
  ![v943.toNat, 512]

def k0_chk188 (v942 : BitVec 32) : Prop :=
  (∀ a, (k0_off388 v942) a + S1x512.size a ≤ S1024x2048.size a)
theorem k0_off388_inb : ∀ (v942 : BitVec 32) (k0_hw188 : k0_chk188 v942), ∀ a, (k0_off388 v942) a + S1x512.size a ≤ S1024x2048.size a := fun v942 k0_hw188 => k0_hw188

def k0_off389 (v951 : BitVec 32) : Fin 2 → Nat :=
  let v952 : Index := Scalar.indexCast v951
  let c512_689 : Index := 512#32
  ![v952.toNat, 512]

def k0_chk189 (v951 : BitVec 32) : Prop :=
  (∀ a, (k0_off389 v951) a + S1x512.size a ≤ S1024x2048.size a)
theorem k0_off389_inb : ∀ (v951 : BitVec 32) (k0_hw189 : k0_chk189 v951), ∀ a, (k0_off389 v951) a + S1x512.size a ≤ S1024x2048.size a := fun v951 k0_hw189 => k0_hw189

def k0_off390 (v960 : BitVec 32) : Fin 2 → Nat :=
  let v961 : Index := Scalar.indexCast v960
  let c512_695 : Index := 512#32
  ![v961.toNat, 512]

def k0_chk190 (v960 : BitVec 32) : Prop :=
  (∀ a, (k0_off390 v960) a + S1x512.size a ≤ S1024x2048.size a)
theorem k0_off390_inb : ∀ (v960 : BitVec 32) (k0_hw190 : k0_chk190 v960), ∀ a, (k0_off390 v960) a + S1x512.size a ≤ S1024x2048.size a := fun v960 k0_hw190 => k0_hw190

def k0_off391 (v969 : BitVec 32) : Fin 2 → Nat :=
  let v970 : Index := Scalar.indexCast v969
  let c512_701 : Index := 512#32
  ![v970.toNat, 512]

def k0_chk191 (v969 : BitVec 32) : Prop :=
  (∀ a, (k0_off391 v969) a + S1x512.size a ≤ S1024x2048.size a)
theorem k0_off391_inb : ∀ (v969 : BitVec 32) (k0_hw191 : k0_chk191 v969), ∀ a, (k0_off391 v969) a + S1x512.size a ≤ S1024x2048.size a := fun v969 k0_hw191 => k0_hw191

def k0_off392 (v978 : BitVec 32) : Fin 2 → Nat :=
  let v979 : Index := Scalar.indexCast v978
  let c512_707 : Index := 512#32
  ![v979.toNat, 512]

def k0_chk192 (v978 : BitVec 32) : Prop :=
  (∀ a, (k0_off392 v978) a + S1x512.size a ≤ S1024x2048.size a)
theorem k0_off392_inb : ∀ (v978 : BitVec 32) (k0_hw192 : k0_chk192 v978), ∀ a, (k0_off392 v978) a + S1x512.size a ≤ S1024x2048.size a := fun v978 k0_hw192 => k0_hw192

def k0_off393 : Fin 2 → Nat :=
  let c63_i32_720 : BitVec 32 := 63#32
  let c4_i32_721 : BitVec 32 := 4#32
  let v996 : BitVec 32 := Scalar.remsi c63_i32_720 c4_i32_721
  let c2_i32_724 : BitVec 32 := 2#32
  ![v996.toNat, 2]
def k0_off394 : Fin 4 → Nat :=
  let c63_i32_720 : BitVec 32 := 63#32
  let c4_i32_721 : BitVec 32 := 4#32
  let v996 : BitVec 32 := Scalar.remsi c63_i32_720 c4_i32_721
  let c2_i32_723 : BitVec 32 := 2#32
  let c0_i32_725 : BitVec 32 := 0#32
  let c0_i32_726 : BitVec 32 := 0#32
  ![v996.toNat, 2, 0, 0]
def k0_off395 : Fin 3 → Nat :=
  let c63_i32_729 : BitVec 32 := 63#32
  let c2_i32_730 : BitVec 32 := 2#32
  let v1003 : BitVec 32 := Scalar.remsi c63_i32_729 c2_i32_730
  let v1004 : Index := Scalar.indexCast v1003
  let c0_731 : Index := 0#32
  let c0_732 : Index := 0#32
  ![v1004.toNat, 0, 0]
def k0_off396 : Fin 4 → Nat :=
  let c63_i32_733 : BitVec 32 := 63#32
  let c4_i32_734 : BitVec 32 := 4#32
  let v1007 : BitVec 32 := Scalar.remsi c63_i32_733 c4_i32_734
  let v1008 : Index := Scalar.indexCast v1007
  let c2_735 : Index := 2#32
  let c0_736 : Index := 0#32
  let c0_737 : Index := 0#32
  ![v1008.toNat, 2, 0, 0]
def k0_off397 (v1022 : BitVec 32) : Fin 2 → Nat :=
  let v1023 : Index := Scalar.indexCast v1022
  let c1024_744 : Index := 1024#32
  ![v1023.toNat, 1024]

def k0_chk193 (v1022 : BitVec 32) : Prop :=
  (∀ a, (k0_off397 v1022) a + S1x512.size a ≤ S1024x2048.size a)
theorem k0_off397_inb : ∀ (v1022 : BitVec 32) (k0_hw193 : k0_chk193 v1022), ∀ a, (k0_off397 v1022) a + S1x512.size a ≤ S1024x2048.size a := fun v1022 k0_hw193 => k0_hw193

def k0_off398 (v1031 : BitVec 32) : Fin 2 → Nat :=
  let v1032 : Index := Scalar.indexCast v1031
  let c1024_750 : Index := 1024#32
  ![v1032.toNat, 1024]

def k0_chk194 (v1031 : BitVec 32) : Prop :=
  (∀ a, (k0_off398 v1031) a + S1x512.size a ≤ S1024x2048.size a)
theorem k0_off398_inb : ∀ (v1031 : BitVec 32) (k0_hw194 : k0_chk194 v1031), ∀ a, (k0_off398 v1031) a + S1x512.size a ≤ S1024x2048.size a := fun v1031 k0_hw194 => k0_hw194

def k0_off399 (v1040 : BitVec 32) : Fin 2 → Nat :=
  let v1041 : Index := Scalar.indexCast v1040
  let c1024_756 : Index := 1024#32
  ![v1041.toNat, 1024]

def k0_chk195 (v1040 : BitVec 32) : Prop :=
  (∀ a, (k0_off399 v1040) a + S1x512.size a ≤ S1024x2048.size a)
theorem k0_off399_inb : ∀ (v1040 : BitVec 32) (k0_hw195 : k0_chk195 v1040), ∀ a, (k0_off399 v1040) a + S1x512.size a ≤ S1024x2048.size a := fun v1040 k0_hw195 => k0_hw195

def k0_off400 (v1049 : BitVec 32) : Fin 2 → Nat :=
  let v1050 : Index := Scalar.indexCast v1049
  let c1024_762 : Index := 1024#32
  ![v1050.toNat, 1024]

def k0_chk196 (v1049 : BitVec 32) : Prop :=
  (∀ a, (k0_off400 v1049) a + S1x512.size a ≤ S1024x2048.size a)
theorem k0_off400_inb : ∀ (v1049 : BitVec 32) (k0_hw196 : k0_chk196 v1049), ∀ a, (k0_off400 v1049) a + S1x512.size a ≤ S1024x2048.size a := fun v1049 k0_hw196 => k0_hw196

def k0_off401 (v1058 : BitVec 32) : Fin 2 → Nat :=
  let v1059 : Index := Scalar.indexCast v1058
  let c1024_768 : Index := 1024#32
  ![v1059.toNat, 1024]

def k0_chk197 (v1058 : BitVec 32) : Prop :=
  (∀ a, (k0_off401 v1058) a + S1x512.size a ≤ S1024x2048.size a)
theorem k0_off401_inb : ∀ (v1058 : BitVec 32) (k0_hw197 : k0_chk197 v1058), ∀ a, (k0_off401 v1058) a + S1x512.size a ≤ S1024x2048.size a := fun v1058 k0_hw197 => k0_hw197

def k0_off402 (v1067 : BitVec 32) : Fin 2 → Nat :=
  let v1068 : Index := Scalar.indexCast v1067
  let c1024_774 : Index := 1024#32
  ![v1068.toNat, 1024]

def k0_chk198 (v1067 : BitVec 32) : Prop :=
  (∀ a, (k0_off402 v1067) a + S1x512.size a ≤ S1024x2048.size a)
theorem k0_off402_inb : ∀ (v1067 : BitVec 32) (k0_hw198 : k0_chk198 v1067), ∀ a, (k0_off402 v1067) a + S1x512.size a ≤ S1024x2048.size a := fun v1067 k0_hw198 => k0_hw198

def k0_off403 (v1076 : BitVec 32) : Fin 2 → Nat :=
  let v1077 : Index := Scalar.indexCast v1076
  let c1024_780 : Index := 1024#32
  ![v1077.toNat, 1024]

def k0_chk199 (v1076 : BitVec 32) : Prop :=
  (∀ a, (k0_off403 v1076) a + S1x512.size a ≤ S1024x2048.size a)
theorem k0_off403_inb : ∀ (v1076 : BitVec 32) (k0_hw199 : k0_chk199 v1076), ∀ a, (k0_off403 v1076) a + S1x512.size a ≤ S1024x2048.size a := fun v1076 k0_hw199 => k0_hw199

def k0_off404 (v1085 : BitVec 32) : Fin 2 → Nat :=
  let v1086 : Index := Scalar.indexCast v1085
  let c1024_786 : Index := 1024#32
  ![v1086.toNat, 1024]

def k0_chk200 (v1085 : BitVec 32) : Prop :=
  (∀ a, (k0_off404 v1085) a + S1x512.size a ≤ S1024x2048.size a)
theorem k0_off404_inb : ∀ (v1085 : BitVec 32) (k0_hw200 : k0_chk200 v1085), ∀ a, (k0_off404 v1085) a + S1x512.size a ≤ S1024x2048.size a := fun v1085 k0_hw200 => k0_hw200

def k0_off405 (v1094 : BitVec 32) : Fin 2 → Nat :=
  let v1095 : Index := Scalar.indexCast v1094
  let c1024_792 : Index := 1024#32
  ![v1095.toNat, 1024]

def k0_chk201 (v1094 : BitVec 32) : Prop :=
  (∀ a, (k0_off405 v1094) a + S1x512.size a ≤ S1024x2048.size a)
theorem k0_off405_inb : ∀ (v1094 : BitVec 32) (k0_hw201 : k0_chk201 v1094), ∀ a, (k0_off405 v1094) a + S1x512.size a ≤ S1024x2048.size a := fun v1094 k0_hw201 => k0_hw201

def k0_off406 (v1103 : BitVec 32) : Fin 2 → Nat :=
  let v1104 : Index := Scalar.indexCast v1103
  let c1024_798 : Index := 1024#32
  ![v1104.toNat, 1024]

def k0_chk202 (v1103 : BitVec 32) : Prop :=
  (∀ a, (k0_off406 v1103) a + S1x512.size a ≤ S1024x2048.size a)
theorem k0_off406_inb : ∀ (v1103 : BitVec 32) (k0_hw202 : k0_chk202 v1103), ∀ a, (k0_off406 v1103) a + S1x512.size a ≤ S1024x2048.size a := fun v1103 k0_hw202 => k0_hw202

def k0_off407 (v1112 : BitVec 32) : Fin 2 → Nat :=
  let v1113 : Index := Scalar.indexCast v1112
  let c1024_804 : Index := 1024#32
  ![v1113.toNat, 1024]

def k0_chk203 (v1112 : BitVec 32) : Prop :=
  (∀ a, (k0_off407 v1112) a + S1x512.size a ≤ S1024x2048.size a)
theorem k0_off407_inb : ∀ (v1112 : BitVec 32) (k0_hw203 : k0_chk203 v1112), ∀ a, (k0_off407 v1112) a + S1x512.size a ≤ S1024x2048.size a := fun v1112 k0_hw203 => k0_hw203

def k0_off408 (v1121 : BitVec 32) : Fin 2 → Nat :=
  let v1122 : Index := Scalar.indexCast v1121
  let c1024_810 : Index := 1024#32
  ![v1122.toNat, 1024]

def k0_chk204 (v1121 : BitVec 32) : Prop :=
  (∀ a, (k0_off408 v1121) a + S1x512.size a ≤ S1024x2048.size a)
theorem k0_off408_inb : ∀ (v1121 : BitVec 32) (k0_hw204 : k0_chk204 v1121), ∀ a, (k0_off408 v1121) a + S1x512.size a ≤ S1024x2048.size a := fun v1121 k0_hw204 => k0_hw204

def k0_off409 (v1130 : BitVec 32) : Fin 2 → Nat :=
  let v1131 : Index := Scalar.indexCast v1130
  let c1024_816 : Index := 1024#32
  ![v1131.toNat, 1024]

def k0_chk205 (v1130 : BitVec 32) : Prop :=
  (∀ a, (k0_off409 v1130) a + S1x512.size a ≤ S1024x2048.size a)
theorem k0_off409_inb : ∀ (v1130 : BitVec 32) (k0_hw205 : k0_chk205 v1130), ∀ a, (k0_off409 v1130) a + S1x512.size a ≤ S1024x2048.size a := fun v1130 k0_hw205 => k0_hw205

def k0_off410 (v1139 : BitVec 32) : Fin 2 → Nat :=
  let v1140 : Index := Scalar.indexCast v1139
  let c1024_822 : Index := 1024#32
  ![v1140.toNat, 1024]

def k0_chk206 (v1139 : BitVec 32) : Prop :=
  (∀ a, (k0_off410 v1139) a + S1x512.size a ≤ S1024x2048.size a)
theorem k0_off410_inb : ∀ (v1139 : BitVec 32) (k0_hw206 : k0_chk206 v1139), ∀ a, (k0_off410 v1139) a + S1x512.size a ≤ S1024x2048.size a := fun v1139 k0_hw206 => k0_hw206

def k0_off411 (v1148 : BitVec 32) : Fin 2 → Nat :=
  let v1149 : Index := Scalar.indexCast v1148
  let c1024_828 : Index := 1024#32
  ![v1149.toNat, 1024]

def k0_chk207 (v1148 : BitVec 32) : Prop :=
  (∀ a, (k0_off411 v1148) a + S1x512.size a ≤ S1024x2048.size a)
theorem k0_off411_inb : ∀ (v1148 : BitVec 32) (k0_hw207 : k0_chk207 v1148), ∀ a, (k0_off411 v1148) a + S1x512.size a ≤ S1024x2048.size a := fun v1148 k0_hw207 => k0_hw207

def k0_off412 (v1157 : BitVec 32) : Fin 2 → Nat :=
  let v1158 : Index := Scalar.indexCast v1157
  let c1024_834 : Index := 1024#32
  ![v1158.toNat, 1024]

def k0_chk208 (v1157 : BitVec 32) : Prop :=
  (∀ a, (k0_off412 v1157) a + S1x512.size a ≤ S1024x2048.size a)
theorem k0_off412_inb : ∀ (v1157 : BitVec 32) (k0_hw208 : k0_chk208 v1157), ∀ a, (k0_off412 v1157) a + S1x512.size a ≤ S1024x2048.size a := fun v1157 k0_hw208 => k0_hw208

def k0_off413 (v1166 : BitVec 32) : Fin 2 → Nat :=
  let v1167 : Index := Scalar.indexCast v1166
  let c1024_840 : Index := 1024#32
  ![v1167.toNat, 1024]

def k0_chk209 (v1166 : BitVec 32) : Prop :=
  (∀ a, (k0_off413 v1166) a + S1x512.size a ≤ S1024x2048.size a)
theorem k0_off413_inb : ∀ (v1166 : BitVec 32) (k0_hw209 : k0_chk209 v1166), ∀ a, (k0_off413 v1166) a + S1x512.size a ≤ S1024x2048.size a := fun v1166 k0_hw209 => k0_hw209

def k0_off414 (v1175 : BitVec 32) : Fin 2 → Nat :=
  let v1176 : Index := Scalar.indexCast v1175
  let c1024_846 : Index := 1024#32
  ![v1176.toNat, 1024]

def k0_chk210 (v1175 : BitVec 32) : Prop :=
  (∀ a, (k0_off414 v1175) a + S1x512.size a ≤ S1024x2048.size a)
theorem k0_off414_inb : ∀ (v1175 : BitVec 32) (k0_hw210 : k0_chk210 v1175), ∀ a, (k0_off414 v1175) a + S1x512.size a ≤ S1024x2048.size a := fun v1175 k0_hw210 => k0_hw210

def k0_off415 (v1184 : BitVec 32) : Fin 2 → Nat :=
  let v1185 : Index := Scalar.indexCast v1184
  let c1024_852 : Index := 1024#32
  ![v1185.toNat, 1024]

def k0_chk211 (v1184 : BitVec 32) : Prop :=
  (∀ a, (k0_off415 v1184) a + S1x512.size a ≤ S1024x2048.size a)
theorem k0_off415_inb : ∀ (v1184 : BitVec 32) (k0_hw211 : k0_chk211 v1184), ∀ a, (k0_off415 v1184) a + S1x512.size a ≤ S1024x2048.size a := fun v1184 k0_hw211 => k0_hw211

def k0_off416 (v1193 : BitVec 32) : Fin 2 → Nat :=
  let v1194 : Index := Scalar.indexCast v1193
  let c1024_858 : Index := 1024#32
  ![v1194.toNat, 1024]

def k0_chk212 (v1193 : BitVec 32) : Prop :=
  (∀ a, (k0_off416 v1193) a + S1x512.size a ≤ S1024x2048.size a)
theorem k0_off416_inb : ∀ (v1193 : BitVec 32) (k0_hw212 : k0_chk212 v1193), ∀ a, (k0_off416 v1193) a + S1x512.size a ≤ S1024x2048.size a := fun v1193 k0_hw212 => k0_hw212

def k0_off417 (v1202 : BitVec 32) : Fin 2 → Nat :=
  let v1203 : Index := Scalar.indexCast v1202
  let c1024_864 : Index := 1024#32
  ![v1203.toNat, 1024]

def k0_chk213 (v1202 : BitVec 32) : Prop :=
  (∀ a, (k0_off417 v1202) a + S1x512.size a ≤ S1024x2048.size a)
theorem k0_off417_inb : ∀ (v1202 : BitVec 32) (k0_hw213 : k0_chk213 v1202), ∀ a, (k0_off417 v1202) a + S1x512.size a ≤ S1024x2048.size a := fun v1202 k0_hw213 => k0_hw213

def k0_off418 (v1211 : BitVec 32) : Fin 2 → Nat :=
  let v1212 : Index := Scalar.indexCast v1211
  let c1024_870 : Index := 1024#32
  ![v1212.toNat, 1024]

def k0_chk214 (v1211 : BitVec 32) : Prop :=
  (∀ a, (k0_off418 v1211) a + S1x512.size a ≤ S1024x2048.size a)
theorem k0_off418_inb : ∀ (v1211 : BitVec 32) (k0_hw214 : k0_chk214 v1211), ∀ a, (k0_off418 v1211) a + S1x512.size a ≤ S1024x2048.size a := fun v1211 k0_hw214 => k0_hw214

def k0_off419 (v1220 : BitVec 32) : Fin 2 → Nat :=
  let v1221 : Index := Scalar.indexCast v1220
  let c1024_876 : Index := 1024#32
  ![v1221.toNat, 1024]

def k0_chk215 (v1220 : BitVec 32) : Prop :=
  (∀ a, (k0_off419 v1220) a + S1x512.size a ≤ S1024x2048.size a)
theorem k0_off419_inb : ∀ (v1220 : BitVec 32) (k0_hw215 : k0_chk215 v1220), ∀ a, (k0_off419 v1220) a + S1x512.size a ≤ S1024x2048.size a := fun v1220 k0_hw215 => k0_hw215

def k0_off420 (v1229 : BitVec 32) : Fin 2 → Nat :=
  let v1230 : Index := Scalar.indexCast v1229
  let c1024_882 : Index := 1024#32
  ![v1230.toNat, 1024]

def k0_chk216 (v1229 : BitVec 32) : Prop :=
  (∀ a, (k0_off420 v1229) a + S1x512.size a ≤ S1024x2048.size a)
theorem k0_off420_inb : ∀ (v1229 : BitVec 32) (k0_hw216 : k0_chk216 v1229), ∀ a, (k0_off420 v1229) a + S1x512.size a ≤ S1024x2048.size a := fun v1229 k0_hw216 => k0_hw216

def k0_off421 (v1238 : BitVec 32) : Fin 2 → Nat :=
  let v1239 : Index := Scalar.indexCast v1238
  let c1024_888 : Index := 1024#32
  ![v1239.toNat, 1024]

def k0_chk217 (v1238 : BitVec 32) : Prop :=
  (∀ a, (k0_off421 v1238) a + S1x512.size a ≤ S1024x2048.size a)
theorem k0_off421_inb : ∀ (v1238 : BitVec 32) (k0_hw217 : k0_chk217 v1238), ∀ a, (k0_off421 v1238) a + S1x512.size a ≤ S1024x2048.size a := fun v1238 k0_hw217 => k0_hw217

def k0_off422 (v1247 : BitVec 32) : Fin 2 → Nat :=
  let v1248 : Index := Scalar.indexCast v1247
  let c1024_894 : Index := 1024#32
  ![v1248.toNat, 1024]

def k0_chk218 (v1247 : BitVec 32) : Prop :=
  (∀ a, (k0_off422 v1247) a + S1x512.size a ≤ S1024x2048.size a)
theorem k0_off422_inb : ∀ (v1247 : BitVec 32) (k0_hw218 : k0_chk218 v1247), ∀ a, (k0_off422 v1247) a + S1x512.size a ≤ S1024x2048.size a := fun v1247 k0_hw218 => k0_hw218

def k0_off423 (v1256 : BitVec 32) : Fin 2 → Nat :=
  let v1257 : Index := Scalar.indexCast v1256
  let c1024_900 : Index := 1024#32
  ![v1257.toNat, 1024]

def k0_chk219 (v1256 : BitVec 32) : Prop :=
  (∀ a, (k0_off423 v1256) a + S1x512.size a ≤ S1024x2048.size a)
theorem k0_off423_inb : ∀ (v1256 : BitVec 32) (k0_hw219 : k0_chk219 v1256), ∀ a, (k0_off423 v1256) a + S1x512.size a ≤ S1024x2048.size a := fun v1256 k0_hw219 => k0_hw219

def k0_off424 (v1265 : BitVec 32) : Fin 2 → Nat :=
  let v1266 : Index := Scalar.indexCast v1265
  let c1024_906 : Index := 1024#32
  ![v1266.toNat, 1024]

def k0_chk220 (v1265 : BitVec 32) : Prop :=
  (∀ a, (k0_off424 v1265) a + S1x512.size a ≤ S1024x2048.size a)
theorem k0_off424_inb : ∀ (v1265 : BitVec 32) (k0_hw220 : k0_chk220 v1265), ∀ a, (k0_off424 v1265) a + S1x512.size a ≤ S1024x2048.size a := fun v1265 k0_hw220 => k0_hw220

def k0_off425 (v1274 : BitVec 32) : Fin 2 → Nat :=
  let v1275 : Index := Scalar.indexCast v1274
  let c1024_912 : Index := 1024#32
  ![v1275.toNat, 1024]

def k0_chk221 (v1274 : BitVec 32) : Prop :=
  (∀ a, (k0_off425 v1274) a + S1x512.size a ≤ S1024x2048.size a)
theorem k0_off425_inb : ∀ (v1274 : BitVec 32) (k0_hw221 : k0_chk221 v1274), ∀ a, (k0_off425 v1274) a + S1x512.size a ≤ S1024x2048.size a := fun v1274 k0_hw221 => k0_hw221

def k0_off426 (v1283 : BitVec 32) : Fin 2 → Nat :=
  let v1284 : Index := Scalar.indexCast v1283
  let c1024_918 : Index := 1024#32
  ![v1284.toNat, 1024]

def k0_chk222 (v1283 : BitVec 32) : Prop :=
  (∀ a, (k0_off426 v1283) a + S1x512.size a ≤ S1024x2048.size a)
theorem k0_off426_inb : ∀ (v1283 : BitVec 32) (k0_hw222 : k0_chk222 v1283), ∀ a, (k0_off426 v1283) a + S1x512.size a ≤ S1024x2048.size a := fun v1283 k0_hw222 => k0_hw222

def k0_off427 (v1292 : BitVec 32) : Fin 2 → Nat :=
  let v1293 : Index := Scalar.indexCast v1292
  let c1024_924 : Index := 1024#32
  ![v1293.toNat, 1024]

def k0_chk223 (v1292 : BitVec 32) : Prop :=
  (∀ a, (k0_off427 v1292) a + S1x512.size a ≤ S1024x2048.size a)
theorem k0_off427_inb : ∀ (v1292 : BitVec 32) (k0_hw223 : k0_chk223 v1292), ∀ a, (k0_off427 v1292) a + S1x512.size a ≤ S1024x2048.size a := fun v1292 k0_hw223 => k0_hw223

def k0_off428 (v1301 : BitVec 32) : Fin 2 → Nat :=
  let v1302 : Index := Scalar.indexCast v1301
  let c1024_930 : Index := 1024#32
  ![v1302.toNat, 1024]

def k0_chk224 (v1301 : BitVec 32) : Prop :=
  (∀ a, (k0_off428 v1301) a + S1x512.size a ≤ S1024x2048.size a)
theorem k0_off428_inb : ∀ (v1301 : BitVec 32) (k0_hw224 : k0_chk224 v1301), ∀ a, (k0_off428 v1301) a + S1x512.size a ≤ S1024x2048.size a := fun v1301 k0_hw224 => k0_hw224

def k0_off429 : Fin 2 → Nat :=
  let c63_i32_943 : BitVec 32 := 63#32
  let c4_i32_944 : BitVec 32 := 4#32
  let v1319 : BitVec 32 := Scalar.remsi c63_i32_943 c4_i32_944
  let c3_i32_947 : BitVec 32 := 3#32
  ![v1319.toNat, 3]
def k0_off430 : Fin 4 → Nat :=
  let c63_i32_943 : BitVec 32 := 63#32
  let c4_i32_944 : BitVec 32 := 4#32
  let v1319 : BitVec 32 := Scalar.remsi c63_i32_943 c4_i32_944
  let c3_i32_946 : BitVec 32 := 3#32
  let c0_i32_948 : BitVec 32 := 0#32
  let c0_i32_949 : BitVec 32 := 0#32
  ![v1319.toNat, 3, 0, 0]
def k0_off431 : Fin 3 → Nat :=
  let c63_i32_952 : BitVec 32 := 63#32
  let c2_i32_953 : BitVec 32 := 2#32
  let v1326 : BitVec 32 := Scalar.remsi c63_i32_952 c2_i32_953
  let v1327 : Index := Scalar.indexCast v1326
  let c0_954 : Index := 0#32
  let c0_955 : Index := 0#32
  ![v1327.toNat, 0, 0]
def k0_off432 : Fin 4 → Nat :=
  let c63_i32_956 : BitVec 32 := 63#32
  let c4_i32_957 : BitVec 32 := 4#32
  let v1330 : BitVec 32 := Scalar.remsi c63_i32_956 c4_i32_957
  let v1331 : Index := Scalar.indexCast v1330
  let c3_958 : Index := 3#32
  let c0_959 : Index := 0#32
  let c0_960 : Index := 0#32
  ![v1331.toNat, 3, 0, 0]
def k0_off433 (v1345 : BitVec 32) : Fin 2 → Nat :=
  let v1346 : Index := Scalar.indexCast v1345
  let c1536_967 : Index := 1536#32
  ![v1346.toNat, 1536]

def k0_chk225 (v1345 : BitVec 32) : Prop :=
  (∀ a, (k0_off433 v1345) a + S1x512.size a ≤ S1024x2048.size a)
theorem k0_off433_inb : ∀ (v1345 : BitVec 32) (k0_hw225 : k0_chk225 v1345), ∀ a, (k0_off433 v1345) a + S1x512.size a ≤ S1024x2048.size a := fun v1345 k0_hw225 => k0_hw225

def k0_off434 (v1354 : BitVec 32) : Fin 2 → Nat :=
  let v1355 : Index := Scalar.indexCast v1354
  let c1536_973 : Index := 1536#32
  ![v1355.toNat, 1536]

def k0_chk226 (v1354 : BitVec 32) : Prop :=
  (∀ a, (k0_off434 v1354) a + S1x512.size a ≤ S1024x2048.size a)
theorem k0_off434_inb : ∀ (v1354 : BitVec 32) (k0_hw226 : k0_chk226 v1354), ∀ a, (k0_off434 v1354) a + S1x512.size a ≤ S1024x2048.size a := fun v1354 k0_hw226 => k0_hw226

def k0_off435 (v1363 : BitVec 32) : Fin 2 → Nat :=
  let v1364 : Index := Scalar.indexCast v1363
  let c1536_979 : Index := 1536#32
  ![v1364.toNat, 1536]

def k0_chk227 (v1363 : BitVec 32) : Prop :=
  (∀ a, (k0_off435 v1363) a + S1x512.size a ≤ S1024x2048.size a)
theorem k0_off435_inb : ∀ (v1363 : BitVec 32) (k0_hw227 : k0_chk227 v1363), ∀ a, (k0_off435 v1363) a + S1x512.size a ≤ S1024x2048.size a := fun v1363 k0_hw227 => k0_hw227

def k0_off436 (v1372 : BitVec 32) : Fin 2 → Nat :=
  let v1373 : Index := Scalar.indexCast v1372
  let c1536_985 : Index := 1536#32
  ![v1373.toNat, 1536]

def k0_chk228 (v1372 : BitVec 32) : Prop :=
  (∀ a, (k0_off436 v1372) a + S1x512.size a ≤ S1024x2048.size a)
theorem k0_off436_inb : ∀ (v1372 : BitVec 32) (k0_hw228 : k0_chk228 v1372), ∀ a, (k0_off436 v1372) a + S1x512.size a ≤ S1024x2048.size a := fun v1372 k0_hw228 => k0_hw228

def k0_off437 (v1381 : BitVec 32) : Fin 2 → Nat :=
  let v1382 : Index := Scalar.indexCast v1381
  let c1536_991 : Index := 1536#32
  ![v1382.toNat, 1536]

def k0_chk229 (v1381 : BitVec 32) : Prop :=
  (∀ a, (k0_off437 v1381) a + S1x512.size a ≤ S1024x2048.size a)
theorem k0_off437_inb : ∀ (v1381 : BitVec 32) (k0_hw229 : k0_chk229 v1381), ∀ a, (k0_off437 v1381) a + S1x512.size a ≤ S1024x2048.size a := fun v1381 k0_hw229 => k0_hw229

def k0_off438 (v1390 : BitVec 32) : Fin 2 → Nat :=
  let v1391 : Index := Scalar.indexCast v1390
  let c1536_997 : Index := 1536#32
  ![v1391.toNat, 1536]

def k0_chk230 (v1390 : BitVec 32) : Prop :=
  (∀ a, (k0_off438 v1390) a + S1x512.size a ≤ S1024x2048.size a)
theorem k0_off438_inb : ∀ (v1390 : BitVec 32) (k0_hw230 : k0_chk230 v1390), ∀ a, (k0_off438 v1390) a + S1x512.size a ≤ S1024x2048.size a := fun v1390 k0_hw230 => k0_hw230

def k0_off439 (v1399 : BitVec 32) : Fin 2 → Nat :=
  let v1400 : Index := Scalar.indexCast v1399
  let c1536_1003 : Index := 1536#32
  ![v1400.toNat, 1536]

def k0_chk231 (v1399 : BitVec 32) : Prop :=
  (∀ a, (k0_off439 v1399) a + S1x512.size a ≤ S1024x2048.size a)
theorem k0_off439_inb : ∀ (v1399 : BitVec 32) (k0_hw231 : k0_chk231 v1399), ∀ a, (k0_off439 v1399) a + S1x512.size a ≤ S1024x2048.size a := fun v1399 k0_hw231 => k0_hw231

def k0_off440 (v1408 : BitVec 32) : Fin 2 → Nat :=
  let v1409 : Index := Scalar.indexCast v1408
  let c1536_1009 : Index := 1536#32
  ![v1409.toNat, 1536]

def k0_chk232 (v1408 : BitVec 32) : Prop :=
  (∀ a, (k0_off440 v1408) a + S1x512.size a ≤ S1024x2048.size a)
theorem k0_off440_inb : ∀ (v1408 : BitVec 32) (k0_hw232 : k0_chk232 v1408), ∀ a, (k0_off440 v1408) a + S1x512.size a ≤ S1024x2048.size a := fun v1408 k0_hw232 => k0_hw232

def k0_off441 (v1417 : BitVec 32) : Fin 2 → Nat :=
  let v1418 : Index := Scalar.indexCast v1417
  let c1536_1015 : Index := 1536#32
  ![v1418.toNat, 1536]

def k0_chk233 (v1417 : BitVec 32) : Prop :=
  (∀ a, (k0_off441 v1417) a + S1x512.size a ≤ S1024x2048.size a)
theorem k0_off441_inb : ∀ (v1417 : BitVec 32) (k0_hw233 : k0_chk233 v1417), ∀ a, (k0_off441 v1417) a + S1x512.size a ≤ S1024x2048.size a := fun v1417 k0_hw233 => k0_hw233

def k0_off442 (v1426 : BitVec 32) : Fin 2 → Nat :=
  let v1427 : Index := Scalar.indexCast v1426
  let c1536_1021 : Index := 1536#32
  ![v1427.toNat, 1536]

def k0_chk234 (v1426 : BitVec 32) : Prop :=
  (∀ a, (k0_off442 v1426) a + S1x512.size a ≤ S1024x2048.size a)
theorem k0_off442_inb : ∀ (v1426 : BitVec 32) (k0_hw234 : k0_chk234 v1426), ∀ a, (k0_off442 v1426) a + S1x512.size a ≤ S1024x2048.size a := fun v1426 k0_hw234 => k0_hw234

def k0_off443 (v1435 : BitVec 32) : Fin 2 → Nat :=
  let v1436 : Index := Scalar.indexCast v1435
  let c1536_1027 : Index := 1536#32
  ![v1436.toNat, 1536]

def k0_chk235 (v1435 : BitVec 32) : Prop :=
  (∀ a, (k0_off443 v1435) a + S1x512.size a ≤ S1024x2048.size a)
theorem k0_off443_inb : ∀ (v1435 : BitVec 32) (k0_hw235 : k0_chk235 v1435), ∀ a, (k0_off443 v1435) a + S1x512.size a ≤ S1024x2048.size a := fun v1435 k0_hw235 => k0_hw235

def k0_off444 (v1444 : BitVec 32) : Fin 2 → Nat :=
  let v1445 : Index := Scalar.indexCast v1444
  let c1536_1033 : Index := 1536#32
  ![v1445.toNat, 1536]

def k0_chk236 (v1444 : BitVec 32) : Prop :=
  (∀ a, (k0_off444 v1444) a + S1x512.size a ≤ S1024x2048.size a)
theorem k0_off444_inb : ∀ (v1444 : BitVec 32) (k0_hw236 : k0_chk236 v1444), ∀ a, (k0_off444 v1444) a + S1x512.size a ≤ S1024x2048.size a := fun v1444 k0_hw236 => k0_hw236

def k0_off445 (v1453 : BitVec 32) : Fin 2 → Nat :=
  let v1454 : Index := Scalar.indexCast v1453
  let c1536_1039 : Index := 1536#32
  ![v1454.toNat, 1536]

def k0_chk237 (v1453 : BitVec 32) : Prop :=
  (∀ a, (k0_off445 v1453) a + S1x512.size a ≤ S1024x2048.size a)
theorem k0_off445_inb : ∀ (v1453 : BitVec 32) (k0_hw237 : k0_chk237 v1453), ∀ a, (k0_off445 v1453) a + S1x512.size a ≤ S1024x2048.size a := fun v1453 k0_hw237 => k0_hw237

def k0_off446 (v1462 : BitVec 32) : Fin 2 → Nat :=
  let v1463 : Index := Scalar.indexCast v1462
  let c1536_1045 : Index := 1536#32
  ![v1463.toNat, 1536]

def k0_chk238 (v1462 : BitVec 32) : Prop :=
  (∀ a, (k0_off446 v1462) a + S1x512.size a ≤ S1024x2048.size a)
theorem k0_off446_inb : ∀ (v1462 : BitVec 32) (k0_hw238 : k0_chk238 v1462), ∀ a, (k0_off446 v1462) a + S1x512.size a ≤ S1024x2048.size a := fun v1462 k0_hw238 => k0_hw238

def k0_off447 (v1471 : BitVec 32) : Fin 2 → Nat :=
  let v1472 : Index := Scalar.indexCast v1471
  let c1536_1051 : Index := 1536#32
  ![v1472.toNat, 1536]

def k0_chk239 (v1471 : BitVec 32) : Prop :=
  (∀ a, (k0_off447 v1471) a + S1x512.size a ≤ S1024x2048.size a)
theorem k0_off447_inb : ∀ (v1471 : BitVec 32) (k0_hw239 : k0_chk239 v1471), ∀ a, (k0_off447 v1471) a + S1x512.size a ≤ S1024x2048.size a := fun v1471 k0_hw239 => k0_hw239

def k0_off448 (v1480 : BitVec 32) : Fin 2 → Nat :=
  let v1481 : Index := Scalar.indexCast v1480
  let c1536_1057 : Index := 1536#32
  ![v1481.toNat, 1536]

def k0_chk240 (v1480 : BitVec 32) : Prop :=
  (∀ a, (k0_off448 v1480) a + S1x512.size a ≤ S1024x2048.size a)
theorem k0_off448_inb : ∀ (v1480 : BitVec 32) (k0_hw240 : k0_chk240 v1480), ∀ a, (k0_off448 v1480) a + S1x512.size a ≤ S1024x2048.size a := fun v1480 k0_hw240 => k0_hw240

def k0_off449 (v1489 : BitVec 32) : Fin 2 → Nat :=
  let v1490 : Index := Scalar.indexCast v1489
  let c1536_1063 : Index := 1536#32
  ![v1490.toNat, 1536]

def k0_chk241 (v1489 : BitVec 32) : Prop :=
  (∀ a, (k0_off449 v1489) a + S1x512.size a ≤ S1024x2048.size a)
theorem k0_off449_inb : ∀ (v1489 : BitVec 32) (k0_hw241 : k0_chk241 v1489), ∀ a, (k0_off449 v1489) a + S1x512.size a ≤ S1024x2048.size a := fun v1489 k0_hw241 => k0_hw241

def k0_off450 (v1498 : BitVec 32) : Fin 2 → Nat :=
  let v1499 : Index := Scalar.indexCast v1498
  let c1536_1069 : Index := 1536#32
  ![v1499.toNat, 1536]

def k0_chk242 (v1498 : BitVec 32) : Prop :=
  (∀ a, (k0_off450 v1498) a + S1x512.size a ≤ S1024x2048.size a)
theorem k0_off450_inb : ∀ (v1498 : BitVec 32) (k0_hw242 : k0_chk242 v1498), ∀ a, (k0_off450 v1498) a + S1x512.size a ≤ S1024x2048.size a := fun v1498 k0_hw242 => k0_hw242

def k0_off451 (v1507 : BitVec 32) : Fin 2 → Nat :=
  let v1508 : Index := Scalar.indexCast v1507
  let c1536_1075 : Index := 1536#32
  ![v1508.toNat, 1536]

def k0_chk243 (v1507 : BitVec 32) : Prop :=
  (∀ a, (k0_off451 v1507) a + S1x512.size a ≤ S1024x2048.size a)
theorem k0_off451_inb : ∀ (v1507 : BitVec 32) (k0_hw243 : k0_chk243 v1507), ∀ a, (k0_off451 v1507) a + S1x512.size a ≤ S1024x2048.size a := fun v1507 k0_hw243 => k0_hw243

def k0_off452 (v1516 : BitVec 32) : Fin 2 → Nat :=
  let v1517 : Index := Scalar.indexCast v1516
  let c1536_1081 : Index := 1536#32
  ![v1517.toNat, 1536]

def k0_chk244 (v1516 : BitVec 32) : Prop :=
  (∀ a, (k0_off452 v1516) a + S1x512.size a ≤ S1024x2048.size a)
theorem k0_off452_inb : ∀ (v1516 : BitVec 32) (k0_hw244 : k0_chk244 v1516), ∀ a, (k0_off452 v1516) a + S1x512.size a ≤ S1024x2048.size a := fun v1516 k0_hw244 => k0_hw244

def k0_off453 (v1525 : BitVec 32) : Fin 2 → Nat :=
  let v1526 : Index := Scalar.indexCast v1525
  let c1536_1087 : Index := 1536#32
  ![v1526.toNat, 1536]

def k0_chk245 (v1525 : BitVec 32) : Prop :=
  (∀ a, (k0_off453 v1525) a + S1x512.size a ≤ S1024x2048.size a)
theorem k0_off453_inb : ∀ (v1525 : BitVec 32) (k0_hw245 : k0_chk245 v1525), ∀ a, (k0_off453 v1525) a + S1x512.size a ≤ S1024x2048.size a := fun v1525 k0_hw245 => k0_hw245

def k0_off454 (v1534 : BitVec 32) : Fin 2 → Nat :=
  let v1535 : Index := Scalar.indexCast v1534
  let c1536_1093 : Index := 1536#32
  ![v1535.toNat, 1536]

def k0_chk246 (v1534 : BitVec 32) : Prop :=
  (∀ a, (k0_off454 v1534) a + S1x512.size a ≤ S1024x2048.size a)
theorem k0_off454_inb : ∀ (v1534 : BitVec 32) (k0_hw246 : k0_chk246 v1534), ∀ a, (k0_off454 v1534) a + S1x512.size a ≤ S1024x2048.size a := fun v1534 k0_hw246 => k0_hw246

def k0_off455 (v1543 : BitVec 32) : Fin 2 → Nat :=
  let v1544 : Index := Scalar.indexCast v1543
  let c1536_1099 : Index := 1536#32
  ![v1544.toNat, 1536]

def k0_chk247 (v1543 : BitVec 32) : Prop :=
  (∀ a, (k0_off455 v1543) a + S1x512.size a ≤ S1024x2048.size a)
theorem k0_off455_inb : ∀ (v1543 : BitVec 32) (k0_hw247 : k0_chk247 v1543), ∀ a, (k0_off455 v1543) a + S1x512.size a ≤ S1024x2048.size a := fun v1543 k0_hw247 => k0_hw247

def k0_off456 (v1552 : BitVec 32) : Fin 2 → Nat :=
  let v1553 : Index := Scalar.indexCast v1552
  let c1536_1105 : Index := 1536#32
  ![v1553.toNat, 1536]

def k0_chk248 (v1552 : BitVec 32) : Prop :=
  (∀ a, (k0_off456 v1552) a + S1x512.size a ≤ S1024x2048.size a)
theorem k0_off456_inb : ∀ (v1552 : BitVec 32) (k0_hw248 : k0_chk248 v1552), ∀ a, (k0_off456 v1552) a + S1x512.size a ≤ S1024x2048.size a := fun v1552 k0_hw248 => k0_hw248

def k0_off457 (v1561 : BitVec 32) : Fin 2 → Nat :=
  let v1562 : Index := Scalar.indexCast v1561
  let c1536_1111 : Index := 1536#32
  ![v1562.toNat, 1536]

def k0_chk249 (v1561 : BitVec 32) : Prop :=
  (∀ a, (k0_off457 v1561) a + S1x512.size a ≤ S1024x2048.size a)
theorem k0_off457_inb : ∀ (v1561 : BitVec 32) (k0_hw249 : k0_chk249 v1561), ∀ a, (k0_off457 v1561) a + S1x512.size a ≤ S1024x2048.size a := fun v1561 k0_hw249 => k0_hw249

def k0_off458 (v1570 : BitVec 32) : Fin 2 → Nat :=
  let v1571 : Index := Scalar.indexCast v1570
  let c1536_1117 : Index := 1536#32
  ![v1571.toNat, 1536]

def k0_chk250 (v1570 : BitVec 32) : Prop :=
  (∀ a, (k0_off458 v1570) a + S1x512.size a ≤ S1024x2048.size a)
theorem k0_off458_inb : ∀ (v1570 : BitVec 32) (k0_hw250 : k0_chk250 v1570), ∀ a, (k0_off458 v1570) a + S1x512.size a ≤ S1024x2048.size a := fun v1570 k0_hw250 => k0_hw250

def k0_off459 (v1579 : BitVec 32) : Fin 2 → Nat :=
  let v1580 : Index := Scalar.indexCast v1579
  let c1536_1123 : Index := 1536#32
  ![v1580.toNat, 1536]

def k0_chk251 (v1579 : BitVec 32) : Prop :=
  (∀ a, (k0_off459 v1579) a + S1x512.size a ≤ S1024x2048.size a)
theorem k0_off459_inb : ∀ (v1579 : BitVec 32) (k0_hw251 : k0_chk251 v1579), ∀ a, (k0_off459 v1579) a + S1x512.size a ≤ S1024x2048.size a := fun v1579 k0_hw251 => k0_hw251

def k0_off460 (v1588 : BitVec 32) : Fin 2 → Nat :=
  let v1589 : Index := Scalar.indexCast v1588
  let c1536_1129 : Index := 1536#32
  ![v1589.toNat, 1536]

def k0_chk252 (v1588 : BitVec 32) : Prop :=
  (∀ a, (k0_off460 v1588) a + S1x512.size a ≤ S1024x2048.size a)
theorem k0_off460_inb : ∀ (v1588 : BitVec 32) (k0_hw252 : k0_chk252 v1588), ∀ a, (k0_off460 v1588) a + S1x512.size a ≤ S1024x2048.size a := fun v1588 k0_hw252 => k0_hw252

def k0_off461 (v1597 : BitVec 32) : Fin 2 → Nat :=
  let v1598 : Index := Scalar.indexCast v1597
  let c1536_1135 : Index := 1536#32
  ![v1598.toNat, 1536]

def k0_chk253 (v1597 : BitVec 32) : Prop :=
  (∀ a, (k0_off461 v1597) a + S1x512.size a ≤ S1024x2048.size a)
theorem k0_off461_inb : ∀ (v1597 : BitVec 32) (k0_hw253 : k0_chk253 v1597), ∀ a, (k0_off461 v1597) a + S1x512.size a ≤ S1024x2048.size a := fun v1597 k0_hw253 => k0_hw253

def k0_off462 (v1606 : BitVec 32) : Fin 2 → Nat :=
  let v1607 : Index := Scalar.indexCast v1606
  let c1536_1141 : Index := 1536#32
  ![v1607.toNat, 1536]

def k0_chk254 (v1606 : BitVec 32) : Prop :=
  (∀ a, (k0_off462 v1606) a + S1x512.size a ≤ S1024x2048.size a)
theorem k0_off462_inb : ∀ (v1606 : BitVec 32) (k0_hw254 : k0_chk254 v1606), ∀ a, (k0_off462 v1606) a + S1x512.size a ≤ S1024x2048.size a := fun v1606 k0_hw254 => k0_hw254

def k0_off463 (v1615 : BitVec 32) : Fin 2 → Nat :=
  let v1616 : Index := Scalar.indexCast v1615
  let c1536_1147 : Index := 1536#32
  ![v1616.toNat, 1536]

def k0_chk255 (v1615 : BitVec 32) : Prop :=
  (∀ a, (k0_off463 v1615) a + S1x512.size a ≤ S1024x2048.size a)
theorem k0_off463_inb : ∀ (v1615 : BitVec 32) (k0_hw255 : k0_chk255 v1615), ∀ a, (k0_off463 v1615) a + S1x512.size a ≤ S1024x2048.size a := fun v1615 k0_hw255 => k0_hw255

def k0_off464 (v1624 : BitVec 32) : Fin 2 → Nat :=
  let v1625 : Index := Scalar.indexCast v1624
  let c1536_1153 : Index := 1536#32
  ![v1625.toNat, 1536]

def k0_chk256 (v1624 : BitVec 32) : Prop :=
  (∀ a, (k0_off464 v1624) a + S1x512.size a ≤ S1024x2048.size a)
theorem k0_off464_inb : ∀ (v1624 : BitVec 32) (k0_hw256 : k0_chk256 v1624), ∀ a, (k0_off464 v1624) a + S1x512.size a ≤ S1024x2048.size a := fun v1624 k0_hw256 => k0_hw256
-- ==== ReferenceIdeal.lean ====
abbrev S1024x2048 : Shape := ⟨2, ![1024, 2048]⟩
abbrev S2048x64 : Shape := ⟨2, ![2048, 64]⟩
abbrev S64x32 : Shape := ⟨2, ![64, 32]⟩
abbrev S64x2048x1408 : Shape := ⟨3, ![64, 2048, 1408]⟩
abbrev S64x1408 : Shape := ⟨2, ![64, 1408]⟩
abbrev S64x1408x2048 : Shape := ⟨3, ![64, 1408, 2048]⟩
abbrev S64x2048 : Shape := ⟨2, ![64, 2048]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S64 : Shape := ⟨1, ![64]⟩
abbrev S64x1 : Shape := ⟨2, ![64, 1]⟩
abbrev S64x32x1 : Shape := ⟨3, ![64, 32, 1]⟩
abbrev S64x32x2 : Shape := ⟨3, ![64, 32, 2]⟩
abbrev S64x32x2048 : Shape := ⟨3, ![64, 32, 2048]⟩
abbrev S1x1024 : Shape := ⟨2, ![1, 1024]⟩
abbrev S64x32x1408 : Shape := ⟨3, ![64, 32, 1408]⟩
abbrev S64x1x1408 : Shape := ⟨3, ![64, 1, 1408]⟩
abbrev S64x1x2048 : Shape := ⟨3, ![64, 1, 2048]⟩
abbrev S64x32x1024 : Shape := ⟨3, ![64, 32, 1024]⟩
abbrev S2048x1024 : Shape := ⟨2, ![2048, 1024]⟩
abbrev S2048x2048 : Shape := ⟨2, ![2048, 2048]⟩

abbrev nBuf : Space → Nat
  | .hbm => 58
  | .vmem => 13
  | .smem => 0
  | _ => 0

abbrev bufTy : (tb : Table) → Fin (tcTables nBuf tb) → BufTy
  | .hbm, ⟨0, _⟩ => ⟨S1024x2048, .bf16⟩
  | .hbm, ⟨1, _⟩ => ⟨S2048x64, .f32⟩
  | .hbm, ⟨2, _⟩ => ⟨S64x32, .i32⟩
  | .hbm, ⟨3, _⟩ => ⟨S64x2048x1408, .fp8e4m3⟩
  | .hbm, ⟨4, _⟩ => ⟨S64x2048x1408, .fp8e4m3⟩
  | .hbm, ⟨5, _⟩ => ⟨S64x1408, .f32⟩
  | .hbm, ⟨6, _⟩ => ⟨S64x1408, .f32⟩
  | .hbm, ⟨7, _⟩ => ⟨S64x1408x2048, .fp8e4m3⟩
  | .hbm, ⟨8, _⟩ => ⟨S64x2048, .f32⟩
  | .hbm, ⟨9, _⟩ => ⟨S1024x2048, .f32⟩
  | .hbm, ⟨10, _⟩ => ⟨S1024x64, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024x1, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S1024x64, .f32⟩
  | .hbm, ⟨24, _⟩ => ⟨S1024x64, .f32⟩
  | .hbm, ⟨25, _⟩ => ⟨S64, .i32⟩
  | .hbm, ⟨26, _⟩ => ⟨S64x1, .i32⟩
  | .hbm, ⟨27, _⟩ => ⟨S_, .i32⟩
  | .hbm, ⟨28, _⟩ => ⟨S64x32, .i32⟩
  | .hbm, ⟨29, _⟩ => ⟨S64x32, .i1⟩
  | .hbm, ⟨30, _⟩ => ⟨S_, .i32⟩
  | .hbm, ⟨31, _⟩ => ⟨S64x32, .i32⟩
  | .hbm, ⟨32, _⟩ => ⟨S64x32, .i32⟩
  | .hbm, ⟨33, _⟩ => ⟨S64x32, .i32⟩
  | .hbm, ⟨34, _⟩ => ⟨S_, .i32⟩
  | .hbm, ⟨35, _⟩ => ⟨S64x1, .i32⟩
  | .hbm, ⟨36, _⟩ => ⟨S64x1, .i1⟩
  | .hbm, ⟨37, _⟩ => ⟨S_, .i32⟩
  | .hbm, ⟨38, _⟩ => ⟨S64x1, .i32⟩
  | .hbm, ⟨39, _⟩ => ⟨S64x1, .i32⟩
  | .hbm, ⟨40, _⟩ => ⟨S64x1, .i32⟩
  | .hbm, ⟨41, _⟩ => ⟨S64x32, .i32⟩
  | .hbm, ⟨42, _⟩ => ⟨S64x32x1, .i32⟩
  | .hbm, ⟨43, _⟩ => ⟨S64x32x1, .i32⟩
  | .hbm, ⟨44, _⟩ => ⟨S64x32x2, .i32⟩
  | .hbm, ⟨45, _⟩ => ⟨S64x32, .f32⟩
  | .hbm, ⟨46, _⟩ => ⟨S_, .i32⟩
  | .hbm, ⟨47, _⟩ => ⟨S64x32, .i32⟩
  | .hbm, ⟨48, _⟩ => ⟨S64x32, .i1⟩
  | .hbm, ⟨49, _⟩ => ⟨S_, .i32⟩
  | .hbm, ⟨50, _⟩ => ⟨S64x32, .i32⟩
  | .hbm, ⟨51, _⟩ => ⟨S64x32, .i32⟩
  | .hbm, ⟨52, _⟩ => ⟨S64x32, .i32⟩
  | .hbm, ⟨53, _⟩ => ⟨S64x32x1, .i32⟩
  | .hbm, ⟨54, _⟩ => ⟨S64x32x2048, .bf16⟩
  | .hbm, ⟨55, _⟩ => ⟨S1024x2048, .bf16⟩
  | .hbm, ⟨56, _⟩ => ⟨S1024x2048, .fp8e4m3⟩
  | .hbm, ⟨57, _⟩ => ⟨S1x1024, .f32⟩
  | .local _ .vmem, ⟨0, _⟩ => ⟨S1024x2048, .bf16⟩
  | .local _ .vmem, ⟨1, _⟩ => ⟨S64x32x2048, .bf16⟩
  | .local _ .vmem, ⟨2, _⟩ => ⟨S64x32, .i32⟩
  | .local _ .vmem, ⟨3, _⟩ => ⟨S64x32, .f32⟩
  | .local _ .vmem, ⟨4, _⟩ => ⟨S64x2048x1408, .fp8e4m3⟩
  | .local _ .vmem, ⟨5, _⟩ => ⟨S64x2048x1408, .fp8e4m3⟩
  | .local _ .vmem, ⟨6, _⟩ => ⟨S64x1408, .f32⟩
  | .local _ .vmem, ⟨7, _⟩ => ⟨S64x1408, .f32⟩
  | .local _ .vmem, ⟨8, _⟩ => ⟨S64x1408x2048, .fp8e4m3⟩
  | .local _ .vmem, ⟨9, _⟩ => ⟨S64x2048, .f32⟩
  | .local _ .vmem, ⟨10, _⟩ => ⟨S1024x2048, .bf16⟩
  | .local _ .vmem, ⟨11, _⟩ => ⟨S1024x2048, .fp8e4m3⟩
  | .local _ .vmem, ⟨12, _⟩ => ⟨S1x1024, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048x1408 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x2048x1408 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1408x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x2048 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Same.lean ====
module

public import proofs.«01_k».proof.Kernel
public import proofs.«01_k».proof.KernelIdeal

/-! The kernel's program is printed twice, once as run and once for reading on extended reals. No operation was rewritten,
    so that the two are one program, whatever the floats are: what is proved of the one holds of the other. -/

@[expose] public section
noncomputable section
namespace Cert.Same
open Idealize.ShloMosaic Idealize.SL.Sem

variable {F : FTy → Type} [FloatOps F] [Cert.Kernel.Facts] [Cert.KernelIdeal.Facts]

set_option maxHeartbeats 4000000 in
set_option maxRecDepth 100000 in
/-- The two prints' bodies are the same. -/
theorem defs_eq : Cert.Kernel.defs (F := F) = Cert.KernelIdeal.defs (F := F) := rfl

end Cert.Same

end
-- ==== Proof.Ideal.Prog.lean ====
module

public import proofs.«01_k».proof.Proof.Gen.KernelIdeal.Skeleton
public import Idealize.ShloMosaic.Lib.Tactic

/-! The kernel's body regrouped: the printed body is cut into windows of sixty statements; here the same operations are
    grouped by what they do — one row added to the accumulator, one expert's rows, one chunk of columns, the last expert. -/

@[expose] public section

set_option synthInstance.maxSize 4096

noncomputable section

namespace Cert.KernelIdeal.Body

open Idealize.ShloMosaic Idealize.SL.Sem
open Cert.KernelIdeal Cert.KernelIdeal.Facts₀ Cert.KernelIdeal.Facts

variable {F : FTy → Type} [FloatOps F]

/-- The programs of the kernel's thread. -/
abbrev KProg (F : FTy → Type) [FloatOps F] (α : Type) : Type 1 := Prog (TpuEff nD τ sig (Elt F) Λ₀ .tc) α

/-- Row `w`, columns from `n`: where the accumulator is updated for the token word `w`. -/
def tokOff (w : BitVec 32) (n : ℕ) : Fin 2 → ℕ := ![(Scalar.indexCast w).toNat, n]

/-- The token word names a row of the accumulator. -/
def TokOk (n : ℕ) (w : BitVec 32) : Prop := ∀ a, (tokOff w n) a + S1x512.size a ≤ S1024x2048.size a
instance TokOk.dec (n : ℕ) : ∀ w : BitVec 32, Decidable (TokOk n w) := fun w => decidable_of_iff' _ (Iff.of_eq (TokOk.eq_1 n w))

/-- Column blocks of 512 inside 2048. -/
abbrev ColOk (n : ℕ) : Prop := n + 512 ≤ 2048

theorem inbRow {w : BitVec 32} (hw : w.toNat < 64) {c : ℕ} (hc : c < 32) : ∀ a, (![(Scalar.indexCast w).toNat, c] : Fin 2 → ℕ) a + S1x1.size a ≤ S64x32.size a := by
  intro a; fin_cases a
  · show w.toNat + 1 ≤ 64; omega
  · show c + 1 ≤ 32; omega

theorem inbYRow {c n : ℕ} (hc : c < 32) (hn : ColOk n) : ∀ a, (![c, n] : Fin 2 → ℕ) a + S1x512.size a ≤ S32x2048.size a := by
  intro a; fin_cases a
  · show c + 1 ≤ 32; omega
  · exact hn

theorem inbY {n : ℕ} (hn : ColOk n) : ∀ a, (![0, n] : Fin 2 → ℕ) a + S32x512.size a ≤ S32x2048.size a := by
  intro a; fin_cases a
  · show 0 + 32 ≤ 32; omega
  · exact hn

theorem inbAcc {n : ℕ} (hn : ColOk n) : ∀ a, (![0, n] : Fin 2 → ℕ) a + S1024x512.size a ≤ S1024x2048.size a := by
  intro a; fin_cases a
  · show 0 + 1024 ≤ 1024; omega
  · exact hn

theorem inbSd {w : BitVec 32} (hw : w.toNat < 64) {n : ℕ} (hn : ColOk n) : ∀ a, (![(Scalar.indexCast w).toNat, n] : Fin 2 → ℕ) a + S1x512.size a ≤ S64x2048.size a := by
  intro a; fin_cases a
  · show w.toNat + 1 ≤ 64; omega
  · exact hn

/-- The ring slot of expert `w` among four, and among two. -/
theorem rem4 {w : BitVec 32} (hw : w.toNat < 64) : (Scalar.remsi w 4#32).toNat = w.toNat % 4 := by
  obtain ⟨n, rfl⟩ : ∃ n : Fin 64, w = BitVec.ofNat 32 n := ⟨⟨w.toNat, hw⟩, by simp⟩
  revert n; decide
theorem rem2 {w : BitVec 32} (hw : w.toNat < 64) : (Scalar.remsi w 2#32).toNat = w.toNat % 2 := by
  obtain ⟨n, rfl⟩ : ∃ n : Fin 64, w = BitVec.ofNat 32 n := ⟨⟨w.toNat, hw⟩, by simp⟩
  revert n; decide

theorem inbHc {w : BitVec 32} (hw : w.toNat < 64) : ∀ a, (![(Scalar.indexCast (Scalar.remsi w 2#32)).toNat, 0, 0] : Fin 3 → ℕ) a + S1x32x1408.size a ≤ S2x32x1408.size a := by
  intro a; fin_cases a
  · show (Scalar.remsi w 2#32).toNat + 1 ≤ 2; rw [rem2 hw]; omega
  · show 0 + 32 ≤ 32; omega
  · show 0 + 1408 ≤ 1408; omega

theorem inbWd {w : BitVec 32} (hw : w.toNat < 64) {j : ℕ} (hj : j < 4) : ∀ a, (![(Scalar.indexCast (Scalar.remsi w 4#32)).toNat, j, 0, 0] : Fin 4 → ℕ) a + S1x1x1408x512.size a ≤ S4x4x1408x512.size a := by
  intro a; fin_cases a
  · show (Scalar.remsi w 4#32).toNat + 1 ≤ 4; rw [rem4 hw]; omega
  · show j + 1 ≤ 4; omega
  · show 0 + 1408 ≤ 1408; omega
  · show 0 + 512 ≤ 512; omega

/-- The rows of an expert's output. -/
def slots : List (Fin 32) := List.ofFn id

/-- Row `c` of the expert's output, columns from `n`, added to the accumulator's row of the token it was chosen for. -/
def row (w : BitVec 32) (hw : w.toNat < 64) (n : ℕ) (hn : ColOk n) (c : Fin 32) : KProg F PUnit := do
  let v ← smemLoad (Memref.whole cc0_scratch9) (Rect.unit (s := S64x32) ![(Scalar.indexCast w).toNat, c.val] S1x1.size (inbRow hw c.isLt)) numel1_S1x1 rfl
  have h : TokOk n v := (← Prog.lift (TpuEff.assume (TokOk n v) (TokOk.dec n v))).down
  let a : Vec F S1x512 .f32 ← Prog.lift (.load (Memref.whole cc0_scratch2) (Rect.unit (s := S1024x2048) (tokOff v n) S1x512.size h).toLoadRect (View.loadsAt_vmem h_S1x512))
  let y : Vec F S1x512 .f32 ← Prog.lift (.load (Memref.whole cc0_scratch16) (Rect.unit (s := S32x2048) ![c.val, n] S1x512.size (inbYRow c.isLt hn)).toLoadRect (View.loadsAt_vmem h_S1x512))
  let _ : Vec F S1x512 .f32 ← Prog.lift (.load (Memref.whole cc0_scratch2) (Rect.unit (s := S1024x2048) (tokOff v n) S1x512.size h).toLoadRect (View.loadsAt_vmem h_S1x512))
  Prog.lift (.store (Memref.whole cc0_scratch2) (Rect.unit (s := S1024x2048) (tokOff v n) S1x512.size h) (shapeCast S1x512 (addf a y) shapeCasts_S1x512_S1x512) Finset.univ (View.stores_vmem_bits_univ h_S1x512 rfl) (.inl rfl))

/-- The rows of a list, one after the other. -/
def rows (w : BitVec 32) (hw : w.toNat < 64) (n : ℕ) (hn : ColOk n) : List (Fin 32) → KProg F PUnit
  | [] => pure ⟨⟩
  | c :: cs => do row w hw n hn c; rows w hw n hn cs

/-- What one chunk of columns of the expert's output is: the product with the chunk of its matrix, times the scales and
    the router's probability. -/
def yPay (hs r : FVec F S32x1 .f32) (h : FVec F S32x1408 .fp8e4m3) (wd : Vec F S1x1x1408x512 .fp8e4m3) (sd : Vec F S1x512 .f32) : FVec F S32x512 .f32 :=
  mulf (mulf (mulf (matmul dot_S32x1408_S1408x512_S32x512_1_0_0_1_n_n none h
      (shapeCast S1408x512 wd shapeCasts_S1x1x1408x512_S1408x512 : FVec F S1408x512 .fp8e4m3) (constant S32x512 .f32 0x00000000#32))
    (broadcastTo S32x512 hs broadcasts_S32x1_S32x512)) (broadcastTo S32x512 sd broadcasts_S1x512_S32x512))
    (broadcastTo S32x512 r broadcasts_S32x1_S32x512)

/-- Columns from `n` of expert `w`'s output, computed from its hidden codes `h` and added to the accumulator row by row. -/
def chunkFrom (w : BitVec 32) (hw : w.toNat < 64) (j : ℕ) (hj : j < 4) (n : ℕ) (hn : ColOk n) (hs r : FVec F S32x1 .f32) (h : FVec F S32x1408 .fp8e4m3) : KProg F PUnit := do
  let wd : Vec F S1x1x1408x512 .fp8e4m3 ← Prog.lift (.load (Memref.whole cc0_scratch14) (Rect.unit (s := S4x4x1408x512) ![(Scalar.indexCast (Scalar.remsi w 4#32)).toNat, j, 0, 0] S1x1x1408x512.size (inbWd hw hj)).toLoadRect (View.loadsAt_vmem h_S1x1x1408x512))
  let sd : Vec F S1x512 .f32 ← Prog.lift (.load (Memref.whole cc0_scratch7) (Rect.unit (s := S64x2048) ![(Scalar.indexCast w).toNat, n] S1x512.size (inbSd hw hn)).toLoadRect (View.loadsAt_vmem h_S1x512))
  let _ : Vec F S32x512 .f32 ← Prog.lift (.load (Memref.whole cc0_scratch16) (Rect.unit (s := S32x2048) ![0, n] S32x512.size (inbY hn)).toLoadRect (View.loadsAt_vmem h_S32x512))
  Prog.lift (.store (Memref.whole cc0_scratch16) (Rect.unit (s := S32x2048) ![0, n] S32x512.size (inbY hn)) (shapeCast S32x512 (yPay hs r h wd sd) shapeCasts_S32x512_S32x512) Finset.univ (View.stores_vmem_bits_univ h_S32x512 rfl) (.inl rfl))
  rows w hw n hn slots

/-- The same, the hidden codes read first. -/
def chunk (w : BitVec 32) (hw : w.toNat < 64) (j : ℕ) (hj : j < 4) (n : ℕ) (hn : ColOk n) (hs r : FVec F S32x1 .f32) : KProg F PUnit := do
  let h : Vec F S1x32x1408 .fp8e4m3 ← Prog.lift (.load (Memref.whole cc0_scratch15) (Rect.unit (s := S2x32x1408) ![(Scalar.indexCast (Scalar.remsi w 2#32)).toNat, 0, 0] S1x32x1408.size (inbHc hw)).toLoadRect (View.loadsAt_vmem h_S1x32x1408))
  chunkFrom w hw j hj n hn hs r (shapeCast S32x1408 h shapeCasts_S1x32x1408_S32x1408 : FVec F S32x1408 .fp8e4m3)

/-- The word of trip `k` of the expert loop. -/
def tripWord (k : Fin k0_t2_loop.trips) : BitVec 32 := Scf.iv (0#32) (1#32) k

theorem tripWord_lt (k : Fin k0_t2_loop.trips) : (tripWord k).toNat < 64 := by
  revert k; decide

end Cert.KernelIdeal.Body
-- ==== Proof.Ideal.Moves.lean ====
module

public import proofs.«01_k».proof.Proof.Ideal.Prog

/-! The kernel's copies: the views of the weight rings and of their sources, the starts and the waits of one expert's
    copies, and one expert's hidden codes, all as programs of the kernel's thread. -/

@[expose] public section

set_option synthInstance.maxSize 4096
set_option maxRecDepth 16384

noncomputable section

namespace Cert.KernelIdeal.Body

open Idealize.ShloMosaic Idealize.SL.Sem
open Cert.KernelIdeal Cert.KernelIdeal.Facts₀ Cert.KernelIdeal.Facts
open Cert.KernelIdeal.Gen (k0_pay10 k0_pay11 k0_pay12 k0_pay13 k0_pay14 k0_pay15 k0_pay17 k0_pay18)

variable {F : FTy → Type} [FloatOps F]

/-! ## Bounds -/

theorem inbSemG {s i : ℕ} (hs : s < 4) (hi : i < 2) : ∀ a, (![s, i] : Fin 2 → ℕ) a + S1x1.size a ≤ S4x2.size a := by
  intro a; fin_cases a
  · show s + 1 ≤ 4; omega
  · show i + 1 ≤ 2; omega
theorem inbSemD {s i : ℕ} (hs : s < 4) (hi : i < 4) : ∀ a, (![s, i] : Fin 2 → ℕ) a + S1x1.size a ≤ S4x4.size a := by
  intro a; fin_cases a
  · show s + 1 ≤ 4; omega
  · show i + 1 ≤ 4; omega
theorem inbGD {s : ℕ} (hs : s < 4) : ∀ a, (![s, 0, 0] : Fin 3 → ℕ) a + S1x2048x1408.size a ≤ S4x2048x1408.size a := by
  intro a; fin_cases a
  · show s + 1 ≤ 4; omega
  · show 0 + 2048 ≤ 2048; omega
  · show 0 + 1408 ≤ 1408; omega
theorem inbGS {e : ℕ} (he : e < 64) : ∀ a, (![e, 0, 0] : Fin 3 → ℕ) a + S1x2048x1408.size a ≤ S64x2048x1408.size a := by
  intro a; fin_cases a
  · show e + 1 ≤ 64; omega
  · show 0 + 2048 ≤ 2048; omega
  · show 0 + 1408 ≤ 1408; omega
theorem inbDD {s j : ℕ} (hs : s < 4) (hj : j < 4) : ∀ a, (![s, j, 0, 0] : Fin 4 → ℕ) a + S1x1x1408x512.size a ≤ S4x4x1408x512.size a := by
  intro a; fin_cases a
  · show s + 1 ≤ 4; omega
  · show j + 1 ≤ 4; omega
  · show 0 + 1408 ≤ 1408; omega
  · show 0 + 512 ≤ 512; omega
theorem inbDS {e n : ℕ} (he : e < 64) (hn : ColOk n) : ∀ a, (![e, 0, n] : Fin 3 → ℕ) a + S1x1408x512.size a ≤ S64x1408x2048.size a := by
  intro a; fin_cases a
  · show e + 1 ≤ 64; omega
  · show 0 + 1408 ≤ 1408; omega
  · exact hn
theorem inbE32 {e : ℕ} (he : e < 64) : ∀ a, (![e, 0] : Fin 2 → ℕ) a + S1x32.size a ≤ S64x32.size a := by
  intro a; fin_cases a
  · show e + 1 ≤ 64; omega
  · show 0 + 32 ≤ 32; omega
theorem inbE1024 {e : ℕ} (he : e < 64) : ∀ a, (![e, 0] : Fin 2 → ℕ) a + S1x1024.size a ≤ S64x1024.size a := by
  intro a; fin_cases a
  · show e + 1 ≤ 64; omega
  · show 0 + 1024 ≤ 1024; omega
theorem inbE1408 {e : ℕ} (he : e < 64) : ∀ a, (![e, 0] : Fin 2 → ℕ) a + S1x1408.size a ≤ S64x1408.size a := by
  intro a; fin_cases a
  · show e + 1 ≤ 64; omega
  · show 0 + 1408 ≤ 1408; omega
theorem inbH2 {s : ℕ} (hs : s < 2) : ∀ a, (![s, 0, 0] : Fin 3 → ℕ) a + S1x32x1408.size a ≤ S2x32x1408.size a := by
  intro a; fin_cases a
  · show s + 1 ≤ 2; omega
  · show 0 + 32 ≤ 32; omega
  · show 0 + 1408 ≤ 1408; omega

/-! ## Whole words, at every slot and expert -/

theorem wordsGD {s : ℕ} (hs : s < 4) : (Rect.unit (s := S4x2048x1408) ![s, 0, 0] S1x2048x1408.size (inbGD hs)).WholeWords (EltTy.packing .fp8e4m3) :=
  (by decide +kernel : ∀ s : Fin 4, (Rect.unit (s := S4x2048x1408) ![s.val, 0, 0] S1x2048x1408.size (inbGD s.isLt)).WholeWords (EltTy.packing .fp8e4m3)) ⟨s, hs⟩
theorem wordsGS {e : ℕ} (he : e < 64) : (Rect.unit (s := S64x2048x1408) ![e, 0, 0] S1x2048x1408.size (inbGS he)).WholeWords (EltTy.packing .fp8e4m3) :=
  (by decide +kernel : ∀ s : Fin 64, (Rect.unit (s := S64x2048x1408) ![s.val, 0, 0] S1x2048x1408.size (inbGS s.isLt)).WholeWords (EltTy.packing .fp8e4m3)) ⟨e, he⟩
theorem wordsDD {s j : ℕ} (hs : s < 4) (hj : j < 4) : (Rect.unit (s := S4x4x1408x512) ![s, j, 0, 0] S1x1x1408x512.size (inbDD hs hj)).WholeWords (EltTy.packing .fp8e4m3) :=
  (by decide +kernel : ∀ s j : Fin 4, (Rect.unit (s := S4x4x1408x512) ![s.val, j.val, 0, 0] S1x1x1408x512.size (inbDD s.isLt j.isLt)).WholeWords (EltTy.packing .fp8e4m3)) ⟨s, hs⟩ ⟨j, hj⟩
/-- The four blocks of columns. -/
theorem inbDS4 (e : Fin 64) (j : Fin 4) : ∀ a, (![e.val, 0, 512 * j.val] : Fin 3 → ℕ) a + S1x1408x512.size a ≤ S64x1408x2048.size a :=
  inbDS e.isLt (by have := j.isLt; show 512 * j.val + 512 ≤ 2048; omega)
theorem wordsDS {e : ℕ} (he : e < 64) {n : ℕ} (j : Fin 4) (hn : n = 512 * j.val) (hc : ColOk n) : (Rect.unit (s := S64x1408x2048) ![e, 0, n] S1x1408x512.size (inbDS he hc)).WholeWords (EltTy.packing .fp8e4m3) := by
  subst hn
  exact (by decide +kernel : ∀ (e : Fin 64) (j : Fin 4), (Rect.unit (s := S64x1408x2048) ![e.val, 0, 512 * j.val] S1x1408x512.size (inbDS4 e j)).WholeWords (EltTy.packing .fp8e4m3)) ⟨e, he⟩ j
theorem packH2 {s : ℕ} (hs : s < 2) : (Rect.unit (s := S2x32x1408) ![s, 0, 0] S1x32x1408.size (inbH2 hs)).PackedRows (EltTy.packing .fp8e4m3) :=
  (by decide +kernel : ∀ s : Fin 2, (Rect.unit (s := S2x32x1408) ![s.val, 0, 0] S1x32x1408.size (inbH2 s.isLt)).PackedRows (EltTy.packing .fp8e4m3)) ⟨s, hs⟩

/-! ## The views -/

/-- The semaphore of one expert's gate (`i = 0`) or up (`i = 1`) copy, by ring slot. -/
def semG {s i : ℕ} (hs : s < 4) (hi : i < 2) : DmaSem sig :=
  ((cc0_scratch19.slice (Rect.unit (s := S4x2) ![s, i] S1x1.size (inbSemG hs hi))).squeeze S_ squeezes_S1x1_S_).sem
/-- The semaphore of one chunk of the down matrix, by ring slot. -/
def semD {s j : ℕ} (hs : s < 4) (hj : j < 4) : DmaSem sig :=
  ((cc0_scratch20.slice (Rect.unit (s := S4x4) ![s, j] S1x1.size (inbSemD hs hj))).squeeze S_ squeezes_S1x1_S_).sem
/-- A ring slot of a gate or up ring. -/
def gDst (M : Memref sig .tc .vmem S4x2048x1408 .fp8e4m3) {s : ℕ} (hs : s < 4) : Memref sig .tc .vmem S2048x1408 .fp8e4m3 :=
  (M.slice (Rect.unit (s := S4x2048x1408) ![s, 0, 0] S1x2048x1408.size (inbGD hs)) (fun _ => rfl)).squeeze S2048x1408 squeezes_S1x2048x1408_S2048x1408
/-- One expert's gate or up matrix. -/
def gSrc (M : Memref sig .tc .hbm S64x2048x1408 .fp8e4m3) {e : ℕ} (he : e < 64) : Memref sig .tc .hbm S2048x1408 .fp8e4m3 :=
  (M.slice (Rect.unit (s := S64x2048x1408) ![e, 0, 0] S1x2048x1408.size (inbGS he)) (fun _ => rfl)).squeeze S2048x1408 squeezes_S1x2048x1408_S2048x1408
/-- One chunk of a ring slot of the down ring. -/
def dDst {s j : ℕ} (hs : s < 4) (hj : j < 4) : Memref sig .tc .vmem S1408x512 .fp8e4m3 :=
  ((Memref.whole cc0_scratch14).slice (Rect.unit (s := S4x4x1408x512) ![s, j, 0, 0] S1x1x1408x512.size (inbDD hs hj)) (fun _ => rfl)).squeeze S1408x512 squeezes_S1x1x1408x512_S1408x512
/-- A block of columns of one expert's down matrix. -/
def dSrc {e n : ℕ} (he : e < 64) (hn : ColOk n) : Memref sig .tc .hbm S1408x512 .fp8e4m3 :=
  ((Memref.whole main_arg7).slice (Rect.unit (s := S64x1408x2048) ![e, 0, n] S1x1408x512.size (inbDS he hn)) (fun _ => rfl)).squeeze S1408x512 squeezes_S1x1408x512_S1408x512

/-! ## Starts and waits -/

def startG1 (M : Memref sig .tc .vmem S4x2048x1408 .fp8e4m3) (hM : M.IsWhole) (A : Memref sig .tc .hbm S64x2048x1408 .fp8e4m3) (hA : A.IsWhole) {s e i : ℕ} (hs : s < 4) (he : e < 64) (hi : i < 2) : KProg F PUnit :=
  Prog.lift (.enqueueDma (gSrc A he) (.here (gDst M hs)) (.dma (semG hs hi)) ((hA.wordExact_slice rfl _ (wordsGS he)).reshape _ _) ((hM.wordExact_slice rfl _ (wordsGD hs)).reshape _ _) ⟨Or.inl rfl, trivial⟩)
def waitG1 (M : Memref sig .tc .vmem S4x2048x1408 .fp8e4m3) (hM : M.IsWhole) (A : Memref sig .tc .hbm S64x2048x1408 .fp8e4m3) (hA : A.IsWhole) {s e i : ℕ} (hs : s < 4) (he : e < 64) (hi : i < 2) : KProg F PUnit :=
  Prog.lift (.waitDma2 (semG hs hi) (gSrc A he) (gDst M hs) ((hA.wordExact_slice rfl _ (wordsGS he)).reshape _ _) ((hM.wordExact_slice rfl _ (wordsGD hs)).reshape _ _))
/-- The gate copy and the up copy of expert `e` into slot `s`. -/
def startGate {s e : ℕ} (hs : s < 4) (he : e < 64) : KProg F PUnit := startG1 (Memref.whole cc0_scratch12) (Memref.isWhole_whole _) (Memref.whole main_arg3) (Memref.isWhole_whole _) hs he (by decide : 0 < 2)
def startUp {s e : ℕ} (hs : s < 4) (he : e < 64) : KProg F PUnit := startG1 (Memref.whole cc0_scratch13) (Memref.isWhole_whole _) (Memref.whole main_arg4) (Memref.isWhole_whole _) hs he (by decide : 1 < 2)
def waitGate {s e : ℕ} (hs : s < 4) (he : e < 64) : KProg F PUnit := waitG1 (Memref.whole cc0_scratch12) (Memref.isWhole_whole _) (Memref.whole main_arg3) (Memref.isWhole_whole _) hs he (by decide : 0 < 2)
def waitUp {s e : ℕ} (hs : s < 4) (he : e < 64) : KProg F PUnit := waitG1 (Memref.whole cc0_scratch13) (Memref.isWhole_whole _) (Memref.whole main_arg4) (Memref.isWhole_whole _) hs he (by decide : 1 < 2)
/-- Chunk `j` (columns from `n`) of expert `e`'s down matrix into slot `s`. -/
def startD {s e n : ℕ} (hs : s < 4) (he : e < 64) (j : Fin 4) (hj : n = 512 * j.val) (hn : ColOk n) : KProg F PUnit :=
  Prog.lift (.enqueueDma (dSrc he hn) (.here (dDst hs j.isLt)) (.dma (semD hs j.isLt)) (((Memref.isWhole_whole main_arg7).wordExact_slice rfl _ (wordsDS he j hj hn)).reshape _ _) (((Memref.isWhole_whole cc0_scratch14).wordExact_slice rfl _ (wordsDD hs j.isLt)).reshape _ _) ⟨Or.inl rfl, trivial⟩)
def waitD {s e n : ℕ} (hs : s < 4) (he : e < 64) (j : Fin 4) (hj : n = 512 * j.val) (hn : ColOk n) : KProg F PUnit :=
  Prog.lift (.waitDma2 (semD hs j.isLt) (dSrc he hn) (dDst hs j.isLt) (((Memref.isWhole_whole main_arg7).wordExact_slice rfl _ (wordsDS he j hj hn)).reshape _ _) (((Memref.isWhole_whole cc0_scratch14).wordExact_slice rfl _ (wordsDD hs j.isLt)).reshape _ _))

/-- One expert's down copies, started. -/
def startDs {s e : ℕ} (hs : s < 4) (he : e < 64) : KProg F PUnit := do
  startD (n := 0) hs he 0 rfl (by decide); startD (n := 512) hs he 1 rfl (by decide); startD (n := 1024) hs he 2 rfl (by decide); startD (n := 1536) hs he 3 rfl (by decide)

/-- The zero that the hidden scale is compared with. -/
def zeroF : F .f32 := Scalar.ofBits .f32 0x00000000#32

/-- Expert `e`'s hidden codes into slot `h` of their pair of buffers; returned are the router's probabilities of its rows
    and the codes' scales. -/
def hidden {s e h : ℕ} (eye : IVec S32x32 1) (hs : s < 4) (he : e < 64) (hh : h < 2) : KProg F (Σ' (r : FVec F S32x1 .f32), FVec F S32x1 .f32) := do
  let ch : Vec F S1x32 .i32 ← Prog.lift (.load (Memref.whole cc0_scratch8) (Rect.unit (s := S64x32) ![e, 0] S1x32.size (inbE32 he)).toLoadRect (View.loadsAt_vmem h_S1x32))
  let p : Vec F S1x1024 .f32 ← Prog.lift (.load (Memref.whole cc0_scratch10) (Rect.unit (s := S64x1024) ![e, 0] S1x1024.size (inbE1024 he)).toLoadRect (View.loadsAt_vmem h_S1x1024))
  let x : Vec F S1x1024 .f32 ← Prog.lift (.load (Memref.whole cc0_scratch11) (Rect.unit (s := S1x1024) ![0, 0] S1x1024.size inb_S1x1024_S1x1024_0_0).toLoadRect (View.loadsAt_vmem h_S1x1024))
  let q : Vec F S1024x2048 .fp8e4m3 ← Prog.lift (.load (Memref.whole cc0_scratch1) (Rect.unit (s := S1024x2048) ![0, 0] S1024x2048.size inb_S1024x2048_S1024x2048_0_0).toLoadRect (View.loadsAt_vmem h_S1024x2048))
  waitGate hs he
  waitUp hs he
  let g : Vec F S1x2048x1408 .fp8e4m3 ← Prog.lift (.load (Memref.whole cc0_scratch12) (Rect.unit (s := S4x2048x1408) ![s, 0, 0] S1x2048x1408.size (inbGD hs)).toLoadRect (View.loadsAt_vmem h_S1x2048x1408))
  let sg : Vec F S1x1408 .f32 ← Prog.lift (.load (Memref.whole cc0_scratch5) (Rect.unit (s := S64x1408) ![e, 0] S1x1408.size (inbE1408 he)).toLoadRect (View.loadsAt_vmem h_S1x1408))
  let u : Vec F S1x2048x1408 .fp8e4m3 ← Prog.lift (.load (Memref.whole cc0_scratch13) (Rect.unit (s := S4x2048x1408) ![s, 0, 0] S1x2048x1408.size (inbGD hs)).toLoadRect (View.loadsAt_vmem h_S1x2048x1408))
  let su : Vec F S1x1408 .f32 ← Prog.lift (.load (Memref.whole cc0_scratch6) (Rect.unit (s := S64x1408) ![e, 0] S1x1408.size (inbE1408 he)).toLoadRect (View.loadsAt_vmem h_S1x1408))
  let _ : Vec F S1x32x1408 .fp8e4m3 ← Prog.lift (.load (Memref.whole cc0_scratch15) (Rect.unit (s := S2x32x1408) ![h, 0, 0] S1x32x1408.size (inbH2 hh)).toLoadRect (View.loadsAt_vmem h_S1x32x1408))
  Prog.lift (.store (Memref.whole cc0_scratch15) (Rect.unit (s := S2x32x1408) ![h, 0, 0] S1x32x1408.size (inbH2 hh))
    (k0_pay18 (k0_pay13 (k0_pay11 eye ch x) (k0_pay12 eye ch q) g sg u su) (k0_pay14 (k0_pay11 eye ch x) (k0_pay12 eye ch q) g sg u su) (k0_pay15 (k0_pay11 eye ch x) (k0_pay12 eye ch q) g sg u su) zeroF)
    Finset.univ (View.stores_vmem h_S1x32x1408 ((Memref.isWhole_whole cc0_scratch15).storeExact_slice rfl _ (packH2 hh)) (fun _ => rfl)) (.inl rfl))
  pure ⟨k0_pay10 eye ch p, k0_pay17 (k0_pay14 (k0_pay11 eye ch x) (k0_pay12 eye ch q) g sg u su) (k0_pay15 (k0_pay11 eye ch x) (k0_pay12 eye ch q) g sg u su) zeroF⟩

end Cert.KernelIdeal.Body
-- ==== Proof.Ideal.Regroup.lean ====
module

public import proofs.«01_k».proof.Proof.Ideal.Moves

/-! One trip of the expert loop, regrouped: the next expert's hidden codes, the copies restarted behind it, this expert's
    columns, the down copies restarted. -/

@[expose] public section

set_option synthInstance.maxSize 4096
set_option maxRecDepth 16384

noncomputable section

namespace Cert.KernelIdeal.Body

open Idealize.ShloMosaic Idealize.SL.Sem
open Cert.KernelIdeal Cert.KernelIdeal.Facts₀ Cert.KernelIdeal.Facts
open Cert.KernelIdeal.Gen (k0_t2_body)

variable {F : FTy → Type} [FloatOps F]

theorem lt4 {w : BitVec 32} (hw : w.toNat < 64) : (Scalar.remsi w 4#32).toNat < 4 := by rw [rem4 hw]; omega
theorem lt2 {w : BitVec 32} (hw : w.toNat < 64) : (Scalar.remsi w 2#32).toNat < 2 := by rw [rem2 hw]; omega

/-- The next expert's word, and the words of the experts whose copies are started in this trip. -/
def nextWord (k : Fin k0_t2_loop.trips) : BitVec 32 := Scalar.addi (tripWord k) 1#32
def aheadWord (k : Fin k0_t2_loop.trips) : BitVec 32 := Scalar.addi (nextWord k) 4#32
def aheadWordD (k : Fin k0_t2_loop.trips) : BitVec 32 := Scalar.addi (tripWord k) 4#32

theorem nextWord_eq (k : Fin k0_t2_loop.trips) : (nextWord k).toNat = k.val + 1 := by revert k; decide
theorem tripWord_eq (k : Fin k0_t2_loop.trips) : (tripWord k).toNat = k.val := by revert k; decide
theorem aheadWord_eq (k : Fin k0_t2_loop.trips) : (aheadWord k).toNat = k.val + 5 := by revert k; decide
theorem aheadWordD_eq (k : Fin k0_t2_loop.trips) : (aheadWordD k).toNat = k.val + 4 := by revert k; decide
theorem trips63 : k0_t2_loop.trips = 63 := by decide
theorem nextWord_lt (k : Fin k0_t2_loop.trips) : (nextWord k).toNat < 64 := by revert k; decide
theorem cond1_iff (k : Fin k0_t2_loop.trips) : k0_cond1 k = 1#1 ↔ k.val + 5 < 64 := by revert k; decide
theorem cond2_iff (k : Fin k0_t2_loop.trips) : k0_cond2 k = 1#1 ↔ k.val + 4 < 64 := by revert k; decide
theorem aheadWord_lt (k : Fin k0_t2_loop.trips) (h : k0_cond1 k = 1#1) : (aheadWord k).toNat < 64 := by
  rw [aheadWord_eq]; exact (cond1_iff k).1 h
theorem aheadWordD_lt (k : Fin k0_t2_loop.trips) (h : k0_cond2 k = 1#1) : (aheadWordD k).toNat < 64 := by
  rw [aheadWordD_eq]; exact (cond2_iff k).1 h

/-- The gate and up copies of the expert five ahead, if there is one. -/
def restartG {α : Type} (k : Fin k0_t2_loop.trips) (x : α) : KProg F α :=
  if h : k0_cond1 k = 1#1 then do
    startGate (lt4 (aheadWord_lt k h)) (aheadWord_lt k h)
    startUp (lt4 (aheadWord_lt k h)) (aheadWord_lt k h)
    pure x
  else pure x
/-- The down copies of the expert four ahead, if there is one. -/
def restartD {α : Type} (k : Fin k0_t2_loop.trips) (x : α) : KProg F α :=
  if h : k0_cond2 k = 1#1 then do
    startDs (lt4 (aheadWordD_lt k h)) (aheadWordD_lt k h)
    pure x
  else pure x

/-- One expert's down copies, waited for. -/
def waitDs {s e : ℕ} (hs : s < 4) (he : e < 64) : KProg F PUnit := do
  waitD (n := 0) hs he 0 rfl (by decide); waitD (n := 512) hs he 1 rfl (by decide); waitD (n := 1024) hs he 2 rfl (by decide); waitD (n := 1536) hs he 3 rfl (by decide)

/-- One expert's columns added to the accumulator. -/
def chunks (w : BitVec 32) (hw : w.toNat < 64) (hs r : FVec F S32x1 .f32) : KProg F PUnit := do
  chunk w hw 0 (by decide) 0 (by decide) hs r
  chunk w hw 1 (by decide) 512 (by decide) hs r
  chunk w hw 2 (by decide) 1024 (by decide) hs r
  chunk w hw 3 (by decide) 1536 (by decide) hs r

/-- The trip up to the restart of the down copies. -/
def trip46 (eye : IVec S32x32 1) (k : Fin k0_t2_loop.trips) (hs r : FVec F S32x1 .f32) :
    KProg F (Σ' (arg35 : BitVec 32) (v1683 : FVec F S32x1 .f32) (v1754 : FVec F S32x1 .f32) (v3163 : BitVec 32), BitVec 32) := do
  let ⟨r', hs'⟩ ← hidden eye (lt4 (nextWord_lt k)) (nextWord_lt k) (lt2 (nextWord_lt k))
  let hs'' : FVec F S32x1 .f32 ← restartG k hs'
  waitDs (lt4 (tripWord_lt k)) (tripWord_lt k)
  chunks (tripWord k) (tripWord_lt k) hs r
  pure ⟨tripWord k, r', hs'', Scalar.addi (tripWord k) 4#32, 64#32⟩

theorem part46_eq (eye : IVec S32x32 1) (k : Fin k0_t2_loop.trips) (hs r : FVec F S32x1 .f32) :
    k0_part46 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 eye 0#32 1#32 k hs r = trip46 eye k hs r := by
  sl_kernel_rfl

/-- One trip: from the codes' scales and the router's probabilities of this expert to those of the next. -/
def trip (eye : IVec S32x32 1) (k : Fin k0_t2_loop.trips) (acc : FVec F S32x1 .f32 × FVec F S32x1 .f32) : KProg F (FVec F S32x1 .f32 × FVec F S32x1 .f32) := do
  let ⟨_, r', hs', _, _⟩ ← trip46 eye k acc.1 acc.2
  restartD k (hs', r')

theorem t2_body_eq (eye : IVec S32x32 1) (v250 v319 : FVec F S32x1 .f32) :
    k0_t2_body (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 eye v250 v319 0#32 1#32 = trip eye := by
  sl_kernel_rfl

end Cert.KernelIdeal.Body
-- ==== Proof.Ideal.Body.lean ====
module

public import proofs.«01_k».proof.Proof.Ideal.Regroup

/-! The kernel's whole body, regrouped: the copies started and the router's weight split, the loop over blocks of tokens,
    the first expert, the loop over experts, the last expert with the result written out as its columns are complete. -/

@[expose] public section

set_option synthInstance.maxSize 4096
set_option maxRecDepth 16384

noncomputable section

namespace Cert.KernelIdeal.Body

open Idealize.ShloMosaic Idealize.SL.Sem
open Cert.KernelIdeal Cert.KernelIdeal.Facts₀ Cert.KernelIdeal.Facts
open Cert.KernelIdeal.Gen (k0_t1_body k0_t2_body k0_pay167 k0_pay168 k0_pay169 k0_pay170 k0_pay174 k0_pay175 k0_pay221)

variable {F : FTy → Type} [FloatOps F]

theorem inbS4 {i : ℕ} (hi : i < 4) : ∀ a, (![i] : Fin 1 → ℕ) a + S1.size a ≤ S4.size a := by
  intro a; fin_cases a; show i + 1 ≤ 4; omega
theorem inbS6 {i : ℕ} (hi : i < 6) : ∀ a, (![i] : Fin 1 → ℕ) a + S1.size a ≤ S6.size a := by
  intro a; fin_cases a; show i + 1 ≤ 6; omega
theorem inbS2 {i : ℕ} (hi : i < 2) : ∀ a, (![i] : Fin 1 → ℕ) a + S1.size a ≤ S2.size a := by
  intro a; fin_cases a; show i + 1 ≤ 2; omega
/-- The semaphores: of the token blocks' copies, of the single copies in, of the output's copies, of the codes and scales. -/
def semX {i : ℕ} (hi : i < 4) : DmaSem sig := ((cc0_scratch17.slice (Rect.unit (s := S4) ![i] S1.size (inbS4 hi))).squeeze S_ squeezes_S1_S_).sem
def semM {i : ℕ} (hi : i < 6) : DmaSem sig := ((cc0_scratch18.slice (Rect.unit (s := S6) ![i] S1.size (inbS6 hi))).squeeze S_ squeezes_S1_S_).sem
def semO {i : ℕ} (hi : i < 4) : DmaSem sig := ((cc0_scratch21.slice (Rect.unit (s := S4) ![i] S1.size (inbS4 hi))).squeeze S_ squeezes_S1_S_).sem
def semC {i : ℕ} (hi : i < 2) : DmaSem sig := ((cc0_scratch22.slice (Rect.unit (s := S2) ![i] S1.size (inbS2 hi))).squeeze S_ squeezes_S1_S_).sem

/-- A whole buffer copied into another of its shape. -/
def startAll {sp sp' : Space} {s : Shape} {e : EltTy} (src : Memref sig .tc sp s e) (hsrc : src.IsWhole) (dst : Memref sig .tc sp' s e) (hdst : dst.IsWhole) (sm : DmaSem sig)
    (ht : DmaTarget.Typed (nD := nD) (τ := τ) (p := .tc) (s := s) (e := e) sp (.dma sm) (.here dst)) : KProg F PUnit :=
  Prog.lift (.enqueueDma src (.here dst) (.dma sm) hsrc.wordExact hdst.wordExact ht)
def waitAll {sp sp' : Space} {s : Shape} {e : EltTy} (src : Memref sig .tc sp s e) (hsrc : src.IsWhole) (dst : Memref sig .tc sp' s e) (hdst : dst.IsWhole) (sm : DmaSem sig) : KProg F PUnit :=
  Prog.lift (.waitDma2 sm src dst hsrc.wordExact hdst.wordExact)

theorem inbX {r : ℕ} (hr : r + 256 ≤ 1024) : ∀ a, (![r, 0] : Fin 2 → ℕ) a + S256x2048.size a ≤ S1024x2048.size a := by
  intro a; fin_cases a
  · exact hr
  · show 0 + 2048 ≤ 2048; omega
theorem inbX4 (b : Fin 4) : ∀ a, (![256 * b.val, 0] : Fin 2 → ℕ) a + S256x2048.size a ≤ S1024x2048.size a :=
  inbX (by have := b.isLt; omega)
theorem wordsX (b : Fin 4) {r : ℕ} (h : r = 256 * b.val) (hr : r + 256 ≤ 1024) : (Rect.unit (s := S1024x2048) ![r, 0] S256x2048.size (inbX hr)).WholeWords (EltTy.packing .bf16) := by
  subst h
  exact (by decide +kernel : ∀ b : Fin 4, (Rect.unit (s := S1024x2048) ![256 * b.val, 0] S256x2048.size (inbX4 b)).WholeWords (EltTy.packing .bf16)) b
/-- A block of 256 tokens, of an array or of its copy. -/
def xBlk {sp : Space} (M : Memref sig .tc sp S1024x2048 .bf16) {r : ℕ} (hr : r + 256 ≤ 1024) : Memref sig .tc sp S256x2048 .bf16 :=
  M.slice (Rect.unit (s := S1024x2048) ![r, 0] S256x2048.size (inbX hr)) (fun _ => rfl)
def startX (b : Fin 4) {r : ℕ} (h : r = 256 * b.val) (hr : r + 256 ≤ 1024) : KProg F PUnit :=
  Prog.lift (.enqueueDma (xBlk (Memref.whole main_arg0) hr) (.here (xBlk (Memref.whole cc0_scratch0) hr)) (.dma (semX b.isLt)) ((Memref.isWhole_whole main_arg0).wordExact_slice rfl _ (wordsX b h hr)) ((Memref.isWhole_whole cc0_scratch0).wordExact_slice rfl _ (wordsX b h hr)) ⟨Or.inl rfl, trivial⟩)
def waitX (b : Fin 4) {r : ℕ} (h : r = 256 * b.val) (hr : r + 256 ≤ 1024) : KProg F PUnit :=
  Prog.lift (.waitDma2 (semX b.isLt) (xBlk (Memref.whole main_arg0) hr) (xBlk (Memref.whole cc0_scratch0) hr) ((Memref.isWhole_whole main_arg0).wordExact_slice rfl _ (wordsX b h hr)) ((Memref.isWhole_whole cc0_scratch0).wordExact_slice rfl _ (wordsX b h hr)))

theorem inbO4 (j : Fin 4) : ∀ a, (![0, 512 * j.val] : Fin 2 → ℕ) a + S1024x512.size a ≤ S1024x2048.size a :=
  inbAcc (by have := j.isLt; show 512 * j.val + 512 ≤ 2048; omega)
theorem wordsO (j : Fin 4) {n : ℕ} (h : n = 512 * j.val) (hn : ColOk n) : (Rect.unit (s := S1024x2048) ![0, n] S1024x512.size (inbAcc hn)).WholeWords (EltTy.packing .bf16) := by
  subst h
  exact (by decide +kernel : ∀ j : Fin 4, (Rect.unit (s := S1024x2048) ![0, 512 * j.val] S1024x512.size (inbO4 j)).WholeWords (EltTy.packing .bf16)) j
theorem packO (j : Fin 4) {n : ℕ} (h : n = 512 * j.val) (hn : ColOk n) : (Rect.unit (s := S1024x2048) ![0, n] S1024x512.size (inbAcc hn)).PackedRows (EltTy.packing .bf16) := by
  subst h
  exact (by decide +kernel : ∀ j : Fin 4, (Rect.unit (s := S1024x2048) ![0, 512 * j.val] S1024x512.size (inbO4 j)).PackedRows (EltTy.packing .bf16)) j
/-- A block of 512 columns, of the output or of the buffer that it is copied from. -/
def oBlk {sp : Space} (M : Memref sig .tc sp S1024x2048 .bf16) {n : ℕ} (hn : ColOk n) : Memref sig .tc sp S1024x512 .bf16 :=
  M.slice (Rect.unit (s := S1024x2048) ![0, n] S1024x512.size (inbAcc hn)) (fun _ => rfl)
def startO (j : Fin 4) {n : ℕ} (h : n = 512 * j.val) (hn : ColOk n) : KProg F PUnit :=
  Prog.lift (.enqueueDma (oBlk (Memref.whole cc0_scratch0) hn) (.here (oBlk (Memref.whole main_v1_0) hn)) (.dma (semO j.isLt)) ((Memref.isWhole_whole cc0_scratch0).wordExact_slice rfl _ (wordsO j h hn)) ((Memref.isWhole_whole main_v1_0).wordExact_slice rfl _ (wordsO j h hn)) ⟨Or.inl rfl, trivial⟩)
def waitO (j : Fin 4) {n : ℕ} (h : n = 512 * j.val) (hn : ColOk n) : KProg F PUnit :=
  Prog.lift (.waitDma2 (semO j.isLt) (oBlk (Memref.whole cc0_scratch0) hn) (oBlk (Memref.whole main_v1_0) hn) ((Memref.isWhole_whole cc0_scratch0).wordExact_slice rfl _ (wordsO j h hn)) ((Memref.isWhole_whole main_v1_0).wordExact_slice rfl _ (wordsO j h hn)))

/-- A block of finished columns rounded to the output's type, and its copy out started. -/
def flush (j : Fin 4) {n : ℕ} (h : n = 512 * j.val) (hn : ColOk n) : KProg F PUnit := do
  let a : Vec F S1024x512 .f32 ← Prog.lift (.load (Memref.whole cc0_scratch2) (Rect.unit (s := S1024x2048) ![0, n] S1024x512.size (inbAcc hn)).toLoadRect (View.loadsAt_vmem h_S1024x512))
  let _ : Vec F S1024x512 .bf16 ← Prog.lift (.load (Memref.whole cc0_scratch0) (Rect.unit (s := S1024x2048) ![0, n] S1024x512.size (inbAcc hn)).toLoadRect (View.loadsAt_vmem h_S1024x512))
  Prog.lift (.store (Memref.whole cc0_scratch0) (Rect.unit (s := S1024x2048) ![0, n] S1024x512.size (inbAcc hn)) (k0_pay221 a) Finset.univ (View.stores_vmem h_S1024x512 ((Memref.isWhole_whole cc0_scratch0).storeExact_slice rfl _ (packO j h hn)) (fun _ => rfl)) (.inl rfl))
  startO j h hn

/-- The last expert's columns from `n`: its down chunk waited for, the columns added and flushed. -/
def lastChunk (j : Fin 4) {n : ℕ} (h : n = 512 * j.val) (hn : ColOk n) (hs r : FVec F S32x1 .f32) : KProg F PUnit := do
  waitD (s := 3) (e := 63) (by decide) (by decide) j h hn
  chunk 63#32 (by decide) j.val j.isLt n hn hs r
  flush j h hn

/-- A store into a third of the split router weight. -/
def wStore (o : ℕ) (ho : ∀ a, (![o, 0] : Fin 2 → ℕ) a + S64x2048.size a ≤ S192x2048.size a) (hp : (Rect.unit (s := S192x2048) ![o, 0] S64x2048.size ho).PackedRows (EltTy.packing .bf16)) (v : FVec F S64x2048 .bf16) : KProg F PUnit := do
  let _ : Vec F S64x2048 .bf16 ← Prog.lift (.load (Memref.whole cc0_scratch4) (Rect.unit (s := S192x2048) ![o, 0] S64x2048.size ho).toLoadRect (View.loadsAt_vmem h_S64x2048))
  Prog.lift (.store (Memref.whole cc0_scratch4) (Rect.unit (s := S192x2048) ![o, 0] S64x2048.size ho) v Finset.univ (View.stores_vmem h_S64x2048 ((Memref.isWhole_whole cc0_scratch4).storeExact_slice rfl _ hp) (fun _ => rfl)) (.inl rfl))

/-- All copies in that the kernel starts at once. -/
def starts : KProg F PUnit := do
  startAll (Memref.whole main_v0) (Memref.isWhole_whole _) (Memref.whole cc0_scratch3) (Memref.isWhole_whole _) (semM (i := 0) (by decide)) ⟨Or.inl rfl, trivial⟩
  startX (r := 0) 0 rfl (by decide); startX (r := 256) 1 rfl (by decide); startX (r := 512) 2 rfl (by decide); startX (r := 768) 3 rfl (by decide)
  startAll (Memref.whole main_arg2) (Memref.isWhole_whole _) (Memref.whole cc0_scratch8) (Memref.isWhole_whole _) (semM (i := 1) (by decide)) ⟨Or.inl rfl, trivial⟩
  startAll (Memref.whole main_arg2) (Memref.isWhole_whole _) (Memref.whole cc0_scratch9) (Memref.isWhole_whole _) (semM (i := 2) (by decide)) ⟨Or.inl rfl, trivial⟩
  startAll (Memref.whole main_arg5) (Memref.isWhole_whole _) (Memref.whole cc0_scratch5) (Memref.isWhole_whole _) (semM (i := 3) (by decide)) ⟨Or.inl rfl, trivial⟩
  startAll (Memref.whole main_arg6) (Memref.isWhole_whole _) (Memref.whole cc0_scratch6) (Memref.isWhole_whole _) (semM (i := 4) (by decide)) ⟨Or.inl rfl, trivial⟩
  startAll (Memref.whole main_arg8) (Memref.isWhole_whole _) (Memref.whole cc0_scratch7) (Memref.isWhole_whole _) (semM (i := 5) (by decide)) ⟨Or.inl rfl, trivial⟩
  startGate (s := 0) (e := 0) (by decide) (by decide); startUp (s := 0) (e := 0) (by decide) (by decide)
  startGate (s := 1) (e := 1) (by decide) (by decide); startUp (s := 1) (e := 1) (by decide) (by decide)
  startDs (s := 0) (e := 0) (by decide) (by decide)
  startGate (s := 2) (e := 2) (by decide) (by decide); startUp (s := 2) (e := 2) (by decide) (by decide)
  startDs (s := 1) (e := 1) (by decide) (by decide)
  startGate (s := 3) (e := 3) (by decide) (by decide); startUp (s := 3) (e := 3) (by decide) (by decide)
  startDs (s := 2) (e := 2) (by decide) (by decide)
  startDs (s := 3) (e := 3) (by decide) (by decide)

/-- The single copies in, waited for, and the codes' and scales' copies out, started. -/
def middle : KProg F PUnit := do
  waitAll (Memref.whole main_arg2) (Memref.isWhole_whole _) (Memref.whole cc0_scratch8) (Memref.isWhole_whole _) (semM (i := 1) (by decide))
  waitAll (Memref.whole main_arg2) (Memref.isWhole_whole _) (Memref.whole cc0_scratch9) (Memref.isWhole_whole _) (semM (i := 2) (by decide))
  waitAll (Memref.whole main_arg5) (Memref.isWhole_whole _) (Memref.whole cc0_scratch5) (Memref.isWhole_whole _) (semM (i := 3) (by decide))
  waitAll (Memref.whole main_arg6) (Memref.isWhole_whole _) (Memref.whole cc0_scratch6) (Memref.isWhole_whole _) (semM (i := 4) (by decide))
  waitAll (Memref.whole main_arg8) (Memref.isWhole_whole _) (Memref.whole cc0_scratch7) (Memref.isWhole_whole _) (semM (i := 5) (by decide))
  startAll (Memref.whole cc0_scratch1) (Memref.isWhole_whole _) (Memref.whole main_v1_1) (Memref.isWhole_whole _) (semC (i := 0) (by decide)) ⟨Or.inl rfl, trivial⟩
  startAll (Memref.whole cc0_scratch11) (Memref.isWhole_whole _) (Memref.whole main_v1_2) (Memref.isWhole_whole _) (semC (i := 1) (by decide)) ⟨Or.inl rfl, trivial⟩

/-- The first expert: its hidden codes, and the copies of the expert four ahead. -/
def first : KProg F (Σ' (r : FVec F S32x1 .f32), FVec F S32x1 .f32) := do
  let p ← hidden k0_pay174 (s := 0) (e := 0) (h := 0) (by decide) (by decide) (by decide)
  startGate (s := 0) (e := 4) (by decide) (by decide); startUp (s := 0) (e := 4) (by decide) (by decide)
  pure p

/-- The last expert, from its codes' scales and probabilities, and the waits for the copies out. -/
def last (hs r : FVec F S32x1 .f32) : KProg F PUnit := do
  lastChunk (n := 0) 0 rfl (by decide) hs r
  lastChunk (n := 512) 1 rfl (by decide) hs r
  lastChunk (n := 1024) 2 rfl (by decide) hs r
  lastChunk (n := 1536) 3 rfl (by decide) hs r
  waitAll (Memref.whole cc0_scratch1) (Memref.isWhole_whole _) (Memref.whole main_v1_1) (Memref.isWhole_whole _) (semC (i := 0) (by decide))
  waitAll (Memref.whole cc0_scratch11) (Memref.isWhole_whole _) (Memref.whole main_v1_2) (Memref.isWhole_whole _) (semC (i := 1) (by decide))
  waitO (n := 0) 0 rfl (by decide); waitO (n := 512) 1 rfl (by decide); waitO (n := 1024) 2 rfl (by decide); waitO (n := 1536) 3 rfl (by decide)

/-- The loop over blocks of tokens, its trip as printed. -/
def xLoop (w : Vec F S64x2048 .f32) : KProg F PUnit :=
  Scf.Loop.for k0_t1_loop k0_t1_ok ⟨⟩ (k0_t1_body (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 (k0_pay167 w))
/-- The loop over experts. -/
def eLoop (hs r : FVec F S32x1 .f32) : KProg F (FVec F S32x1 .f32 × FVec F S32x1 .f32) :=
  Scf.Loop.for k0_t2_loop k0_t2_ok (hs, r) (k0_t2_body (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 k0_pay174 r hs 0#32 1#32)

/-! The seams: what the printed parts put between the two loops and behind the second, as they nest it. -/

def seam55 : KProg F (Σ' (v231 : IVec S32x32 1), IVec S32x1024 1) := do
  middle
  let v : Vec F S1x32 .i32 ← Prog.lift (.load (Memref.whole cc0_scratch8) (Rect.unit (s := S64x32) ![0, 0] S1x32.size (inbE32 (by decide : 0 < 64))).toLoadRect (View.loadsAt_vmem h_S1x32))
  pure ⟨k0_pay174, k0_pay175 v⟩

/-- The printed part with the second loop in it. -/
def eLoopP (v231 : IVec S32x32 1) (v250 v319 : FVec F S32x1 .f32) (c0 c1 : BitVec 32) : KProg F (Σ' (v349_0 : FVec F S32x1 .f32) (v349_1 : FVec F S32x1 .f32) (v376 : Elt F .i32) (k0_hw129 : k0_chk129 v376), Vec F S1x512 .f32) :=
  k0_part59 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 v231 v250 v319 c0 c1

def seam59 (p : FVec F S32x1 .f32 × FVec F S32x1 .f32) : KProg F (Σ' (v349_0 : FVec F S32x1 .f32) (v349_1 : FVec F S32x1 .f32) (v376 : Elt F .i32) (k0_hw129 : k0_chk129 v376), Vec F S1x512 .f32) := do
  let (v349_0, v349_1) := p
  let c63_i32_304 : BitVec 32 := 63#32
  let c63_i32_305 : BitVec 32 := 63#32
  let c4_i32_306 : BitVec 32 := 4#32
  let v350 : BitVec 32 := Scalar.remsi c63_i32_305 c4_i32_306
  let c63_i32_307 : BitVec 32 := 63#32
  let c0_i32_308 : BitVec 32 := 0#32
  let c0_i32_309 : BitVec 32 := 0#32
  let v351 : DmaSems sig S1x1 := cc0_scratch20.slice (Rect.unit (s := S4x4) (k0_off4 63#32) S1x1.size (k0_off4_inb 4))
  let v352 : DmaSems sig S_ := v351.squeeze S_ squeezes_S1x1_S_
  let c0_i32_310 : BitVec 32 := 0#32
  let c0_i32_311 : BitVec 32 := 0#32
  let v353 : Memref sig .tc .vmem S1x1x1408x512 .fp8e4m3 := (Memref.whole cc0_scratch14).slice (Rect.unit (s := S4x4x1408x512) (k0_off5 63#32) S1x1x1408x512.size (k0_off5_inb 4)) (fun _ => rfl)
  let v354 : Memref sig .tc .vmem S1408x512 .fp8e4m3 := v353.squeeze S1408x512 squeezes_S1x1x1408x512_S1408x512
  let c0_i32_312 : BitVec 32 := 0#32
  let c0_i32_313 : BitVec 32 := 0#32
  let v355 : Memref sig .tc .hbm S1x1408x512 .fp8e4m3 := (Memref.whole main_arg7).slice (Rect.unit (s := S64x1408x2048) ![63, 0, 0] S1x1408x512.size inb_S64x1408x2048_S1x1408x512_63_0_0) (fun _ => rfl)
  let v356 : Memref sig .tc .hbm S1408x512 .fp8e4m3 := v355.squeeze S1408x512 squeezes_S1x1408x512_S1408x512
  Prog.lift (.waitDma2 v352.sem v356 v354 (((Memref.isWhole_whole main_arg7).wordExact_slice rfl _ wordsfp8e4m3_S64x1408x2048_S1x1408x512_63_0_0).reshape _ _) (((Memref.isWhole_whole cc0_scratch14).wordExact_slice rfl _ (k0_off5_wordsfp8e4m3 4)).reshape _ _))
  let c63_i32_314 : BitVec 32 := 63#32
  let c2_i32_315 : BitVec 32 := 2#32
  let v357 : BitVec 32 := Scalar.remsi c63_i32_314 c2_i32_315
  let v358 : Index := Scalar.indexCast v357
  let c0_316 : Index := 0#32
  let c0_317 : Index := 0#32
  let v359 : Vec F S1x32x1408 .fp8e4m3 ← Prog.lift (.load (Memref.whole cc0_scratch15) (Rect.unit (s := S2x32x1408) (k0_off18 63#32) S1x32x1408.size (k0_off18_inb 1)).toLoadRect (View.loadsAt_vmem h_S1x32x1408))
  have v360 : FVec F S32x1408 .fp8e4m3 := shapeCast S32x1408 v359 shapeCasts_S1x32x1408_S32x1408
  let c63_i32_318 : BitVec 32 := 63#32
  let c4_i32_319 : BitVec 32 := 4#32
  let v361 : BitVec 32 := Scalar.remsi c63_i32_318 c4_i32_319
  let v362 : Index := Scalar.indexCast v361
  let c0_320 : Index := 0#32
  let c0_321 : Index := 0#32
  let c0_322 : Index := 0#32
  let v363 : Vec F S1x1x1408x512 .fp8e4m3 ← Prog.lift (.load (Memref.whole cc0_scratch14) (Rect.unit (s := S4x4x1408x512) k0_off324 S1x1x1408x512.size k0_off324_inb).toLoadRect (View.loadsAt_vmem h_S1x1x1408x512))
  have v364 : FVec F S1408x512 .fp8e4m3 := shapeCast S1408x512 v363 shapeCasts_S1x1x1408x512_S1408x512
  have cst_323 : FVec F S32x512 .f32 := constant S32x512 .f32 0x00000000#32
  have v365 : FVec F S32x512 .f32 := matmul dot_S32x1408_S1408x512_S32x512_1_0_0_1_n_n none v360 v364 cst_323
  have v366 : FVec F S32x512 .f32 := broadcastTo S32x512 v349_0 broadcasts_S32x1_S32x512
  have v367 : FVec F S32x512 .f32 := mulf v365 v366
  let c63 : Index := 63#32
  let c0_324 : Index := 0#32
  let v368 : Vec F S1x512 .f32 ← Prog.lift (.load (Memref.whole cc0_scratch7) (Rect.unit (s := S64x2048) ![63, 0] S1x512.size inb_S64x2048_S1x512_63_0).toLoadRect (View.loadsAt_vmem h_S1x512))
  have v369 : FVec F S32x512 .f32 := broadcastTo S32x512 v368 broadcasts_S1x512_S32x512
  have v370 : FVec F S32x512 .f32 := mulf v367 v369
  have v371 : FVec F S32x512 .f32 := broadcastTo S32x512 v349_1 broadcasts_S32x1_S32x512
  have v372 : FVec F S32x512 .f32 := mulf v370 v371
  let c0_325 : Index := 0#32
  let c0_326 : Index := 0#32
  let v373 : Vec F S32x512 .f32 ← Prog.lift (.load (Memref.whole cc0_scratch16) (Rect.unit (s := S32x2048) ![0, 0] S32x512.size inb_S32x2048_S32x512_0_0).toLoadRect (View.loadsAt_vmem h_S32x512))
  have v374 : FVec F S32x512 .f32 := shapeCast S32x512 v373 shapeCasts_S32x512_S32x512
  have v375 : FVec F S32x512 .f32 := shapeCast S32x512 v372 shapeCasts_S32x512_S32x512
  Prog.lift (.store (Memref.whole cc0_scratch16) (Rect.unit (s := S32x2048) ![0, 0] S32x512.size inb_S32x2048_S32x512_0_0) v375 Finset.univ (View.stores_vmem_bits_univ h_S32x512 rfl) (.inl rfl))
  let c63_327 : Index := 63#32
  let c0_328 : Index := 0#32
  let v376 : Elt F .i32 ← smemLoad (Memref.whole cc0_scratch9) (Rect.unit (s := S64x32) ![63, 0] S1x1.size inb_S64x32_S1x1_63_0) numel1_S1x1 rfl
  have k0_hw129 : k0_chk129 v376 := (← Prog.lift (TpuEff.assume (k0_chk129 v376) (k0_chk129.dec v376))).down
  let v377 : Index := Scalar.indexCast v376
  let c0_329 : Index := 0#32
  let v378 : Vec F S1x512 .f32 ← Prog.lift (.load (Memref.whole cc0_scratch2) (Rect.unit (s := S1024x2048) (k0_off325 v376) S1x512.size (k0_off325_inb v376 k0_hw129)).toLoadRect (View.loadsAt_vmem h_S1x512))
  pure ⟨v349_0, v349_1, v376, k0_hw129, v378⟩

def seamTail (p : (Σ' (v349_0 : FVec F S32x1 .f32) (v349_1 : FVec F S32x1 .f32) (v376 : Elt F .i32) (k0_hw129 : k0_chk129 v376), Vec F S1x512 .f32)) : KProg F PUnit := do
  let ⟨v349_0, v349_1, v376, k0_hw129, v378⟩ := p
  let ⟨v403, k0_hw132, v411⟩ : Σ' (v403 : Elt F .i32) (k0_hw132 : k0_chk132 v403), FVec F S1x512 .f32 ← k0_part60 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v376 k0_hw129 v378
  let ⟨v439, k0_hw136, v441⟩ : Σ' (v439 : Elt F .i32) (k0_hw136 : k0_chk136 v439), Vec F S1x512 .f32 ← k0_part61 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v403 k0_hw132 v411
  k0_part62 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v439 k0_hw136 v441
  let ⟨v502, k0_hw143, v504⟩ : Σ' (v502 : Elt F .i32) (k0_hw143 : k0_chk143 v502), Vec F S1x512 .f32 ← k0_part63 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22
  k0_part64 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v502 k0_hw143 v504
  let ⟨v565, k0_hw150, v567, v568⟩ : Σ' (v565 : Elt F .i32) (k0_hw150 : k0_chk150 v565) (v567 : Vec F S1x512 .f32), Vec F S1x512 .f32 ← k0_part65 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22
  k0_part66 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v565 k0_hw150 v567 v568
  let ⟨v628, k0_hw157, v632⟩ : Σ' (v628 : Elt F .i32) (k0_hw157 : k0_chk157 v628), FVec F S1x512 .f32 ← k0_part67 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22
  let v664 : Vec F S1024x512 .f32 ← k0_part68 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v628 k0_hw157 v632
  let v693 : FVec F S32x512 .f32 ← k0_part69 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v349_0 v664
  k0_part70 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v349_1 v693
  let ⟨v753, k0_hw167, v755, v756⟩ : Σ' (v753 : Elt F .i32) (k0_hw167 : k0_chk167 v753) (v755 : Vec F S1x512 .f32), Vec F S1x512 .f32 ← k0_part71 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22
  k0_part72 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v753 k0_hw167 v755 v756
  let ⟨v816, k0_hw174, v820⟩ : Σ' (v816 : Elt F .i32) (k0_hw174 : k0_chk174 v816), FVec F S1x512 .f32 ← k0_part73 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22
  let v852 : Elt F .i32 ← k0_part74 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v816 k0_hw174 v820
  let ⟨v879, k0_hw181, v883⟩ : Σ' (v879 : Elt F .i32) (k0_hw181 : k0_chk181 v879), FVec F S1x512 .f32 ← k0_part75 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v852
  let ⟨v915, k0_hw185⟩ : Σ' (v915 : Elt F .i32), k0_chk185 v915 ← k0_part76 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v879 k0_hw181 v883
  let ⟨v942, k0_hw188, v946⟩ : Σ' (v942 : Elt F .i32) (k0_hw188 : k0_chk188 v942), FVec F S1x512 .f32 ← k0_part77 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v915 k0_hw185
  let ⟨v978, k0_hw192⟩ : Σ' (v978 : Elt F .i32), k0_chk192 v978 ← k0_part78 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v942 k0_hw188 v946
  let ⟨v1006, v1007⟩ : Σ' (v1006 : FVec F S32x1408 .fp8e4m3), BitVec 32 ← k0_part79 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v978 k0_hw192
  let v1040 : Elt F .i32 ← k0_part80 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v349_0 v349_1 v1006 v1007
  let ⟨v1067, k0_hw198, v1071⟩ : Σ' (v1067 : Elt F .i32) (k0_hw198 : k0_chk198 v1067), FVec F S1x512 .f32 ← k0_part81 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1040
  let ⟨v1103, k0_hw202⟩ : Σ' (v1103 : Elt F .i32), k0_chk202 v1103 ← k0_part82 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1067 k0_hw198 v1071
  let ⟨v1130, k0_hw205, v1134⟩ : Σ' (v1130 : Elt F .i32) (k0_hw205 : k0_chk205 v1130), FVec F S1x512 .f32 ← k0_part83 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1103 k0_hw202
  let ⟨v1166, k0_hw209⟩ : Σ' (v1166 : Elt F .i32), k0_chk209 v1166 ← k0_part84 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1130 k0_hw205 v1134
  let ⟨v1193, k0_hw212, v1197, v1199⟩ : Σ' (v1193 : Elt F .i32) (k0_hw212 : k0_chk212 v1193) (v1197 : FVec F S1x512 .f32), Vec F S1x512 .f32 ← k0_part85 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1166 k0_hw209
  let ⟨v1229, k0_hw216⟩ : Σ' (v1229 : Elt F .i32), k0_chk216 v1229 ← k0_part86 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1193 k0_hw212 v1197 v1199
  let ⟨v1256, k0_hw219, v1260⟩ : Σ' (v1256 : Elt F .i32) (k0_hw219 : k0_chk219 v1256), FVec F S1x512 .f32 ← k0_part87 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1229 k0_hw216
  let ⟨v1292, k0_hw223, v1294⟩ : Σ' (v1292 : Elt F .i32) (k0_hw223 : k0_chk223 v1292), Vec F S1x512 .f32 ← k0_part88 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1256 k0_hw219 v1260
  k0_part89 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1292 k0_hw223 v1294
  let ⟨v1354, k0_hw226⟩ : Σ' (v1354 : Elt F .i32), k0_chk226 v1354 ← k0_part90 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v349_0 v349_1
  let ⟨v1381, k0_hw229, v1385, v1387⟩ : Σ' (v1381 : Elt F .i32) (k0_hw229 : k0_chk229 v1381) (v1385 : FVec F S1x512 .f32), Vec F S1x512 .f32 ← k0_part91 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1354 k0_hw226
  let ⟨v1417, k0_hw233⟩ : Σ' (v1417 : Elt F .i32), k0_chk233 v1417 ← k0_part92 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1381 k0_hw229 v1385 v1387
  let ⟨v1444, k0_hw236, v1448⟩ : Σ' (v1444 : Elt F .i32) (k0_hw236 : k0_chk236 v1444), FVec F S1x512 .f32 ← k0_part93 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1417 k0_hw233
  let ⟨v1480, k0_hw240, v1482⟩ : Σ' (v1480 : Elt F .i32) (k0_hw240 : k0_chk240 v1480), Vec F S1x512 .f32 ← k0_part94 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1444 k0_hw236 v1448
  let ⟨v1507, k0_hw243, v1515⟩ : Σ' (v1507 : Elt F .i32) (k0_hw243 : k0_chk243 v1507), FVec F S1x512 .f32 ← k0_part95 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1480 k0_hw240 v1482
  let ⟨v1543, k0_hw247, v1545⟩ : Σ' (v1543 : Elt F .i32) (k0_hw247 : k0_chk247 v1543), Vec F S1x512 .f32 ← k0_part96 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1507 k0_hw243 v1515
  k0_part97 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1543 k0_hw247 v1545
  let ⟨v1606, k0_hw254, v1608⟩ : Σ' (v1606 : Elt F .i32) (k0_hw254 : k0_chk254 v1606), Vec F S1x512 .f32 ← k0_part98 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22
  k0_part99 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v1606 k0_hw254 v1608
  let v1641 : Memref sig .tc .vmem S1024x512 .bf16 := (Memref.whole cc0_scratch0).slice (Rect.unit (s := S1024x2048) ![0, 1536] S1024x512.size inb_S1024x2048_S1024x512_0_1536) (fun _ => rfl)
  let v1638 : DmaSems sig S1 := cc0_scratch21.slice (Rect.unit (s := S4) ![3] S1.size inb_S4_S1_3)
  let v1639 : DmaSems sig S_ := v1638.squeeze S_ squeezes_S1_S_
  let v1640 : Memref sig .tc .hbm S1024x512 .bf16 := (Memref.whole main_v1_0).slice (Rect.unit (s := S1024x2048) ![0, 1536] S1024x512.size inb_S1024x2048_S1024x512_0_1536) (fun _ => rfl)
  Prog.lift (.enqueueDma v1641 (.here v1640) (.dma v1639.sem) ((Memref.isWhole_whole cc0_scratch0).wordExact_slice rfl _ wordsbf16_S1024x2048_S1024x512_0_1536) ((Memref.isWhole_whole main_v1_0).wordExact_slice rfl _ wordsbf16_S1024x2048_S1024x512_0_1536) ⟨Or.inl rfl, trivial⟩)
  let c0_i32_1166 : BitVec 32 := 0#32
  let v1642 : DmaSems sig S1 := cc0_scratch22.slice (Rect.unit (s := S2) ![0] S1.size inb_S2_S1_0)
  let v1643 : DmaSems sig S_ := v1642.squeeze S_ squeezes_S1_S_
  Prog.lift (.waitDma2 v1643.sem (Memref.whole cc0_scratch1) (Memref.whole main_v1_1) (Memref.isWhole_whole cc0_scratch1).wordExact (Memref.isWhole_whole main_v1_1).wordExact)
  let c1_i32_1167 : BitVec 32 := 1#32
  pure ⟨⟩

def seam100 (v231 : IVec S32x32 1) (v243 : IVec S32x1024 1) : KProg F PUnit := do
  let ⟨v250, v257, v264⟩ : Σ' (v250 : FVec F S32x1 .f32) (v257 : FVec F S32x1 .f32), FVec F S32x2048 .fp8e4m3 ← k0_part56 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v243
  let ⟨v299, v309, v316⟩ : Σ' (v299 : FVec F S32x1408 .f32) (v309 : IVec S32x1 1), FVec F S32x1 .f32 ← k0_part57 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v257 v264
  let ⟨v319, c0_i32_302, c1_i32_303⟩ : Σ' (v319 : FVec F S32x1 .f32) (c0_i32_302 : BitVec 32), BitVec 32 ← k0_part58 (Memref.whole main_arg0) (Memref.isWhole_whole main_arg0) (Memref.whole main_v0) (Memref.isWhole_whole main_v0) (Memref.whole main_arg2) (Memref.isWhole_whole main_arg2) (Memref.whole main_arg3) (Memref.isWhole_whole main_arg3) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_v1_0) (Memref.isWhole_whole main_v1_0) (Memref.whole main_v1_1) (Memref.isWhole_whole main_v1_1) (Memref.whole main_v1_2) (Memref.isWhole_whole main_v1_2) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) cc0_scratch17 cc0_scratch18 cc0_scratch19 cc0_scratch20 cc0_scratch21 cc0_scratch22 v299 v309 v316
  eLoopP v231 v250 v319 c0_i32_302 c1_i32_303 >>= seamTail

def seamEnd : KProg F PUnit := do
  waitAll (Memref.whole cc0_scratch11) (Memref.isWhole_whole _) (Memref.whole main_v1_2) (Memref.isWhole_whole _) (semC (i := 1) (by decide))
  waitO (n := 0) 0 rfl (by decide); waitO (n := 512) 1 rfl (by decide); waitO (n := 1024) 2 rfl (by decide); waitO (n := 1536) 3 rfl (by decide)

/-- Up to the loop over blocks of tokens, returning the router's weight as it was read. -/
def front : KProg F (Vec F S64x2048 .f32) := do
  starts
  waitAll (Memref.whole main_v0) (Memref.isWhole_whole _) (Memref.whole cc0_scratch3) (Memref.isWhole_whole _) (semM (i := 0) (by decide))
  let w : Vec F S64x2048 .f32 ← Prog.lift (.load (Memref.whole cc0_scratch3) (Rect.unit (s := S64x2048) ![0, 0] S64x2048.size inb_S64x2048_S64x2048_0_0).toLoadRect (View.loadsAt_vmem h_S64x2048))
  wStore 0 inb_S192x2048_S64x2048_0_0 packedbf16_S192x2048_S64x2048_0_0 (k0_pay168 w)
  wStore 64 inb_S192x2048_S64x2048_64_0 packedbf16_S192x2048_S64x2048_64_0 (k0_pay169 w)
  wStore 128 inb_S192x2048_S64x2048_128_0 packedbf16_S192x2048_S64x2048_128_0 (k0_pay170 (k0_pay167 w))
  pure w

theorem body_eq₁ : cc0_expert_choice_moe (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 =
    front >>= fun w => ((xLoop w >>= fun _ => seam55) >>= fun p => seam100 p.1 p.2) >>= fun _ => seamEnd := by
  sl_kernel_rfl

/-- Between the loops. -/
theorem body_eq₂ : ((seam55 >>= fun p => seam100 p.1 p.2) >>= fun _ => seamEnd) =
    (middle >>= fun _ => first) >>= fun p : (Σ' (r : FVec F S32x1 .f32), FVec F S32x1 .f32) => (eLoopP k0_pay174 p.1 p.2 0#32 1#32 >>= seamTail) >>= fun _ => seamEnd := by
  sl_kernel_rfl

/-- The printed part that holds the second loop is the loop and what follows it. -/
theorem eLoopP_eq (hs r : FVec F S32x1 .f32) : eLoopP k0_pay174 r hs 0#32 1#32 = eLoop hs r >>= seam59 := by
  sl_kernel_rfl

/-- Behind the second loop. -/
theorem body_eq₃ (p : FVec F S32x1 .f32 × FVec F S32x1 .f32) : ((seam59 p >>= seamTail) >>= fun _ => seamEnd) = last p.1 p.2 := by
  sl_kernel_rfl

/-- The kernel's body. -/
def body : KProg F PUnit :=
  front >>= fun w => xLoop w >>= fun _ => middle >>= fun _ => first >>= fun p => eLoop p.2 p.1 >>= fun q => last q.1 q.2

theorem bind_cong {α β : Type} (p : KProg F α) {f g : α → KProg F β} (h : ∀ a, f a = g a) : p >>= f = p >>= g :=
  congrArg (p >>= ·) (funext h)

/-- The part from the tokens' loop on. -/
theorem body_eq₄ (w : Vec F S64x2048 .f32) : (((xLoop w >>= fun _ => seam55) >>= fun p => seam100 p.1 p.2) >>= fun _ => seamEnd) =
    xLoop w >>= fun _ => (seam55 >>= fun p => seam100 p.1 p.2) >>= fun _ => seamEnd := by
  rw [Prog.bind_assoc, Prog.bind_assoc]
  exact bind_cong _ fun _ => (Prog.bind_assoc _ _ _).symm

/-- The part from the experts' loop on. -/
theorem body_eq₅ (hs r : FVec F S32x1 .f32) : ((eLoopP k0_pay174 r hs 0#32 1#32 >>= seamTail) >>= fun _ => seamEnd) = eLoop hs r >>= fun q => last q.1 q.2 := by
  rw [eLoopP_eq, Prog.bind_assoc, Prog.bind_assoc]
  exact bind_cong _ fun q => (Prog.bind_assoc _ _ _).symm.trans (body_eq₃ q)

theorem body_eq₆ : (((middle >>= fun _ => first) >>= fun p : (Σ' (r : FVec F S32x1 .f32), FVec F S32x1 .f32) => (eLoopP k0_pay174 p.1 p.2 0#32 1#32 >>= seamTail) >>= fun _ => seamEnd) : KProg F PUnit) =
    middle >>= fun _ => first >>= fun p => eLoop p.2 p.1 >>= fun q => last q.1 q.2 :=
  (Prog.bind_assoc _ _ _).trans (bind_cong _ fun _ => bind_cong _ fun p => body_eq₅ p.2 p.1)

theorem body_eq : cc0_expert_choice_moe (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 = body :=
  body_eq₁.trans (bind_cong _ fun w => (body_eq₄ w).trans (bind_cong _ fun _ => body_eq₂.trans body_eq₆))

end Cert.KernelIdeal.Body
-- ==== Proof.Ideal.Wp.lean ====
module

public import proofs.«01_k».proof.Proof.Ideal.Body
public import proofs.«01_k».proof.Proof.Gen.KernelIdeal.Launch
public import Idealize.ShloMosaic.Lib.Pipeline.FrameBody
public import Idealize.ShloMosaic.Lib.Ring
public import Idealize.ShloMosaic.Lib.Ring.FamCut
public import Idealize.ShloMosaic.Lib.Tactic

/-! Rules for the kernel's single operations at the head of a program: a load, a store, a copy started, a copy waited for. -/

@[expose] public section

set_option maxRecDepth 16384

noncomputable section

namespace Cert.KernelIdeal.Body

open Cert.KernelIdeal Cert.KernelIdeal.Facts₀ Cert.KernelIdeal.Facts
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weakest precondition of a piece of the body on a device's core. -/
abbrev wpk (c : Dev nD) {α : Type} (p : KProg F α) (Q : α → sProp 𝕄) : sProp 𝕄 :=
  wp frame (wpE (defs₀ (F := F)) Variants.none (c : Thread nD τ) none) Set.univ p Q
/-- The contents of a buffer. -/
abbrev Bf (F : FTy → Type) (c : Dev nD) {sp : Space} {s : Shape} {e : EltTy} (M : Memref sig .tc sp s e) : Type := Buf (Elt F) (M.view.loc (c : Thread nD τ))
/-- A buffer held whole, at a share. -/
abbrev pt (c : Dev nD) {sp : Space} {s : Shape} {e : EltTy} (M : Memref sig .tc sp s e) (q : PosShare TreeShare) (f : Bf F c M) : sProp 𝕄 :=
  M.view.loc (c : Thread nD τ) ↦{q} f
/-- The elements of a view held, at a share. -/
abbrev ps (c : Dev nD) {sp : Space} {s : Shape} {e : EltTy} (M : Memref sig .tc sp s e) (q : PosShare TreeShare) (f : Bf F c M) : sProp 𝕄 :=
  M.view.loc (c : Thread nD τ) ↦[M.view.set]{q} f
/-- A semaphore at zero. -/
abbrev sv (c : Dev nD) (sm : DmaSem sig) : sProp 𝕄 := semVal ((c : Thread nD τ), SemLoc.dma sm) 0
/-- Nothing owed, whatever has been waited for. -/
abbrev ow (c : Dev nD) : sProp 𝕄 := iprop(∃ W, owes (c : Thread nD τ) 0 W)

section Rules
variable (c : Dev nD) {α β : Type}

/-- A piece of the body, proved by itself, at the head of a program. -/
theorem wp_seq {Q : β → sProp 𝕄} {P : sProp 𝕄} {p : KProg F α} {R : α → sProp 𝕄} (h : P ⊢ wpk c p R) {k : α → KProg F β} :
    P ⊢ iprop((∀ a, R a -∗ wpk c (k a) Q) -∗ wpk c (p >>= k) Q) := by
  unfold wpk
  rw [wp_bind]
  iintro HP Hk
  ihave H := h $$ HP
  iapply (wp_wand frame (wpE (defs₀ (F := F)) Variants.none (c : Thread nD τ) none) Set.univ) $$ H
  iexact Hk

theorem wp_ret {Q : β → sProp 𝕄} {a : β} : Q a ⊢ wpk c (pure a : KProg F β) Q := by
  unfold wpk
  iintro H
  sl_step
  iexact H

variable {sp sp' : Space} {s : Shape} {e : EltTy}

theorem wp_ldS {Q : β → sProp 𝕄} {cs : CoreSpace} {m : Memref sig .tc cs s e} {r : Rect s} {hl : m.view.LoadsAt r} {k : (r.shape.Idx → Elt F e) → KProg F β}
    {S : Finset (Idx (m.view.loc (c : Thread nD τ)))} {q : PosShare TreeShare} {f : Bf F c m} (hS : (m.access r).set ⊆ S) :
    (m.view.loc (c : Thread nD τ) ↦[S]{q} f : sProp 𝕄)
      ⊢ iprop(((m.view.loc (c : Thread nD τ) ↦[S]{q} f) -∗ wpk c (k ((m.access r).read (Elt F) f)) Q) -∗ wpk c (Prog.lift (.load m r hl) >>= k) Q) :=
  wp_load_rect (m := m) (r := r) (hl := hl) (k := k) (Q := Q) (f := f) (q := q) Variants.none (c : Thread nD τ) none Set.univ hS

theorem wp_ld {Q : β → sProp 𝕄} {cs : CoreSpace} {m : Memref sig .tc cs s e} {r : Rect s} {hl : m.view.LoadsAt r} {k : (r.shape.Idx → Elt F e) → KProg F β}
    {q : PosShare TreeShare} {f : Bf F c m} :
    (pt c m q f : sProp 𝕄) ⊢ iprop((pt c m q f -∗ wpk c (k ((m.access r).read (Elt F) f)) Q) -∗ wpk c (Prog.lift (.load m r hl) >>= k) Q) :=
  wp_ldS c (Finset.subset_univ _)

theorem wp_stS {Q : β → sProp 𝕄} {cs : CoreSpace} {m : Memref sig .tc cs s e} {r : Rect s} {w : r.shape.Idx → Elt F e} {hx : (m.access r).Stores Finset.univ} {hm : (Finset.univ : Finset r.shape.Idx) = Finset.univ ∨ ∀ a, r.stride a = 1} {k : PUnit → KProg F β}
    {S : Finset (Idx (m.view.loc (c : Thread nD τ)))} {f : Bf F c m} (hS : (m.access r).set ⊆ S) :
    (m.view.loc (c : Thread nD τ) ↦[S]{fullShare} f : sProp 𝕄)
      ⊢ iprop(((m.view.loc (c : Thread nD τ) ↦[S]{fullShare} ((m.access r).write (Elt F) f w Finset.univ)) -∗ wpk c (k ⟨⟩) Q)
        -∗ wpk c (Prog.lift (.store m r w Finset.univ hx hm) >>= k) Q) :=
  wp_store (Mk := Finset.univ) (hx := hx) (hm := hm) (w := w) (k := k) (Q := Q) Variants.none (c : Thread nD τ) none Set.univ ((View.setOn_univ (v := m.access r)).symm ▸ hS)

theorem wp_st {Q : β → sProp 𝕄} {cs : CoreSpace} {m : Memref sig .tc cs s e} {r : Rect s} {w : r.shape.Idx → Elt F e} {hx : (m.access r).Stores Finset.univ} {hm : (Finset.univ : Finset r.shape.Idx) = Finset.univ ∨ ∀ a, r.stride a = 1} {k : PUnit → KProg F β}
    {f : Bf F c m} :
    (pt c m fullShare f : sProp 𝕄)
      ⊢ iprop((pt c m fullShare ((m.access r).write (Elt F) f w Finset.univ) -∗ wpk c (k ⟨⟩) Q)
        -∗ wpk c (Prog.lift (.store m r w Finset.univ hx hm) >>= k) Q) :=
  wp_stS c (Finset.subset_univ _)

/-- A copy on its way: its wait gives the destination, reading as the source does, and the source. -/
def Fly (sm : DmaSem sig) (src : Memref sig .tc sp s e) (dst : Memref sig .tc sp' s e) (q : PosShare TreeShare) (fs : Bf F c src) : sProp 𝕄 :=
  Flight (countersEmb (U := Pipeline.UD sig nD τ)) (c : Thread nD τ) (.dma sm) () dst.view.dmaCredit
    iprop(owns (c : Thread nD τ) dst fullShare (src.view.read (Elt F) fs) ∗ ps c src q fs)

theorem wp_start {Q : β → sProp 𝕄} {src : Memref sig .tc sp s e} {dst : Memref sig .tc sp' s e} {sm : DmaSem sig}
    {hsrc : src.view.WordExact} {hdst : dst.view.WordExact} {hsem : DmaTarget.Typed (nD := nD) (τ := τ) (p := .tc) (s := s) (e := e) sp (.dma sm) (.here dst)}
    {k : PUnit → KProg F β} {q : PosShare TreeShare} {fs : Bf F c src} (hs : 0 < s.numel) :
    iprop(ps c src q fs ∗ (∃ v, owns (c : Thread nD τ) dst fullShare v) ∗ sv c sm)
      ⊢ iprop((Fly c sm src dst q fs -∗ wpk c (k ⟨⟩) Q) -∗ wpk c (Prog.lift (.enqueueDma src (.here dst) (.dma sm) hsrc hdst hsem) >>= k) Q) := by
  unfold owns
  iintro ⟨Hs, ⟨%v, %fd, -, Hd⟩, Hv⟩ Hk
  iapply (wp_dmaLocal (countersEmb (U := Pipeline.UD sig nD τ)) Variants.none (c : Thread nD τ) none (via := ReadAs.same) (dst := dst) (sm := .dma sm) () dst.view.dmaCredit rfl (dst.view.dmaCredit_pos hs) (Finset.Subset.refl _)) $$ [Hs Hd Hv]
  · isplitl [Hs]; · iexact Hs
    isplitl [Hd]; · iexact Hd
    iexact Hv
  iintro H
  iapply Hk
  unfold Fly
  iapply (Flight_mono (countersEmb (U := Pipeline.UD sig nD τ)) (c : Thread nD τ) ?_) $$ H
  iintro ⟨Hd, Hs⟩
  isplitl [Hd]
  · unfold owns
    iexists _; isplitr; swap; · iexact Hd
    ipureintro
    exact View.read_write_univ _ _
  iexact Hs

theorem wp_wait {Q : β → sProp 𝕄} {src : Memref sig .tc sp s e} {dst : Memref sig .tc sp' s e} {sm : DmaSem sig}
    {spw : Space} {sw : Shape} {ew : EltTy} {srcw : Memref sig .tc spw sw ew}
    {hsrc : srcw.view.WordExact} {hdst : dst.view.WordExact}
    {k : PUnit → KProg F β} {q : PosShare TreeShare} {fs : Bf F c src} :
    iprop(Fly c sm src dst q fs ∗ ow c)
      ⊢ iprop((iprop(owns (c : Thread nD τ) dst fullShare (src.view.read (Elt F) fs) ∗ ps c src q fs ∗ sv c sm ∗ ow c) -∗ wpk c (k ⟨⟩) Q)
        -∗ wpk c (Prog.lift (.waitDma2 sm srcw dst hsrc hdst) >>= k) Q) := by
  unfold Fly
  iintro ⟨HF, ⟨%W, HW⟩⟩ Hk
  iapply (wp_waitLocal (countersEmb (U := Pipeline.UD sig nD τ)) Variants.none (c : Thread nD τ) none () rfl) $$ [HF HW]
  · isplitl [HF]; · iexact HF
    iexact HW
  iintro ⟨⟨Hd, Hs⟩, Hv, HW⟩
  iapply Hk
  isplitl [Hd]; · iexact Hd
  isplitl [Hs]; · iexact Hs
  isplitl [Hv]; · iexact Hv
  iexists _; iexact HW

end Rules

end Cert.KernelIdeal.Body
-- ==== Proof.Ideal.Rows.lean ====
module

public import proofs.«01_k».proof.Proof.Ideal.Wp

/-! One chunk of columns of one expert: what it leaves in the accumulator and in the buffer of the expert's output. -/

@[expose] public section

set_option maxRecDepth 16384

noncomputable section

namespace Cert.KernelIdeal.Body

open Cert.KernelIdeal Cert.KernelIdeal.Facts₀ Cert.KernelIdeal.Facts
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! The kernel's buffers in fast memory. -/
abbrev bX : Memref sig .tc .vmem S1024x2048 .bf16 := Memref.whole cc0_scratch0
abbrev bCodes : Memref sig .tc .vmem S1024x2048 .fp8e4m3 := Memref.whole cc0_scratch1
abbrev bAcc : Memref sig .tc .vmem S1024x2048 .f32 := Memref.whole cc0_scratch2
abbrev bWrt : Memref sig .tc .vmem S64x2048 .f32 := Memref.whole cc0_scratch3
abbrev bWs : Memref sig .tc .vmem S192x2048 .bf16 := Memref.whole cc0_scratch4
abbrev bSg : Memref sig .tc .vmem S64x1408 .f32 := Memref.whole cc0_scratch5
abbrev bSu : Memref sig .tc .vmem S64x1408 .f32 := Memref.whole cc0_scratch6
abbrev bSd : Memref sig .tc .vmem S64x2048 .f32 := Memref.whole cc0_scratch7
abbrev bCh : Memref sig .tc .vmem S64x32 .i32 := Memref.whole cc0_scratch8
abbrev bChS : Memref sig .tc .smem S64x32 .i32 := Memref.whole cc0_scratch9
abbrev bPr : Memref sig .tc .vmem S64x1024 .f32 := Memref.whole cc0_scratch10
abbrev bXs : Memref sig .tc .vmem S1x1024 .f32 := Memref.whole cc0_scratch11
abbrev bWg : Memref sig .tc .vmem S4x2048x1408 .fp8e4m3 := Memref.whole cc0_scratch12
abbrev bWu : Memref sig .tc .vmem S4x2048x1408 .fp8e4m3 := Memref.whole cc0_scratch13
abbrev bWd : Memref sig .tc .vmem S4x4x1408x512 .fp8e4m3 := Memref.whole cc0_scratch14
abbrev bHc : Memref sig .tc .vmem S2x32x1408 .fp8e4m3 := Memref.whole cc0_scratch15
abbrev bY : Memref sig .tc .vmem S32x2048 .f32 := Memref.whole cc0_scratch16

variable (c : Dev nD)

/-- The word of the token that row `i` of expert `w` was chosen for. -/
def chWord (ch : Bf F c bChS) (w : BitVec 32) (hw : w.toNat < 64) (i : Fin 32) : BitVec 32 :=
  (bChS.access (Rect.unit (s := S64x32) ![(Scalar.indexCast w).toNat, i.val] S1x1.size (inbRow hw i.isLt))).read (Elt F) ch (Shape.Idx.first (numel1_S1x1.symm ▸ Nat.one_pos))

/-- Every chosen token names a row of the accumulator. -/
def ChOk (ch : Bf F c bChS) : Prop := ∀ (w : BitVec 32) (hw : w.toNat < 64) (i : Fin 32) (n : ℕ), ColOk n → TokOk n (chWord c ch w hw i)

section
variable {c}
variable {ch : Bf F c bChS} (hch : ChOk c ch)

/-- The accumulator after row `i`. -/
def rowF (w : BitVec 32) (hw : w.toNat < 64) (n : ℕ) (hn : ColOk n) (yb : Bf F c bY) (acc : Bf F c bAcc) (i : Fin 32) : Bf F c bAcc :=
  (bAcc.access (Rect.unit (s := S1024x2048) (tokOff (chWord c ch w hw i) n) S1x512.size (hch w hw i n hn))).write (Elt F) acc
    (shapeCast S1x512 (addf ((bAcc.access (Rect.unit (s := S1024x2048) (tokOff (chWord c ch w hw i) n) S1x512.size (hch w hw i n hn))).read (Elt F) acc : Vec F S1x512 .f32)
      ((bY.access (Rect.unit (s := S32x2048) ![i.val, n] S1x512.size (inbYRow i.isLt hn))).read (Elt F) yb : Vec F S1x512 .f32) : FVec F S1x512 .f32) shapeCasts_S1x512_S1x512) Finset.univ

theorem row_spec (w : BitVec 32) (hw : w.toNat < 64) (n : ℕ) (hn : ColOk n) (i : Fin 32) (yb : Bf F c bY) (acc : Bf F c bAcc) :
    iprop(pt c bChS fullShare ch ∗ pt c bY fullShare yb ∗ pt c bAcc fullShare acc) ⊢
      wpk c (row w hw n hn i) (fun _ => iprop(pt c bChS fullShare ch ∗ pt c bY fullShare yb ∗ pt c bAcc fullShare (rowF hch w hw n hn yb acc i))) := by
  unfold row
  iintro ⟨Hc, Hy, Ha⟩
  iapply (wp_ld c) $$ Hc
  iintro Hc
  iapply (wp_assume Variants.none (c : Thread nD τ) none Set.univ (hch w hw i n hn))
  iapply (wp_ld c) $$ Ha
  iintro Ha
  iapply (wp_ld c) $$ Hy
  iintro Hy
  iapply (wp_ld c) $$ Ha
  iintro Ha
  iapply (wp_st c (k := pure)) $$ Ha
  iintro Ha
  iapply (wp_ret c)
  isplitl [Hc]; · iexact Hc
  isplitl [Hy]; · iexact Hy
  iexact Ha

theorem rows_spec (w : BitVec 32) (hw : w.toNat < 64) (n : ℕ) (hn : ColOk n) (is : List (Fin 32)) (yb : Bf F c bY) (acc : Bf F c bAcc) :
    iprop(pt c bChS fullShare ch ∗ pt c bY fullShare yb ∗ pt c bAcc fullShare acc) ⊢
      wpk c (rows w hw n hn is) (fun _ => iprop(pt c bChS fullShare ch ∗ pt c bY fullShare yb ∗ pt c bAcc fullShare (is.foldl (rowF hch w hw n hn yb) acc))) := by
  induction is generalizing acc with
  | nil =>
    iintro H
    iapply (wp_ret c)
    iexact H
  | cons i is ih =>
    unfold rows
    iintro H
    iapply (wp_seq c (row_spec hch w hw n hn i yb acc)) $$ H
    iintro %_ H
    iapply (ih (rowF hch w hw n hn yb acc i)) $$ H

/-- What the buffer of the expert's output holds after a chunk, whose matrix is `wd`. -/
def yF (w : BitVec 32) (hw : w.toNat < 64) (n : ℕ) (hn : ColOk n) (hs r : FVec F S32x1 .f32) (hc : Bf F c bHc) (wd : Vec F S1408x512 .fp8e4m3) (sd : Bf F c bSd) (yb : Bf F c bY) : Bf F c bY :=
  (bY.access (Rect.unit (s := S32x2048) ![0, n] S32x512.size (inbY hn))).write (Elt F) yb
    (shapeCast S32x512 (yPay hs r
      (shapeCast S32x1408 ((bHc.access (Rect.unit (s := S2x32x1408) ![(Scalar.indexCast (Scalar.remsi w 2#32)).toNat, 0, 0] S1x32x1408.size (inbHc hw))).read (Elt F) hc : Vec F S1x32x1408 .fp8e4m3) shapeCasts_S1x32x1408_S32x1408 : FVec F S32x1408 .fp8e4m3)
      (shapeCast S1x1x1408x512 wd (by decide))
      ((bSd.access (Rect.unit (s := S64x2048) ![(Scalar.indexCast w).toNat, n] S1x512.size (inbSd hw hn))).read (Elt F) sd : Vec F S1x512 .f32)) shapeCasts_S32x512_S32x512) Finset.univ

/-- A squeezed slice read, read as the slice. -/
theorem read_unsqueeze {sp : Space} {s s' : Shape} {e : EltTy} (M : Memref sig .tc sp s e) (r : Rect s) (hr : ∀ a, r.stride a = 1) (h : r.shape.Squeezes s') (h' : s'.ShapeCasts r.shape)
    (g : Bf F c M) (v : s'.Idx → Elt F e) (hv : ((M.slice r hr).squeeze s' h).view.read (Elt F) g = v) : (M.access r).read (Elt F) g = shapeCast r.shape v h' := by
  subst hv
  funext i
  show (M.access r).read (Elt F) g i = (M.access r).read (Elt F) g (Shape.reshapeEquiv h.numel_eq (Shape.reshapeEquiv h' i))
  rw [Shape.reshapeEquiv_reshapeEquiv, Shape.reshapeEquiv_self]

/-- A load of a slice that is held squeezed. -/
theorem wp_ldO {α : Type} {Q : α → sProp 𝕄} {cs : CoreSpace} {s s' : Shape} {e : EltTy} (M : Memref sig .tc cs s e) (r : Rect s) (hr : ∀ a, r.stride a = 1) (h : r.shape.Squeezes s') (h' : s'.ShapeCasts r.shape)
    {hl : M.view.LoadsAt r} {k : (r.shape.Idx → Elt F e) → KProg F α} (v : s'.Idx → Elt F e) :
    (owns (c : Thread nD τ) ((M.slice r hr).squeeze s' h) fullShare v : sProp 𝕄) ⊢
      iprop((owns (c : Thread nD τ) ((M.slice r hr).squeeze s' h) fullShare v -∗ wpk c (k (shapeCast r.shape v h')) Q) -∗ wpk c (Prog.lift (.load M r hl) >>= k) Q) := by
  unfold owns
  iintro ⟨%g, %hg, Hd⟩ Hk
  rw [← read_unsqueeze M r hr h h' g v hg]
  have hS : (M.access r).set ⊆ ((M.slice r hr).squeeze s' h).view.set := by
    show (M.access r).set ⊆ ((M.access r).reshape s' h.numel_eq).set
    rw [View.set_reshape]
  have := (wp_ldS (F := F) c (m := M) (r := r) (hl := hl) (k := k) (Q := Q) (q := fullShare) (f := g) hS)
  iapply (show (((M.slice r hr).squeeze s' h).view.loc (c : Thread nD τ) ↦[((M.slice r hr).squeeze s' h).view.set]{fullShare} g : sProp 𝕄) ⊢ _ from this) $$ Hd
  iintro Hd
  iapply Hk
  iexists g; isplitr; swap; · iexact Hd
  ipureintro; exact hg

theorem wp_ldD {α : Type} {Q : α → sProp 𝕄} {s j : ℕ} (hs4 : s < 4) (hj : j < 4) {off : Fin 4 → ℕ} (ho : off = ![s, j, 0, 0]) (hoff : ∀ a, off a + S1x1x1408x512.size a ≤ S4x4x1408x512.size a)
    {hl : bWd.view.LoadsAt (Rect.unit (s := S4x4x1408x512) off S1x1x1408x512.size hoff)} {k : Vec F S1x1x1408x512 .fp8e4m3 → KProg F α} (v : Vec F S1408x512 .fp8e4m3) :
    (owns (c : Thread nD τ) (dDst hs4 hj) fullShare v : sProp 𝕄) ⊢
      iprop((owns (c : Thread nD τ) (dDst hs4 hj) fullShare v -∗ wpk c (k (shapeCast S1x1x1408x512 v (show S1408x512.ShapeCasts S1x1x1408x512 by decide))) Q)
        -∗ wpk c (Prog.lift (.load bWd (Rect.unit (s := S4x4x1408x512) off S1x1x1408x512.size hoff).toLoadRect hl) >>= k) Q) := by
  subst ho
  exact wp_ldO bWd (Rect.unit (s := S4x4x1408x512) ![s, j, 0, 0] S1x1x1408x512.size (inbDD hs4 hj)) (fun _ => rfl) squeezes_S1x1x1408x512_S1408x512 (show S1408x512.ShapeCasts S1x1x1408x512 by decide) v

theorem chunk_spec {s : ℕ} (hs4 : s < 4) (w : BitVec 32) (hw : w.toNat < 64) (hsw : (Scalar.remsi w 4#32).toNat = s) (j : ℕ) (hj : j < 4) (n : ℕ) (hn : ColOk n) (hs r : FVec F S32x1 .f32)
    (hc : Bf F c bHc) (sd : Bf F c bSd) (wd : Vec F S1408x512 .fp8e4m3) (yb : Bf F c bY) (acc : Bf F c bAcc) :
    iprop(pt c bHc fullShare hc ∗ pt c bSd fullShare sd ∗ owns (c : Thread nD τ) (dDst hs4 hj) fullShare wd ∗ pt c bChS fullShare ch ∗ pt c bY fullShare yb ∗ pt c bAcc fullShare acc) ⊢
      wpk c (chunk w hw j hj n hn hs r) (fun _ => iprop(pt c bHc fullShare hc ∗ pt c bSd fullShare sd ∗ owns (c : Thread nD τ) (dDst hs4 hj) fullShare wd ∗ pt c bChS fullShare ch
        ∗ pt c bY fullShare (yF w hw n hn hs r hc wd sd yb) ∗ pt c bAcc fullShare (slots.foldl (rowF hch w hw n hn (yF w hw n hn hs r hc wd sd yb)) acc))) := by
  subst hsw
  unfold chunk chunkFrom
  iintro ⟨Hh, Hs, Hd, Hc, Hy, Ha⟩
  iapply (wp_ld c) $$ Hh
  iintro Hh
  iapply (wp_ldD hs4 hj (off := ![(Scalar.indexCast (Scalar.remsi w 4#32)).toNat, j, 0, 0]) rfl (inbWd hw hj) wd) $$ Hd
  iintro Hd
  iapply (wp_ld c) $$ Hs
  iintro Hs
  iapply (wp_ld c) $$ Hy
  iintro Hy
  iapply (wp_st c) $$ Hy
  iintro Hy
  ihave H := (rows_spec hch w hw n hn slots (yF w hw n hn hs r hc wd sd yb) acc) $$ [Hc Hy Ha]
  · isplitl [Hc]; · iexact Hc
    isplitl [Hy]; · iexact Hy
    iexact Ha
  iapply (wp_wand frame (wpE (defs₀ (F := F)) Variants.none (c : Thread nD τ) none) Set.univ) $$ H
  iintro %_ ⟨Hc, Hy, Ha⟩
  isplitl [Hh]; · iexact Hh
  isplitl [Hs]; · iexact Hs
  isplitl [Hd]; · iexact Hd
  isplitl [Hc]; · iexact Hc
  isplitl [Hy]; · iexact Hy
  iexact Ha

end

end Cert.KernelIdeal.Body
-- ==== Proof.Ideal.Rings.lean ====
module

public import proofs.«01_k».proof.Proof.Ideal.Rows

/-! The weights' rings: a slot is idle, or a copy of one expert's matrix into it is on its way, or it holds that matrix.
    With them, one expert's hidden codes. -/

@[expose] public section

set_option maxRecDepth 16384

noncomputable section

namespace Cert.KernelIdeal.Body

open Cert.KernelIdeal Cert.KernelIdeal.Facts₀ Cert.KernelIdeal.Facts
open Cert.KernelIdeal.Gen (k0_pay10 k0_pay11 k0_pay12 k0_pay13 k0_pay14 k0_pay15 k0_pay17 k0_pay18)
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev a0 : Memref sig .tc .hbm S1024x2048 .bf16 := Memref.whole main_arg0
abbrev a1 : Memref sig .tc .hbm S64x2048 .f32 := Memref.whole main_v0
abbrev a2 : Memref sig .tc .hbm S64x32 .i32 := Memref.whole main_arg2
abbrev a3 : Memref sig .tc .hbm S64x2048x1408 .fp8e4m3 := Memref.whole main_arg3
abbrev a4 : Memref sig .tc .hbm S64x2048x1408 .fp8e4m3 := Memref.whole main_arg4
abbrev a5 : Memref sig .tc .hbm S64x1408 .f32 := Memref.whole main_arg5
abbrev a6 : Memref sig .tc .hbm S64x1408 .f32 := Memref.whole main_arg6
abbrev a7 : Memref sig .tc .hbm S64x1408x2048 .fp8e4m3 := Memref.whole main_arg7
abbrev a8 : Memref sig .tc .hbm S64x2048 .f32 := Memref.whole main_arg8
abbrev o0 : Memref sig .tc .hbm S1024x2048 .bf16 := Memref.whole main_v1_0
abbrev o1 : Memref sig .tc .hbm S1024x2048 .fp8e4m3 := Memref.whole main_v1_1
abbrev o2 : Memref sig .tc .hbm S1x1024 .f32 := Memref.whole main_v1_2

variable (c : Dev nD)

/-- What a copy out of a part of an array leaves of the array. -/
abbrev rest {sp : Space} {s : Shape} {e : EltTy} (src : Memref sig .tc sp s e) (q : PosShare TreeShare) (f : Bf F c src) : sProp 𝕄 :=
  src.view.loc (c : Thread nD τ) ↦[Finset.univ \ src.view.set]{q} f

section
variable {β : Type} {sp sp' : Space} {s : Shape} {e : EltTy}

/-- A copy whose source is a part of an array that is held whole: the rest of the array stays behind. -/
theorem wp_startQ {Q : β → sProp 𝕄} {src : Memref sig .tc sp s e} {dst : Memref sig .tc sp' s e} {sm : DmaSem sig} {q : PosShare TreeShare} {f : Bf F c src}
    {hsrc : src.view.WordExact} {hdst : dst.view.WordExact} {hsem : DmaTarget.Typed (nD := nD) (τ := τ) (p := .tc) (s := s) (e := e) sp (.dma sm) (.here dst)}
    {k : PUnit → KProg F β} (hs : 0 < s.numel) :
    iprop(pt c src q f ∗ (∃ v, owns (c : Thread nD τ) dst fullShare v) ∗ sv c sm)
      ⊢ iprop((iprop(Fly c sm src dst q f ∗ rest c src q f) -∗ wpk c (k ⟨⟩) Q)
        -∗ wpk c (Prog.lift (.enqueueDma src (.here dst) (.dma sm) hsrc hdst hsem) >>= k) Q) := by
  iintro ⟨Hp, Hd, Hv⟩ Hk
  ihave Hp := (pointsTo_split_subset (Finset.subset_univ src.view.set)).1 $$ Hp
  icases Hp with ⟨Hs, Hr⟩
  iapply (wp_start c hs) $$ [Hs Hd Hv]
  · isplitl [Hs]; · iexact Hs
    isplitl [Hd]; · iexact Hd
    iexact Hv
  iintro H
  iapply Hk
  isplitl [H]; · iexact H
  iexact Hr

theorem wp_waitQ {Q : β → sProp 𝕄} {src : Memref sig .tc sp s e} {dst : Memref sig .tc sp' s e} {sm : DmaSem sig} {q : PosShare TreeShare} {f : Bf F c src}
    {spw : Space} {sw : Shape} {ew : EltTy} {srcw : Memref sig .tc spw sw ew} {hsrc : srcw.view.WordExact} {hdst : dst.view.WordExact}
    {k : PUnit → KProg F β} :
    iprop(iprop(Fly c sm src dst q f ∗ rest c src q f) ∗ ow c)
      ⊢ iprop((iprop(owns (c : Thread nD τ) dst fullShare (src.view.read (Elt F) f) ∗ pt c src q f ∗ sv c sm ∗ ow c) -∗ wpk c (k ⟨⟩) Q)
        -∗ wpk c (Prog.lift (.waitDma2 sm srcw dst hsrc hdst) >>= k) Q) := by
  iintro ⟨⟨HF, Hr⟩, HW⟩ Hk
  iapply (wp_wait c) $$ [HF HW]
  · isplitl [HF]; · iexact HF
    iexact HW
  iintro ⟨Hd, Hs, Hv, HW⟩
  iapply Hk
  isplitl [Hd]; · iexact Hd
  isplitl [Hs Hr]
  · iapply (pointsTo_split_subset (Finset.subset_univ src.view.set)).2
    isplitl [Hs]; · iexact Hs
    iexact Hr
  isplitl [Hv]; · iexact Hv
  iexact HW

theorem wp_start1 {src : Memref sig .tc sp s e} {dst : Memref sig .tc sp' s e} {sm : DmaSem sig} {q : PosShare TreeShare} {f : Bf F c src}
    {hsrc : src.view.WordExact} {hdst : dst.view.WordExact} {hsem : DmaTarget.Typed (nD := nD) (τ := τ) (p := .tc) (s := s) (e := e) sp (.dma sm) (.here dst)} (hs : 0 < s.numel) :
    iprop(pt c src q f ∗ (∃ v, owns (c : Thread nD τ) dst fullShare v) ∗ sv c sm)
      ⊢ wpk c (Prog.lift (.enqueueDma src (.here dst) (.dma sm) hsrc hdst hsem)) (fun _ => iprop(Fly c sm src dst q f ∗ rest c src q f)) := by
  iintro H
  iapply (wp_startQ c (k := pure) hs) $$ H
  iintro H
  iapply (wp_ret c)
  iexact H

theorem wp_wait1 {src : Memref sig .tc sp s e} {dst : Memref sig .tc sp' s e} {sm : DmaSem sig} {q : PosShare TreeShare} {f : Bf F c src}
    {spw : Space} {sw : Shape} {ew : EltTy} {srcw : Memref sig .tc spw sw ew} {hsrc : srcw.view.WordExact} {hdst : dst.view.WordExact} :
    iprop(iprop(Fly c sm src dst q f ∗ rest c src q f) ∗ ow c)
      ⊢ wpk c (Prog.lift (.waitDma2 sm srcw dst hsrc hdst)) (fun _ => iprop(owns (c : Thread nD τ) dst fullShare (src.view.read (Elt F) f) ∗ pt c src q f ∗ sv c sm ∗ ow c)) := by
  iintro H
  iapply (wp_waitQ c (k := pure)) $$ H
  iintro H
  iapply (wp_ret c)
  iexact H
end

section
variable {c}

/-- A gate or up slot: idle, with its share of the array; a copy of expert `e`'s matrix on its way; that matrix landed. -/
def GIdle (M : Memref sig .tc .vmem S4x2048x1408 .fp8e4m3) (A : Memref sig .tc .hbm S64x2048x1408 .fp8e4m3) {s i : ℕ} (hs : s < 4) (hi : i < 2) (q : PosShare TreeShare) (f : Bf F c A) : sProp 𝕄 :=
  iprop(pt c A q f ∗ (∃ v, owns (c : Thread nD τ) (gDst M hs) fullShare v) ∗ sv c (semG hs hi))
def GBusy (M : Memref sig .tc .vmem S4x2048x1408 .fp8e4m3) (A : Memref sig .tc .hbm S64x2048x1408 .fp8e4m3) {s e i : ℕ} (hs : s < 4) (he : e < 64) (hi : i < 2) (q : PosShare TreeShare) (f : Bf F c A) : sProp 𝕄 :=
  iprop(Fly c (semG hs hi) (gSrc A he) (gDst M hs) q f ∗ rest c (gSrc A he) q f)
def GFull (M : Memref sig .tc .vmem S4x2048x1408 .fp8e4m3) (A : Memref sig .tc .hbm S64x2048x1408 .fp8e4m3) {s e i : ℕ} (hs : s < 4) (he : e < 64) (hi : i < 2) (q : PosShare TreeShare) (f : Bf F c A) : sProp 𝕄 :=
  iprop(owns (c : Thread nD τ) (gDst M hs) fullShare ((gSrc A he).view.read (Elt F) f) ∗ pt c A q f ∗ sv c (semG hs hi))

theorem GFull_idle (M : Memref sig .tc .vmem S4x2048x1408 .fp8e4m3) (A : Memref sig .tc .hbm S64x2048x1408 .fp8e4m3) {s e i : ℕ} (hs : s < 4) (he : e < 64) (hi : i < 2) (q : PosShare TreeShare) (f : Bf F c A) :
    GFull M A hs he hi q f ⊢ GIdle M A hs hi q f := by
  unfold GFull GIdle
  iintro ⟨Hd, Hp, Hv⟩
  isplitl [Hp]; · iexact Hp
  isplitl [Hd]; · iexists _; iexact Hd
  iexact Hv

theorem startG1_spec (M : Memref sig .tc .vmem S4x2048x1408 .fp8e4m3) (hM : M.IsWhole) (A : Memref sig .tc .hbm S64x2048x1408 .fp8e4m3) (hA : A.IsWhole) {s e i : ℕ} (hs : s < 4) (he : e < 64) (hi : i < 2) (q : PosShare TreeShare) (f : Bf F c A) :
    GIdle M A hs hi q f ⊢ wpk c (startG1 M hM A hA hs he hi) (fun _ => GBusy M A hs he hi q f) :=
  wp_start1 c (src := gSrc A he) (by decide)

theorem waitG1_spec (M : Memref sig .tc .vmem S4x2048x1408 .fp8e4m3) (hM : M.IsWhole) (A : Memref sig .tc .hbm S64x2048x1408 .fp8e4m3) (hA : A.IsWhole) {s e i : ℕ} (hs : s < 4) (he : e < 64) (hi : i < 2) (q : PosShare TreeShare) (f : Bf F c A) :
    iprop(GBusy M A hs he hi q f ∗ ow c) ⊢ wpk c (waitG1 M hM A hA hs he hi) (fun _ => iprop(GFull M A hs he hi q f ∗ ow c)) := by
  refine (wp_wait1 c (src := gSrc A he)).trans (wp_mono frame (wpE (defs₀ (F := F)) Variants.none (c : Thread nD τ) none) Set.univ fun _ => ?_)
  iintro ⟨Hd, Hp, Hv, HW⟩
  isplitr [HW]
  · unfold GFull
    isplitl [Hd]; · iexact Hd
    isplitl [Hp]; · iexact Hp
    iexact Hv
  iexact HW

/-- A chunk's slot of the down ring, likewise. -/
def DIdle {s j : ℕ} (hs : s < 4) (hj : j < 4) (q : PosShare TreeShare) (f : Bf F c a7) : sProp 𝕄 :=
  iprop(pt c a7 q f ∗ (∃ v, owns (c : Thread nD τ) (dDst hs hj) fullShare v) ∗ sv c (semD hs hj))
def DBusy {s e n j : ℕ} (hs : s < 4) (he : e < 64) (hj : j < 4) (hn : ColOk n) (q : PosShare TreeShare) (f : Bf F c a7) : sProp 𝕄 :=
  iprop(Fly c (semD hs hj) (dSrc he hn) (dDst hs hj) q f ∗ rest c (dSrc he hn) q f)
def DFull {s e n j : ℕ} (hs : s < 4) (he : e < 64) (hj : j < 4) (hn : ColOk n) (q : PosShare TreeShare) (f : Bf F c a7) : sProp 𝕄 :=
  iprop(owns (c : Thread nD τ) (dDst hs hj) fullShare ((dSrc he hn).view.read (Elt F) f) ∗ pt c a7 q f ∗ sv c (semD hs hj))

theorem DFull_idle {s e n j : ℕ} (hs : s < 4) (he : e < 64) (hj : j < 4) (hn : ColOk n) (q : PosShare TreeShare) (f : Bf F c a7) :
    DFull hs he hj hn q f ⊢ DIdle hs hj q f := by
  unfold DFull DIdle
  iintro ⟨Hd, Hp, Hv⟩
  isplitl [Hp]; · iexact Hp
  isplitl [Hd]; · iexists _; iexact Hd
  iexact Hv

theorem startD_spec {s e n : ℕ} (hs : s < 4) (he : e < 64) (j : Fin 4) (hjn : n = 512 * j.val) (hn : ColOk n) (q : PosShare TreeShare) (f : Bf F c a7) :
    DIdle hs j.isLt q f ⊢ wpk c (startD hs he j hjn hn) (fun _ => DBusy hs he j.isLt hn q f) :=
  wp_start1 c (src := dSrc he hn) (by decide)

theorem waitD_spec {s e n : ℕ} (hs : s < 4) (he : e < 64) (j : Fin 4) (hjn : n = 512 * j.val) (hn : ColOk n) (q : PosShare TreeShare) (f : Bf F c a7) :
    iprop(DBusy hs he j.isLt hn q f ∗ ow c) ⊢ wpk c (waitD hs he j hjn hn) (fun _ => iprop(DFull hs he j.isLt hn q f ∗ ow c)) := by
  refine (wp_wait1 c (src := dSrc he hn)).trans (wp_mono frame (wpE (defs₀ (F := F)) Variants.none (c : Thread nD τ) none) Set.univ fun _ => ?_)
  iintro ⟨Hd, Hp, Hv, HW⟩
  isplitr [HW]
  · unfold DFull
    isplitl [Hd]; · iexact Hd
    isplitl [Hp]; · iexact Hp
    iexact Hv
  iexact HW

end

end Cert.KernelIdeal.Body
-- ==== Proof.Ideal.Trip.lean ====
module

public import proofs.«01_k».proof.Proof.Ideal.Rings

/-! One trip of the loop over experts, and what it leaves: the next expert's hidden codes, this expert's columns added. -/

@[expose] public section

set_option maxRecDepth 16384

noncomputable section

namespace Cert.KernelIdeal.Body

open Cert.KernelIdeal Cert.KernelIdeal.Facts₀ Cert.KernelIdeal.Facts
open Cert.KernelIdeal.Gen (k0_pay10 k0_pay11 k0_pay12 k0_pay13 k0_pay14 k0_pay15 k0_pay17 k0_pay18)
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the loop over experts reads and does not write. -/
structure Env (F : FTy → Type) (c : Dev nD) where
  chS : Bf F c bChS
  ch : Bf F c bCh
  pr : Bf F c bPr
  xs : Bf F c bXs
  codes : Bf F c bCodes
  sg : Bf F c bSg
  su : Bf F c bSu
  sd : Bf F c bSd
  w3 : Bf F c a3
  w4 : Bf F c a4
  w7 : Bf F c a7
  qx : PosShare TreeShare
  qc : PosShare TreeShare
  qg : Fin 4 → PosShare TreeShare
  qu : Fin 4 → PosShare TreeShare
  qd : Fin 4 → Fin 4 → PosShare TreeShare

section
variable {c : Dev nD} (E : Env F c)

/-- The buffers that the loop over experts reads. -/
def Held : sProp 𝕄 :=
  iprop(pt c bCh fullShare E.ch ∗ pt c bPr fullShare E.pr ∗ pt c bXs E.qx E.xs ∗ pt c bCodes E.qc E.codes ∗ pt c bSg fullShare E.sg ∗ pt c bSu fullShare E.su)

/-! ## One expert's hidden codes -/

def chRow {e : ℕ} (he : e < 64) : Vec F S1x32 .i32 := (bCh.access (Rect.unit (s := S64x32) ![e, 0] S1x32.size (inbE32 he))).read (Elt F) E.ch
def prRow {e : ℕ} (he : e < 64) : Vec F S1x1024 .f32 := (bPr.access (Rect.unit (s := S64x1024) ![e, 0] S1x1024.size (inbE1024 he))).read (Elt F) E.pr
def xsRow : Vec F S1x1024 .f32 := (bXs.access (Rect.unit (s := S1x1024) ![0, 0] S1x1024.size inb_S1x1024_S1x1024_0_0)).read (Elt F) E.xs
def codesAll : Vec F S1024x2048 .fp8e4m3 := (bCodes.access (Rect.unit (s := S1024x2048) ![0, 0] S1024x2048.size inb_S1024x2048_S1024x2048_0_0)).read (Elt F) E.codes
def sgRow {e : ℕ} (he : e < 64) : Vec F S1x1408 .f32 := (bSg.access (Rect.unit (s := S64x1408) ![e, 0] S1x1408.size (inbE1408 he))).read (Elt F) E.sg
def suRow {e : ℕ} (he : e < 64) : Vec F S1x1408 .f32 := (bSu.access (Rect.unit (s := S64x1408) ![e, 0] S1x1408.size (inbE1408 he))).read (Elt F) E.su
def gMat {e : ℕ} (he : e < 64) : Vec F S1x2048x1408 .fp8e4m3 := shapeCast S1x2048x1408 ((gSrc a3 he).view.read (Elt F) E.w3) (show S2048x1408.ShapeCasts S1x2048x1408 by decide)
def uMat {e : ℕ} (he : e < 64) : Vec F S1x2048x1408 .fp8e4m3 := shapeCast S1x2048x1408 ((gSrc a4 he).view.read (Elt F) E.w4) (show S2048x1408.ShapeCasts S1x2048x1408 by decide)

def pScale (eye : IVec S32x32 1) {e : ℕ} (he : e < 64) : FVec F S32x1 .f32 := k0_pay11 eye (chRow E he) (xsRow E)
def pCodes (eye : IVec S32x32 1) {e : ℕ} (he : e < 64) := k0_pay12 (F := F) eye (chRow E he) (codesAll E)
/-- The router's probabilities of expert `e`'s rows. -/
def rOf (eye : IVec S32x32 1) {e : ℕ} (he : e < 64) : FVec F S32x1 .f32 := k0_pay10 eye (chRow E he) (prRow E he)
/-- The hidden codes' scales. -/
def hsOf (eye : IVec S32x32 1) {e : ℕ} (he : e < 64) : FVec F S32x1 .f32 :=
  k0_pay17 (k0_pay14 (pScale E eye he) (pCodes E eye he) (gMat E he) (sgRow E he) (uMat E he) (suRow E he)) (k0_pay15 (pScale E eye he) (pCodes E eye he) (gMat E he) (sgRow E he) (uMat E he) (suRow E he)) zeroF
/-- The hidden codes. -/
def hcOf (eye : IVec S32x32 1) {e : ℕ} (he : e < 64) : Vec F S1x32x1408 .fp8e4m3 :=
  k0_pay18 (k0_pay13 (pScale E eye he) (pCodes E eye he) (gMat E he) (sgRow E he) (uMat E he) (suRow E he)) (k0_pay14 (pScale E eye he) (pCodes E eye he) (gMat E he) (sgRow E he) (uMat E he) (suRow E he))
    (k0_pay15 (pScale E eye he) (pCodes E eye he) (gMat E he) (sgRow E he) (uMat E he) (suRow E he)) zeroF
/-- The hidden codes' pair of buffers after slot `h` is written. -/
def hcF (eye : IVec S32x32 1) {e h : ℕ} (he : e < 64) (hh : h < 2) (hc : Bf F c bHc) : Bf F c bHc :=
  (bHc.access (Rect.unit (s := S2x32x1408) ![h, 0, 0] S1x32x1408.size (inbH2 hh))).write (Elt F) hc (hcOf E eye he) Finset.univ

theorem wp_ldG {c : Dev nD} {α : Type} {Q : α → sProp 𝕄} (M : Memref sig .tc .vmem S4x2048x1408 .fp8e4m3) {s : ℕ} (hs : s < 4)
    {hl : M.view.LoadsAt (Rect.unit (s := S4x2048x1408) ![s, 0, 0] S1x2048x1408.size (inbGD hs))} {k : Vec F S1x2048x1408 .fp8e4m3 → KProg F α} (v : Vec F S2048x1408 .fp8e4m3) :
    (owns (c : Thread nD τ) (gDst M hs) fullShare v : sProp 𝕄) ⊢
      iprop((owns (c : Thread nD τ) (gDst M hs) fullShare v -∗ wpk c (k (shapeCast S1x2048x1408 v (show S2048x1408.ShapeCasts S1x2048x1408 by decide))) Q)
        -∗ wpk c (Prog.lift (.load M (Rect.unit (s := S4x2048x1408) ![s, 0, 0] S1x2048x1408.size (inbGD hs)).toLoadRect hl) >>= k) Q) :=
  wp_ldO M (Rect.unit (s := S4x2048x1408) ![s, 0, 0] S1x2048x1408.size (inbGD hs)) (fun _ => rfl) squeezes_S1x2048x1408_S2048x1408 (show S2048x1408.ShapeCasts S1x2048x1408 by decide) v

theorem hidden_spec (eye : IVec S32x32 1) {s e h : ℕ} (hs : s < 4) (he : e < 64) (hh : h < 2) (qg qu : PosShare TreeShare) (hc : Bf F c bHc) :
    iprop(Held E ∗ GBusy bWg a3 hs he (by decide : 0 < 2) qg E.w3 ∗ GBusy bWu a4 hs he (by decide : 1 < 2) qu E.w4 ∗ pt c bHc fullShare hc ∗ ow c) ⊢
      wpk c (hidden eye hs he hh) (fun p => iprop(⌜p = ⟨rOf E eye he, hsOf E eye he⟩⌝ ∗ Held E ∗ GIdle bWg a3 hs (by decide : 0 < 2) qg E.w3 ∗ GIdle bWu a4 hs (by decide : 1 < 2) qu E.w4
        ∗ pt c bHc fullShare (hcF E eye he hh hc) ∗ ow c)) := by
  unfold hidden Held
  iintro ⟨⟨Hch, Hpr, Hxs, Hco, Hsg, Hsu⟩, HG, HU, Hh, HW⟩
  iapply (wp_ld c) $$ Hch
  iintro Hch
  iapply (wp_ld c) $$ Hpr
  iintro Hpr
  iapply (wp_ld c) $$ Hxs
  iintro Hxs
  iapply (wp_ld c) $$ Hco
  iintro Hco
  iapply (wp_seq c (waitG1_spec bWg (Memref.isWhole_whole _) a3 (Memref.isWhole_whole _) hs he (by decide : 0 < 2) qg E.w3)) $$ [HG HW]
  · isplitl [HG]; · iexact HG
    iexact HW
  iintro %_ ⟨HG, HW⟩
  iapply (wp_seq c (waitG1_spec bWu (Memref.isWhole_whole _) a4 (Memref.isWhole_whole _) hs he (by decide : 1 < 2) qu E.w4)) $$ [HU HW]
  · isplitl [HU]; · iexact HU
    iexact HW
  iintro %_ ⟨HU, HW⟩
  unfold GFull
  icases HG with ⟨HGd, HGr⟩
  icases HU with ⟨HUd, HUr⟩
  iapply (wp_ldG bWg hs) $$ HGd
  iintro HGd
  iapply (wp_ld c) $$ Hsg
  iintro Hsg
  iapply (wp_ldG bWu hs) $$ HUd
  iintro HUd
  iapply (wp_ld c) $$ Hsu
  iintro Hsu
  iapply (wp_ld c) $$ Hh
  iintro Hh
  iapply (wp_st c) $$ Hh
  iintro Hh
  iapply (wp_ret c)
  isplitr
  · ipureintro; rfl
  isplitl [Hch Hpr Hxs Hco Hsg Hsu]
  · isplitl [Hch]; · iexact Hch
    isplitl [Hpr]; · iexact Hpr
    isplitl [Hxs]; · iexact Hxs
    isplitl [Hco]; · iexact Hco
    isplitl [Hsg]; · iexact Hsg
    iexact Hsu
  isplitl [HGd HGr]
  · iapply (GFull_idle bWg a3 hs he _ qg E.w3)
    unfold GFull
    isplitl [HGd]; · iexact HGd
    iexact HGr
  isplitl [HUd HUr]
  · iapply (GFull_idle bWu a4 hs he _ qu E.w4)
    unfold GFull
    isplitl [HUd]; · iexact HUd
    iexact HUr
  isplitl [Hh]; · iexact Hh
  iexact HW

end

end Cert.KernelIdeal.Body
-- ==== Proof.Ideal.Steps.lean ====
module

public import proofs.«01_k».proof.Proof.Ideal.Trip

/-! The rings through the loop over experts, and the loop itself. -/

@[expose] public section

set_option maxRecDepth 16384

noncomputable section

namespace Cert.KernelIdeal.Body

open Cert.KernelIdeal Cert.KernelIdeal.Facts₀ Cert.KernelIdeal.Facts
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem col0 : ColOk 0 := by decide
theorem col1 : ColOk 512 := by decide
theorem col2 : ColOk 1024 := by decide
theorem col3 : ColOk 1536 := by decide

section
variable {c : Dev nD} (E : Env F c)

/-- The gate and the up slot `s`: idle, or filling with expert `e`'s matrices. -/
def GsIdle {s : ℕ} (hs : s < 4) : sProp 𝕄 :=
  iprop(GIdle bWg a3 hs (by decide : 0 < 2) (E.qg ⟨s, hs⟩) E.w3 ∗ GIdle bWu a4 hs (by decide : 1 < 2) (E.qu ⟨s, hs⟩) E.w4)
def GsBusy {s e : ℕ} (hs : s < 4) (he : e < 64) : sProp 𝕄 :=
  iprop(GBusy bWg a3 hs he (by decide : 0 < 2) (E.qg ⟨s, hs⟩) E.w3 ∗ GBusy bWu a4 hs he (by decide : 1 < 2) (E.qu ⟨s, hs⟩) E.w4)
/-- The down slot `s`'s four chunks, likewise. -/
def DsIdle {s : ℕ} (hs : s < 4) : sProp 𝕄 :=
  iprop(DIdle hs (0 : Fin 4).isLt (E.qd ⟨s, hs⟩ 0) E.w7 ∗ DIdle hs (1 : Fin 4).isLt (E.qd ⟨s, hs⟩ 1) E.w7 ∗ DIdle hs (2 : Fin 4).isLt (E.qd ⟨s, hs⟩ 2) E.w7 ∗ DIdle hs (3 : Fin 4).isLt (E.qd ⟨s, hs⟩ 3) E.w7)
def DsBusy {s e : ℕ} (hs : s < 4) (he : e < 64) : sProp 𝕄 :=
  iprop(DBusy hs he (0 : Fin 4).isLt col0 (E.qd ⟨s, hs⟩ 0) E.w7 ∗ DBusy hs he (1 : Fin 4).isLt col1 (E.qd ⟨s, hs⟩ 1) E.w7 ∗ DBusy hs he (2 : Fin 4).isLt col2 (E.qd ⟨s, hs⟩ 2) E.w7 ∗ DBusy hs he (3 : Fin 4).isLt col3 (E.qd ⟨s, hs⟩ 3) E.w7)
def DsFull {s e : ℕ} (hs : s < 4) (he : e < 64) : sProp 𝕄 :=
  iprop(DFull hs he (0 : Fin 4).isLt col0 (E.qd ⟨s, hs⟩ 0) E.w7 ∗ DFull hs he (1 : Fin 4).isLt col1 (E.qd ⟨s, hs⟩ 1) E.w7 ∗ DFull hs he (2 : Fin 4).isLt col2 (E.qd ⟨s, hs⟩ 2) E.w7 ∗ DFull hs he (3 : Fin 4).isLt col3 (E.qd ⟨s, hs⟩ 3) E.w7)

theorem startGs_spec {s e : ℕ} (hs : s < 4) (he : e < 64) : GsIdle E hs ⊢ wpk c (do startGate hs he; startUp hs he : KProg F PUnit) (fun _ => GsBusy E hs he) := by
  unfold GsIdle GsBusy
  iintro ⟨HG, HU⟩
  iapply (wp_seq c (startG1_spec bWg (Memref.isWhole_whole _) a3 (Memref.isWhole_whole _) hs he _ _ _)) $$ HG
  iintro %_ HG
  ihave H := (startG1_spec bWu (Memref.isWhole_whole _) a4 (Memref.isWhole_whole _) hs he _ _ _) $$ HU
  iapply (wp_wand frame (wpE (defs₀ (F := F)) Variants.none (c : Thread nD τ) none) Set.univ) $$ H
  iintro %_ HU
  isplitl [HG]; · iexact HG
  iexact HU

theorem startDs_spec {s e : ℕ} (hs : s < 4) (he : e < 64) : DsIdle E hs ⊢ wpk c (startDs hs he) (fun _ => DsBusy E hs he) := by
  unfold DsIdle DsBusy startDs
  iintro ⟨H0, H1, H2, H3⟩
  iapply (wp_seq c (startD_spec hs he 0 rfl col0 _ _)) $$ H0
  iintro %_ H0
  iapply (wp_seq c (startD_spec hs he 1 rfl col1 _ _)) $$ H1
  iintro %_ H1
  iapply (wp_seq c (startD_spec hs he 2 rfl col2 _ _)) $$ H2
  iintro %_ H2
  ihave H := (startD_spec hs he 3 rfl col3 _ _) $$ H3
  iapply (wp_wand frame (wpE (defs₀ (F := F)) Variants.none (c : Thread nD τ) none) Set.univ) $$ H
  iintro %_ H3
  isplitl [H0]; · iexact H0
  isplitl [H1]; · iexact H1
  isplitl [H2]; · iexact H2
  iexact H3

theorem waitDs_spec {s e : ℕ} (hs : s < 4) (he : e < 64) : iprop(DsBusy E hs he ∗ ow c) ⊢ wpk c (waitDs hs he) (fun _ => iprop(DsFull E hs he ∗ ow c)) := by
  unfold DsFull DsBusy waitDs
  iintro ⟨⟨H0, H1, H2, H3⟩, HW⟩
  iapply (wp_seq c (waitD_spec hs he 0 rfl col0 _ _)) $$ [H0 HW]
  · isplitl [H0]; · iexact H0
    iexact HW
  iintro %_ ⟨H0, HW⟩
  iapply (wp_seq c (waitD_spec hs he 1 rfl col1 _ _)) $$ [H1 HW]
  · isplitl [H1]; · iexact H1
    iexact HW
  iintro %_ ⟨H1, HW⟩
  iapply (wp_seq c (waitD_spec hs he 2 rfl col2 _ _)) $$ [H2 HW]
  · isplitl [H2]; · iexact H2
    iexact HW
  iintro %_ ⟨H2, HW⟩
  ihave H := (waitD_spec hs he 3 rfl col3 _ _) $$ [H3 HW]
  · isplitl [H3]; · iexact H3
    iexact HW
  iapply (wp_wand frame (wpE (defs₀ (F := F)) Variants.none (c : Thread nD τ) none) Set.univ) $$ H
  iintro %_ ⟨H3, HW⟩
  isplitr [HW]
  · isplitl [H0]; · iexact H0
    isplitl [H1]; · iexact H1
    isplitl [H2]; · iexact H2
    iexact H3
  iexact HW

theorem DsFull_idle {s e : ℕ} (hs : s < 4) (he : e < 64) : DsFull E hs he ⊢ DsIdle E hs := by
  unfold DsFull DsIdle
  exact BI.sep_mono (DFull_idle hs he _ _ _ _) (BI.sep_mono (DFull_idle hs he _ _ _ _) (BI.sep_mono (DFull_idle hs he _ _ _ _) (DFull_idle hs he _ _ _ _)))

/-! ## What an expert adds -/

variable (hch : ChOk c E.chS)

/-- The expert's output and the accumulator. -/
structure Ya (F : FTy → Type) (c : Dev nD) where
  yb : Bf F c bY
  acc : Bf F c bAcc

/-- What a chunk reads: the hidden codes, their scales, the router's probabilities. -/
structure Hr (F : FTy → Type) (c : Dev nD) where
  hc : Bf F c bHc
  hs : FVec F S32x1 .f32
  r : FVec F S32x1 .f32

/-- One chunk of expert `e`, which is the word `w`. -/
def chunkY {e : ℕ} (he : e < 64) (w : BitVec 32) (hw : w.toNat < 64) (n : ℕ) (hn : ColOk n) (H : Hr F c) (S : Ya F c) : Bf F c bY :=
  yF w hw n hn H.hs H.r H.hc ((dSrc he hn).view.read (Elt F) E.w7) E.sd S.yb
def chunkA {e : ℕ} (he : e < 64) (w : BitVec 32) (hw : w.toNat < 64) (n : ℕ) (hn : ColOk n) (H : Hr F c) (S : Ya F c) : Bf F c bAcc :=
  slots.foldl (rowF hch w hw n hn (chunkY E he w hw n hn H S)) S.acc
def chunkF {e : ℕ} (he : e < 64) (w : BitVec 32) (hw : w.toNat < 64) (n : ℕ) (hn : ColOk n) (H : Hr F c) (S : Ya F c) : Ya F c :=
  ⟨chunkY E he w hw n hn H S, chunkA E hch he w hw n hn H S⟩

/-- All four chunks. -/
def chunksF {e : ℕ} (he : e < 64) (w : BitVec 32) (hw : w.toNat < 64) (H : Hr F c) (S : Ya F c) : Ya F c :=
  chunkF E hch he w hw 1536 col3 H (chunkF E hch he w hw 1024 col2 H (chunkF E hch he w hw 512 col1 H (chunkF E hch he w hw 0 col0 H S)))

/-- The buffers of a state, and those that a chunk only reads. -/
def Mem (S : Ya F c) : sProp 𝕄 := iprop(pt c bY fullShare S.yb ∗ pt c bAcc fullShare S.acc)
def HeldC : sProp 𝕄 := iprop(pt c bSd fullShare E.sd ∗ pt c bChS fullShare E.chS)

theorem chunk_spec' {s e : ℕ} (hs4 : s < 4) (he : e < 64) (w : BitVec 32) (hw : w.toNat < 64) (hsw : (Scalar.remsi w 4#32).toNat = s) (j : ℕ) (hj : j < 4) (n : ℕ) (hn : ColOk n) (q : PosShare TreeShare) (H : Hr F c) (S : Ya F c) :
    iprop(HeldC E ∗ pt c bHc fullShare H.hc ∗ Mem S ∗ DFull hs4 he hj hn q E.w7) ⊢
      wpk c (chunk w hw j hj n hn H.hs H.r) (fun _ => iprop(HeldC E ∗ pt c bHc fullShare H.hc ∗ Mem (chunkF E hch he w hw n hn H S) ∗ DFull hs4 he hj hn q E.w7)) := by
  unfold HeldC DFull
  iintro ⟨⟨Hs, Hc⟩, Hh, HM, Hd, Hr⟩
  unfold Mem
  icases HM with ⟨Hy, Ha⟩
  ihave H := (chunk_spec hch hs4 w hw hsw j hj n hn H.hs H.r H.hc E.sd ((dSrc he hn).view.read (Elt F) E.w7) S.yb S.acc) $$ [Hs Hc Hh Hy Ha Hd]
  · isplitl [Hh]; · iexact Hh
    isplitl [Hs]; · iexact Hs
    isplitl [Hd]; · iexact Hd
    isplitl [Hc]; · iexact Hc
    isplitl [Hy]; · iexact Hy
    iexact Ha
  unfold chunkF chunkA chunkY
  dsimp only
  generalize yF w hw n hn H.hs H.r H.hc ((dSrc he hn).view.read (Elt F) E.w7) E.sd S.yb = Y
  generalize slots.foldl (rowF hch w hw n hn Y) S.acc = A
  iapply (wp_wand frame (wpE (defs₀ (F := F)) Variants.none (c : Thread nD τ) none) Set.univ) $$ H
  iintro %_ ⟨Hh, Hs, Hd, Hc, Hy, Ha⟩
  isplitl [Hs Hc]
  · isplitl [Hs]; · iexact Hs
    iexact Hc
  isplitl [Hh]; · iexact Hh
  isplitl [Hy Ha]
  · isplitl [Hy]; · iexact Hy
    iexact Ha
  isplitl [Hd]; · iexact Hd
  iexact Hr

theorem chunks_spec {s e : ℕ} (hs4 : s < 4) (he : e < 64) (w : BitVec 32) (hw : w.toNat < 64) (hsw : (Scalar.remsi w 4#32).toNat = s) (H : Hr F c) (S : Ya F c) :
    iprop(HeldC E ∗ pt c bHc fullShare H.hc ∗ Mem S ∗ DsFull E hs4 he) ⊢
      wpk c (chunks w hw H.hs H.r) (fun _ => iprop(HeldC E ∗ pt c bHc fullShare H.hc ∗ Mem (chunksF E hch he w hw H S) ∗ DsIdle E hs4)) := by
  unfold chunks chunksF
  iintro ⟨HC, Hh, HM, HD⟩
  unfold DsFull
  icases HD with ⟨H0, H1, H2, H3⟩
  iapply (wp_seq c (chunk_spec' E hch hs4 he w hw hsw 0 _ 0 col0 _ H S)) $$ [HC Hh HM H0]
  · isplitl [HC]; · iexact HC
    isplitl [Hh]; · iexact Hh
    isplitl [HM]; · iexact HM
    iexact H0
  iintro %_ ⟨HC, Hh, HM, H0⟩
  generalize chunkF E hch he w hw 0 col0 H S = S1
  iapply (wp_seq c (chunk_spec' E hch hs4 he w hw hsw 1 _ 512 col1 _ H S1)) $$ [HC Hh HM H1]
  · isplitl [HC]; · iexact HC
    isplitl [Hh]; · iexact Hh
    isplitl [HM]; · iexact HM
    iexact H1
  iintro %_ ⟨HC, Hh, HM, H1⟩
  generalize chunkF E hch he w hw 512 col1 H S1 = S2
  iapply (wp_seq c (chunk_spec' E hch hs4 he w hw hsw 2 _ 1024 col2 _ H S2)) $$ [HC Hh HM H2]
  · isplitl [HC]; · iexact HC
    isplitl [Hh]; · iexact Hh
    isplitl [HM]; · iexact HM
    iexact H2
  iintro %_ ⟨HC, Hh, HM, H2⟩
  generalize chunkF E hch he w hw 1024 col2 H S2 = S3
  ihave H := (chunk_spec' E hch hs4 he w hw hsw 3 _ 1536 col3 _ H S3) $$ [HC Hh HM H3]
  · isplitl [HC]; · iexact HC
    isplitl [Hh]; · iexact Hh
    isplitl [HM]; · iexact HM
    iexact H3
  iapply (wp_wand frame (wpE (defs₀ (F := F)) Variants.none (c : Thread nD τ) none) Set.univ) $$ H
  iintro %_ ⟨HC, Hh, HM, H3⟩
  isplitl [HC]; · iexact HC
  isplitl [Hh]; · iexact Hh
  isplitl [HM]; · iexact HM
  iapply (DsFull_idle E hs4 he)
  unfold DsFull
  isplitl [H0]; · iexact H0
  isplitl [H1]; · iexact H1
  isplitl [H2]; · iexact H2
  iexact H3

end

end Cert.KernelIdeal.Body
-- ==== Proof.Ideal.Loop.lean ====
module

public import proofs.«01_k».proof.Proof.Ideal.Steps

/-! The loop over experts: one trip, and all of them. -/

@[expose] public section

set_option maxRecDepth 16384

noncomputable section

namespace Cert.KernelIdeal.Body

open Cert.KernelIdeal Cert.KernelIdeal.Facts₀ Cert.KernelIdeal.Facts
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem m4 (e : ℕ) : e % 4 < 4 := Nat.mod_lt _ (by decide)

section
variable {c : Dev nD} (E : Env F c)

/-- Expert `e`'s gate and up slot: filling if there is such an expert, idle if not. -/
def GU (e : ℕ) : sProp 𝕄 := if h : e < 64 then GsBusy E (m4 e) h else GsIdle E (m4 e)
/-- Expert `e`'s down slot, likewise. -/
def DU (e : ℕ) : sProp 𝕄 := if h : e < 64 then DsBusy E (m4 e) h else DsIdle E (m4 e)

theorem GU_busy {s e e' : ℕ} (hs : s < 4) (he : e < 64) (hse : s = e' % 4) (hee : e = e') : GU E e' = GsBusy E hs he := by
  subst hee; subst hse; unfold GU; rw [dif_pos he]
theorem DU_busy {s e e' : ℕ} (hs : s < 4) (he : e < 64) (hse : s = e' % 4) (hee : e = e') : DU E e' = DsBusy E hs he := by
  subst hee; subst hse; unfold DU; rw [dif_pos he]
theorem GU_idle {s e : ℕ} (hs : s < 4) (he : ¬ e < 64) (hse : s = e % 4) : GU E e = GsIdle E hs := by
  subst hse; unfold GU; rw [dif_neg he]
theorem DU_idle {s e : ℕ} (hs : s < 4) (he : ¬ e < 64) (hse : s = e % 4) : DU E e = DsIdle E hs := by
  subst hse; unfold DU; rw [dif_neg he]
theorem GsIdle_slot {s s' : ℕ} (hs : s < 4) (hs' : s' < 4) (h : s = s') : GsIdle E hs = GsIdle E hs' := by subst h; rfl
theorem DsIdle_slot {s s' : ℕ} (hs : s < 4) (hs' : s' < 4) (h : s = s') : DsIdle E hs = DsIdle E hs' := by subst h; rfl

/-- The gate and up slots that expert `k + 1` leaves are filled for expert `k + 5`. -/
theorem restartG_spec {α : Type} (k : Fin k0_t2_loop.trips) (x : α) {s : ℕ} (hs : s < 4) (hsk : s = (k.val + 5) % 4) :
    GsIdle E hs ⊢ wpk c (restartG k x) (fun y => iprop(⌜y = x⌝ ∗ GU E (k.val + 5))) := by
  unfold restartG
  by_cases h : k0_cond1 k = 1#1
  · rw [dif_pos h, GU_busy E (lt4 (aheadWord_lt k h)) (aheadWord_lt k h) (by rw [rem4 (aheadWord_lt k h), aheadWord_eq]) (aheadWord_eq k),
      GsIdle_slot E hs (lt4 (aheadWord_lt k h)) (by rw [rem4 (aheadWord_lt k h), aheadWord_eq]; exact hsk)]
    unfold GsIdle GsBusy
    iintro ⟨HG, HU⟩
    iapply (wp_seq c (startG1_spec bWg (Memref.isWhole_whole _) a3 (Memref.isWhole_whole _) (lt4 (aheadWord_lt k h)) (aheadWord_lt k h) _ _ _)) $$ HG
    iintro %_ HG
    iapply (wp_seq c (startG1_spec bWu (Memref.isWhole_whole _) a4 (Memref.isWhole_whole _) (lt4 (aheadWord_lt k h)) (aheadWord_lt k h) _ _ _)) $$ HU
    iintro %_ HU
    iapply (wp_ret c)
    isplitr
    · ipureintro; rfl
    isplitl [HG]; · iexact HG
    iexact HU
  · rw [dif_neg h, GU_idle E hs (fun h' => h ((cond1_iff k).2 h')) hsk]
    iintro H
    iapply (wp_ret c)
    isplitr
    · ipureintro; rfl
    iexact H

/-- The down slot that expert `k` leaves is filled for expert `k + 4`. -/
theorem restartD_spec {α : Type} (k : Fin k0_t2_loop.trips) (x : α) {s : ℕ} (hs : s < 4) (hsk : s = (k.val + 4) % 4) :
    DsIdle E hs ⊢ wpk c (restartD k x) (fun y => iprop(⌜y = x⌝ ∗ DU E (k.val + 4))) := by
  unfold restartD
  by_cases h : k0_cond2 k = 1#1
  · rw [dif_pos h, DU_busy E (lt4 (aheadWordD_lt k h)) (aheadWordD_lt k h) (by rw [rem4 (aheadWordD_lt k h), aheadWordD_eq]) (aheadWordD_eq k),
      DsIdle_slot E hs (lt4 (aheadWordD_lt k h)) (by rw [rem4 (aheadWordD_lt k h), aheadWordD_eq]; exact hsk)]
    iintro HD
    iapply (wp_seq c (startDs_spec E (lt4 (aheadWordD_lt k h)) (aheadWordD_lt k h))) $$ HD
    iintro %_ HD
    iapply (wp_ret c)
    isplitr
    · ipureintro; rfl
    iexact HD
  · rw [dif_neg h, DU_idle E hs (fun h' => h ((cond2_iff k).2 h')) hsk]
    iintro H
    iapply (wp_ret c)
    isplitr
    · ipureintro; rfl
    iexact H

variable (hch : ChOk c E.chS) (eye : IVec S32x32 1)

/-- What expert `k + 1` leaves behind while expert `k` is still to be added. -/
def nextH (k : Fin k0_t2_loop.trips) (H : Hr F c) : Hr F c :=
  ⟨hcF E eye (nextWord_lt k) (lt2 (nextWord_lt k)) H.hc, hsOf E eye (nextWord_lt k), rOf E eye (nextWord_lt k)⟩
/-- One trip: expert `k + 1`'s hidden codes are made, and expert `k`'s output is added. -/
def tripF (k : Fin k0_t2_loop.trips) (p : Hr F c × Ya F c) : Hr F c × Ya F c :=
  (nextH E eye k p.1, chunksF E hch (tripWord_lt k) (tripWord k) (tripWord_lt k) ⟨(nextH E eye k p.1).hc, p.1.hs, p.1.r⟩ p.2)

/-- Before trip `k`. -/
def Inv (k : ℕ) (p : Hr F c × Ya F c) : sProp 𝕄 :=
  iprop(Held E ∗ HeldC E ∗ pt c bHc fullShare p.1.hc ∗ Mem p.2
    ∗ (GU E (k + 1) ∗ GU E (k + 2) ∗ GU E (k + 3) ∗ GU E (k + 4)) ∗ (DU E k ∗ DU E (k + 1) ∗ DU E (k + 2) ∗ DU E (k + 3)) ∗ ow c)

theorem trip_spec (k : Fin k0_t2_loop.trips) (p : Hr F c × Ya F c) :
    Inv E k.val p ⊢ wpk c (trip eye k (p.1.hs, p.1.r)) (fun a => iprop(⌜a = ((tripF E hch eye k p).1.hs, (tripF E hch eye k p).1.r)⌝ ∗ Inv E (k.val + 1) (tripF E hch eye k p))) := by
  unfold trip trip46 Inv tripF nextH
  dsimp only
  rw [GU_busy E (e' := k.val + 1) (lt4 (nextWord_lt k)) (nextWord_lt k) (by rw [rem4 (nextWord_lt k), nextWord_eq]) (nextWord_eq k),
    DU_busy E (e' := k.val) (lt4 (tripWord_lt k)) (tripWord_lt k) (by rw [rem4 (tripWord_lt k), tripWord_eq]) (tripWord_eq k)]
  have hsp := hidden_spec E eye (lt4 (nextWord_lt k)) (nextWord_lt k) (lt2 (nextWord_lt k)) (E.qg ⟨_, lt4 (nextWord_lt k)⟩) (E.qu ⟨_, lt4 (nextWord_lt k)⟩) p.1.hc
  generalize hcF E eye (nextWord_lt k) (lt2 (nextWord_lt k)) p.1.hc = HC' at hsp ⊢
  generalize hsOf E eye (nextWord_lt k) = hs' at hsp ⊢
  generalize rOf E eye (nextWord_lt k) = r' at hsp ⊢
  have csp := chunks_spec E hch (lt4 (tripWord_lt k)) (tripWord_lt k) (tripWord k) (tripWord_lt k) rfl ⟨HC', p.1.hs, p.1.r⟩ p.2
  generalize chunksF E hch (tripWord_lt k) (tripWord k) (tripWord_lt k) ⟨HC', p.1.hs, p.1.r⟩ p.2 = Y' at csp ⊢
  dsimp only at csp
  iintro ⟨HH, HC, Hh, HM, ⟨HG1, HG2, HG3, HG4⟩, ⟨HD0, HD1, HD2, HD3⟩, HW⟩
  simp only [Prog.bind_assoc]
  unfold GsBusy
  icases HG1 with ⟨HG, HU⟩
  iapply (wp_seq c hsp) $$ [HH HG HU Hh HW]
  · isplitl [HH]; · iexact HH
    isplitl [HG]; · iexact HG
    isplitl [HU]; · iexact HU
    isplitl [Hh]; · iexact Hh
    iexact HW
  iintro %x ⟨%hx, HH, HG, HU, Hh, HW⟩
  subst hx
  dsimp only
  iapply (wp_seq c (restartG_spec E k _ (lt4 (nextWord_lt k)) (by rw [rem4 (nextWord_lt k), nextWord_eq]; omega))) $$ [HG HU]
  · unfold GsIdle
    isplitl [HG]; · iexact HG
    iexact HU
  iintro %y ⟨%hy, HG⟩
  subst hy
  iapply (wp_seq c (waitDs_spec E (lt4 (tripWord_lt k)) (tripWord_lt k))) $$ [HD0 HW]
  · isplitl [HD0]; · iexact HD0
    iexact HW
  iintro %_ ⟨HD0, HW⟩
  iapply (wp_seq c csp) $$ [HC Hh HM HD0]
  · isplitl [HC]; · iexact HC
    isplitl [Hh]; · iexact Hh
    isplitl [HM]; · iexact HM
    iexact HD0
  iintro %_ ⟨HC, Hh, HM, HD0⟩
  ihave H := (restartD_spec E k _ (lt4 (tripWord_lt k)) (by rw [rem4 (tripWord_lt k), tripWord_eq]; omega)) $$ HD0
  iapply (wp_wand frame (wpE (defs₀ (F := F)) Variants.none (c : Thread nD τ) none) Set.univ) $$ H
  iintro %z ⟨%hz, HD⟩
  subst hz
  isplitr
  · ipureintro; rfl
  isplitl [HH]; · iexact HH
  isplitl [HC]; · iexact HC
  isplitl [Hh]; · iexact Hh
  isplitl [HM]; · iexact HM
  isplitl [HG HG2 HG3 HG4]
  · isplitl [HG2]; · iexact HG2
    isplitl [HG3]; · iexact HG3
    isplitl [HG4]; · iexact HG4
    iexact HG
  isplitr [HW]
  · isplitl [HD1]; · iexact HD1
    isplitl [HD2]; · iexact HD2
    isplitl [HD3]; · iexact HD3
    iexact HD
  iexact HW

/-- The state before trip `k`. -/
def iter (p : Hr F c × Ya F c) : ℕ → Hr F c × Ya F c
  | 0 => p
  | k + 1 => if h : k < k0_t2_loop.trips then tripF E hch eye ⟨k, h⟩ (iter p k) else iter p k

theorem iter_succ (p : Hr F c × Ya F c) (k : Fin k0_t2_loop.trips) : iter E hch eye p (k.val + 1) = tripF E hch eye k (iter E hch eye p k.val) := by
  rw [iter, dif_pos k.isLt]

/-- A loop whose carried values are a function of the trip. -/
theorem wp_loop {c : Dev nD} {σ : Type} (l : Scf.Loop 32) (hok : l.OK) (init : σ) (body : Fin l.trips → σ → KProg F σ) (I : ℕ → σ → sProp 𝕄)
    (hbody : ∀ (k : Fin l.trips) (acc : σ), I k.val acc ⊢ wpk c (body k acc) (I (k.val + 1))) :
    I 0 init ⊢ wpk c (l.for hok init body) (I l.trips) := by
  iintro HI
  iapply (Scf.wp_for frame (wpE (defs₀ (F := F)) Variants.none (c : Thread nD τ) none) Set.univ l.lb l.ub l.st hok init body I hbody)
  isplitl [HI]; · iexact HI
  iintro %acc H
  iexact H

/-- All the trips. -/
theorem eLoop_spec (p : Hr F c × Ya F c) :
    Inv E 0 p ⊢ wpk c (eLoop p.1.hs p.1.r) (fun a => iprop(⌜a = ((iter E hch Gen.k0_pay174 p 63).1.hs, (iter E hch Gen.k0_pay174 p 63).1.r)⌝ ∗ Inv E 63 (iter E hch Gen.k0_pay174 p 63))) := by
  unfold eLoop
  rw [t2_body_eq]
  have H := wp_loop (c := c) k0_t2_loop k0_t2_ok (p.1.hs, p.1.r) (trip (F := F) Gen.k0_pay174)
    (fun k a => iprop(⌜a = ((iter E hch Gen.k0_pay174 p k).1.hs, (iter E hch Gen.k0_pay174 p k).1.r)⌝ ∗ Inv E k (iter E hch Gen.k0_pay174 p k)))
    (by
      intro k acc
      iintro ⟨%h, H⟩
      subst h
      rw [iter_succ]
      iapply (trip_spec E hch Gen.k0_pay174 k (iter E hch Gen.k0_pay174 p k.val))
      iexact H)
  rw [trips63] at H
  iintro HI
  iapply H
  isplitr
  · ipureintro; rfl
  iexact HI

end

end Cert.KernelIdeal.Body
-- ==== Proof.Ideal.XLoop.lean ====
module

public import proofs.«01_k».proof.Proof.Ideal.Loop

/-! The loop over blocks of tokens: each block is waited for, quantised, and sent through the router. -/

@[expose] public section

set_option synthInstance.maxSize 4096
set_option maxRecDepth 16384

noncomputable section

namespace Cert.KernelIdeal.Body

open Cert.KernelIdeal Cert.KernelIdeal.Facts₀ Cert.KernelIdeal.Facts
open Cert.KernelIdeal.Gen (k0_t1_body k0_pay3 k0_pay4 k0_pay5 k0_pay6 k0_pay7 k0_pay8 k0_pay167 k0_pay171 k0_pay172 k0_pay173)
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A trip -/

def xWord (k : Fin k0_t1_loop.trips) : BitVec 32 := Scf.iv (0#32) (1#32) k
def xRow (k : Fin k0_t1_loop.trips) : BitVec 32 := Scalar.muli (xWord k) 256#32
theorem xWord_lt (k : Fin k0_t1_loop.trips) : (xWord k).toNat < 4 := by revert k; decide
theorem xWord_eq (k : Fin k0_t1_loop.trips) : (xWord k).toNat = k.val := by revert k; decide
theorem xRow_eq (k : Fin k0_t1_loop.trips) : (xRow k).toNat = 256 * (xWord k).toNat := by revert k; decide
theorem xRow_ok (k : Fin k0_t1_loop.trips) : (xRow k).toNat + 256 ≤ 1024 := by revert k; decide
theorem trips4 : k0_t1_loop.trips = 4 := by decide

def rX (k : Fin k0_t1_loop.trips) : Rect S1024x2048 := Rect.unit (s := S1024x2048) ![(xRow k).toNat, 0] S256x2048.size (inbX (xRow_ok k))
def rS0 (k : Fin k0_t1_loop.trips) : Rect S1x1024 := Rect.unit (s := S1x1024) (k0_off15 k 0#32) S1x128.size (k0_off15_inb k 0)
def rS1 (k : Fin k0_t1_loop.trips) : Rect S1x1024 := Rect.unit (s := S1x1024) (k0_off15 k 128#32) S1x128.size (k0_off15_inb k 1)
def rP (k : Fin k0_t1_loop.trips) : Rect S64x1024 := Rect.unit (s := S64x1024) (k0_off16 k) S64x256.size (k0_off16_inb k)
def rW : Rect S192x2048 := Rect.unit (s := S192x2048) ![0, 0] S192x2048.size inb_S192x2048_S192x2048_0_0

def xTrip (k : Fin k0_t1_loop.trips) : KProg F PUnit := do
  waitX ⟨(xWord k).toNat, xWord_lt k⟩ (xRow_eq k) (xRow_ok k)
  let x : Vec F S256x2048 .bf16 ← Prog.lift (.load (Memref.whole cc0_scratch0) (Rect.unit (s := S1024x2048) ![(xRow k).toNat, 0] S256x2048.size (inbX (xRow_ok k))).toLoadRect (View.loadsAt_vmem h_S256x2048))
  let _ : Vec F S256x2048 .fp8e4m3 ← Prog.lift (.load (Memref.whole cc0_scratch1) (Rect.unit (s := S1024x2048) (k0_off14 k) S256x2048.size (k0_off14_inb k)).toLoadRect (View.loadsAt_vmem h_S256x2048))
  Prog.lift (.store (Memref.whole cc0_scratch1) (Rect.unit (s := S1024x2048) (k0_off14 k) S256x2048.size (k0_off14_inb k)) (k0_pay5 (k0_pay4 x)) Finset.univ (View.stores_vmem h_S256x2048 ((Memref.isWhole_whole cc0_scratch1).storeExact_slice rfl _ (k0_off14_packedfp8e4m3 k)) (fun _ => rfl)) (.inl rfl))
  let _ : Vec F S1x128 .f32 ← Prog.lift (.load (Memref.whole cc0_scratch11) (Rect.unit (s := S1x1024) (k0_off15 k 0#32) S1x128.size (k0_off15_inb k 0)).toLoadRect (View.loadsAt_vmem h_S1x128))
  Prog.lift (.store (Memref.whole cc0_scratch11) (Rect.unit (s := S1x1024) (k0_off15 k 0#32) S1x128.size (k0_off15_inb k 0)) (k0_pay6 k0_pay171 (k0_pay3 x)) Finset.univ (View.stores_vmem_bits_univ h_S1x128 rfl) (.inl rfl))
  let _ : Vec F S1x128 .f32 ← Prog.lift (.load (Memref.whole cc0_scratch11) (Rect.unit (s := S1x1024) (k0_off15 k 128#32) S1x128.size (k0_off15_inb k 1)).toLoadRect (View.loadsAt_vmem h_S1x128))
  Prog.lift (.store (Memref.whole cc0_scratch11) (Rect.unit (s := S1x1024) (k0_off15 k 128#32) S1x128.size (k0_off15_inb k 1)) (k0_pay7 k0_pay171 (k0_pay3 x)) Finset.univ (View.stores_vmem_bits_univ h_S1x128 rfl) (.inl rfl))
  let ws : Vec F S192x2048 .bf16 ← Prog.lift (.load (Memref.whole cc0_scratch4) (Rect.unit (s := S192x2048) ![0, 0] S192x2048.size inb_S192x2048_S192x2048_0_0).toLoadRect (View.loadsAt_vmem h_S192x2048))
  let _ : Vec F S64x256 .f32 ← Prog.lift (.load (Memref.whole cc0_scratch10) (Rect.unit (s := S64x1024) (k0_off16 k) S64x256.size (k0_off16_inb k)).toLoadRect (View.loadsAt_vmem h_S64x256))
  Prog.lift (.store (Memref.whole cc0_scratch10) (Rect.unit (s := S64x1024) (k0_off16 k) S64x256.size (k0_off16_inb k)) (k0_pay172 (k0_pay8 x ws)) Finset.univ (View.stores_vmem_bits_univ h_S64x256 rfl) (.inl rfl))
  let _ : Vec F S256x2048 .f32 ← Prog.lift (.load (Memref.whole cc0_scratch2) (Rect.unit (s := S1024x2048) (k0_off14 k) S256x2048.size (k0_off14_inb k)).toLoadRect (View.loadsAt_vmem h_S256x2048))
  Prog.lift (.store (Memref.whole cc0_scratch2) (Rect.unit (s := S1024x2048) (k0_off14 k) S256x2048.size (k0_off14_inb k)) (k0_pay173 (F := F)) Finset.univ (View.stores_vmem_bits_univ h_S256x2048 rfl) (.inl rfl))

theorem t1_body_eq (v : FVec F S64x2048 .bf16) : k0_t1_body (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 v = fun k _ => xTrip k := by
  sl_kernel_rfl

/-! ## What a trip leaves behind -/

section
variable {c : Dev nD}

/-- A block of tokens on its way, and landed. -/
def XBusy (q : PosShare TreeShare) (w : Bf F c a0) (b : Fin 4) {r : ℕ} (hr : r + 256 ≤ 1024) : sProp 𝕄 :=
  iprop(Fly c (semX b.isLt) (xBlk a0 hr) (xBlk bX hr) q w ∗ rest c (xBlk a0 hr) q w)
def XFull (q : PosShare TreeShare) (w : Bf F c a0) (b : Fin 4) {r : ℕ} (hr : r + 256 ≤ 1024) : sProp 𝕄 :=
  iprop(owns (c : Thread nD τ) (xBlk bX hr) fullShare ((xBlk a0 hr).view.read (Elt F) w) ∗ pt c a0 q w ∗ sv c (semX b.isLt))
theorem hX (b : Fin 4) : 256 * b.val + 256 ≤ 1024 := by omega
/-- Before trip `n`: the blocks below `n` landed, the others on their way. -/
def XU (q : Fin 4 → PosShare TreeShare) (w : Bf F c a0) (n : ℕ) (b : Fin 4) : sProp 𝕄 := if b.val < n then XFull (q b) w b (hX b) else XBusy (q b) w b (hX b)
def XAll (q : Fin 4 → PosShare TreeShare) (w : Bf F c a0) (n : ℕ) : sProp 𝕄 := bigSep Finset.univ (XU q w n)

theorem XBusy_at (q : PosShare TreeShare) (w : Bf F c a0) (b b' : Fin 4) {r r' : ℕ} (hr : r + 256 ≤ 1024) (hr' : r' + 256 ≤ 1024) (hb : b = b') (h : r = r') : XBusy q w b hr = XBusy q w b' hr' := by subst hb; subst h; rfl
theorem XFull_at (q : PosShare TreeShare) (w : Bf F c a0) (b b' : Fin 4) {r r' : ℕ} (hr : r + 256 ≤ 1024) (hr' : r' + 256 ≤ 1024) (hb : b = b') (h : r = r') : XFull q w b hr = XFull q w b' hr' := by subst hb; subst h; rfl

theorem XAll_split (q : Fin 4 → PosShare TreeShare) (w : Bf F c a0) (b : Fin 4) (n : ℕ) :
    XAll q w n = iprop(XU q w n b ∗ bigSep (Finset.univ.erase b) (XU q w n)) := bigSep_univ_split b

theorem XAll_step (q : Fin 4 → PosShare TreeShare) (w : Bf F c a0) (b : Fin 4) (n : ℕ) (hn : b.val = n) :
    XAll q w n ⊢ iprop(XBusy (q b) w b (hX b) ∗ (XFull (q b) w b (hX b) -∗ XAll q w (n + 1))) := by
  subst hn
  rw [XAll_split q w b, XAll_split q w b,
    show XU q w b.val b = XBusy (q b) w b (hX b) from if_neg (Nat.lt_irrefl _), show XU q w (b.val + 1) b = XFull (q b) w b (hX b) from if_pos (Nat.lt_succ_self _),
    bigSep_congr (Φ := XU q w (b.val + 1)) (Ψ := XU q w b.val) (s := Finset.univ.erase b) (by
      intro i hi
      have hne : i.val ≠ b.val := fun h => Finset.ne_of_mem_erase hi (Fin.ext h)
      unfold XU
      by_cases h : i.val < b.val
      · rw [if_pos h, if_pos (by omega)]
      · rw [if_neg h, if_neg (by omega)])]
  iintro ⟨HB, HR⟩
  isplitl [HB]; · iexact HB
  iintro HF
  isplitl [HF]; · iexact HF
  iexact HR

theorem wp_ldX {α : Type} {Q : α → sProp 𝕄} {r : ℕ} (hr : r + 256 ≤ 1024) (v : Vec F S256x2048 .bf16)
    {hl : bX.view.LoadsAt (Rect.unit (s := S1024x2048) ![r, 0] S256x2048.size (inbX hr))} {k : Vec F S256x2048 .bf16 → KProg F α} :
    (owns (c : Thread nD τ) (xBlk bX hr) fullShare v : sProp 𝕄) ⊢
      iprop((owns (c : Thread nD τ) (xBlk bX hr) fullShare v -∗ wpk c (k v) Q)
        -∗ wpk c (Prog.lift (.load bX (Rect.unit (s := S1024x2048) ![r, 0] S256x2048.size (inbX hr)).toLoadRect hl) >>= k) Q) := by
  unfold owns
  iintro ⟨%g, %hg, Hd⟩ Hk
  subst hg
  have hS : (bX.access (Rect.unit (s := S1024x2048) ![r, 0] S256x2048.size (inbX hr))).set ⊆ (xBlk bX hr).view.set := Finset.Subset.refl _
  have := (wp_ldS (F := F) c (m := bX) (r := Rect.unit (s := S1024x2048) ![r, 0] S256x2048.size (inbX hr)) (hl := hl) (k := k) (Q := Q) (q := fullShare) (f := g) hS)
  iapply (show ((xBlk bX hr).view.loc (c : Thread nD τ) ↦[(xBlk bX hr).view.set]{fullShare} g : sProp 𝕄) ⊢ _ from this) $$ Hd
  iintro Hd
  iapply Hk
  iexists g; isplitr; swap; · iexact Hd
  ipureintro; rfl

/-- The codes, the accumulator, the router's probabilities, the scales. -/
structure Xs (F : FTy → Type) (c : Dev nD) where
  codes : Bf F c bCodes
  acc : Bf F c bAcc
  pr : Bf F c bPr
  xs : Bf F c bXs

def xIn (w : Bf F c a0) (k : Fin k0_t1_loop.trips) : Vec F S256x2048 .bf16 := (xBlk a0 (xRow_ok k)).view.read (Elt F) w
def wsIn (ws : Bf F c bWs) : Vec F S192x2048 .bf16 := (bWs.access rW).read (Elt F) ws
def codesF (w : Bf F c a0) (k : Fin k0_t1_loop.trips) (f : Bf F c bCodes) : Bf F c bCodes :=
  (bCodes.access (Rect.unit (s := S1024x2048) (k0_off14 k) S256x2048.size (k0_off14_inb k))).write (Elt F) f (k0_pay5 (k0_pay4 (xIn w k))) Finset.univ
def xsF0 (w : Bf F c a0) (k : Fin k0_t1_loop.trips) (f : Bf F c bXs) : Bf F c bXs :=
  (bXs.access (Rect.unit (s := S1x1024) (k0_off15 k 0#32) S1x128.size (k0_off15_inb k 0))).write (Elt F) f (k0_pay6 k0_pay171 (k0_pay3 (xIn w k))) Finset.univ
def xsF1 (w : Bf F c a0) (k : Fin k0_t1_loop.trips) (f : Bf F c bXs) : Bf F c bXs :=
  (bXs.access (Rect.unit (s := S1x1024) (k0_off15 k 128#32) S1x128.size (k0_off15_inb k 1))).write (Elt F) f (k0_pay7 k0_pay171 (k0_pay3 (xIn w k))) Finset.univ
def prF (w : Bf F c a0) (ws : Bf F c bWs) (k : Fin k0_t1_loop.trips) (f : Bf F c bPr) : Bf F c bPr :=
  (bPr.access (Rect.unit (s := S64x1024) (k0_off16 k) S64x256.size (k0_off16_inb k))).write (Elt F) f (k0_pay172 (k0_pay8 (xIn w k) (wsIn ws))) Finset.univ
def accF (k : Fin k0_t1_loop.trips) (f : Bf F c bAcc) : Bf F c bAcc :=
  (bAcc.access (Rect.unit (s := S1024x2048) (k0_off14 k) S256x2048.size (k0_off14_inb k))).write (Elt F) f (k0_pay173 (F := F)) Finset.univ
def xTripF (w : Bf F c a0) (ws : Bf F c bWs) (k : Fin k0_t1_loop.trips) (S : Xs F c) : Xs F c :=
  ⟨codesF w k S.codes, accF k S.acc, prF w ws k S.pr, xsF1 w k (xsF0 w k S.xs)⟩

def XMem (S : Xs F c) : sProp 𝕄 :=
  iprop(pt c bCodes fullShare S.codes ∗ pt c bAcc fullShare S.acc ∗ pt c bPr fullShare S.pr ∗ pt c bXs fullShare S.xs)
def XInv (q : Fin 4 → PosShare TreeShare) (w : Bf F c a0) (ws : Bf F c bWs) (n : ℕ) (S : Xs F c) : sProp 𝕄 :=
  iprop(XAll q w n ∗ XMem S ∗ pt c bWs fullShare ws ∗ ow c)

theorem waitX_spec (q : PosShare TreeShare) (w : Bf F c a0) (b : Fin 4) {r : ℕ} (h : r = 256 * b.val) (hr : r + 256 ≤ 1024) :
    iprop(XBusy q w b hr ∗ ow c) ⊢ wpk c (waitX b h hr) (fun _ => iprop(XFull q w b hr ∗ ow c)) := by
  refine (wp_wait1 c (src := xBlk a0 hr)).trans (wp_mono frame (wpE (defs₀ (F := F)) Variants.none (c : Thread nD τ) none) Set.univ fun _ => ?_)
  iintro ⟨Hd, Hp, Hv, HW⟩
  isplitr [HW]
  · unfold XFull
    isplitl [Hd]; · iexact Hd
    isplitl [Hp]; · iexact Hp
    iexact Hv
  iexact HW

theorem xTrip_spec (q : Fin 4 → PosShare TreeShare) (w : Bf F c a0) (ws : Bf F c bWs) (k : Fin k0_t1_loop.trips) (S : Xs F c) :
    XInv q w ws k.val S ⊢ wpk c (xTrip k) (fun _ => XInv q w ws (k.val + 1) (xTripF w ws k S)) := by
  unfold xTrip XInv XMem xTripF
  dsimp only
  iintro ⟨HX, ⟨Hc, Ha, Hp, Hx⟩, Hws, HW⟩
  have hst := XAll_step q w ⟨(xWord k).toNat, xWord_lt k⟩ k.val (xWord_eq k)
  rw [XBusy_at _ _ _ ⟨(xWord k).toNat, xWord_lt k⟩ (hX ⟨(xWord k).toNat, xWord_lt k⟩) (xRow_ok k) rfl (xRow_eq k).symm,
    XFull_at _ _ _ ⟨(xWord k).toNat, xWord_lt k⟩ (hX ⟨(xWord k).toNat, xWord_lt k⟩) (xRow_ok k) rfl (xRow_eq k).symm] at hst
  ihave HX := hst $$ HX
  icases HX with ⟨HB, HX⟩
  iapply (wp_seq c (waitX_spec _ w ⟨(xWord k).toNat, xWord_lt k⟩ (xRow_eq k) (xRow_ok k))) $$ [HB HW]
  · isplitl [HB]; · iexact HB
    iexact HW
  iintro %_ ⟨HF, HW⟩
  unfold XFull
  icases HF with ⟨Hd, HF⟩
  iapply (wp_ldX (xRow_ok k)) $$ Hd
  iintro Hd
  unfold codesF accF prF xsF0 xsF1 wsIn rW xIn
  generalize (xBlk a0 (xRow_ok k)).view.read (Elt F) w = x
  iapply (wp_ld c) $$ Hc
  iintro Hc
  iapply (wp_st c) $$ Hc
  iintro Hc
  iapply (wp_ld c) $$ Hx
  iintro Hx
  iapply (wp_st c) $$ Hx
  iintro Hx
  iapply (wp_ld c) $$ Hx
  iintro Hx
  iapply (wp_st c) $$ Hx
  iintro Hx
  iapply (wp_ld c) $$ Hws
  iintro Hws
  iapply (wp_ld c) $$ Hp
  iintro Hp
  iapply (wp_st c) $$ Hp
  iintro Hp
  iapply (wp_ld c) $$ Ha
  iintro Ha
  iapply (wp_st c (k := pure)) $$ Ha
  iintro Ha
  iapply (wp_ret c)
  isplitl [HX HF Hd]
  · iapply HX
    isplitl [Hd]; · iexact Hd
    iexact HF
  isplitl [Hc Ha Hp Hx]
  · isplitl [Hc]; · iexact Hc
    isplitl [Ha]; · iexact Ha
    isplitl [Hp]; · iexact Hp
    iexact Hx
  isplitl [Hws]; · iexact Hws
  iexact HW

/-- The state before trip `k`. -/
def xIter (w : Bf F c a0) (ws : Bf F c bWs) (S : Xs F c) : ℕ → Xs F c
  | 0 => S
  | k + 1 => if h : k < k0_t1_loop.trips then xTripF w ws ⟨k, h⟩ (xIter w ws S k) else xIter w ws S k

theorem xIter_succ (w : Bf F c a0) (ws : Bf F c bWs) (S : Xs F c) (k : Fin k0_t1_loop.trips) : xIter w ws S (k.val + 1) = xTripF w ws k (xIter w ws S k.val) := by
  rw [xIter, dif_pos k.isLt]

theorem xLoop_spec (q : Fin 4 → PosShare TreeShare) (w : Bf F c a0) (ws : Bf F c bWs) (S : Xs F c) (v : Vec F S64x2048 .f32) :
    XInv q w ws 0 S ⊢ wpk c (xLoop v) (fun _ => XInv q w ws 4 (xIter w ws S 4)) := by
  unfold xLoop
  rw [t1_body_eq]
  have H := wp_loop (c := c) k0_t1_loop k0_t1_ok ⟨⟩ (fun k _ => xTrip (F := F) k) (fun k _ => XInv q w ws k (xIter w ws S k))
    (by intro k acc; rw [xIter_succ]; exact xTrip_spec q w ws k (xIter w ws S k.val))
  refine H.trans (wp_mono frame (wpE (defs₀ (F := F)) Variants.none (c : Thread nD τ) none) Set.univ fun _ => ?_)
  rw [trips4]

end

end Cert.KernelIdeal.Body
-- ==== Proof.Ideal.Front.lean ====
module

public import proofs.«01_k».proof.Proof.Ideal.XLoop

/-! The start of the kernel: the copies started, the router's weight split. -/

@[expose] public section

set_option synthInstance.maxSize 4096
set_option maxRecDepth 16384

noncomputable section

namespace Cert.KernelIdeal.Body

open Cert.KernelIdeal Cert.KernelIdeal.Facts₀ Cert.KernelIdeal.Facts
open Cert.KernelIdeal.Gen (k0_pay167 k0_pay168 k0_pay169 k0_pay170 k0_pay174)
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {c : Dev nD}

section
variable {sp sp' : Space} {s : Shape} {e : EltTy}
/-- A copy of a whole buffer: not begun, on its way, landed. -/
def CIdle (src : Memref sig .tc sp s e) (dst : Memref sig .tc sp' s e) (sm : DmaSem sig) (q : PosShare TreeShare) (f : Bf F c src) : sProp 𝕄 :=
  iprop(pt c src q f ∗ (∃ v, owns (c : Thread nD τ) dst fullShare v) ∗ sv c sm)
def CBusy (src : Memref sig .tc sp s e) (dst : Memref sig .tc sp' s e) (sm : DmaSem sig) (q : PosShare TreeShare) (f : Bf F c src) : sProp 𝕄 :=
  iprop(Fly c sm src dst q f ∗ rest c src q f)
def CFull (src : Memref sig .tc sp s e) (dst : Memref sig .tc sp' s e) (sm : DmaSem sig) (q : PosShare TreeShare) (f : Bf F c src) : sProp 𝕄 :=
  iprop(owns (c : Thread nD τ) dst fullShare (src.view.read (Elt F) f) ∗ pt c src q f ∗ sv c sm)

theorem startAll_spec (src : Memref sig .tc sp s e) (hsrc : src.IsWhole) (dst : Memref sig .tc sp' s e) (hdst : dst.IsWhole) (sm : DmaSem sig)
    (ht : DmaTarget.Typed (nD := nD) (τ := τ) (p := .tc) (s := s) (e := e) sp (.dma sm) (.here dst)) (hs : 0 < s.numel) (q : PosShare TreeShare) (f : Bf F c src) :
    CIdle src dst sm q f ⊢ wpk c (startAll src hsrc dst hdst sm ht) (fun _ => CBusy src dst sm q f) :=
  wp_start1 c hs
theorem waitAll_spec (src : Memref sig .tc sp s e) (hsrc : src.IsWhole) (dst : Memref sig .tc sp' s e) (hdst : dst.IsWhole) (sm : DmaSem sig) (q : PosShare TreeShare) (f : Bf F c src) :
    iprop(CBusy src dst sm q f ∗ ow c) ⊢ wpk c (waitAll src hsrc dst hdst sm) (fun _ => iprop(CFull src dst sm q f ∗ ow c)) := by
  refine (wp_wait1 c (src := src)).trans (wp_mono frame (wpE (defs₀ (F := F)) Variants.none (c : Thread nD τ) none) Set.univ fun _ => ?_)
  iintro ⟨Hd, Hp, Hv, HW⟩
  isplitr [HW]
  · unfold CFull
    isplitl [Hd]; · iexact Hd
    isplitl [Hp]; · iexact Hp
    iexact Hv
  iexact HW
end

theorem pos8 : 0 < S64x2048.numel := by decide
theorem pos2 : 0 < S64x32.numel := by decide
theorem pos5 : 0 < S64x1408.numel := by decide
theorem posC : 0 < S1024x2048.numel := by decide
theorem posS : 0 < S1x1024.numel := by decide

theorem pt_of_owns {b : Ref sig .tc} {q : PosShare TreeShare} {v : b.ty.Contents (Elt F)} :
    (owns (c : Thread nD τ) (Memref.whole b) q v : sProp 𝕄) ⊢ pt c (Memref.whole b) q v := by
  rw [owns_whole]
theorem owns_of_pt {b : Ref sig .tc} {q : PosShare TreeShare} {v : b.ty.Contents (Elt F)} :
    (pt c (Memref.whole b) q v : sProp 𝕄) ⊢ owns (c : Thread nD τ) (Memref.whole b) q v := by
  rw [owns_whole]

/-- A block of tokens whose copy is not begun. -/
def XIdle (q : PosShare TreeShare) (w : Bf F c a0) (b : Fin 4) {r : ℕ} (hr : r + 256 ≤ 1024) : sProp 𝕄 :=
  iprop(pt c a0 q w ∗ (∃ v, owns (c : Thread nD τ) (xBlk bX hr) fullShare v) ∗ sv c (semX b.isLt))
theorem startX_spec (q : PosShare TreeShare) (w : Bf F c a0) (b : Fin 4) {r : ℕ} (h : r = 256 * b.val) (hr : r + 256 ≤ 1024) :
    XIdle q w b hr ⊢ wpk c (startX b h hr) (fun _ => XBusy q w b hr) :=
  wp_start1 c (src := xBlk a0 hr) (by decide)
theorem XFull_idle (q : PosShare TreeShare) (w : Bf F c a0) (b : Fin 4) {r : ℕ} (hr : r + 256 ≤ 1024) : XFull q w b hr ⊢ XIdle q w b hr := by
  unfold XFull XIdle
  iintro ⟨Hd, Hp, Hv⟩
  isplitl [Hp]; · iexact Hp
  isplitl [Hd]; · iexists _; iexact Hd
  iexact Hv

theorem startG_spec (E : Env F c) {s e : ℕ} (hs : s < 4) (he : e < 64) :
    GIdle bWg a3 hs (by decide : 0 < 2) (E.qg ⟨s, hs⟩) E.w3 ⊢ wpk c (startGate hs he) (fun _ => GBusy bWg a3 hs he (by decide : 0 < 2) (E.qg ⟨s, hs⟩) E.w3) :=
  startG1_spec bWg (Memref.isWhole_whole _) a3 (Memref.isWhole_whole _) hs he _ _ _
theorem startU_spec (E : Env F c) {s e : ℕ} (hs : s < 4) (he : e < 64) :
    GIdle bWu a4 hs (by decide : 1 < 2) (E.qu ⟨s, hs⟩) E.w4 ⊢ wpk c (startUp hs he) (fun _ => GBusy bWu a4 hs he (by decide : 1 < 2) (E.qu ⟨s, hs⟩) E.w4) :=
  startG1_spec bWu (Memref.isWhole_whole _) a4 (Memref.isWhole_whole _) hs he _ _ _

theorem GsBusy_of (E : Env F c) {s e : ℕ} (hs : s < 4) (he : e < 64) :
    iprop(GBusy bWg a3 hs he (by decide : 0 < 2) (E.qg ⟨s, hs⟩) E.w3 ∗ GBusy bWu a4 hs he (by decide : 1 < 2) (E.qu ⟨s, hs⟩) E.w4) ⊢ GsBusy E hs he := .rfl

/-- The arrays and what the buffers hold at the start. -/
structure Start (F : FTy → Type) (c : Dev nD) where
  w0 : Bf F c a0
  w1 : Bf F c a1
  w2 : Bf F c a2
  w5 : Bf F c a5
  w6 : Bf F c a6
  w8 : Bf F c a8
  q0 : Fin 4 → PosShare TreeShare
  q2 : PosShare TreeShare
  q2' : PosShare TreeShare
  ws : Bf F c bWs

variable (E : Env F c) (I : Start F c)

/-- The single copies in, but for the router's weight. -/
def MiscIdle : sProp 𝕄 :=
  iprop(CIdle a2 bCh (semM (i := 1) (by decide)) I.q2 I.w2 ∗ CIdle a2 bChS (semM (i := 2) (by decide)) I.q2' I.w2 ∗ CIdle a5 bSg (semM (i := 3) (by decide)) fullShare I.w5
    ∗ CIdle a6 bSu (semM (i := 4) (by decide)) fullShare I.w6 ∗ CIdle a8 bSd (semM (i := 5) (by decide)) fullShare I.w8)
def MiscBusy : sProp 𝕄 :=
  iprop(CBusy a2 bCh (semM (i := 1) (by decide)) I.q2 I.w2 ∗ CBusy a2 bChS (semM (i := 2) (by decide)) I.q2' I.w2 ∗ CBusy a5 bSg (semM (i := 3) (by decide)) fullShare I.w5
    ∗ CBusy a6 bSu (semM (i := 4) (by decide)) fullShare I.w6 ∗ CBusy a8 bSd (semM (i := 5) (by decide)) fullShare I.w8)
def MiscFull : sProp 𝕄 :=
  iprop(CFull a2 bCh (semM (i := 1) (by decide)) I.q2 I.w2 ∗ CFull a2 bChS (semM (i := 2) (by decide)) I.q2' I.w2 ∗ CFull a5 bSg (semM (i := 3) (by decide)) fullShare I.w5
    ∗ CFull a6 bSu (semM (i := 4) (by decide)) fullShare I.w6 ∗ CFull a8 bSd (semM (i := 5) (by decide)) fullShare I.w8)

def XsIdle : sProp 𝕄 := iprop(XIdle (I.q0 0) I.w0 0 (hX 0) ∗ XIdle (I.q0 1) I.w0 1 (hX 1) ∗ XIdle (I.q0 2) I.w0 2 (hX 2) ∗ XIdle (I.q0 3) I.w0 3 (hX 3))

theorem XAll_four (q : Fin 4 → PosShare TreeShare) (w : Bf F c a0) (n : ℕ) : XAll q w n = iprop(XU q w n 0 ∗ XU q w n 1 ∗ XU q w n 2 ∗ XU q w n 3) := by
  unfold XAll
  rw [BI.bigSep_eq_bigSepL_of_eq [0, 1, 2, 3] (by decide) (by decide)]
  rfl
theorem XAll_zero (q : Fin 4 → PosShare TreeShare) (w : Bf F c a0) :
    XAll q w 0 = iprop(XBusy (q 0) w 0 (hX 0) ∗ XBusy (q 1) w 1 (hX 1) ∗ XBusy (q 2) w 2 (hX 2) ∗ XBusy (q 3) w 3 (hX 3)) := by
  rw [XAll_four]; rfl
theorem XAll_done (q : Fin 4 → PosShare TreeShare) (w : Bf F c a0) :
    XAll q w 4 = iprop(XFull (q 0) w 0 (hX 0) ∗ XFull (q 1) w 1 (hX 1) ∗ XFull (q 2) w 2 (hX 2) ∗ XFull (q 3) w 3 (hX 3)) := by
  rw [XAll_four]; rfl

/-- The rings, idle and with the first four experts on their way. -/
def RingsIdle : sProp 𝕄 := iprop((GsIdle E (s := 0) (by decide) ∗ GsIdle E (s := 1) (by decide) ∗ GsIdle E (s := 2) (by decide) ∗ GsIdle E (s := 3) (by decide))
  ∗ (DsIdle E (s := 0) (by decide) ∗ DsIdle E (s := 1) (by decide) ∗ DsIdle E (s := 2) (by decide) ∗ DsIdle E (s := 3) (by decide)))
def RingsBusy : sProp 𝕄 := iprop((GsBusy E (s := 0) (e := 0) (by decide) (by decide) ∗ GsBusy E (s := 1) (e := 1) (by decide) (by decide) ∗ GsBusy E (s := 2) (e := 2) (by decide) (by decide) ∗ GsBusy E (s := 3) (e := 3) (by decide) (by decide))
  ∗ (DsBusy E (s := 0) (e := 0) (by decide) (by decide) ∗ DsBusy E (s := 1) (e := 1) (by decide) (by decide) ∗ DsBusy E (s := 2) (e := 2) (by decide) (by decide) ∗ DsBusy E (s := 3) (e := 3) (by decide) (by decide)))

theorem starts_spec :
    iprop(CIdle a1 bWrt (semM (i := 0) (by decide)) fullShare I.w1 ∗ XsIdle I ∗ MiscIdle I ∗ RingsIdle E) ⊢
      wpk c starts (fun _ => iprop(CBusy a1 bWrt (semM (i := 0) (by decide)) fullShare I.w1 ∗ XAll I.q0 I.w0 0 ∗ MiscBusy I ∗ RingsBusy E)) := by
  rw [XAll_zero]
  unfold starts XsIdle MiscIdle MiscBusy RingsIdle RingsBusy
  iintro ⟨H0, ⟨HX0, HX1, HX2, HX3⟩, ⟨H1, H2, H3, H4, H5⟩, ⟨HG0, HG1, HG2, HG3⟩, HD0, HD1, HD2, HD3⟩
  unfold GsIdle
  icases HG0 with ⟨HG0, HU0⟩
  icases HG1 with ⟨HG1, HU1⟩
  icases HG2 with ⟨HG2, HU2⟩
  icases HG3 with ⟨HG3, HU3⟩
  iapply (wp_seq c (startAll_spec a1 _ bWrt _ _ _ pos8 _ _)) $$ H0
  iintro %_ H0
  iapply (wp_seq c (startX_spec _ _ 0 _ _)) $$ HX0
  iintro %_ HX0
  iapply (wp_seq c (startX_spec _ _ 1 _ _)) $$ HX1
  iintro %_ HX1
  iapply (wp_seq c (startX_spec _ _ 2 _ _)) $$ HX2
  iintro %_ HX2
  iapply (wp_seq c (startX_spec _ _ 3 _ _)) $$ HX3
  iintro %_ HX3
  iapply (wp_seq c (startAll_spec a2 _ bCh _ _ _ pos2 _ _)) $$ H1
  iintro %_ H1
  iapply (wp_seq c (startAll_spec a2 _ bChS _ _ _ pos2 _ _)) $$ H2
  iintro %_ H2
  iapply (wp_seq c (startAll_spec a5 _ bSg _ _ _ pos5 _ _)) $$ H3
  iintro %_ H3
  iapply (wp_seq c (startAll_spec a6 _ bSu _ _ _ pos5 _ _)) $$ H4
  iintro %_ H4
  iapply (wp_seq c (startAll_spec a8 _ bSd _ _ _ pos8 _ _)) $$ H5
  iintro %_ H5
  iapply (wp_seq c (startG_spec E (s := 0) (e := 0) _ _)) $$ HG0
  iintro %_ HG0
  iapply (wp_seq c (startU_spec E (s := 0) (e := 0) _ _)) $$ HU0
  iintro %_ HU0
  iapply (wp_seq c (startG_spec E (s := 1) (e := 1) _ _)) $$ HG1
  iintro %_ HG1
  iapply (wp_seq c (startU_spec E (s := 1) (e := 1) _ _)) $$ HU1
  iintro %_ HU1
  iapply (wp_seq c (startDs_spec E (s := 0) (e := 0) _ _)) $$ HD0
  iintro %_ HD0
  iapply (wp_seq c (startG_spec E (s := 2) (e := 2) _ _)) $$ HG2
  iintro %_ HG2
  iapply (wp_seq c (startU_spec E (s := 2) (e := 2) _ _)) $$ HU2
  iintro %_ HU2
  iapply (wp_seq c (startDs_spec E (s := 1) (e := 1) _ _)) $$ HD1
  iintro %_ HD1
  iapply (wp_seq c (startG_spec E (s := 3) (e := 3) _ _)) $$ HG3
  iintro %_ HG3
  iapply (wp_seq c (startU_spec E (s := 3) (e := 3) _ _)) $$ HU3
  iintro %_ HU3
  iapply (wp_seq c (startDs_spec E (s := 2) (e := 2) _ _)) $$ HD2
  iintro %_ HD2
  ihave H := (startDs_spec E (s := 3) (e := 3) _ _) $$ HD3
  iapply (wp_wand frame (wpE (defs₀ (F := F)) Variants.none (c : Thread nD τ) none) Set.univ) $$ H
  iintro %_ HD3
  isplitl [H0]; · iexact H0
  isplitl [HX0 HX1 HX2 HX3]
  · isplitl [HX0]; · iexact HX0
    isplitl [HX1]; · iexact HX1
    isplitl [HX2]; · iexact HX2
    iexact HX3
  isplitl [H1 H2 H3 H4 H5]
  · isplitl [H1]; · iexact H1
    isplitl [H2]; · iexact H2
    isplitl [H3]; · iexact H3
    isplitl [H4]; · iexact H4
    iexact H5
  isplitl [HG0 HU0 HG1 HU1 HG2 HU2 HG3 HU3]
  · isplitl [HG0 HU0]
    · iapply (GsBusy_of E)
      isplitl [HG0]; · iexact HG0
      iexact HU0
    isplitl [HG1 HU1]
    · iapply (GsBusy_of E)
      isplitl [HG1]; · iexact HG1
      iexact HU1
    isplitl [HG2 HU2]
    · iapply (GsBusy_of E)
      isplitl [HG2]; · iexact HG2
      iexact HU2
    iapply (GsBusy_of E)
    isplitl [HG3]; · iexact HG3
    iexact HU3
  isplitl [HD0]; · iexact HD0
  isplitl [HD1]; · iexact HD1
  isplitl [HD2]; · iexact HD2
  iexact HD3

/-! ## The router's weight, split -/

/-- The router's weight as it lands. -/
def wrtIn : Vec F S64x2048 .f32 := (bWrt.access (Rect.unit (s := S64x2048) ![0, 0] S64x2048.size inb_S64x2048_S64x2048_0_0)).read (Elt F) (a1.view.read (Elt F) I.w1 : Bf F c bWrt)
/-- Its three parts, one under the other. -/
def wsF : Bf F c bWs :=
  (bWs.access (Rect.unit (s := S192x2048) ![128, 0] S64x2048.size inb_S192x2048_S64x2048_128_0)).write (Elt F)
    ((bWs.access (Rect.unit (s := S192x2048) ![64, 0] S64x2048.size inb_S192x2048_S64x2048_64_0)).write (Elt F)
      ((bWs.access (Rect.unit (s := S192x2048) ![0, 0] S64x2048.size inb_S192x2048_S64x2048_0_0)).write (Elt F) I.ws (k0_pay168 (wrtIn I)) Finset.univ)
      (k0_pay169 (wrtIn I)) Finset.univ)
    (k0_pay170 (k0_pay167 (wrtIn I))) Finset.univ

theorem wStore_spec (o : ℕ) (ho : ∀ a, (![o, 0] : Fin 2 → ℕ) a + S64x2048.size a ≤ S192x2048.size a) (hp : (Rect.unit (s := S192x2048) ![o, 0] S64x2048.size ho).PackedRows (EltTy.packing .bf16)) (v : FVec F S64x2048 .bf16) (f : Bf F c bWs) :
    pt c bWs fullShare f ⊢ wpk c (wStore o ho hp v) (fun _ => pt c bWs fullShare ((bWs.access (Rect.unit (s := S192x2048) ![o, 0] S64x2048.size ho)).write (Elt F) f v Finset.univ)) := by
  unfold wStore
  iintro H
  iapply (wp_ld c) $$ H
  iintro H
  iapply (wp_st c (k := pure)) $$ H
  iintro H
  iapply (wp_ret c)
  iexact H

theorem front_spec :
    iprop(CIdle a1 bWrt (semM (i := 0) (by decide)) fullShare I.w1 ∗ XsIdle I ∗ MiscIdle I ∗ RingsIdle E ∗ pt c bWs fullShare I.ws ∗ ow c) ⊢
      wpk c front (fun _ => iprop(CFull a1 bWrt (semM (i := 0) (by decide)) fullShare I.w1 ∗ XAll I.q0 I.w0 0 ∗ MiscBusy I ∗ RingsBusy E ∗ pt c bWs fullShare (wsF I) ∗ ow c)) := by
  unfold front wsF
  iintro ⟨H0, HX, HM, HR, Hw, HW⟩
  iapply (wp_seq c (starts_spec E I)) $$ [H0 HX HM HR]
  · isplitl [H0]; · iexact H0
    isplitl [HX]; · iexact HX
    isplitl [HM]; · iexact HM
    iexact HR
  iintro %_ ⟨H0, HX, HM, HR⟩
  iapply (wp_seq c (waitAll_spec a1 _ bWrt _ _ _ _)) $$ [H0 HW]
  · isplitl [H0]; · iexact H0
    iexact HW
  iintro %_ ⟨H0, HW⟩
  unfold CFull
  icases H0 with ⟨H0, H0'⟩
  unfold wrtIn
  ihave H0 := (pt_of_owns (b := cc0_scratch3)) $$ H0
  iapply (wp_ld c (m := bWrt)) $$ H0
  iintro H0
  iapply (wp_seq c (wStore_spec 0 _ _ _ _)) $$ Hw
  iintro %_ Hw
  iapply (wp_seq c (wStore_spec 64 _ _ _ _)) $$ Hw
  iintro %_ Hw
  iapply (wp_seq c (wStore_spec 128 _ _ _ _)) $$ Hw
  iintro %_ Hw
  iapply (wp_ret c)
  isplitl [H0 H0']
  · isplitl [H0]; · iapply (owns_of_pt (b := cc0_scratch3)) $$ H0
    iexact H0'
  isplitl [HX]; · iexact HX
  isplitl [HM]; · iexact HM
  isplitl [HR]; · iexact HR
  isplitl [Hw]; · iexact Hw
  iexact HW

end

end Cert.KernelIdeal.Body
-- ==== Proof.Ideal.Tail.lean ====
module

public import proofs.«01_k».proof.Proof.Ideal.Front

/-! The middle of the kernel and its end: the first expert, and the last, with the result written out. -/

@[expose] public section

set_option synthInstance.maxSize 4096
set_option maxRecDepth 16384

noncomputable section

namespace Cert.KernelIdeal.Body

open Cert.KernelIdeal Cert.KernelIdeal.Facts₀ Cert.KernelIdeal.Facts
open Cert.KernelIdeal.Gen (k0_pay174 k0_pay221)
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {c : Dev nD} (E : Env F c) (I : Start F c)

/-- The codes' and the scales' copies out. -/
def OutsIdle (qc qx : PosShare TreeShare) : sProp 𝕄 :=
  iprop(CIdle bCodes o1 (semC (i := 0) (by decide)) qc E.codes ∗ CIdle bXs o2 (semC (i := 1) (by decide)) qx E.xs)
def OutsBusy (qc qx : PosShare TreeShare) : sProp 𝕄 :=
  iprop(CBusy bCodes o1 (semC (i := 0) (by decide)) qc E.codes ∗ CBusy bXs o2 (semC (i := 1) (by decide)) qx E.xs)
def OutsFull (qc qx : PosShare TreeShare) : sProp 𝕄 :=
  iprop(CFull bCodes o1 (semC (i := 0) (by decide)) qc E.codes ∗ CFull bXs o2 (semC (i := 1) (by decide)) qx E.xs)

theorem middle_spec (qc qx : PosShare TreeShare) :
    iprop(MiscBusy I ∗ OutsIdle E qc qx ∗ ow c) ⊢ wpk c middle (fun _ => iprop(MiscFull I ∗ OutsBusy E qc qx ∗ ow c)) := by
  unfold middle MiscBusy OutsIdle MiscFull OutsBusy
  iintro ⟨⟨H1, H2, H3, H4, H5⟩, ⟨HC, HX⟩, HW⟩
  iapply (wp_seq c (waitAll_spec a2 _ bCh _ _ _ _)) $$ [H1 HW]
  · isplitl [H1]; · iexact H1
    iexact HW
  iintro %_ ⟨H1, HW⟩
  iapply (wp_seq c (waitAll_spec a2 _ bChS _ _ _ _)) $$ [H2 HW]
  · isplitl [H2]; · iexact H2
    iexact HW
  iintro %_ ⟨H2, HW⟩
  iapply (wp_seq c (waitAll_spec a5 _ bSg _ _ _ _)) $$ [H3 HW]
  · isplitl [H3]; · iexact H3
    iexact HW
  iintro %_ ⟨H3, HW⟩
  iapply (wp_seq c (waitAll_spec a6 _ bSu _ _ _ _)) $$ [H4 HW]
  · isplitl [H4]; · iexact H4
    iexact HW
  iintro %_ ⟨H4, HW⟩
  iapply (wp_seq c (waitAll_spec a8 _ bSd _ _ _ _)) $$ [H5 HW]
  · isplitl [H5]; · iexact H5
    iexact HW
  iintro %_ ⟨H5, HW⟩
  iapply (wp_seq c (startAll_spec bCodes _ o1 _ _ _ posC _ _)) $$ HC
  iintro %_ HC
  ihave H := (startAll_spec bXs _ o2 _ _ _ posS _ _) $$ HX
  iapply (wp_wand frame (wpE (defs₀ (F := F)) Variants.none (c : Thread nD τ) none) Set.univ) $$ H
  iintro %_ HX
  isplitl [H1 H2 H3 H4 H5]
  · isplitl [H1]; · iexact H1
    isplitl [H2]; · iexact H2
    isplitl [H3]; · iexact H3
    isplitl [H4]; · iexact H4
    iexact H5
  isplitl [HC HX]
  · isplitl [HC]; · iexact HC
    iexact HX
  iexact HW

/-- The first expert: what it leaves behind. -/
def firstH (eye : IVec S32x32 1) (hc : Bf F c bHc) : Hr F c :=
  ⟨hcF E eye (e := 0) (h := 0) (by decide) (by decide) hc, hsOf E eye (e := 0) (by decide), rOf E eye (e := 0) (by decide)⟩

theorem first_spec (hc : Bf F c bHc) :
    iprop(Held E ∗ GsBusy E (s := 0) (e := 0) (by decide) (by decide) ∗ pt c bHc fullShare hc ∗ ow c) ⊢
      wpk c first (fun p => iprop(⌜p = ⟨(firstH E k0_pay174 hc).r, (firstH E k0_pay174 hc).hs⟩⌝ ∗ Held E ∗ GsBusy E (s := 0) (e := 4) (by decide) (by decide) ∗ pt c bHc fullShare (firstH E k0_pay174 hc).hc ∗ ow c)) := by
  unfold first firstH
  dsimp only
  have hsp := hidden_spec E k0_pay174 (s := 0) (e := 0) (h := 0) (by decide) (by decide) (by decide) (E.qg ⟨0, by decide⟩) (E.qu ⟨0, by decide⟩) hc
  generalize hcF E k0_pay174 (e := 0) (h := 0) _ _ hc = HC' at hsp ⊢
  generalize hsOf E k0_pay174 (e := 0) _ = hs' at hsp ⊢
  generalize rOf E k0_pay174 (e := 0) _ = r' at hsp ⊢
  unfold GsBusy
  iintro ⟨HH, ⟨HG, HU⟩, Hh, HW⟩
  iapply (wp_seq c hsp) $$ [HH HG HU Hh HW]
  · isplitl [HH]; · iexact HH
    isplitl [HG]; · iexact HG
    isplitl [HU]; · iexact HU
    isplitl [Hh]; · iexact Hh
    iexact HW
  iintro %x ⟨%hx, HH, HG, HU, Hh, HW⟩
  subst hx
  iapply (wp_seq c (startG_spec E (s := 0) (e := 4) _ _)) $$ HG
  iintro %_ HG
  iapply (wp_seq c (startU_spec E (s := 0) (e := 4) _ _)) $$ HU
  iintro %_ HU
  iapply (wp_ret c)
  isplitr
  · ipureintro; rfl
  isplitl [HH]; · iexact HH
  isplitl [HG HU]
  · isplitl [HG]; · iexact HG
    iexact HU
  isplitl [Hh]; · iexact Hh
  iexact HW

/-! ## The last expert -/

/-- A block of the output's columns: not begun, on its way, written. -/
def OIdle (j : Fin 4) {n : ℕ} (hn : ColOk n) : sProp 𝕄 :=
  iprop((∃ v, owns (c : Thread nD τ) (oBlk bX hn) fullShare v) ∗ (∃ v, owns (c : Thread nD τ) (oBlk o0 hn) fullShare v) ∗ sv c (semO j.isLt))
def OBusy (j : Fin 4) {n : ℕ} (hn : ColOk n) (v : Vec F S1024x512 .bf16) : sProp 𝕄 :=
  iprop(∃ f : Bf F c (oBlk bX hn), ⌜(oBlk bX hn).view.read (Elt F) f = v⌝ ∗ Fly c (semO j.isLt) (oBlk bX hn) (oBlk o0 hn) fullShare f)
def OFull (j : Fin 4) {n : ℕ} (hn : ColOk n) (v : Vec F S1024x512 .bf16) : sProp 𝕄 :=
  iprop((∃ v, owns (c : Thread nD τ) (oBlk bX hn) fullShare v) ∗ owns (c : Thread nD τ) (oBlk o0 hn) fullShare v ∗ sv c (semO j.isLt))

/-- A block of finished columns, as it is written out. -/
def outV (acc : Bf F c bAcc) {n : ℕ} (hn : ColOk n) : Vec F S1024x512 .bf16 :=
  k0_pay221 ((bAcc.access (Rect.unit (s := S1024x2048) ![0, n] S1024x512.size (inbAcc hn))).read (Elt F) acc)

section
variable {sp sp' : Space} {s : Shape} {e : EltTy}
theorem wp_start2 {src : Memref sig .tc sp s e} {dst : Memref sig .tc sp' s e} {sm : DmaSem sig} {q : PosShare TreeShare} {f : Bf F c src}
    {hsrc : src.view.WordExact} {hdst : dst.view.WordExact} {hsem : DmaTarget.Typed (nD := nD) (τ := τ) (p := .tc) (s := s) (e := e) sp (.dma sm) (.here dst)} (hs : 0 < s.numel) :
    iprop(ps c src q f ∗ (∃ v, owns (c : Thread nD τ) dst fullShare v) ∗ sv c sm)
      ⊢ wpk c (Prog.lift (.enqueueDma src (.here dst) (.dma sm) hsrc hdst hsem)) (fun _ => Fly c sm src dst q f) := by
  iintro H
  iapply (wp_start c (k := pure) hs) $$ H
  iintro H
  iapply (wp_ret c)
  iexact H
theorem wp_wait2 {src : Memref sig .tc sp s e} {dst : Memref sig .tc sp' s e} {sm : DmaSem sig} {q : PosShare TreeShare} {f : Bf F c src}
    {spw : Space} {sw : Shape} {ew : EltTy} {srcw : Memref sig .tc spw sw ew} {hsrc : srcw.view.WordExact} {hdst : dst.view.WordExact} :
    iprop(Fly c sm src dst q f ∗ ow c)
      ⊢ wpk c (Prog.lift (.waitDma2 sm srcw dst hsrc hdst)) (fun _ => iprop(owns (c : Thread nD τ) dst fullShare (src.view.read (Elt F) f) ∗ ps c src q f ∗ sv c sm ∗ ow c)) := by
  iintro H
  iapply (wp_wait c (k := pure)) $$ H
  iintro H
  iapply (wp_ret c)
  iexact H
end

theorem startO_spec (j : Fin 4) {n : ℕ} (h : n = 512 * j.val) (hn : ColOk n) (f : Bf F c (oBlk bX hn)) :
    iprop(ps c (oBlk bX hn) fullShare f ∗ (∃ v, owns (c : Thread nD τ) (oBlk o0 hn) fullShare v) ∗ sv c (semO j.isLt)) ⊢
      wpk c (startO j h hn) (fun _ => Fly c (semO j.isLt) (oBlk bX hn) (oBlk o0 hn) fullShare f) :=
  wp_start2 (src := oBlk bX hn) (by decide)

theorem waitO_spec (j : Fin 4) {n : ℕ} (h : n = 512 * j.val) (hn : ColOk n) (v : Vec F S1024x512 .bf16) :
    iprop(OBusy (c := c) j hn v ∗ ow c) ⊢ wpk c (waitO j h hn) (fun _ => iprop(OFull (c := c) j hn v ∗ ow c)) := by
  unfold OBusy
  iintro ⟨⟨%f, %hf, HF⟩, HW⟩
  subst hf
  ihave H := (wp_wait2 (src := oBlk bX hn) (dst := oBlk o0 hn)) $$ [HF HW]
  · isplitl [HF]; · iexact HF
    iexact HW
  iapply (wp_wand frame (wpE (defs₀ (F := F)) Variants.none (c : Thread nD τ) none) Set.univ) $$ H
  iintro %_ ⟨Hd, Hs, Hv, HW⟩
  isplitr [HW]
  · unfold OFull
    isplitl [Hs]
    · unfold owns
      iexists _; iexists f; isplitr; swap; · iexact Hs
      ipureintro; rfl
    isplitl [Hd]; · iexact Hd
    iexact Hv
  iexact HW

theorem wp_ldB {α : Type} {Q : α → sProp 𝕄} {n : ℕ} (hn : ColOk n) (v : Vec F S1024x512 .bf16)
    {hl : bX.view.LoadsAt (Rect.unit (s := S1024x2048) ![0, n] S1024x512.size (inbAcc hn))} {k : Vec F S1024x512 .bf16 → KProg F α} :
    (owns (c : Thread nD τ) (oBlk bX hn) fullShare v : sProp 𝕄) ⊢
      iprop((owns (c : Thread nD τ) (oBlk bX hn) fullShare v -∗ wpk c (k v) Q)
        -∗ wpk c (Prog.lift (.load bX (Rect.unit (s := S1024x2048) ![0, n] S1024x512.size (inbAcc hn)).toLoadRect hl) >>= k) Q) := by
  unfold owns
  iintro ⟨%g, %hg, Hd⟩ Hk
  subst hg
  have hS : (bX.access (Rect.unit (s := S1024x2048) ![0, n] S1024x512.size (inbAcc hn))).set ⊆ (oBlk bX hn).view.set := Finset.Subset.refl _
  have := (wp_ldS (F := F) c (m := bX) (r := Rect.unit (s := S1024x2048) ![0, n] S1024x512.size (inbAcc hn)) (hl := hl) (k := k) (Q := Q) (q := fullShare) (f := g) hS)
  iapply (show ((oBlk bX hn).view.loc (c : Thread nD τ) ↦[(oBlk bX hn).view.set]{fullShare} g : sProp 𝕄) ⊢ _ from this) $$ Hd
  iintro Hd
  iapply Hk
  iexists g; isplitr; swap; · iexact Hd
  ipureintro; rfl

theorem wp_stB {α : Type} {Q : α → sProp 𝕄} {n : ℕ} (hn : ColOk n) (v w : Vec F S1024x512 .bf16)
    {hx : (bX.access (Rect.unit (s := S1024x2048) ![0, n] S1024x512.size (inbAcc hn))).Stores Finset.univ}
    {hm : (Finset.univ : Finset (Rect.unit (s := S1024x2048) ![0, n] S1024x512.size (inbAcc hn)).shape.Idx) = Finset.univ ∨ ∀ a, (Rect.unit (s := S1024x2048) ![0, n] S1024x512.size (inbAcc hn)).stride a = 1} {k : PUnit → KProg F α} :
    (owns (c : Thread nD τ) (oBlk bX hn) fullShare v : sProp 𝕄) ⊢
      iprop((owns (c : Thread nD τ) (oBlk bX hn) fullShare w -∗ wpk c (k ⟨⟩) Q)
        -∗ wpk c (Prog.lift (.store bX (Rect.unit (s := S1024x2048) ![0, n] S1024x512.size (inbAcc hn)) w Finset.univ hx hm) >>= k) Q) := by
  unfold owns
  iintro ⟨%g, -, Hd⟩ Hk
  have hS : (bX.access (Rect.unit (s := S1024x2048) ![0, n] S1024x512.size (inbAcc hn))).set ⊆ (oBlk bX hn).view.set := Finset.Subset.refl _
  have := (wp_stS (F := F) c (m := bX) (r := Rect.unit (s := S1024x2048) ![0, n] S1024x512.size (inbAcc hn)) (w := w) (hx := hx) (hm := hm) (k := k) (Q := Q) (f := g) hS)
  iapply (show ((oBlk bX hn).view.loc (c : Thread nD τ) ↦[(oBlk bX hn).view.set]{fullShare} g : sProp 𝕄) ⊢ _ from this) $$ Hd
  iintro Hd
  iapply Hk
  iexists _; isplitr; swap; · iexact Hd
  ipureintro
  exact View.read_write_univ _ _

theorem flush_spec (j : Fin 4) {n : ℕ} (h : n = 512 * j.val) (hn : ColOk n) (acc : Bf F c bAcc) :
    iprop(pt c bAcc fullShare acc ∗ OIdle (c := c) j hn) ⊢ wpk c (flush j h hn) (fun _ => iprop(pt c bAcc fullShare acc ∗ OBusy (c := c) j hn (outV acc hn))) := by
  unfold flush OIdle outV
  iintro ⟨Ha, ⟨%v, HX⟩, HO, Hv⟩
  iapply (wp_ld c) $$ Ha
  iintro Ha
  iapply (wp_ldB hn) $$ HX
  iintro HX
  iapply (wp_stB hn) $$ HX
  iintro HX
  generalize k0_pay221 ((bAcc.access (Rect.unit (s := S1024x2048) ![0, n] S1024x512.size (inbAcc hn))).read (Elt F) acc) = w
  ihave HX := (show (owns (c : Thread nD τ) (oBlk bX hn) fullShare w : sProp 𝕄) ⊢ iprop(∃ f : Bf F c (oBlk bX hn), ⌜(oBlk bX hn).view.read (Elt F) f = w⌝ ∗ ps c (oBlk bX hn) fullShare f) from .rfl) $$ HX
  icases HX with ⟨%f, %hf, HX⟩
  ihave H := (startO_spec j h hn f) $$ [HX HO Hv]
  · isplitl [HX]; · iexact HX
    isplitl [HO]; · iexact HO
    iexact Hv
  iapply (wp_wand frame (wpE (defs₀ (F := F)) Variants.none (c : Thread nD τ) none) Set.univ) $$ H
  iintro %_ H
  isplitl [Ha]; · iexact Ha
  unfold OBusy
  iexists f; isplitr; swap; · iexact H
  ipureintro
  exact hf

variable (hch : ChOk c E.chS) (H : Hr F c)

/-- The state after the last expert's columns from `n`. -/
def lastF {n : ℕ} (hn : ColOk n) (S : Ya F c) : Ya F c := chunkF E hch (e := 63) (by decide) 63#32 (by decide) n hn H S

theorem lastChunk_spec (j : Fin 4) {n : ℕ} (h : n = 512 * j.val) (hn : ColOk n) (q : PosShare TreeShare) (S : Ya F c) :
    iprop(HeldC E ∗ pt c bHc fullShare H.hc ∗ Mem S ∗ DBusy (s := 3) (e := 63) (by decide) (by decide) j.isLt hn q E.w7 ∗ OIdle (c := c) j hn ∗ ow c) ⊢
      wpk c (lastChunk j h hn H.hs H.r) (fun _ => iprop(HeldC E ∗ pt c bHc fullShare H.hc ∗ Mem (lastF E hch H hn S) ∗ DIdle (s := 3) (by decide) j.isLt q E.w7
        ∗ OBusy (c := c) j hn (outV (lastF E hch H hn S).acc hn) ∗ ow c)) := by
  unfold lastChunk lastF
  have csp := chunk_spec' E hch (s := 3) (e := 63) (by decide) (by decide) 63#32 (by decide) (by decide) j.val j.isLt n hn q H S
  generalize chunkF E hch (e := 63) _ 63#32 _ n hn H S = S' at csp ⊢
  iintro ⟨HC, Hh, HM, HD, HO, HW⟩
  iapply (wp_seq c (waitD_spec (s := 3) (e := 63) _ _ j h hn q E.w7)) $$ [HD HW]
  · isplitl [HD]; · iexact HD
    iexact HW
  iintro %_ ⟨HD, HW⟩
  iapply (wp_seq c csp) $$ [HC Hh HM HD]
  · isplitl [HC]; · iexact HC
    isplitl [Hh]; · iexact Hh
    isplitl [HM]; · iexact HM
    iexact HD
  iintro %_ ⟨HC, Hh, HM, HD⟩
  unfold Mem
  icases HM with ⟨Hy, Ha⟩
  ihave H := (flush_spec j h hn S'.acc) $$ [Ha HO]
  · isplitl [Ha]; · iexact Ha
    iexact HO
  iapply (wp_wand frame (wpE (defs₀ (F := F)) Variants.none (c : Thread nD τ) none) Set.univ) $$ H
  iintro %_ ⟨Ha, HO⟩
  isplitl [HC]; · iexact HC
  isplitl [Hh]; · iexact Hh
  isplitl [Hy Ha]
  · isplitl [Hy]; · iexact Hy
    iexact Ha
  isplitl [HD]; · iapply (DFull_idle (s := 3) (e := 63)) $$ HD
  isplitl [HO]; · iexact HO
  iexact HW

/-- The output's blocks, all not begun; all written. -/
def OsIdle : sProp 𝕄 := iprop(OIdle (c := c) 0 col0 ∗ OIdle (c := c) 1 col1 ∗ OIdle (c := c) 2 col2 ∗ OIdle (c := c) 3 col3)
def OsFull (v0 v1 v2 v3 : Vec F S1024x512 .bf16) : sProp 𝕄 := iprop(OFull (c := c) 0 col0 v0 ∗ OFull (c := c) 1 col1 v1 ∗ OFull (c := c) 2 col2 v2 ∗ OFull (c := c) 3 col3 v3)

/-- The state after each of the last expert's four blocks of columns. -/
def last0 (S : Ya F c) : Ya F c := lastF E hch H col0 S
def last1 (S : Ya F c) : Ya F c := lastF E hch H col1 (last0 E hch H S)
def last2 (S : Ya F c) : Ya F c := lastF E hch H col2 (last1 E hch H S)
def last3 (S : Ya F c) : Ya F c := lastF E hch H col3 (last2 E hch H S)

theorem last_spec (qc qx : PosShare TreeShare) (S : Ya F c) :
    iprop(HeldC E ∗ pt c bHc fullShare H.hc ∗ Mem S ∗ DsBusy E (s := 3) (e := 63) (by decide) (by decide) ∗ OsIdle (c := c) ∗ OutsBusy E qc qx ∗ ow c) ⊢
      wpk c (last H.hs H.r) (fun _ => iprop(HeldC E ∗ pt c bHc fullShare H.hc ∗ Mem (last3 E hch H S) ∗ DsIdle E (s := 3) (by decide)
        ∗ OsFull (c := c) (outV (last0 E hch H S).acc col0) (outV (last1 E hch H S).acc col1) (outV (last2 E hch H S).acc col2) (outV (last3 E hch H S).acc col3) ∗ OutsFull E qc qx ∗ ow c)) := by
  unfold last last3 last2 last1 last0 DsBusy OsIdle OutsBusy
  iintro ⟨HC, Hh, HM, ⟨HD0, HD1, HD2, HD3⟩, ⟨HO0, HO1, HO2, HO3⟩, ⟨H1, H2⟩, HW⟩
  iapply (wp_seq c (lastChunk_spec E hch H 0 (n := 0) _ col0 _ S)) $$ [HC Hh HM HD0 HO0 HW]
  · isplitl [HC]; · iexact HC
    isplitl [Hh]; · iexact Hh
    isplitl [HM]; · iexact HM
    isplitl [HD0]; · iexact HD0
    isplitl [HO0]; · iexact HO0
    iexact HW
  iintro %_ ⟨HC, Hh, HM, HD0, HO0, HW⟩
  generalize lastF E hch H col0 S = S1
  iapply (wp_seq c (lastChunk_spec E hch H 1 (n := 512) _ col1 _ S1)) $$ [HC Hh HM HD1 HO1 HW]
  · isplitl [HC]; · iexact HC
    isplitl [Hh]; · iexact Hh
    isplitl [HM]; · iexact HM
    isplitl [HD1]; · iexact HD1
    isplitl [HO1]; · iexact HO1
    iexact HW
  iintro %_ ⟨HC, Hh, HM, HD1, HO1, HW⟩
  generalize lastF E hch H col1 S1 = S2
  iapply (wp_seq c (lastChunk_spec E hch H 2 (n := 1024) _ col2 _ S2)) $$ [HC Hh HM HD2 HO2 HW]
  · isplitl [HC]; · iexact HC
    isplitl [Hh]; · iexact Hh
    isplitl [HM]; · iexact HM
    isplitl [HD2]; · iexact HD2
    isplitl [HO2]; · iexact HO2
    iexact HW
  iintro %_ ⟨HC, Hh, HM, HD2, HO2, HW⟩
  generalize lastF E hch H col2 S2 = S3
  iapply (wp_seq c (lastChunk_spec E hch H 3 (n := 1536) _ col3 _ S3)) $$ [HC Hh HM HD3 HO3 HW]
  · isplitl [HC]; · iexact HC
    isplitl [Hh]; · iexact Hh
    isplitl [HM]; · iexact HM
    isplitl [HD3]; · iexact HD3
    isplitl [HO3]; · iexact HO3
    iexact HW
  iintro %_ ⟨HC, Hh, HM, HD3, HO3, HW⟩
  generalize lastF E hch H col3 S3 = S4
  iapply (wp_seq c (waitAll_spec bCodes _ o1 _ _ _ _)) $$ [H1 HW]
  · isplitl [H1]; · iexact H1
    iexact HW
  iintro %_ ⟨H1, HW⟩
  iapply (wp_seq c (waitAll_spec bXs _ o2 _ _ _ _)) $$ [H2 HW]
  · isplitl [H2]; · iexact H2
    iexact HW
  iintro %_ ⟨H2, HW⟩
  iapply (wp_seq c (waitO_spec 0 (n := 0) _ col0 _)) $$ [HO0 HW]
  · isplitl [HO0]; · iexact HO0
    iexact HW
  iintro %_ ⟨HO0, HW⟩
  iapply (wp_seq c (waitO_spec 1 (n := 512) _ col1 _)) $$ [HO1 HW]
  · isplitl [HO1]; · iexact HO1
    iexact HW
  iintro %_ ⟨HO1, HW⟩
  iapply (wp_seq c (waitO_spec 2 (n := 1024) _ col2 _)) $$ [HO2 HW]
  · isplitl [HO2]; · iexact HO2
    iexact HW
  iintro %_ ⟨HO2, HW⟩
  ihave H := (waitO_spec 3 (n := 1536) _ col3 _) $$ [HO3 HW]
  · isplitl [HO3]; · iexact HO3
    iexact HW
  iapply (wp_wand frame (wpE (defs₀ (F := F)) Variants.none (c : Thread nD τ) none) Set.univ) $$ H
  iintro %_ ⟨HO3, HW⟩
  isplitl [HC]; · iexact HC
  isplitl [Hh]; · iexact Hh
  isplitl [HM]; · iexact HM
  isplitl [HD0 HD1 HD2 HD3]
  · unfold DsIdle
    isplitl [HD0]; · iexact HD0
    isplitl [HD1]; · iexact HD1
    isplitl [HD2]; · iexact HD2
    iexact HD3
  isplitl [HO0 HO1 HO2 HO3]
  · unfold OsFull
    isplitl [HO0]; · iexact HO0
    isplitl [HO1]; · iexact HO1
    isplitl [HO2]; · iexact HO2
    iexact HO3
  isplitl [H1 H2]
  · unfold OutsFull
    isplitl [H1]; · iexact H1
    iexact H2
  iexact HW

end

end Cert.KernelIdeal.Body
-- ==== Proof.Ideal.Cuts.lean ====
module

public import proofs.«01_k».proof.Proof.Ideal.Tail

/-! Buffers cut into the blocks that the copies move, and joined again. -/

@[expose] public section

set_option synthInstance.maxSize 4096
set_option maxRecDepth 16384

noncomputable section

namespace Cert.KernelIdeal.Body

open Cert.KernelIdeal Cert.KernelIdeal.Facts₀ Cert.KernelIdeal.Facts
open Idealize.ShloMosaic.Ring
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD)

/-- A piece held at some contents, in the two ways of saying it. -/
theorem owns_any {sp : Space} {s : Shape} {e : EltTy} (m : Memref sig .tc sp s e) :
    (iprop(∃ f, m.view.loc (c : Thread nD τ) ↦[m.view.set]{fullShare} f) : sProp 𝕄) ⊢ iprop(∃ v, owns (c : Thread nD τ) m fullShare v) := by
  unfold owns
  iintro ⟨%f, H⟩
  iexists (m.view.read (Elt F) f)
  iexists f
  isplitr
  · ipureintro; rfl
  iexact H
theorem any_owns {sp : Space} {s : Shape} {e : EltTy} (m : Memref sig .tc sp s e) :
    (iprop(∃ v, owns (c : Thread nD τ) m fullShare v) : sProp 𝕄) ⊢ iprop(∃ f, m.view.loc (c : Thread nD τ) ↦[m.view.set]{fullShare} f) := by
  unfold owns
  iintro ⟨%v, %f, -, H⟩
  iexists f
  iexact H

theorem hO (j : Fin 4) : ColOk (512 * j.val) := by unfold ColOk; omega

/-- The blocks of rows of an array. -/
def xSet {sp : Space} (M : Memref sig .tc sp S1024x2048 .bf16) (b : Fin 4) : Finset (Idx (M.view.loc (c : Thread nD τ))) := (xBlk M (hX b)).view.set
theorem xSet_disjoint {sp : Space} (M : Memref sig .tc sp S1024x2048 .bf16) (b b' : Fin 4) (h : b ≠ b') : Disjoint (xSet c M b) (xSet c M b') := by
  have hne : b.val ≠ b'.val := fun h' => h (Fin.ext h')
  refine View.disjoint_slice_of_sep M.view (Rect.unit (s := S1024x2048) ![256 * b.val, 0] S256x2048.size (inbX (hX b))) (Rect.unit (s := S1024x2048) ![256 * b'.val, 0] S256x2048.size (inbX (hX b'))) 0 rfl rfl ?_
  show 256 * b.val + 256 ≤ 256 * b'.val ∨ 256 * b'.val + 256 ≤ 256 * b.val
  omega
/-- What the blocks of rows leave of the array, held. -/
def xRest {sp : Space} (M : Memref sig .tc sp S1024x2048 .bf16) : sProp 𝕄 := iprop(∃ f, M.view.loc (c : Thread nD τ) ↦[restOf (xSet c M)]{fullShare} f)
theorem x_cut {sp : Space} (M : Memref sig .tc sp S1024x2048 .bf16) :
    (iprop(∃ f, M.view.loc (c : Thread nD τ) ↦{fullShare} f) : sProp 𝕄) ⊢ iprop(bigSep Finset.univ (fun b : Fin 4 => iprop(∃ v, owns (c : Thread nD τ) (xBlk M (hX b)) fullShare v)) ∗ xRest (F := F) c M) :=
  (fam_split_ex (xSet c M) (xSet_disjoint c M)).trans (BI.Laws.sep_mono (bigSep_mono fun b _ => owns_any c (xBlk M (hX b))) .rfl)
theorem x_join {sp : Space} (M : Memref sig .tc sp S1024x2048 .bf16) (f₀ : Bf F c M) :
    iprop(bigSep Finset.univ (fun b : Fin 4 => iprop(∃ v, owns (c : Thread nD τ) (xBlk M (hX b)) fullShare v)) ∗ xRest (F := F) c M) ⊢ (iprop(∃ f, M.view.loc (c : Thread nD τ) ↦{fullShare} f) : sProp 𝕄) :=
  (BI.Laws.sep_mono (bigSep_mono fun b _ => any_owns c (xBlk M (hX b))) .rfl).trans (fam_join (xSet c M) (xSet_disjoint c M) f₀)

/-- The blocks of columns of an array. -/
def oSet {sp : Space} (M : Memref sig .tc sp S1024x2048 .bf16) (b : Fin 4) : Finset (Idx (M.view.loc (c : Thread nD τ))) := (oBlk M (hO b)).view.set
theorem oSet_disjoint {sp : Space} (M : Memref sig .tc sp S1024x2048 .bf16) (b b' : Fin 4) (h : b ≠ b') : Disjoint (oSet c M b) (oSet c M b') := by
  have hne : b.val ≠ b'.val := fun h' => h (Fin.ext h')
  refine View.disjoint_slice_of_sep M.view (Rect.unit (s := S1024x2048) ![0, 512 * b.val] S1024x512.size (inbAcc (hO b))) (Rect.unit (s := S1024x2048) ![0, 512 * b'.val] S1024x512.size (inbAcc (hO b'))) 1 rfl rfl ?_
  show 512 * b.val + 512 ≤ 512 * b'.val ∨ 512 * b'.val + 512 ≤ 512 * b.val
  omega
/-- What the blocks of columns leave of the array, held. -/
def oRest {sp : Space} (M : Memref sig .tc sp S1024x2048 .bf16) : sProp 𝕄 := iprop(∃ f, M.view.loc (c : Thread nD τ) ↦[restOf (oSet c M)]{fullShare} f)
theorem o_cut {sp : Space} (M : Memref sig .tc sp S1024x2048 .bf16) :
    (iprop(∃ f, M.view.loc (c : Thread nD τ) ↦{fullShare} f) : sProp 𝕄) ⊢ iprop(bigSep Finset.univ (fun b : Fin 4 => iprop(∃ v, owns (c : Thread nD τ) (oBlk M (hO b)) fullShare v)) ∗ oRest (F := F) c M) :=
  (fam_split_ex (oSet c M) (oSet_disjoint c M)).trans (BI.Laws.sep_mono (bigSep_mono fun b _ => owns_any c (oBlk M (hO b))) .rfl)
theorem o_join {sp : Space} (M : Memref sig .tc sp S1024x2048 .bf16) (f₀ : Bf F c M) :
    iprop(bigSep Finset.univ (fun b : Fin 4 => iprop(∃ v, owns (c : Thread nD τ) (oBlk M (hO b)) fullShare v)) ∗ oRest (F := F) c M) ⊢ (iprop(∃ f, M.view.loc (c : Thread nD τ) ↦{fullShare} f) : sProp 𝕄) :=
  (BI.Laws.sep_mono (bigSep_mono fun b _ => any_owns c (oBlk M (hO b))) .rfl).trans (fam_join (oSet c M) (oSet_disjoint c M) f₀)

/-- The slots of an array. -/
def gSet (M : Memref sig .tc .vmem S4x2048x1408 .fp8e4m3) (b : Fin 4) : Finset (Idx (M.view.loc (c : Thread nD τ))) := (gDst M b.isLt).view.set
theorem gSet_disjoint (M : Memref sig .tc .vmem S4x2048x1408 .fp8e4m3) (b b' : Fin 4) (h : b ≠ b') : Disjoint (gSet c M b) (gSet c M b') := by
  have hne : b.val ≠ b'.val := fun h' => h (Fin.ext h')
  unfold gSet gDst
  rw [Memref.set_view_squeeze, Memref.set_view_squeeze]
  refine View.disjoint_slice_of_sep M.view (Rect.unit (s := S4x2048x1408) ![b.val, 0, 0] S1x2048x1408.size (inbGD b.isLt)) (Rect.unit (s := S4x2048x1408) ![b'.val, 0, 0] S1x2048x1408.size (inbGD b'.isLt)) 0 rfl rfl ?_
  show b.val + 1 ≤ b'.val ∨ b'.val + 1 ≤ b.val
  omega
/-- What the slots leave of the array, held. -/
def gRest (M : Memref sig .tc .vmem S4x2048x1408 .fp8e4m3) : sProp 𝕄 := iprop(∃ f, M.view.loc (c : Thread nD τ) ↦[restOf (gSet c M)]{fullShare} f)
theorem g_cut (M : Memref sig .tc .vmem S4x2048x1408 .fp8e4m3) :
    (iprop(∃ f, M.view.loc (c : Thread nD τ) ↦{fullShare} f) : sProp 𝕄) ⊢ iprop(bigSep Finset.univ (fun b : Fin 4 => iprop(∃ v, owns (c : Thread nD τ) (gDst M b.isLt) fullShare v)) ∗ gRest (F := F) c M) :=
  (fam_split_ex (gSet c M) (gSet_disjoint c M)).trans (BI.Laws.sep_mono (bigSep_mono fun b _ => owns_any c (gDst M b.isLt)) .rfl)
theorem g_join (M : Memref sig .tc .vmem S4x2048x1408 .fp8e4m3) (f₀ : Bf F c M) :
    iprop(bigSep Finset.univ (fun b : Fin 4 => iprop(∃ v, owns (c : Thread nD τ) (gDst M b.isLt) fullShare v)) ∗ gRest (F := F) c M) ⊢ (iprop(∃ f, M.view.loc (c : Thread nD τ) ↦{fullShare} f) : sProp 𝕄) :=
  (BI.Laws.sep_mono (bigSep_mono fun b _ => any_owns c (gDst M b.isLt)) .rfl).trans (fam_join (gSet c M) (gSet_disjoint c M) f₀)

/-- The slots and chunks of an array. -/
def dSet  (b : Fin 4 × Fin 4) : Finset (Idx (bWd.view.loc (c : Thread nD τ))) := (dDst b.1.isLt b.2.isLt).view.set
theorem dSet_disjoint (b b' : Fin 4 × Fin 4) (h : b ≠ b') : Disjoint (dSet c b) (dSet c b') := by
  have hne : b.1.val ≠ b'.1.val ∨ b.2.val ≠ b'.2.val := by
    by_contra hc
    rw [not_or, not_not, not_not] at hc
    exact h (Prod.ext (Fin.ext hc.1) (Fin.ext hc.2))
  unfold dSet dDst
  rw [Memref.set_view_squeeze, Memref.set_view_squeeze]
  rcases hne with hne | hne
  · refine View.disjoint_slice_of_sep bWd.view (Rect.unit (s := S4x4x1408x512) ![b.1.val, b.2.val, 0, 0] S1x1x1408x512.size (inbDD b.1.isLt b.2.isLt)) (Rect.unit (s := S4x4x1408x512) ![b'.1.val, b'.2.val, 0, 0] S1x1x1408x512.size (inbDD b'.1.isLt b'.2.isLt)) 0 rfl rfl ?_
    show b.1.val + 1 ≤ b'.1.val ∨ b'.1.val + 1 ≤ b.1.val
    omega
  · refine View.disjoint_slice_of_sep bWd.view (Rect.unit (s := S4x4x1408x512) ![b.1.val, b.2.val, 0, 0] S1x1x1408x512.size (inbDD b.1.isLt b.2.isLt)) (Rect.unit (s := S4x4x1408x512) ![b'.1.val, b'.2.val, 0, 0] S1x1x1408x512.size (inbDD b'.1.isLt b'.2.isLt)) 1 rfl rfl ?_
    show b.2.val + 1 ≤ b'.2.val ∨ b'.2.val + 1 ≤ b.2.val
    omega
/-- What the slots and chunks leave of the array, held. -/
def dRest  : sProp 𝕄 := iprop(∃ f, bWd.view.loc (c : Thread nD τ) ↦[restOf (dSet c)]{fullShare} f)
theorem d_cut  :
    (iprop(∃ f, bWd.view.loc (c : Thread nD τ) ↦{fullShare} f) : sProp 𝕄) ⊢ iprop(bigSep Finset.univ (fun b : Fin 4 × Fin 4 => iprop(∃ v, owns (c : Thread nD τ) (dDst b.1.isLt b.2.isLt) fullShare v)) ∗ dRest (F := F) c) :=
  (fam_split_ex (dSet c) (dSet_disjoint c)).trans (BI.Laws.sep_mono (bigSep_mono fun b _ => owns_any c (dDst b.1.isLt b.2.isLt)) .rfl)
theorem d_join  (f₀ : Bf F c bWd) :
    iprop(bigSep Finset.univ (fun b : Fin 4 × Fin 4 => iprop(∃ v, owns (c : Thread nD τ) (dDst b.1.isLt b.2.isLt) fullShare v)) ∗ dRest (F := F) c) ⊢ (iprop(∃ f, bWd.view.loc (c : Thread nD τ) ↦{fullShare} f) : sProp 𝕄) :=
  (BI.Laws.sep_mono (bigSep_mono fun b _ => any_owns c (dDst b.1.isLt b.2.isLt)) .rfl).trans (fam_join (dSet c) (dSet_disjoint c) f₀)

/-- A separating conjunction over four members is its four conjuncts. -/
theorem bigSep_four (P : Fin 4 → sProp 𝕄) : bigSep Finset.univ P = iprop(P 0 ∗ P 1 ∗ P 2 ∗ P 3) := by
  rw [BI.bigSep_eq_bigSepL_of_eq [0, 1, 2, 3] (by decide) (by decide)]
  rfl
/-- A separating conjunction over pairs, row by row. -/
theorem bigSep_rows (s t : Finset (Fin 4)) (P : Fin 4 × Fin 4 → sProp 𝕄) : bigSep (s ×ˢ t) P = bigSep s (fun i => bigSep t (fun j => P (i, j))) := by
  induction s using Finset.induction_on with
  | empty => rw [Finset.empty_product, bigSep_empty, bigSep_empty]
  | insert a s ha ih =>
    rw [Finset.insert_eq, Finset.union_product, bigSep_union, Finset.singleton_product, bigSep_map, ← Finset.insert_eq, bigSep_insert ha, ih]
    · rfl
    · exact Finset.disjoint_product.mpr (Or.inl (Finset.disjoint_singleton_left.mpr ha))
theorem bigSep_pairs (P : Fin 4 × Fin 4 → sProp 𝕄) : bigSep Finset.univ P = bigSep Finset.univ (fun i : Fin 4 => bigSep Finset.univ (fun j : Fin 4 => P (i, j))) :=
  bigSep_rows Finset.univ Finset.univ P

end

end Cert.KernelIdeal.Body
-- ==== Proof.Ideal.Whole.lean ====
module

public import proofs.«01_k».proof.Proof.Ideal.Cuts

/-! The kernel's body as a whole: what it needs and what it leaves. -/

@[expose] public section

set_option synthInstance.maxSize 4096
set_option maxRecDepth 16384

noncomputable section

namespace Cert.KernelIdeal.Body

open Cert.KernelIdeal Cert.KernelIdeal.Facts₀ Cert.KernelIdeal.Facts
open Cert.KernelIdeal.Gen (k0_pay174)
open Idealize.ShloMosaic.Ring
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {c : Dev nD} (E : Env F c) (I : Start F c)

/-- The tables that the experts' loop reads are those that the kernel copied in and those that the loop over blocks of tokens left. -/
structure Fits (S : Xs F c) : Prop where
  ch : E.ch = (a2.view.read (Elt F) I.w2 : Bf F c bCh)
  chS : E.chS = (a2.view.read (Elt F) I.w2 : Bf F c bChS)
  pr : E.pr = S.pr
  xs : E.xs = S.xs
  codes : E.codes = S.codes
  sg : E.sg = (a5.view.read (Elt F) I.w5 : Bf F c bSg)
  su : E.su = (a6.view.read (Elt F) I.w6 : Bf F c bSu)
  sd : E.sd = (a8.view.read (Elt F) I.w8 : Bf F c bSd)
  qx : E.qx = fullShare.right
  qc : E.qc = fullShare.right

/-- The blocks of the tokens once they are read: the array's shares and the semaphores. -/
def XSrc : sProp 𝕄 :=
  iprop((pt c a0 (I.q0 0) I.w0 ∗ sv c (semX (0 : Fin 4).isLt)) ∗ (pt c a0 (I.q0 1) I.w0 ∗ sv c (semX (1 : Fin 4).isLt)) ∗ (pt c a0 (I.q0 2) I.w0 ∗ sv c (semX (2 : Fin 4).isLt)) ∗ (pt c a0 (I.q0 3) I.w0 ∗ sv c (semX (3 : Fin 4).isLt)))
/-- The single copies' sources and semaphores. -/
def MSrc : sProp 𝕄 :=
  iprop((pt c a2 I.q2 I.w2 ∗ sv c (semM (i := 1) (by decide))) ∗ (pt c a2 I.q2' I.w2 ∗ sv c (semM (i := 2) (by decide))) ∗ (pt c a5 fullShare I.w5 ∗ sv c (semM (i := 3) (by decide)))
    ∗ (pt c a6 fullShare I.w6 ∗ sv c (semM (i := 4) (by decide))) ∗ (pt c a8 fullShare I.w8 ∗ sv c (semM (i := 5) (by decide))))
/-- The results' pieces that wait for the copies out: the two tables whole, the output by blocks of columns. -/
def OutDst : sProp 𝕄 :=
  iprop(((∃ v, owns (c : Thread nD τ) o1 fullShare v) ∗ sv c (semC (i := 0) (by decide))) ∗ ((∃ v, owns (c : Thread nD τ) o2 fullShare v) ∗ sv c (semC (i := 1) (by decide))))
def BlkDst : sProp 𝕄 :=
  iprop(((∃ v, owns (c : Thread nD τ) (oBlk o0 (hO 0)) fullShare v) ∗ sv c (semO (0 : Fin 4).isLt)) ∗ ((∃ v, owns (c : Thread nD τ) (oBlk o0 (hO 1)) fullShare v) ∗ sv c (semO (1 : Fin 4).isLt))
    ∗ ((∃ v, owns (c : Thread nD τ) (oBlk o0 (hO 2)) fullShare v) ∗ sv c (semO (2 : Fin 4).isLt)) ∗ ((∃ v, owns (c : Thread nD τ) (oBlk o0 (hO 3)) fullShare v) ∗ sv c (semO (3 : Fin 4).isLt)))

/-- The landed blocks of the tokens give back the buffer, whole. -/
theorem XAll_out : iprop(XAll I.q0 I.w0 4 ∗ xRest (F := F) c bX) ⊢ iprop(XSrc I ∗ (bigSep Finset.univ (fun b : Fin 4 => iprop(∃ v, owns (c : Thread nD τ) (xBlk bX (hX b)) fullShare v)) ∗ xRest (F := F) c bX)) := by
  rw [XAll_done, bigSep_four]
  unfold XFull XSrc
  iintro ⟨⟨⟨HB0, HP0, HV0⟩, ⟨HB1, HP1, HV1⟩, ⟨HB2, HP2, HV2⟩, HB3, HP3, HV3⟩, HR⟩
  isplitl [HP0 HV0 HP1 HV1 HP2 HV2 HP3 HV3]
  · isplitl [HP0 HV0]
    · isplitl [HP0]; · iexact HP0
      iexact HV0
    isplitl [HP1 HV1]
    · isplitl [HP1]; · iexact HP1
      iexact HV1
    isplitl [HP2 HV2]
    · isplitl [HP2]; · iexact HP2
      iexact HV2
    isplitl [HP3]; · iexact HP3
    iexact HV3
  isplitr [HR]
  · isplitl [HB0]; · iexists _; iexact HB0
    isplitl [HB1]; · iexists _; iexact HB1
    isplitl [HB2]; · iexists _; iexact HB2
    iexists _; iexact HB3
  iexact HR

/-- The token buffer, cut by columns, with the output's blocks: the copies out not begun. -/
theorem OsIdle_in : iprop(bigSep Finset.univ (fun b : Fin 4 => iprop(∃ v, owns (c : Thread nD τ) (oBlk bX (hO b)) fullShare v)) ∗ BlkDst (F := F) (c := c)) ⊢ OsIdle (F := F) (c := c) := by
  rw [bigSep_four]
  unfold BlkDst OsIdle OIdle
  iintro ⟨⟨HB0, HB1, HB2, HB3⟩, ⟨HP0, HV0⟩, ⟨HP1, HV1⟩, ⟨HP2, HV2⟩, HP3, HV3⟩
  isplitl [HB0 HP0 HV0]
  · isplitl [HB0]; · iexact HB0
    isplitl [HP0]; · iexact HP0
    iexact HV0
  isplitl [HB1 HP1 HV1]
  · isplitl [HB1]; · iexact HB1
    isplitl [HP1]; · iexact HP1
    iexact HV1
  isplitl [HB2 HP2 HV2]
  · isplitl [HB2]; · iexact HB2
    isplitl [HP2]; · iexact HP2
    iexact HV2
  isplitl [HB3]; · iexact HB3
  isplitl [HP3]; · iexact HP3
  iexact HV3

/-- The token buffer and its blocks of rows, recut by columns. -/
theorem recut (f₀ : Bf F c bX) : iprop(bigSep Finset.univ (fun b : Fin 4 => iprop(∃ v, owns (c : Thread nD τ) (xBlk bX (hX b)) fullShare v)) ∗ xRest (F := F) c bX) ⊢
    iprop(bigSep Finset.univ (fun b : Fin 4 => iprop(∃ v, owns (c : Thread nD τ) (oBlk bX (hO b)) fullShare v)) ∗ oRest (F := F) c bX) :=
  (x_join c bX f₀).trans (o_cut c bX)

variable {E I}

/-- The codes and the scales, one half kept for the loop and one half copied out. -/
theorem outs_in {S : Xs F c} (h : Fits E I S) : iprop(pt c bCodes fullShare S.codes ∗ pt c bXs fullShare S.xs ∗ OutDst (F := F) (c := c)) ⊢
    iprop((pt c bCodes E.qc E.codes ∗ pt c bXs E.qx E.xs) ∗ OutsIdle E fullShare.left fullShare.left) := by
  unfold OutDst OutsIdle CIdle
  rw [h.codes, h.xs, h.qc, h.qx]
  iintro ⟨HC, HX, ⟨H1, HV1⟩, H2, HV2⟩
  ihave HC := (pointsTo_share (PosShare.mem_left_op_right fullShare)).1 $$ HC
  ihave HX := (pointsTo_share (PosShare.mem_left_op_right fullShare)).1 $$ HX
  icases HC with ⟨HCl, HCr⟩
  icases HX with ⟨HXl, HXr⟩
  isplitl [HCr HXr]
  · isplitl [HCr]; · iexact HCr
    iexact HXr
  isplitl [HCl H1 HV1]
  · isplitl [HCl]; · iexact HCl
    isplitl [H1]; · iexact H1
    iexact HV1
  isplitl [HXl]; · iexact HXl
  isplitl [H2]; · iexact H2
  iexact HV2

/-- The tables copied in, with those computed, are what the experts' loop reads. -/
theorem held_in {S : Xs F c} (h : Fits E I S) : iprop(MiscFull I ∗ pt c bPr fullShare S.pr ∗ (pt c bCodes E.qc E.codes ∗ pt c bXs E.qx E.xs)) ⊢ iprop(MSrc I ∗ Held E ∗ HeldC E) := by
  unfold MiscFull Held HeldC MSrc CFull
  rw [h.ch, h.chS, h.sg, h.su, h.sd, h.pr]
  iintro ⟨⟨⟨H1, HP1, HV1⟩, ⟨H2, HP2, HV2⟩, ⟨H3, HP3, HV3⟩, ⟨H4, HP4, HV4⟩, H5, HP5, HV5⟩, Hpr, Hc, Hx⟩
  ihave H1 := pt_of_owns $$ H1
  ihave H2 := pt_of_owns $$ H2
  ihave H3 := pt_of_owns $$ H3
  ihave H4 := pt_of_owns $$ H4
  ihave H5 := pt_of_owns $$ H5
  isplitl [HP1 HV1 HP2 HV2 HP3 HV3 HP4 HV4 HP5 HV5]
  · isplitl [HP1 HV1]
    · isplitl [HP1]; · iexact HP1
      iexact HV1
    isplitl [HP2 HV2]
    · isplitl [HP2]; · iexact HP2
      iexact HV2
    isplitl [HP3 HV3]
    · isplitl [HP3]; · iexact HP3
      iexact HV3
    isplitl [HP4 HV4]
    · isplitl [HP4]; · iexact HP4
      iexact HV4
    isplitl [HP5]; · iexact HP5
    iexact HV5
  isplitl [H1 Hpr Hx Hc H3 H4]
  · isplitl [H1]; · iexact H1
    isplitl [Hpr]; · iexact Hpr
    isplitl [Hx]; · iexact Hx
    isplitl [Hc]; · iexact Hc
    isplitl [H3]; · iexact H3
    iexact H4
  isplitl [H5]; · iexact H5
  iexact H2

variable (E I)

/-- What the loop over experts starts from. -/
theorem inv_in (H : Hr F c) (S : Ya F c) :
    iprop((Held E ∗ HeldC E) ∗ pt c bHc fullShare H.hc ∗ Mem S ∗ GsBusy E (s := 0) (e := 4) (by decide) (by decide)
      ∗ (GsBusy E (s := 1) (e := 1) (by decide) (by decide) ∗ GsBusy E (s := 2) (e := 2) (by decide) (by decide) ∗ GsBusy E (s := 3) (e := 3) (by decide) (by decide))
      ∗ (DsBusy E (s := 0) (e := 0) (by decide) (by decide) ∗ DsBusy E (s := 1) (e := 1) (by decide) (by decide) ∗ DsBusy E (s := 2) (e := 2) (by decide) (by decide) ∗ DsBusy E (s := 3) (e := 3) (by decide) (by decide)) ∗ ow c)
    ⊢ Inv E 0 (H, S) := by
  unfold Inv
  rw [GU_busy E (s := 1) (e := 1) (e' := 0 + 1) (by decide) (by decide) rfl rfl, GU_busy E (s := 2) (e := 2) (e' := 0 + 2) (by decide) (by decide) rfl rfl, GU_busy E (s := 3) (e := 3) (e' := 0 + 3) (by decide) (by decide) rfl rfl,
    GU_busy E (s := 0) (e := 4) (e' := 0 + 4) (by decide) (by decide) rfl rfl, DU_busy E (s := 0) (e := 0) (e' := 0) (by decide) (by decide) rfl rfl, DU_busy E (s := 1) (e := 1) (e' := 0 + 1) (by decide) (by decide) rfl rfl,
    DU_busy E (s := 2) (e := 2) (e' := 0 + 2) (by decide) (by decide) rfl rfl, DU_busy E (s := 3) (e := 3) (e' := 0 + 3) (by decide) (by decide) rfl rfl]
  iintro ⟨⟨HH, HC⟩, Hh, HM, HG0, ⟨HG1, HG2, HG3⟩, HD, HW⟩
  isplitl [HH]; · iexact HH
  isplitl [HC]; · iexact HC
  isplitl [Hh]; · iexact Hh
  isplitl [HM]; · iexact HM
  isplitl [HG0 HG1 HG2 HG3]
  · isplitl [HG1]; · iexact HG1
    isplitl [HG2]; · iexact HG2
    isplitl [HG3]; · iexact HG3
    iexact HG0
  isplitl [HD]; · iexact HD
  iexact HW

/-- What it ends with: every slot idle but the last expert's down matrix. -/
theorem inv_out (p : Hr F c × Ya F c) : Inv E 63 p ⊢
    iprop((Held E ∗ HeldC E) ∗ pt c bHc fullShare p.1.hc ∗ Mem p.2 ∗ DsBusy E (s := 3) (e := 63) (by decide) (by decide)
      ∗ (GsIdle E (s := 0) (by decide) ∗ GsIdle E (s := 1) (by decide) ∗ GsIdle E (s := 2) (by decide) ∗ GsIdle E (s := 3) (by decide))
      ∗ (DsIdle E (s := 0) (by decide) ∗ DsIdle E (s := 1) (by decide) ∗ DsIdle E (s := 2) (by decide)) ∗ ow c) := by
  unfold Inv
  rw [GU_idle E (s := 0) (e := 63 + 1) (by decide) (by decide) rfl, GU_idle E (s := 1) (e := 63 + 2) (by decide) (by decide) rfl, GU_idle E (s := 2) (e := 63 + 3) (by decide) (by decide) rfl,
    GU_idle E (s := 3) (e := 63 + 4) (by decide) (by decide) rfl, DU_busy E (s := 3) (e := 63) (e' := 63) (by decide) (by decide) rfl rfl, DU_idle E (s := 0) (e := 63 + 1) (by decide) (by decide) rfl,
    DU_idle E (s := 1) (e := 63 + 2) (by decide) (by decide) rfl, DU_idle E (s := 2) (e := 63 + 3) (by decide) (by decide) rfl]
  iintro ⟨HH, HC, Hh, HM, HG, ⟨HD3, HD⟩, HW⟩
  isplitl [HH HC]
  · isplitl [HH]; · iexact HH
    iexact HC
  isplitl [Hh]; · iexact Hh
  isplitl [HM]; · iexact HM
  isplitl [HD3]; · iexact HD3
  isplitl [HG]; · iexact HG
  isplitl [HD]; · iexact HD
  iexact HW

/-! ## The whole -/

variable (hch : ChOk c E.chS)

/-- The hidden codes and the accumulator when the loop over experts is done. -/
def loopEnd (hc : Bf F c bHc) (S : Ya F c) : Hr F c × Ya F c := iter E hch k0_pay174 (firstH E k0_pay174 hc, S) 63

/-- What the body starts from, but for the codes', accumulator's and scales' buffers and the hidden codes. -/
def Pre : sProp 𝕄 :=
  iprop(CIdle a1 bWrt (semM (i := 0) (by decide)) fullShare I.w1 ∗ XsIdle I ∗ xRest (F := F) c bX ∗ MiscIdle I ∗ RingsIdle E ∗ pt c bWs fullShare I.ws ∗ OutDst (F := F) (c := c) ∗ BlkDst (F := F) (c := c) ∗ ow c)
/-- What it ends with: the arrays as they were, the buffers at some contents, the output's blocks at `v0` … `v3`, the two tables at the codes and the scales. -/
def Post (v0 v1 v2 v3 : Vec F S1024x512 .bf16) : sProp 𝕄 :=
  iprop(CFull a1 bWrt (semM (i := 0) (by decide)) fullShare I.w1 ∗ XSrc I ∗ oRest (F := F) c bX ∗ MSrc I ∗ RingsIdle E ∗ (∃ f, pt c bWs fullShare f) ∗ (Held E ∗ HeldC E)
    ∗ (∃ f, pt c bHc fullShare f) ∗ (∃ S, Mem (F := F) (c := c) S) ∗ OsFull (c := c) v0 v1 v2 v3 ∗ OutsFull E fullShare.left fullShare.left ∗ ow c)

set_option maxHeartbeats 1000000 in
theorem body_spec (S : Xs F c) (yb : Bf F c bY) (hc : Bf F c bHc) (fX : Bf F c bX) (h : Fits E I (xIter I.w0 (wsF I) S 4)) :
    iprop(Pre E I ∗ XMem S ∗ pt c bY fullShare yb ∗ pt c bHc fullShare hc) ⊢
      wpk c body (fun _ => Post E I
        (outV (last0 E hch (loopEnd E hch hc ⟨yb, (xIter I.w0 (wsF I) S 4).acc⟩).1 (loopEnd E hch hc ⟨yb, (xIter I.w0 (wsF I) S 4).acc⟩).2).acc col0)
        (outV (last1 E hch (loopEnd E hch hc ⟨yb, (xIter I.w0 (wsF I) S 4).acc⟩).1 (loopEnd E hch hc ⟨yb, (xIter I.w0 (wsF I) S 4).acc⟩).2).acc col1)
        (outV (last2 E hch (loopEnd E hch hc ⟨yb, (xIter I.w0 (wsF I) S 4).acc⟩).1 (loopEnd E hch hc ⟨yb, (xIter I.w0 (wsF I) S 4).acc⟩).2).acc col2)
        (outV (last3 E hch (loopEnd E hch hc ⟨yb, (xIter I.w0 (wsF I) S 4).acc⟩).1 (loopEnd E hch hc ⟨yb, (xIter I.w0 (wsF I) S 4).acc⟩).2).acc col3)) := by
  have xsp := xLoop_spec I.q0 I.w0 (wsF I) S
  have fsp := front_spec E I
  generalize wsF I = ws at xsp fsp h ⊢
  generalize xIter I.w0 ws S 4 = S4 at xsp h ⊢
  have fisp := first_spec E hc
  have lsp := eLoop_spec E hch (firstH E k0_pay174 hc, ⟨yb, S4.acc⟩)
  unfold loopEnd
  generalize firstH E k0_pay174 hc = H0 at fisp lsp ⊢
  generalize iter E hch k0_pay174 (H0, ⟨yb, S4.acc⟩) 63 = R at lsp ⊢
  have tsp := last_spec E hch R.1 fullShare.left fullShare.left R.2
  generalize outV (last0 E hch R.1 R.2).acc col0 = v0 at tsp ⊢
  generalize outV (last1 E hch R.1 R.2).acc col1 = v1 at tsp ⊢
  generalize outV (last2 E hch R.1 R.2).acc col2 = v2 at tsp ⊢
  generalize outV (last3 E hch R.1 R.2).acc col3 = v3 at tsp ⊢
  generalize last3 E hch R.1 R.2 = SE at tsp ⊢
  unfold body Pre
  iintro ⟨⟨HA1, HXs, HXr, HMi, HRi, Hws, HOD, HBD, HW⟩, HXM, Hy, Hh⟩
  iapply (wp_seq c fsp) $$ [HA1 HXs HMi HRi Hws HW]
  · isplitl [HA1]; · iexact HA1
    isplitl [HXs]; · iexact HXs
    isplitl [HMi]; · iexact HMi
    isplitl [HRi]; · iexact HRi
    isplitl [Hws]; · iexact Hws
    iexact HW
  iintro %w ⟨HA1, HXA, HMi, HRi, Hws, HW⟩
  iapply (wp_seq c (xsp w)) $$ [HXA HXM Hws HW]
  · unfold XInv
    isplitl [HXA]; · iexact HXA
    isplitl [HXM]; · iexact HXM
    isplitl [Hws]; · iexact Hws
    iexact HW
  iintro %_ HI
  unfold XInv
  icases HI with ⟨HXA, HXM, Hws, HW⟩
  unfold XMem
  icases HXM with ⟨Hco, Hacc, Hpr, Hxs⟩
  ihave HX := (XAll_out I) $$ [HXA HXr]
  · isplitl [HXA]; · iexact HXA
    iexact HXr
  icases HX with ⟨HXS, HX⟩
  ihave HX := (recut fX) $$ HX
  icases HX with ⟨HXB, HXr⟩
  ihave HOs := OsIdle_in $$ [HXB HBD]
  · isplitl [HXB]; · iexact HXB
    iexact HBD
  ihave HO := (outs_in h) $$ [Hco Hxs HOD]
  · isplitl [Hco]; · iexact Hco
    isplitl [Hxs]; · iexact Hxs
    iexact HOD
  icases HO with ⟨Hcx, HO⟩
  iapply (wp_seq c (middle_spec E I fullShare.left fullShare.left)) $$ [HMi HO HW]
  · isplitl [HMi]; · iexact HMi
    isplitl [HO]; · iexact HO
    iexact HW
  iintro %_ ⟨HMi, HO, HW⟩
  ihave HH := (held_in h) $$ [HMi Hpr Hcx]
  · isplitl [HMi]; · iexact HMi
    isplitl [Hpr]; · iexact Hpr
    iexact Hcx
  icases HH with ⟨HMS, HH, HC⟩
  unfold RingsBusy
  icases HRi with ⟨⟨HG0, HG⟩, HD⟩
  iapply (wp_seq c fisp) $$ [HH HG0 Hh HW]
  · isplitl [HH]; · iexact HH
    isplitl [HG0]; · iexact HG0
    isplitl [Hh]; · iexact Hh
    iexact HW
  iintro %p ⟨%hp, HH, HG0, Hh, HW⟩
  subst hp
  ihave HI := (inv_in E H0 ⟨yb, S4.acc⟩) $$ [HH HC Hh Hy Hacc HG0 HG HD HW]
  · isplitl [HH HC]
    · isplitl [HH]; · iexact HH
      iexact HC
    isplitl [Hh]; · iexact Hh
    isplitl [Hy Hacc]
    · unfold Mem
      isplitl [Hy]; · iexact Hy
      iexact Hacc
    isplitl [HG0]; · iexact HG0
    isplitl [HG]; · iexact HG
    isplitl [HD]; · iexact HD
    iexact HW
  iapply (wp_seq c lsp) $$ HI
  iintro %q ⟨%hq, HI⟩
  subst hq
  ihave HI := (inv_out E R) $$ HI
  icases HI with ⟨⟨HH, HC⟩, Hh, HM, HD3, HG, HD, HW⟩
  ihave HT := tsp $$ [HC Hh HM HD3 HOs HO HW]
  · isplitl [HC]; · iexact HC
    isplitl [Hh]; · iexact Hh
    isplitl [HM]; · iexact HM
    isplitl [HD3]; · iexact HD3
    isplitl [HOs]; · iexact HOs
    isplitl [HO]; · iexact HO
    iexact HW
  iapply (wp_wand frame (wpE (defs₀ (F := F)) Variants.none (c : Thread nD τ) none) Set.univ) $$ HT
  iintro %_ ⟨HC, Hh, HM, HD3, HOs, HO, HW⟩
  unfold Post RingsIdle
  icases HD with ⟨HD0, HD1, HD2⟩
  isplitl [HA1]; · iexact HA1
  isplitl [HXS]; · iexact HXS
  isplitl [HXr]; · iexact HXr
  isplitl [HMS]; · iexact HMS
  isplitl [HG HD0 HD1 HD2 HD3]
  · isplitl [HG]; · iexact HG
    isplitl [HD0]; · iexact HD0
    isplitl [HD1]; · iexact HD1
    isplitl [HD2]; · iexact HD2
    iexact HD3
  isplitl [Hws]; · iexists _; iexact Hws
  isplitl [HH HC]
  · isplitl [HH]; · iexact HH
    iexact HC
  isplitl [Hh]; · iexists _; iexact Hh
  isplitl [HM]; · iexists SE; iexact HM
  isplitl [HOs]; · iexact HOs
  isplitl [HO]; · iexact HO
  iexact HW

end

end Cert.KernelIdeal.Body
-- ==== Proof.Ideal.Ends.lean ====
module

public import proofs.«01_k».proof.Proof.Ideal.Whole

/-! The buffers, arrays and semaphores of the launch, dealt to the copies that use them, and gathered again. -/

@[expose] public section

set_option synthInstance.maxSize 4096
set_option maxRecDepth 16384

noncomputable section

namespace Cert.KernelIdeal.Body

open Cert.KernelIdeal Cert.KernelIdeal.Facts₀ Cert.KernelIdeal.Facts
open Cert.KernelIdeal.Gen (k0_pay174)
open Idealize.ShloMosaic.Ring
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD)

/-! ## Families -/

theorem two_out {I : Type} [Fintype I] (P Q : I → sProp 𝕄) : bigSep Finset.univ (fun i => iprop(P i ∗ Q i)) ⊢ iprop(bigSep Finset.univ P ∗ bigSep Finset.univ Q) := by
  rw [bigSep_sep']
theorem two_in {I : Type} [Fintype I] (P Q : I → sProp 𝕄) : iprop(bigSep Finset.univ P ∗ bigSep Finset.univ Q) ⊢ bigSep Finset.univ (fun i => iprop(P i ∗ Q i)) := by
  rw [bigSep_sep']
/-- Three families side by side are one family of triples. -/
theorem zip3 {I : Type} [Fintype I] (P Q R : I → sProp 𝕄) :
    iprop(bigSep Finset.univ P ∗ bigSep Finset.univ Q ∗ bigSep Finset.univ R) = bigSep Finset.univ (fun i => iprop(P i ∗ Q i ∗ R i)) := by
  rw [bigSep_sep', bigSep_sep']

/-- The share of an array that the copy into slot `s` and chunk `j` reads through. -/
def dTok (s j : Fin 4) : PosShare TreeShare := shareTokN (shareTokN fullShare s.val) j.val

/-- An array dealt to the four slots of a gate or up ring, and taken back. -/
theorem g_in (M : Memref sig .tc .vmem S4x2048x1408 .fp8e4m3) (A : Memref sig .tc .hbm S64x2048x1408 .fp8e4m3) {i : ℕ} (hi : i < 2) (w : Bf F c A) :
    iprop(pt c A fullShare w ∗ (∃ f, pt c M fullShare f) ∗ bigSep Finset.univ (fun s : Fin 4 => sv (F := F) c (semG s.isLt hi))) ⊢
      iprop(bigSep Finset.univ (fun s : Fin 4 => GIdle M A s.isLt hi (shareTokN fullShare s.val) w) ∗ pt c A (shareDrop fullShare 4) w ∗ gRest (F := F) c M) := by
  unfold GIdle
  rw [← zip3]
  iintro ⟨HA, HM, HS⟩
  ihave HA := (pointsTo_toks_split fullShare 4) $$ HA
  icases HA with ⟨HD, HA⟩
  ihave HM := (g_cut c M) $$ HM
  icases HM with ⟨HM, HR⟩
  isplitl [HA HM HS]
  · isplitl [HA]; · iexact HA
    isplitl [HM]; · iexact HM
    iexact HS
  isplitl [HD]; · iexact HD
  iexact HR
theorem g_out (M : Memref sig .tc .vmem S4x2048x1408 .fp8e4m3) (A : Memref sig .tc .hbm S64x2048x1408 .fp8e4m3) {i : ℕ} (hi : i < 2) (w : Bf F c A) (f₀ : Bf F c M) :
    iprop(bigSep Finset.univ (fun s : Fin 4 => GIdle M A s.isLt hi (shareTokN fullShare s.val) w) ∗ pt c A (shareDrop fullShare 4) w ∗ gRest (F := F) c M) ⊢
      iprop(pt c A fullShare w ∗ (∃ f, pt c M fullShare f) ∗ bigSep Finset.univ (fun s : Fin 4 => sv (F := F) c (semG s.isLt hi))) := by
  unfold GIdle
  rw [← zip3]
  iintro ⟨⟨HA, HM, HS⟩, HD, HR⟩
  ihave HA := (pointsTo_toks_join fullShare 4) $$ [HD HA]
  · isplitl [HD]; · iexact HD
    iexact HA
  ihave HM := (g_join c M f₀) $$ [HM HR]
  · isplitl [HM]; · iexact HM
    iexact HR
  isplitl [HA]; · iexact HA
  isplitl [HM]; · iexact HM
  iexact HS

/-- An array dealt to slots and chunks: what is kept aside, and the shares. -/
def dKeep (w : Bf F c a7) : sProp 𝕄 := iprop(pt c a7 (shareDrop fullShare 4) w ∗ bigSep Finset.univ (fun s : Fin 4 => pt c a7 (shareDrop (shareTokN fullShare s.val) 4) w))
theorem d_rows (w : Bf F c a7) : bigSep Finset.univ (fun s : Fin 4 => pt c a7 (shareTokN fullShare s.val) w) ⊢
    (iprop(bigSep Finset.univ (fun s : Fin 4 => pt c a7 (shareDrop (shareTokN fullShare s.val) 4) w) ∗ bigSep Finset.univ (fun s : Fin 4 => bigSep Finset.univ (fun j : Fin 4 => pt c a7 (dTok s j) w))) : sProp 𝕄) :=
  (bigSep_mono fun (s : Fin 4) _ => pointsTo_toks_split (shareTokN fullShare s.val) 4).trans (two_out _ _)
theorem d_unrows (w : Bf F c a7) :
    (iprop(bigSep Finset.univ (fun s : Fin 4 => pt c a7 (shareDrop (shareTokN fullShare s.val) 4) w) ∗ bigSep Finset.univ (fun s : Fin 4 => bigSep Finset.univ (fun j : Fin 4 => pt c a7 (dTok s j) w))) : sProp 𝕄) ⊢ bigSep Finset.univ (fun s : Fin 4 => pt c a7 (shareTokN fullShare s.val) w) :=
  (two_in _ _).trans (bigSep_mono fun (s : Fin 4) _ => pointsTo_toks_join (shareTokN fullShare s.val) 4)
theorem d_deal (w : Bf F c a7) : (pt c a7 fullShare w : sProp 𝕄) ⊢ iprop(dKeep c w ∗ bigSep Finset.univ (fun p : Fin 4 × Fin 4 => pt c a7 (dTok p.1 p.2) w)) := by
  unfold dKeep
  rw [bigSep_pairs]
  iintro HA
  ihave HA := (pointsTo_toks_split fullShare 4) $$ HA
  icases HA with ⟨HD, HA⟩
  ihave HA := (d_rows c w) $$ HA
  icases HA with ⟨HD', HA⟩
  isplitl [HD HD']
  · isplitl [HD]; · iexact HD
    iexact HD'
  iexact HA
theorem d_undeal (w : Bf F c a7) : iprop(dKeep c w ∗ bigSep Finset.univ (fun p : Fin 4 × Fin 4 => pt c a7 (dTok p.1 p.2) w)) ⊢ (pt c a7 fullShare w : sProp 𝕄) := by
  unfold dKeep
  rw [bigSep_pairs]
  iintro ⟨⟨HD, HD'⟩, HA⟩
  ihave HA := (d_unrows c w) $$ [HD' HA]
  · isplitl [HD']; · iexact HD'
    iexact HA
  iapply (pointsTo_toks_join fullShare 4)
  isplitl [HD]; · iexact HD
  iexact HA
theorem d_in (w : Bf F c a7) :
    iprop(pt c a7 fullShare w ∗ (∃ f, pt c bWd fullShare f) ∗ bigSep Finset.univ (fun p : Fin 4 × Fin 4 => sv (F := F) c (semD p.1.isLt p.2.isLt))) ⊢
      iprop(bigSep Finset.univ (fun p : Fin 4 × Fin 4 => DIdle p.1.isLt p.2.isLt (dTok p.1 p.2) w) ∗ dKeep c w ∗ dRest (F := F) c) := by
  unfold DIdle
  rw [← zip3]
  iintro ⟨HA, HM, HS⟩
  ihave HA := (d_deal c w) $$ HA
  icases HA with ⟨HD, HA⟩
  ihave HM := (d_cut c) $$ HM
  icases HM with ⟨HM, HR⟩
  isplitl [HA HM HS]
  · isplitl [HA]; · iexact HA
    isplitl [HM]; · iexact HM
    iexact HS
  isplitl [HD]; · iexact HD
  iexact HR
theorem d_out (w : Bf F c a7) (f₀ : Bf F c bWd) :
    iprop(bigSep Finset.univ (fun p : Fin 4 × Fin 4 => DIdle p.1.isLt p.2.isLt (dTok p.1 p.2) w) ∗ dKeep c w ∗ dRest (F := F) c) ⊢
      iprop(pt c a7 fullShare w ∗ (∃ f, pt c bWd fullShare f) ∗ bigSep Finset.univ (fun p : Fin 4 × Fin 4 => sv (F := F) c (semD p.1.isLt p.2.isLt))) := by
  unfold DIdle
  rw [← zip3]
  iintro ⟨⟨HA, HM, HS⟩, HD, HR⟩
  ihave HA := (d_undeal c w) $$ [HD HA]
  · isplitl [HD]; · iexact HD
    iexact HA
  ihave HM := (d_join c f₀) $$ [HM HR]
  · isplitl [HM]; · iexact HM
    iexact HR
  isplitl [HA]; · iexact HA
  isplitl [HM]; · iexact HM
  iexact HS

theorem o_pieces (M : Memref sig .tc .hbm S1024x2048 .bf16) (v : Fin 4 → Vec F S1024x512 .bf16) :
    bigSep Finset.univ (fun b : Fin 4 => owns (c : Thread nD τ) (oBlk M (hO b)) fullShare (v b)) ⊢
      (iprop(∃ fs : Fin 4 → Bf F c M, ⌜∀ b : Fin 4, (oBlk M (hO b)).view.read (Elt F) (fs b) = v b⌝ ∗ bigSep Finset.univ (fun b : Fin 4 => M.view.loc (c : Thread nD τ) ↦[oSet c M b]{fullShare} fs b)) : sProp 𝕄) := by
  simp only [bigSep_four]
  unfold owns
  iintro ⟨⟨%f0, %h0, H0⟩, ⟨%f1, %h1, H1⟩, ⟨%f2, %h2, H2⟩, ⟨%f3, %h3, H3⟩⟩
  iexists (fun b : Fin 4 => match b with | 0 => f0 | 1 => f1 | 2 => f2 | 3 => f3)
  isplitr
  · ipureintro
    intro b
    fin_cases b
    · exact h0
    · exact h1
    · exact h2
    · exact h3
  isplitl [H0]; · iexact H0
  isplitl [H1]; · iexact H1
  isplitl [H2]; · iexact H2
  iexact H3
/-- The output's blocks at given values join to the output, whose blocks read so. -/
theorem o_join_v (M : Memref sig .tc .hbm S1024x2048 .bf16) (f₀ : Bf F c M) (v : Fin 4 → Vec F S1024x512 .bf16) :
    iprop(bigSep Finset.univ (fun b : Fin 4 => owns (c : Thread nD τ) (oBlk M (hO b)) fullShare (v b)) ∗ oRest (F := F) c M) ⊢
      (iprop(∃ f : Bf F c M, ⌜∀ b : Fin 4, (oBlk M (hO b)).view.read (Elt F) f = v b⌝ ∗ pt c M fullShare f) : sProp 𝕄) := by
  unfold oRest
  iintro ⟨H1, ⟨%r, H2⟩⟩
  ihave H1 := (o_pieces c M v) $$ H1
  icases H1 with ⟨%fs, %hv, H1⟩
  ihave H1 := (pointsTo_biUnion_join Finset.univ (oSet c M) fs f₀ (fun b _ b' _ h => oSet_disjoint c M b b' h)) $$ H1
  icases H1 with ⟨%g, %hg, H1⟩
  ihave H := (pointsTo_join (I := Finset.univ.biUnion (oSet c M)) (J := restOf (oSet c M)) (f := g) (g := r) Finset.disjoint_sdiff) $$ [H1 H2]
  · isplitl [H1]; · iexact H1
    iexact H2
  rw [Finset.union_sdiff_of_subset (Finset.subset_univ _)]
  iexists _
  isplitr
  swap; · iexact H
  ipureintro
  intro b
  rw [← hv b]
  refine View.read_congr fun i hi => ?_
  have hb : i ∈ Finset.univ.biUnion (oSet c M) := Finset.mem_biUnion.mpr ⟨b, Finset.mem_univ b, hi⟩
  exact (Finset.piecewise_eq_of_notMem (restOf (oSet c M)) r g (fun h => (Finset.mem_sdiff.mp h).2 hb)).trans (hg b (Finset.mem_univ b) i hi)
end

end Cert.KernelIdeal.Body
-- ==== Proof.Ideal.Deal.lean ====
module

public import proofs.«01_k».proof.Proof.Ideal.Ends

/-! The whole body, from the buffers, arrays and semaphores of the launch back to them. -/

@[expose] public section

set_option synthInstance.maxSize 4096
set_option maxRecDepth 16384

noncomputable section

namespace Cert.KernelIdeal.Body

open Cert.KernelIdeal Cert.KernelIdeal.Facts₀ Cert.KernelIdeal.Facts
open Cert.KernelIdeal.Gen (k0_pay174)
open Idealize.ShloMosaic.Ring
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {c : Dev nD}

/-- The contents of the kernel's argument arrays. -/
structure Arrays (F : FTy → Type) (c : Dev nD) where
  w0 : Bf F c a0
  w1 : Bf F c a1
  w2 : Bf F c a2
  w3 : Bf F c a3
  w4 : Bf F c a4
  w5 : Bf F c a5
  w6 : Bf F c a6
  w7 : Bf F c a7
  w8 : Bf F c a8

/-- What the copies in start from, and what the loop over experts reads, from the arrays. -/
def startOf (A : Arrays F c) (ws : Bf F c bWs) : Start F c where
  w0 := A.w0
  w1 := A.w1
  w2 := A.w2
  w5 := A.w5
  w6 := A.w6
  w8 := A.w8
  q0 := fun i => shareTokN fullShare i.val
  q2 := fullShare.left
  q2' := fullShare.right
  ws := ws
def envOf (A : Arrays F c) (S : Xs F c) : Env F c where
  chS := (a2.view.read (Elt F) A.w2 : Bf F c bChS)
  ch := (a2.view.read (Elt F) A.w2 : Bf F c bCh)
  pr := S.pr
  xs := S.xs
  codes := S.codes
  sg := (a5.view.read (Elt F) A.w5 : Bf F c bSg)
  su := (a6.view.read (Elt F) A.w6 : Bf F c bSu)
  sd := (a8.view.read (Elt F) A.w8 : Bf F c bSd)
  w3 := A.w3
  w4 := A.w4
  w7 := A.w7
  qx := fullShare.right
  qc := fullShare.right
  qg := fun s => shareTokN fullShare s.val
  qu := fun s => shareTokN fullShare s.val
  qd := dTok
/-- The state that the loop over the blocks of tokens leaves. -/
def xEnd (A : Arrays F c) (ws : Bf F c bWs) (S : Xs F c) : Xs F c := xIter A.w0 (wsF (startOf A ws)) S 4
theorem fits (A : Arrays F c) (ws : Bf F c bWs) (S : Xs F c) : Fits (envOf A (xEnd A ws S)) (startOf A ws) (xIter (startOf A ws).w0 (wsF (startOf A ws)) S 4) :=
  ⟨rfl, rfl, rfl, rfl, rfl, rfl, rfl, rfl, rfl, rfl⟩

/-! ## The tokens -/

theorem x_in (A : Arrays F c) (ws : Bf F c bWs) :
    iprop(pt c a0 fullShare A.w0 ∗ (∃ f, pt (F := F) c bX fullShare f) ∗ sv (F := F) c (semX (0 : Fin 4).isLt) ∗ sv (F := F) c (semX (1 : Fin 4).isLt) ∗ sv (F := F) c (semX (2 : Fin 4).isLt) ∗ sv (F := F) c (semX (3 : Fin 4).isLt)) ⊢ iprop((XsIdle (startOf A ws) ∗ xRest (F := F) c bX) ∗ pt c a0 (shareDrop fullShare 4) A.w0) := by
  unfold XsIdle XIdle
  iintro ⟨HA, HB, X0, X1, X2, X3⟩
  ihave HA := ((pointsTo_toks_split fullShare 4).trans (by rw [bigSep_four])) $$ HA
  ihave HB := ((x_cut c bX).trans (by rw [bigSep_four])) $$ HB
  icases HA with ⟨HD, P0, P1, P2, P3⟩
  icases HB with ⟨⟨B0, B1, B2, B3⟩, HR⟩
  isplitl [P0 B0 X0 P1 B1 X1 P2 B2 X2 P3 B3 X3 HR]
  · isplitl [P0 B0 X0 P1 B1 X1 P2 B2 X2 P3 B3 X3]
    · isplitl [P0 B0 X0]
      · isplitl [P0]; · iexact P0
        isplitl [B0]; · iexact B0
        iexact X0
      isplitl [P1 B1 X1]
      · isplitl [P1]; · iexact P1
        isplitl [B1]; · iexact B1
        iexact X1
      isplitl [P2 B2 X2]
      · isplitl [P2]; · iexact P2
        isplitl [B2]; · iexact B2
        iexact X2
      isplitl [P3]; · iexact P3
      isplitl [B3]; · iexact B3
      iexact X3
    iexact HR
  iexact HD
theorem x_out (A : Arrays F c) (ws : Bf F c bWs) :
    iprop(XSrc (startOf A ws) ∗ pt c a0 (shareDrop fullShare 4) A.w0) ⊢ iprop(pt c a0 fullShare A.w0 ∗ sv (F := F) c (semX (0 : Fin 4).isLt) ∗ sv (F := F) c (semX (1 : Fin 4).isLt) ∗ sv (F := F) c (semX (2 : Fin 4).isLt) ∗ sv (F := F) c (semX (3 : Fin 4).isLt)) := by
  unfold XSrc
  iintro ⟨⟨⟨P0, X0⟩, ⟨P1, X1⟩, ⟨P2, X2⟩, P3, X3⟩, HD⟩
  isplitl [HD P0 P1 P2 P3]
  · iapply ((by rw [bigSep_four]; exact .rfl : iprop(pt c a0 (shareDrop fullShare 4) A.w0 ∗ pt c a0 (shareTokN fullShare 0) A.w0 ∗ pt c a0 (shareTokN fullShare 1) A.w0 ∗ pt c a0 (shareTokN fullShare 2) A.w0 ∗ pt c a0 (shareTokN fullShare 3) A.w0) ⊢
      (iprop(pt c a0 (shareDrop fullShare 4) A.w0 ∗ bigSep Finset.univ (fun i : Fin 4 => pt c a0 (shareTokN fullShare i.val) A.w0)) : sProp 𝕄)).trans (pointsTo_toks_join fullShare 4))
    isplitl [HD]; · iexact HD
    isplitl [P0]; · iexact P0
    isplitl [P1]; · iexact P1
    isplitl [P2]; · iexact P2
    iexact P3
  isplitl [X0]; · iexact X0
  isplitl [X1]; · iexact X1
  isplitl [X2]; · iexact X2
  iexact X3

/-! ## The single copies -/

theorem m_in (A : Arrays F c) (ws : Bf F c bWs) :
    iprop((pt c a2 fullShare A.w2 ∗ pt c a5 fullShare A.w5 ∗ pt c a6 fullShare A.w6 ∗ pt c a8 fullShare A.w8) ∗ ((∃ f, pt (F := F) c bCh fullShare f) ∗ (∃ f, pt (F := F) c bChS fullShare f) ∗ (∃ f, pt (F := F) c bSg fullShare f) ∗ (∃ f, pt (F := F) c bSu fullShare f) ∗ (∃ f, pt (F := F) c bSd fullShare f)) ∗ sv (F := F) c (semM (i := 1) (by decide)) ∗ sv (F := F) c (semM (i := 2) (by decide)) ∗ sv (F := F) c (semM (i := 3) (by decide)) ∗ sv (F := F) c (semM (i := 4) (by decide)) ∗ sv (F := F) c (semM (i := 5) (by decide))) ⊢ MiscIdle (startOf A ws) := by
  unfold MiscIdle CIdle
  iintro ⟨⟨A2, A5, A6, A8⟩, ⟨⟨%f1, B1⟩, ⟨%f2, B2⟩, ⟨%f3, B3⟩, ⟨%f4, B4⟩, ⟨%f5, B5⟩⟩, M1, M2, M3, M4, M5⟩
  ihave A2 := (pointsTo_share (PosShare.mem_left_op_right fullShare)).1 $$ A2
  icases A2 with ⟨A2, A2'⟩
  ihave B1 := owns_of_pt $$ B1
  ihave B2 := owns_of_pt $$ B2
  ihave B3 := owns_of_pt $$ B3
  ihave B4 := owns_of_pt $$ B4
  ihave B5 := owns_of_pt $$ B5
  isplitl [A2 B1 M1]
  · isplitl [A2]; · iexact A2
    isplitl [B1]; · iexists _; iexact B1
    iexact M1
  isplitl [A2' B2 M2]
  · isplitl [A2']; · iexact A2'
    isplitl [B2]; · iexists _; iexact B2
    iexact M2
  isplitl [A5 B3 M3]
  · isplitl [A5]; · iexact A5
    isplitl [B3]; · iexists _; iexact B3
    iexact M3
  isplitl [A6 B4 M4]
  · isplitl [A6]; · iexact A6
    isplitl [B4]; · iexists _; iexact B4
    iexact M4
  isplitl [A8]; · iexact A8
  isplitl [B5]; · iexists _; iexact B5
  iexact M5
theorem m_out (A : Arrays F c) (ws : Bf F c bWs) :
    MSrc (startOf A ws) ⊢ iprop((pt c a2 fullShare A.w2 ∗ pt c a5 fullShare A.w5 ∗ pt c a6 fullShare A.w6 ∗ pt c a8 fullShare A.w8) ∗ sv (F := F) c (semM (i := 1) (by decide)) ∗ sv (F := F) c (semM (i := 2) (by decide)) ∗ sv (F := F) c (semM (i := 3) (by decide)) ∗ sv (F := F) c (semM (i := 4) (by decide)) ∗ sv (F := F) c (semM (i := 5) (by decide))) := by
  unfold MSrc
  iintro ⟨⟨A2, M1⟩, ⟨A2', M2⟩, ⟨A5, M3⟩, ⟨A6, M4⟩, A8, M5⟩
  ihave A2 := (pointsTo_share (PosShare.mem_left_op_right fullShare)).2 $$ [A2 A2']
  · isplitl [A2]; · iexact A2
    iexact A2'
  isplitl [A2 A5 A6 A8]
  · isplitl [A2]; · iexact A2
    isplitl [A5]; · iexact A5
    isplitl [A6]; · iexact A6
    iexact A8
  isplitl [M1]; · iexact M1
  isplitl [M2]; · iexact M2
  isplitl [M3]; · iexact M3
  isplitl [M4]; · iexact M4
  iexact M5

/-! ## The rings -/

/-- What the rings leave aside. -/
def RKeep (A : Arrays F c) : sProp 𝕄 :=
  iprop((pt c a3 (shareDrop fullShare 4) A.w3 ∗ gRest (F := F) c bWg) ∗ (pt c a4 (shareDrop fullShare 4) A.w4 ∗ gRest (F := F) c bWu) ∗ dKeep c A.w7 ∗ dRest (F := F) c)
theorem rings_of_fam (A : Arrays F c) (S : Xs F c) : iprop(bigSep Finset.univ (fun s : Fin 4 => GIdle bWg a3 s.isLt (by decide : 0 < 2) (shareTokN fullShare s.val) A.w3) ∗ bigSep Finset.univ (fun s : Fin 4 => GIdle bWu a4 s.isLt (by decide : 1 < 2) (shareTokN fullShare s.val) A.w4) ∗ bigSep Finset.univ (fun p : Fin 4 × Fin 4 => DIdle p.1.isLt p.2.isLt (dTok p.1 p.2) A.w7)) ⊢ RingsIdle (envOf A S) := by
  rw [bigSep_pairs]
  simp only [bigSep_four]
  unfold RingsIdle GsIdle DsIdle
  iintro ⟨⟨g0, g1, g2, g3⟩, ⟨u0, u1, u2, u3⟩, ⟨d00, d01, d02, d03⟩, ⟨d10, d11, d12, d13⟩, ⟨d20, d21, d22, d23⟩, d30, d31, d32, d33⟩
  isplitl [g0 u0 g1 u1 g2 u2 g3 u3]
  · isplitl [g0 u0]
    · isplitl [g0]; · iexact g0
      iexact u0
    isplitl [g1 u1]
    · isplitl [g1]; · iexact g1
      iexact u1
    isplitl [g2 u2]
    · isplitl [g2]; · iexact g2
      iexact u2
    isplitl [g3]; · iexact g3
    iexact u3
  isplitl [d00 d01 d02 d03]
  · isplitl [d00]; · iexact d00
    isplitl [d01]; · iexact d01
    isplitl [d02]; · iexact d02
    iexact d03
  isplitl [d10 d11 d12 d13]
  · isplitl [d10]; · iexact d10
    isplitl [d11]; · iexact d11
    isplitl [d12]; · iexact d12
    iexact d13
  isplitl [d20 d21 d22 d23]
  · isplitl [d20]; · iexact d20
    isplitl [d21]; · iexact d21
    isplitl [d22]; · iexact d22
    iexact d23
  isplitl [d30]; · iexact d30
  isplitl [d31]; · iexact d31
  isplitl [d32]; · iexact d32
  iexact d33
theorem fam_of_rings (A : Arrays F c) (S : Xs F c) : RingsIdle (envOf A S) ⊢ iprop(bigSep Finset.univ (fun s : Fin 4 => GIdle bWg a3 s.isLt (by decide : 0 < 2) (shareTokN fullShare s.val) A.w3) ∗ bigSep Finset.univ (fun s : Fin 4 => GIdle bWu a4 s.isLt (by decide : 1 < 2) (shareTokN fullShare s.val) A.w4) ∗ bigSep Finset.univ (fun p : Fin 4 × Fin 4 => DIdle p.1.isLt p.2.isLt (dTok p.1 p.2) A.w7)) := by
  rw [bigSep_pairs]
  simp only [bigSep_four]
  unfold RingsIdle GsIdle DsIdle
  iintro ⟨⟨⟨g0, u0⟩, ⟨g1, u1⟩, ⟨g2, u2⟩, g3, u3⟩, ⟨d00, d01, d02, d03⟩, ⟨d10, d11, d12, d13⟩, ⟨d20, d21, d22, d23⟩, d30, d31, d32, d33⟩
  isplitl [g0 g1 g2 g3]
  · isplitl [g0]; · iexact g0
    isplitl [g1]; · iexact g1
    isplitl [g2]; · iexact g2
    iexact g3
  isplitl [u0 u1 u2 u3]
  · isplitl [u0]; · iexact u0
    isplitl [u1]; · iexact u1
    isplitl [u2]; · iexact u2
    iexact u3
  isplitl [d00 d01 d02 d03]
  · isplitl [d00]; · iexact d00
    isplitl [d01]; · iexact d01
    isplitl [d02]; · iexact d02
    iexact d03
  isplitl [d10 d11 d12 d13]
  · isplitl [d10]; · iexact d10
    isplitl [d11]; · iexact d11
    isplitl [d12]; · iexact d12
    iexact d13
  isplitl [d20 d21 d22 d23]
  · isplitl [d20]; · iexact d20
    isplitl [d21]; · iexact d21
    isplitl [d22]; · iexact d22
    iexact d23
  isplitl [d30]; · iexact d30
  isplitl [d31]; · iexact d31
  isplitl [d32]; · iexact d32
  iexact d33
/-- The rings' semaphores, by ring. -/
def RSems (c : Dev nD) : sProp 𝕄 := iprop(bigSep Finset.univ (fun s : Fin 4 => sv (F := F) c (semG s.isLt (by decide : 0 < 2))) ∗ bigSep Finset.univ (fun s : Fin 4 => sv (F := F) c (semG s.isLt (by decide : 1 < 2))) ∗ bigSep Finset.univ (fun p : Fin 4 × Fin 4 => sv (F := F) c (semD p.1.isLt p.2.isLt)))
theorem rsems_in : iprop(sv (F := F) c (semG (0 : Fin 4).isLt (by decide : 0 < 2)) ∗ sv (F := F) c (semG (0 : Fin 4).isLt (by decide : 1 < 2)) ∗ sv (F := F) c (semG (1 : Fin 4).isLt (by decide : 0 < 2)) ∗ sv (F := F) c (semG (1 : Fin 4).isLt (by decide : 1 < 2)) ∗ sv (F := F) c (semG (2 : Fin 4).isLt (by decide : 0 < 2)) ∗ sv (F := F) c (semG (2 : Fin 4).isLt (by decide : 1 < 2)) ∗ sv (F := F) c (semG (3 : Fin 4).isLt (by decide : 0 < 2)) ∗ sv (F := F) c (semG (3 : Fin 4).isLt (by decide : 1 < 2)) ∗ sv (F := F) c (semD (0 : Fin 4).isLt (0 : Fin 4).isLt) ∗ sv (F := F) c (semD (0 : Fin 4).isLt (1 : Fin 4).isLt) ∗ sv (F := F) c (semD (0 : Fin 4).isLt (2 : Fin 4).isLt) ∗ sv (F := F) c (semD (0 : Fin 4).isLt (3 : Fin 4).isLt) ∗ sv (F := F) c (semD (1 : Fin 4).isLt (0 : Fin 4).isLt) ∗ sv (F := F) c (semD (1 : Fin 4).isLt (1 : Fin 4).isLt) ∗ sv (F := F) c (semD (1 : Fin 4).isLt (2 : Fin 4).isLt) ∗ sv (F := F) c (semD (1 : Fin 4).isLt (3 : Fin 4).isLt) ∗ sv (F := F) c (semD (2 : Fin 4).isLt (0 : Fin 4).isLt) ∗ sv (F := F) c (semD (2 : Fin 4).isLt (1 : Fin 4).isLt) ∗ sv (F := F) c (semD (2 : Fin 4).isLt (2 : Fin 4).isLt) ∗ sv (F := F) c (semD (2 : Fin 4).isLt (3 : Fin 4).isLt) ∗ sv (F := F) c (semD (3 : Fin 4).isLt (0 : Fin 4).isLt) ∗ sv (F := F) c (semD (3 : Fin 4).isLt (1 : Fin 4).isLt) ∗ sv (F := F) c (semD (3 : Fin 4).isLt (2 : Fin 4).isLt) ∗ sv (F := F) c (semD (3 : Fin 4).isLt (3 : Fin 4).isLt)) ⊢ RSems (F := F) c := by
  unfold RSems
  rw [bigSep_pairs]
  simp only [bigSep_four]
  iintro ⟨G00, G01, G10, G11, G20, G21, G30, G31, D00, D01, D02, D03, D10, D11, D12, D13, D20, D21, D22, D23, D30, D31, D32, D33⟩
  isplitl [G00 G10 G20 G30]
  · isplitl [G00]; · iexact G00
    isplitl [G10]; · iexact G10
    isplitl [G20]; · iexact G20
    iexact G30
  isplitl [G01 G11 G21 G31]
  · isplitl [G01]; · iexact G01
    isplitl [G11]; · iexact G11
    isplitl [G21]; · iexact G21
    iexact G31
  isplitl [D00 D01 D02 D03]
  · isplitl [D00]; · iexact D00
    isplitl [D01]; · iexact D01
    isplitl [D02]; · iexact D02
    iexact D03
  isplitl [D10 D11 D12 D13]
  · isplitl [D10]; · iexact D10
    isplitl [D11]; · iexact D11
    isplitl [D12]; · iexact D12
    iexact D13
  isplitl [D20 D21 D22 D23]
  · isplitl [D20]; · iexact D20
    isplitl [D21]; · iexact D21
    isplitl [D22]; · iexact D22
    iexact D23
  isplitl [D30]; · iexact D30
  isplitl [D31]; · iexact D31
  isplitl [D32]; · iexact D32
  iexact D33
theorem rsems_out : RSems (F := F) c ⊢ iprop(sv (F := F) c (semG (0 : Fin 4).isLt (by decide : 0 < 2)) ∗ sv (F := F) c (semG (0 : Fin 4).isLt (by decide : 1 < 2)) ∗ sv (F := F) c (semG (1 : Fin 4).isLt (by decide : 0 < 2)) ∗ sv (F := F) c (semG (1 : Fin 4).isLt (by decide : 1 < 2)) ∗ sv (F := F) c (semG (2 : Fin 4).isLt (by decide : 0 < 2)) ∗ sv (F := F) c (semG (2 : Fin 4).isLt (by decide : 1 < 2)) ∗ sv (F := F) c (semG (3 : Fin 4).isLt (by decide : 0 < 2)) ∗ sv (F := F) c (semG (3 : Fin 4).isLt (by decide : 1 < 2)) ∗ sv (F := F) c (semD (0 : Fin 4).isLt (0 : Fin 4).isLt) ∗ sv (F := F) c (semD (0 : Fin 4).isLt (1 : Fin 4).isLt) ∗ sv (F := F) c (semD (0 : Fin 4).isLt (2 : Fin 4).isLt) ∗ sv (F := F) c (semD (0 : Fin 4).isLt (3 : Fin 4).isLt) ∗ sv (F := F) c (semD (1 : Fin 4).isLt (0 : Fin 4).isLt) ∗ sv (F := F) c (semD (1 : Fin 4).isLt (1 : Fin 4).isLt) ∗ sv (F := F) c (semD (1 : Fin 4).isLt (2 : Fin 4).isLt) ∗ sv (F := F) c (semD (1 : Fin 4).isLt (3 : Fin 4).isLt) ∗ sv (F := F) c (semD (2 : Fin 4).isLt (0 : Fin 4).isLt) ∗ sv (F := F) c (semD (2 : Fin 4).isLt (1 : Fin 4).isLt) ∗ sv (F := F) c (semD (2 : Fin 4).isLt (2 : Fin 4).isLt) ∗ sv (F := F) c (semD (2 : Fin 4).isLt (3 : Fin 4).isLt) ∗ sv (F := F) c (semD (3 : Fin 4).isLt (0 : Fin 4).isLt) ∗ sv (F := F) c (semD (3 : Fin 4).isLt (1 : Fin 4).isLt) ∗ sv (F := F) c (semD (3 : Fin 4).isLt (2 : Fin 4).isLt) ∗ sv (F := F) c (semD (3 : Fin 4).isLt (3 : Fin 4).isLt)) := by
  unfold RSems
  rw [bigSep_pairs]
  simp only [bigSep_four]
  iintro ⟨⟨G00, G10, G20, G30⟩, ⟨G01, G11, G21, G31⟩, ⟨D00, D01, D02, D03⟩, ⟨D10, D11, D12, D13⟩, ⟨D20, D21, D22, D23⟩, D30, D31, D32, D33⟩
  isplitl [G00]; · iexact G00
  isplitl [G01]; · iexact G01
  isplitl [G10]; · iexact G10
  isplitl [G11]; · iexact G11
  isplitl [G20]; · iexact G20
  isplitl [G21]; · iexact G21
  isplitl [G30]; · iexact G30
  isplitl [G31]; · iexact G31
  isplitl [D00]; · iexact D00
  isplitl [D01]; · iexact D01
  isplitl [D02]; · iexact D02
  isplitl [D03]; · iexact D03
  isplitl [D10]; · iexact D10
  isplitl [D11]; · iexact D11
  isplitl [D12]; · iexact D12
  isplitl [D13]; · iexact D13
  isplitl [D20]; · iexact D20
  isplitl [D21]; · iexact D21
  isplitl [D22]; · iexact D22
  isplitl [D23]; · iexact D23
  isplitl [D30]; · iexact D30
  isplitl [D31]; · iexact D31
  isplitl [D32]; · iexact D32
  iexact D33
theorem r_in (A : Arrays F c) (S : Xs F c) : iprop((pt c a3 fullShare A.w3 ∗ pt c a4 fullShare A.w4 ∗ pt c a7 fullShare A.w7) ∗ ((∃ f, pt (F := F) c bWg fullShare f) ∗ (∃ f, pt (F := F) c bWu fullShare f) ∗ (∃ f, pt (F := F) c bWd fullShare f)) ∗ RSems (F := F) c) ⊢ iprop(RingsIdle (envOf A S) ∗ RKeep A) := by
  unfold RKeep RSems
  iintro ⟨⟨A3, A4, A7⟩, ⟨B3, B4, B7⟩, S0, S1, S2⟩
  ihave Hg := (g_in c bWg a3 (by decide : 0 < 2) A.w3) $$ [A3 B3 S0]
  · isplitl [A3]; · iexact A3
    isplitl [B3]; · iexact B3
    iexact S0
  icases Hg with ⟨Hg, Kg⟩
  ihave Hu := (g_in c bWu a4 (by decide : 1 < 2) A.w4) $$ [A4 B4 S1]
  · isplitl [A4]; · iexact A4
    isplitl [B4]; · iexact B4
    iexact S1
  icases Hu with ⟨Hu, Ku⟩
  ihave Hd := (d_in c A.w7) $$ [A7 B7 S2]
  · isplitl [A7]; · iexact A7
    isplitl [B7]; · iexact B7
    iexact S2
  icases Hd with ⟨Hd, Kd⟩
  isplitl [Hg Hu Hd]
  · iapply (rings_of_fam A S)
    isplitl [Hg]; · iexact Hg
    isplitl [Hu]; · iexact Hu
    iexact Hd
  isplitl [Kg]; · iexact Kg
  isplitl [Ku]; · iexact Ku
  iexact Kd
theorem r_out (A : Arrays F c) (S : Xs F c) (fg : Bf F c bWg) (fu : Bf F c bWu) (fd : Bf F c bWd) : iprop(RingsIdle (envOf A S) ∗ RKeep A) ⊢ iprop((pt c a3 fullShare A.w3 ∗ pt c a4 fullShare A.w4 ∗ pt c a7 fullShare A.w7) ∗ ((∃ f, pt (F := F) c bWg fullShare f) ∗ (∃ f, pt (F := F) c bWu fullShare f) ∗ (∃ f, pt (F := F) c bWd fullShare f)) ∗ RSems (F := F) c) := by
  unfold RKeep RSems
  iintro ⟨HR, Kg, Ku, Kd⟩
  ihave HR := (fam_of_rings A S) $$ HR
  icases HR with ⟨Hg, Hu, Hd⟩
  ihave Hg := (g_out c bWg a3 (by decide : 0 < 2) A.w3 fg) $$ [Hg Kg]
  · isplitl [Hg]; · iexact Hg
    iexact Kg
  icases Hg with ⟨A3, B3, S0⟩
  ihave Hu := (g_out c bWu a4 (by decide : 1 < 2) A.w4 fu) $$ [Hu Ku]
  · isplitl [Hu]; · iexact Hu
    iexact Ku
  icases Hu with ⟨A4, B4, S1⟩
  ihave Hd := (d_out c A.w7 fd) $$ [Hd Kd]
  · isplitl [Hd]; · iexact Hd
    iexact Kd
  icases Hd with ⟨A7, B7, S2⟩
  isplitl [A3 A4 A7]
  · isplitl [A3]; · iexact A3
    isplitl [A4]; · iexact A4
    iexact A7
  isplitl [B3 B4 B7]
  · isplitl [B3]; · iexact B3
    isplitl [B4]; · iexact B4
    iexact B7
  isplitl [S0]; · iexact S0
  isplitl [S1]; · iexact S1
  iexact S2

/-! ## The results -/

theorem o_in : iprop(((∃ f, pt (F := F) c o0 fullShare f) ∗ (∃ f, pt (F := F) c o1 fullShare f) ∗ (∃ f, pt (F := F) c o2 fullShare f)) ∗ (sv (F := F) c (semO (0 : Fin 4).isLt) ∗ sv (F := F) c (semO (1 : Fin 4).isLt) ∗ sv (F := F) c (semO (2 : Fin 4).isLt) ∗ sv (F := F) c (semO (3 : Fin 4).isLt)) ∗ sv (F := F) c (semC (i := 0) (by decide)) ∗ sv (F := F) c (semC (i := 1) (by decide))) ⊢ iprop((OutDst (F := F) (c := c) ∗ BlkDst (F := F) (c := c)) ∗ oRest (F := F) c o0) := by
  unfold OutDst BlkDst
  iintro ⟨⟨H0, ⟨%f1, H1⟩, ⟨%f2, H2⟩⟩, ⟨O0, O1, O2, O3⟩, C0, C1⟩
  ihave H1 := owns_of_pt $$ H1
  ihave H2 := owns_of_pt $$ H2
  ihave H0 := ((o_cut c o0).trans (by rw [bigSep_four])) $$ H0
  icases H0 with ⟨⟨B0, B1, B2, B3⟩, HR⟩
  isplitr [HR]
  · isplitl [H1 C0 H2 C1]
    · isplitl [H1 C0]
      · isplitl [H1]; · iexists _; iexact H1
        iexact C0
      isplitl [H2]; · iexists _; iexact H2
      iexact C1
    isplitl [B0 O0]
    · isplitl [B0]; · iexact B0
      iexact O0
    isplitl [B1 O1]
    · isplitl [B1]; · iexact B1
      iexact O1
    isplitl [B2 O2]
    · isplitl [B2]; · iexact B2
      iexact O2
    isplitl [B3]; · iexact B3
    iexact O3
  iexact HR
/-- The blocks written out give the output back, reading so by blocks, and the token buffer whole. -/
theorem o_out (v : Fin 4 → Vec F S1024x512 .bf16) (f₀ : Bf F c o0) (fX : Bf F c bX) :
    iprop(OsFull (c := c) (v 0) (v 1) (v 2) (v 3) ∗ oRest (F := F) c o0 ∗ oRest (F := F) c bX) ⊢
      iprop((∃ W0 : Bf F c o0, ⌜∀ b : Fin 4, (oBlk o0 (hO b)).view.read (Elt F) W0 = v b⌝ ∗ pt c o0 fullShare W0) ∗ (∃ f, pt (F := F) c bX fullShare f) ∗ sv (F := F) c (semO (0 : Fin 4).isLt) ∗ sv (F := F) c (semO (1 : Fin 4).isLt) ∗ sv (F := F) c (semO (2 : Fin 4).isLt) ∗ sv (F := F) c (semO (3 : Fin 4).isLt)) := by
  unfold OsFull OFull
  iintro ⟨⟨⟨B0, P0, O0⟩, ⟨B1, P1, O1⟩, ⟨B2, P2, O2⟩, B3, P3, O3⟩, HR, HX⟩
  ihave HP := ((BI.Laws.sep_mono (by rw [bigSep_four]) .rfl).trans (o_join_v c o0 f₀ v)) $$ [P0 P1 P2 P3 HR]
  · isplitl [P0 P1 P2 P3]
    · isplitl [P0]; · iexact P0
      isplitl [P1]; · iexact P1
      isplitl [P2]; · iexact P2
      iexact P3
    iexact HR
  ihave HB := ((BI.Laws.sep_mono (by rw [bigSep_four]) .rfl).trans (o_join c bX fX)) $$ [B0 B1 B2 B3 HX]
  · isplitl [B0 B1 B2 B3]
    · isplitl [B0]; · iexact B0
      isplitl [B1]; · iexact B1
      isplitl [B2]; · iexact B2
      iexact B3
    iexact HX
  isplitl [HP]; · iexact HP
  isplitl [HB]; · iexact HB
  isplitl [O0]; · iexact O0
  isplitl [O1]; · iexact O1
  isplitl [O2]; · iexact O2
  iexact O3

/-- The tables copied out, whole, and the buffers of the expert loop back. -/
theorem t_out (A : Arrays F c) (S : Xs F c) :
    iprop((Held (envOf A S) ∗ HeldC (envOf A S)) ∗ OutsFull (envOf A S) fullShare.left fullShare.left) ⊢
      iprop((pt c o1 fullShare (bCodes.view.read (Elt F) S.codes) ∗ pt c o2 fullShare (bXs.view.read (Elt F) S.xs)) ∗ ((∃ f, pt (F := F) c bCodes fullShare f) ∗ (∃ f, pt (F := F) c bXs fullShare f) ∗ (∃ f, pt (F := F) c bCh fullShare f) ∗ (∃ f, pt (F := F) c bPr fullShare f) ∗ (∃ f, pt (F := F) c bSg fullShare f) ∗ (∃ f, pt (F := F) c bSu fullShare f) ∗ (∃ f, pt (F := F) c bSd fullShare f) ∗ (∃ f, pt (F := F) c bChS fullShare f)) ∗ sv (F := F) c (semC (i := 0) (by decide)) ∗ sv (F := F) c (semC (i := 1) (by decide))) := by
  unfold Held HeldC OutsFull CFull
  iintro ⟨⟨⟨Hch, Hpr, Hx, Hc, Hsg, Hsu⟩, Hsd, Hcs⟩, ⟨R1, Hc', C0⟩, R2, Hx', C1⟩
  ihave R1 := pt_of_owns $$ R1
  ihave R2 := pt_of_owns $$ R2
  ihave Hc := (pointsTo_share (PosShare.mem_left_op_right fullShare)).2 $$ [Hc Hc']
  · isplitl [Hc']; · iexact Hc'
    iexact Hc
  ihave Hx := (pointsTo_share (PosShare.mem_left_op_right fullShare)).2 $$ [Hx Hx']
  · isplitl [Hx']; · iexact Hx'
    iexact Hx
  isplitl [R1 R2]
  · isplitl [R1]; · iexact R1
    iexact R2
  isplitl [Hc Hx Hch Hpr Hsg Hsu Hsd Hcs]
  · isplitl [Hc]; · iexists _; iexact Hc
    isplitl [Hx]; · iexists _; iexact Hx
    isplitl [Hch]; · iexists _; iexact Hch
    isplitl [Hpr]; · iexists _; iexact Hpr
    isplitl [Hsg]; · iexists _; iexact Hsg
    isplitl [Hsu]; · iexists _; iexact Hsu
    isplitl [Hsd]; · iexists _; iexact Hsd
    iexists _; iexact Hcs
  isplitl [C0]; · iexact C0
  iexact C1

/-! ## The whole -/

/-- The scratch buffers, whole at some contents; the semaphores at zero; the arrays; the results. -/
def Scr (c : Dev nD) : sProp 𝕄 := iprop((∃ f, pt (F := F) c bX fullShare f) ∗ (∃ f, pt (F := F) c bCodes fullShare f) ∗ (∃ f, pt (F := F) c bAcc fullShare f) ∗ (∃ f, pt (F := F) c bWrt fullShare f) ∗ (∃ f, pt (F := F) c bWs fullShare f) ∗ (∃ f, pt (F := F) c bSg fullShare f) ∗ (∃ f, pt (F := F) c bSu fullShare f) ∗ (∃ f, pt (F := F) c bSd fullShare f) ∗ (∃ f, pt (F := F) c bCh fullShare f) ∗ (∃ f, pt (F := F) c bPr fullShare f) ∗ (∃ f, pt (F := F) c bXs fullShare f) ∗ (∃ f, pt (F := F) c bWg fullShare f) ∗ (∃ f, pt (F := F) c bWu fullShare f) ∗ (∃ f, pt (F := F) c bWd fullShare f) ∗ (∃ f, pt (F := F) c bHc fullShare f) ∗ (∃ f, pt (F := F) c bY fullShare f) ∗ (∃ f, pt (F := F) c bChS fullShare f))
def Sems (c : Dev nD) : sProp 𝕄 := iprop(sv (F := F) c (semX (0 : Fin 4).isLt) ∗ sv (F := F) c (semX (1 : Fin 4).isLt) ∗ sv (F := F) c (semX (2 : Fin 4).isLt) ∗ sv (F := F) c (semX (3 : Fin 4).isLt) ∗ sv (F := F) c (semM (i := 0) (by decide)) ∗ sv (F := F) c (semM (i := 1) (by decide)) ∗ sv (F := F) c (semM (i := 2) (by decide)) ∗ sv (F := F) c (semM (i := 3) (by decide)) ∗ sv (F := F) c (semM (i := 4) (by decide)) ∗ sv (F := F) c (semM (i := 5) (by decide)) ∗ sv (F := F) c (semG (0 : Fin 4).isLt (by decide : 0 < 2)) ∗ sv (F := F) c (semG (0 : Fin 4).isLt (by decide : 1 < 2)) ∗ sv (F := F) c (semG (1 : Fin 4).isLt (by decide : 0 < 2)) ∗ sv (F := F) c (semG (1 : Fin 4).isLt (by decide : 1 < 2)) ∗ sv (F := F) c (semG (2 : Fin 4).isLt (by decide : 0 < 2)) ∗ sv (F := F) c (semG (2 : Fin 4).isLt (by decide : 1 < 2)) ∗ sv (F := F) c (semG (3 : Fin 4).isLt (by decide : 0 < 2)) ∗ sv (F := F) c (semG (3 : Fin 4).isLt (by decide : 1 < 2)) ∗ sv (F := F) c (semD (0 : Fin 4).isLt (0 : Fin 4).isLt) ∗ sv (F := F) c (semD (0 : Fin 4).isLt (1 : Fin 4).isLt) ∗ sv (F := F) c (semD (0 : Fin 4).isLt (2 : Fin 4).isLt) ∗ sv (F := F) c (semD (0 : Fin 4).isLt (3 : Fin 4).isLt) ∗ sv (F := F) c (semD (1 : Fin 4).isLt (0 : Fin 4).isLt) ∗ sv (F := F) c (semD (1 : Fin 4).isLt (1 : Fin 4).isLt) ∗ sv (F := F) c (semD (1 : Fin 4).isLt (2 : Fin 4).isLt) ∗ sv (F := F) c (semD (1 : Fin 4).isLt (3 : Fin 4).isLt) ∗ sv (F := F) c (semD (2 : Fin 4).isLt (0 : Fin 4).isLt) ∗ sv (F := F) c (semD (2 : Fin 4).isLt (1 : Fin 4).isLt) ∗ sv (F := F) c (semD (2 : Fin 4).isLt (2 : Fin 4).isLt) ∗ sv (F := F) c (semD (2 : Fin 4).isLt (3 : Fin 4).isLt) ∗ sv (F := F) c (semD (3 : Fin 4).isLt (0 : Fin 4).isLt) ∗ sv (F := F) c (semD (3 : Fin 4).isLt (1 : Fin 4).isLt) ∗ sv (F := F) c (semD (3 : Fin 4).isLt (2 : Fin 4).isLt) ∗ sv (F := F) c (semD (3 : Fin 4).isLt (3 : Fin 4).isLt) ∗ sv (F := F) c (semO (0 : Fin 4).isLt) ∗ sv (F := F) c (semO (1 : Fin 4).isLt) ∗ sv (F := F) c (semO (2 : Fin 4).isLt) ∗ sv (F := F) c (semO (3 : Fin 4).isLt) ∗ sv (F := F) c (semC (i := 0) (by decide)) ∗ sv (F := F) c (semC (i := 1) (by decide)))
def Hbm (A : Arrays F c) : sProp 𝕄 := iprop(pt c a0 fullShare A.w0 ∗ pt c a2 fullShare A.w2 ∗ pt c a3 fullShare A.w3 ∗ pt c a4 fullShare A.w4 ∗ pt c a5 fullShare A.w5 ∗ pt c a6 fullShare A.w6 ∗ pt c a7 fullShare A.w7 ∗ pt c a8 fullShare A.w8 ∗ pt c a1 fullShare A.w1)

variable (A : Arrays F c) (hch : ChOk c (a2.view.read (Elt F) A.w2 : Bf F c bChS))

/-- The last expert's blocks of columns, written out. -/
def outVal (ws : Bf F c bWs) (S : Xs F c) (yb : Bf F c bY) (hc : Bf F c bHc) : Fin 4 → Vec F S1024x512 .bf16
  | 0 => outV (last0 (envOf A (xEnd A ws S)) hch (loopEnd (envOf A (xEnd A ws S)) hch hc ⟨yb, (xEnd A ws S).acc⟩).1 (loopEnd (envOf A (xEnd A ws S)) hch hc ⟨yb, (xEnd A ws S).acc⟩).2).acc col0
  | 1 => outV (last1 (envOf A (xEnd A ws S)) hch (loopEnd (envOf A (xEnd A ws S)) hch hc ⟨yb, (xEnd A ws S).acc⟩).1 (loopEnd (envOf A (xEnd A ws S)) hch hc ⟨yb, (xEnd A ws S).acc⟩).2).acc col1
  | 2 => outV (last2 (envOf A (xEnd A ws S)) hch (loopEnd (envOf A (xEnd A ws S)) hch hc ⟨yb, (xEnd A ws S).acc⟩).1 (loopEnd (envOf A (xEnd A ws S)) hch hc ⟨yb, (xEnd A ws S).acc⟩).2).acc col2
  | 3 => outV (last3 (envOf A (xEnd A ws S)) hch (loopEnd (envOf A (xEnd A ws S)) hch hc ⟨yb, (xEnd A ws S).acc⟩).1 (loopEnd (envOf A (xEnd A ws S)) hch hc ⟨yb, (xEnd A ws S).acc⟩).2).acc col3
/-- What the results hold: some run's codes, scales and blocks of columns, from some first contents of the buffers. -/
def Result (W0 : Bf F c o0) (W1 : Bf F c o1) (W2 : Bf F c o2) : Prop :=
  ∃ (ws : Bf F c bWs) (S : Xs F c) (yb : Bf F c bY) (hc : Bf F c bHc), W1 = bCodes.view.read (Elt F) (xEnd A ws S).codes ∧ W2 = bXs.view.read (Elt F) (xEnd A ws S).xs
    ∧ ∀ b : Fin 4, (oBlk o0 (hO b)).view.read (Elt F) W0 = outVal A hch ws S yb hc b

set_option maxHeartbeats 2000000 in
theorem run_body :
    iprop(Scr (F := F) c ∗ Sems (F := F) c ∗ Hbm A ∗ ((∃ f, pt (F := F) c o0 fullShare f) ∗ (∃ f, pt (F := F) c o1 fullShare f) ∗ (∃ f, pt (F := F) c o2 fullShare f)) ∗ ow c) ⊢
      wpk c body (fun _ => iprop(Scr (F := F) c ∗ Sems (F := F) c ∗ Hbm A ∗ (∃ W0 W1 W2, ⌜Result A hch W0 W1 W2⌝ ∗ pt c o0 fullShare W0 ∗ pt c o1 fullShare W1 ∗ pt c o2 fullShare W2) ∗ ow c)) := by
  unfold Scr Sems Hbm
  iintro ⟨⟨⟨%f_bX, HbX⟩, ⟨%f_bCodes, HbCodes⟩, ⟨%f_bAcc, HbAcc⟩, ⟨%f_bWrt, HbWrt⟩, ⟨%f_bWs, HbWs⟩, ⟨%f_bSg, HbSg⟩, ⟨%f_bSu, HbSu⟩, ⟨%f_bSd, HbSd⟩, ⟨%f_bCh, HbCh⟩, ⟨%f_bPr, HbPr⟩, ⟨%f_bXs, HbXs⟩, ⟨%f_bWg, HbWg⟩, ⟨%f_bWu, HbWu⟩, ⟨%f_bWd, HbWd⟩, ⟨%f_bHc, HbHc⟩, ⟨%f_bY, HbY⟩, ⟨%f_bChS, HbChS⟩⟩, ⟨X0, X1, X2, X3, M0, M1, M2, M3, M4, M5, G00, G01, G10, G11, G20, G21, G30, G31, D00, D01, D02, D03, D10, D11, D12, D13, D20, D21, D22, D23, D30, D31, D32, D33, O0, O1, O2, O3, C0, C1⟩, ⟨A0, A2, A3, A4, A5, A6, A7, A8, A1⟩, ⟨⟨%f_o0, Ho0⟩, Ho1, Ho2⟩, HW⟩
  have bsp := body_spec (envOf A (xEnd A f_bWs ⟨f_bCodes, f_bAcc, f_bPr, f_bXs⟩)) (startOf A f_bWs) hch ⟨f_bCodes, f_bAcc, f_bPr, f_bXs⟩ f_bY f_bHc f_bX (fits A f_bWs ⟨f_bCodes, f_bAcc, f_bPr, f_bXs⟩)
  have hres : ∀ W0 : Bf F c o0, (∀ b : Fin 4, (oBlk o0 (hO b)).view.read (Elt F) W0 = outVal A hch f_bWs ⟨f_bCodes, f_bAcc, f_bPr, f_bXs⟩ f_bY f_bHc b) →
      Result A hch W0 (bCodes.view.read (Elt F) (xEnd A f_bWs ⟨f_bCodes, f_bAcc, f_bPr, f_bXs⟩).codes) (bXs.view.read (Elt F) (xEnd A f_bWs ⟨f_bCodes, f_bAcc, f_bPr, f_bXs⟩).xs) :=
    fun W0 h => ⟨f_bWs, ⟨f_bCodes, f_bAcc, f_bPr, f_bXs⟩, f_bY, f_bHc, rfl, rfl, h⟩
  change _ ⊢ wpk c body (fun _ => Post (envOf A (xEnd A f_bWs ⟨f_bCodes, f_bAcc, f_bPr, f_bXs⟩)) (startOf A f_bWs) (outVal A hch f_bWs ⟨f_bCodes, f_bAcc, f_bPr, f_bXs⟩ f_bY f_bHc 0) (outVal A hch f_bWs ⟨f_bCodes, f_bAcc, f_bPr, f_bXs⟩ f_bY f_bHc 1)
    (outVal A hch f_bWs ⟨f_bCodes, f_bAcc, f_bPr, f_bXs⟩ f_bY f_bHc 2) (outVal A hch f_bWs ⟨f_bCodes, f_bAcc, f_bPr, f_bXs⟩ f_bY f_bHc 3)) at bsp
  generalize outVal A hch f_bWs ⟨f_bCodes, f_bAcc, f_bPr, f_bXs⟩ f_bY f_bHc = v at bsp hres
  generalize xEnd A f_bWs ⟨f_bCodes, f_bAcc, f_bPr, f_bXs⟩ = S4 at bsp hres
  ihave HX := (x_in A f_bWs) $$ [A0 HbX X0 X1 X2 X3]
  · isplitl [A0]; · iexact A0
    isplitl [HbX]; · iexists _; iexact HbX
    isplitl [X0]; · iexact X0
    isplitl [X1]; · iexact X1
    isplitl [X2]; · iexact X2
    iexact X3
  icases HX with ⟨⟨HX, HXr⟩, KX⟩
  ihave HM := (m_in A f_bWs) $$ [A2 A5 A6 A8 HbCh HbChS HbSg HbSu HbSd M1 M2 M3 M4 M5]
  · isplitl [A2 A5 A6 A8]
    · isplitl [A2]; · iexact A2
      isplitl [A5]; · iexact A5
      isplitl [A6]; · iexact A6
      iexact A8
    isplitl [HbCh HbChS HbSg HbSu HbSd]
    · isplitl [HbCh]; · iexists _; iexact HbCh
      isplitl [HbChS]; · iexists _; iexact HbChS
      isplitl [HbSg]; · iexists _; iexact HbSg
      isplitl [HbSu]; · iexists _; iexact HbSu
      iexists _; iexact HbSd
    isplitl [M1]; · iexact M1
    isplitl [M2]; · iexact M2
    isplitl [M3]; · iexact M3
    isplitl [M4]; · iexact M4
    iexact M5
  ihave HS := rsems_in $$ [G00 G01 G10 G11 G20 G21 G30 G31 D00 D01 D02 D03 D10 D11 D12 D13 D20 D21 D22 D23 D30 D31 D32 D33]
  · isplitl [G00]; · iexact G00
    isplitl [G01]; · iexact G01
    isplitl [G10]; · iexact G10
    isplitl [G11]; · iexact G11
    isplitl [G20]; · iexact G20
    isplitl [G21]; · iexact G21
    isplitl [G30]; · iexact G30
    isplitl [G31]; · iexact G31
    isplitl [D00]; · iexact D00
    isplitl [D01]; · iexact D01
    isplitl [D02]; · iexact D02
    isplitl [D03]; · iexact D03
    isplitl [D10]; · iexact D10
    isplitl [D11]; · iexact D11
    isplitl [D12]; · iexact D12
    isplitl [D13]; · iexact D13
    isplitl [D20]; · iexact D20
    isplitl [D21]; · iexact D21
    isplitl [D22]; · iexact D22
    isplitl [D23]; · iexact D23
    isplitl [D30]; · iexact D30
    isplitl [D31]; · iexact D31
    isplitl [D32]; · iexact D32
    iexact D33
  ihave HR := (r_in A S4) $$ [A3 A4 A7 HbWg HbWu HbWd HS]
  · isplitl [A3 A4 A7]
    · isplitl [A3]; · iexact A3
      isplitl [A4]; · iexact A4
      iexact A7
    isplitl [HbWg HbWu HbWd]
    · isplitl [HbWg]; · iexists _; iexact HbWg
      isplitl [HbWu]; · iexists _; iexact HbWu
      iexists _; iexact HbWd
    iexact HS
  icases HR with ⟨HR, KR⟩
  ihave HO := o_in $$ [Ho0 Ho1 Ho2 O0 O1 O2 O3 C0 C1]
  · isplitl [Ho0 Ho1 Ho2]
    · isplitl [Ho0]; · iexists _; iexact Ho0
      isplitl [Ho1]; · iexact Ho1
      iexact Ho2
    isplitl [O0 O1 O2 O3]
    · isplitl [O0]; · iexact O0
      isplitl [O1]; · iexact O1
      isplitl [O2]; · iexact O2
      iexact O3
    isplitl [C0]; · iexact C0
    iexact C1
  icases HO with ⟨⟨HOD, HBD⟩, KO⟩
  ihave HbWrt := owns_of_pt $$ HbWrt
  ihave HB := bsp $$ [A1 HbWrt M0 HX HXr HM HR HbWs HOD HBD HW HbCodes HbAcc HbPr HbXs HbY HbHc]
  · unfold Pre XMem CIdle
    isplitl [A1 HbWrt M0 HX HXr HM HR HbWs HOD HBD HW]
    · isplitl [A1 HbWrt M0]
      · isplitl [A1]; · iexact A1
        isplitl [HbWrt]; · iexists _; iexact HbWrt
        iexact M0
      isplitl [HX]; · iexact HX
      isplitl [HXr]; · iexact HXr
      isplitl [HM]; · iexact HM
      isplitl [HR]; · iexact HR
      isplitl [HbWs]; · iexact HbWs
      isplitl [HOD]; · iexact HOD
      isplitl [HBD]; · iexact HBD
      iexact HW
    isplitl [HbCodes HbAcc HbPr HbXs]
    · isplitl [HbCodes]; · iexact HbCodes
      isplitl [HbAcc]; · iexact HbAcc
      isplitl [HbPr]; · iexact HbPr
      iexact HbXs
    isplitl [HbY]; · iexact HbY
    iexact HbHc
  iapply (wp_wand frame (wpE (defs₀ (F := F)) Variants.none (c : Thread nD τ) none) Set.univ) $$ HB
  iintro %_ HP
  unfold Post CFull
  icases HP with ⟨⟨HbWrt, A1, M0⟩, HX, HXr, HM, HR, HbWs, HH, HbHc, ⟨%SE, HMem⟩, HOs, HOut, HW⟩
  ihave HbWrt := pt_of_owns $$ HbWrt
  unfold Mem
  icases HMem with ⟨HbY, HbAcc⟩
  ihave HX := (x_out A f_bWs) $$ [HX KX]
  · isplitl [HX]; · iexact HX
    iexact KX
  icases HX with ⟨A0, X0, X1, X2, X3⟩
  ihave HM := (m_out A f_bWs) $$ HM
  icases HM with ⟨⟨A2, A5, A6, A8⟩, M1, M2, M3, M4, M5⟩
  ihave HR := (r_out A S4 f_bWg f_bWu f_bWd) $$ [HR KR]
  · isplitl [HR]; · iexact HR
    iexact KR
  icases HR with ⟨⟨A3, A4, A7⟩, ⟨HbWg, HbWu, HbWd⟩, HS⟩
  ihave HS := rsems_out $$ HS
  icases HS with ⟨G00, G01, G10, G11, G20, G21, G30, G31, D00, D01, D02, D03, D10, D11, D12, D13, D20, D21, D22, D23, D30, D31, D32, D33⟩
  ihave HT := (t_out A S4) $$ [HH HOut]
  · isplitl [HH]; · iexact HH
    iexact HOut
  icases HT with ⟨⟨R1, R2⟩, ⟨HbCodes, HbXs, HbCh, HbPr, HbSg, HbSu, HbSd, HbChS⟩, C0, C1⟩
  ihave HO := (o_out v f_o0 f_bX) $$ [HOs KO HXr]
  · isplitl [HOs]; · iexact HOs
    isplitl [KO]; · iexact KO
    iexact HXr
  icases HO with ⟨⟨%W0, %hW0, R0⟩, HbX, O0, O1, O2, O3⟩
  isplitl [HbX HbCodes HbAcc HbWrt HbWs HbSg HbSu HbSd HbCh HbPr HbXs HbWg HbWu HbWd HbHc HbY HbChS]
  · isplitl [HbX]; · iexact HbX
    isplitl [HbCodes]; · iexact HbCodes
    isplitl [HbAcc]; · iexists _; iexact HbAcc
    isplitl [HbWrt]; · iexists _; iexact HbWrt
    isplitl [HbWs]; · iexact HbWs
    isplitl [HbSg]; · iexact HbSg
    isplitl [HbSu]; · iexact HbSu
    isplitl [HbSd]; · iexact HbSd
    isplitl [HbCh]; · iexact HbCh
    isplitl [HbPr]; · iexact HbPr
    isplitl [HbXs]; · iexact HbXs
    isplitl [HbWg]; · iexact HbWg
    isplitl [HbWu]; · iexact HbWu
    isplitl [HbWd]; · iexact HbWd
    isplitl [HbHc]; · iexact HbHc
    isplitl [HbY]; · iexists _; iexact HbY
    iexact HbChS
  isplitl [X0 X1 X2 X3 M0 M1 M2 M3 M4 M5 G00 G01 G10 G11 G20 G21 G30 G31 D00 D01 D02 D03 D10 D11 D12 D13 D20 D21 D22 D23 D30 D31 D32 D33 O0 O1 O2 O3 C0 C1]
  · isplitl [X0]; · iexact X0
    isplitl [X1]; · iexact X1
    isplitl [X2]; · iexact X2
    isplitl [X3]; · iexact X3
    isplitl [M0]; · iexact M0
    isplitl [M1]; · iexact M1
    isplitl [M2]; · iexact M2
    isplitl [M3]; · iexact M3
    isplitl [M4]; · iexact M4
    isplitl [M5]; · iexact M5
    isplitl [G00]; · iexact G00
    isplitl [G01]; · iexact G01
    isplitl [G10]; · iexact G10
    isplitl [G11]; · iexact G11
    isplitl [G20]; · iexact G20
    isplitl [G21]; · iexact G21
    isplitl [G30]; · iexact G30
    isplitl [G31]; · iexact G31
    isplitl [D00]; · iexact D00
    isplitl [D01]; · iexact D01
    isplitl [D02]; · iexact D02
    isplitl [D03]; · iexact D03
    isplitl [D10]; · iexact D10
    isplitl [D11]; · iexact D11
    isplitl [D12]; · iexact D12
    isplitl [D13]; · iexact D13
    isplitl [D20]; · iexact D20
    isplitl [D21]; · iexact D21
    isplitl [D22]; · iexact D22
    isplitl [D23]; · iexact D23
    isplitl [D30]; · iexact D30
    isplitl [D31]; · iexact D31
    isplitl [D32]; · iexact D32
    isplitl [D33]; · iexact D33
    isplitl [O0]; · iexact O0
    isplitl [O1]; · iexact O1
    isplitl [O2]; · iexact O2
    isplitl [O3]; · iexact O3
    isplitl [C0]; · iexact C0
    iexact C1
  isplitl [A0 A2 A3 A4 A5 A6 A7 A8 A1]
  · isplitl [A0]; · iexact A0
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A1
  isplitr [HW]
  · iexists W0, _, _
    isplitr
    · ipureintro; exact hres W0 hW0
    isplitl [R0]; · iexact R0
    isplitl [R1]; · iexact R1
    iexact R2
  iexact HW

end

end Cert.KernelIdeal.Body
-- ==== Proof.Ideal.Run.lean ====
module

public import proofs.«01_k».proof.Proof.Ideal.Deal
public import proofs.«01_k».proof.Proof.Gen.KernelIdeal.Frame
public import Idealize.ShloMosaic.Lib.Pipeline.FrameValue

/-! The kernel run: it terminates, no argument changes, every semaphore ends at zero, and the results hold what the body computes. -/

@[expose] public section

set_option synthInstance.maxSize 4096
set_option maxRecDepth 16384

noncomputable section

namespace Cert.KernelIdeal.Body

open Cert.KernelIdeal Cert.KernelIdeal.Facts₀ Cert.KernelIdeal.Facts
open Cert.KernelIdeal.Gen (launch0 scopedRest0_eq hostOps0 hostOps0_sub hostOps0_fresh main_chain V V_main_arg0 V_main_arg1 V_main_arg2 V_main_arg3 V_main_arg4 V_main_arg5 V_main_arg6 V_main_arg7 V_main_arg8 bodyAt0)
open Idealize.ShloMosaic.Pipeline (Dat Cfg BodyObligation)
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (m : (ℓ : Loc nD τ sig) → Buf (Elt F) ℓ) (ρ : Dev nD → PrngReg)

/-- The buffers that the body reads, and those that it writes, in the device's memory. -/
def H0 : Finset (Ref sig .tc) := {main_arg0, main_arg2, main_arg3, main_arg4, main_arg5, main_arg6, main_arg7, main_arg8, main_v0}
def R0 : Finset (Ref sig .tc) := {main_v1_0, main_v1_1, main_v1_2}
theorem H0_sub : H0 ⊆ Pipeline.restRefs sig cfg0.spec := by decide
theorem R0_sub : R0 ⊆ Pipeline.restRefs sig cfg0.spec \ H0 := by decide
/-- The body's semaphores. -/
abbrev osem0 : Fin 40 → SemLoc sig := fun j => SemLoc.dma ⟨j.val, j.isLt⟩
theorem ownSemFacts0 : Pipeline.OwnSemFacts cfg0.spec osem0 := by decide

theorem hmain0 : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The arrays as the kernel finds them. -/
def arr (c : Dev nD) : Arrays F c where
  w0 := V m c main_arg0
  w1 := V m c main_v0
  w2 := V m c main_arg2
  w3 := V m c main_arg3
  w4 := V m c main_arg4
  w5 := V m c main_arg5
  w6 := V m c main_arg6
  w7 := V m c main_arg7
  w8 := V m c main_arg8

theorem scr_eq (c : Dev nD) : (Pipeline.scopedRest (Ix := Unit) (Name := ℕ) (U := Pipeline.UD sig nD τ) (Lvl := ℕ) (Val := Elt F) cfg0.spec c : sProp 𝕄) = Scr c :=
  scopedRest0_eq c
theorem sems_eq (c : Dev nD) : (Pipeline.ownSems0 (Ix := Unit) (Name := ℕ) (U := Pipeline.UD sig nD τ) (Lvl := ℕ) (Val := Elt F) (τ := τ) osem0 c : sProp 𝕄) = Sems c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide)]
  rfl
theorem hbm_eq (c : Dev nD) : (bigSep H0 (fun b => ((c : Thread nD τ).loc b) ↦{fullShare} V m c b) : sProp 𝕄) = Hbm (arr m c) := by
  rw [BI.bigSep_eq_bigSepL_of_eq [main_arg0, main_arg2, main_arg3, main_arg4, main_arg5, main_arg6, main_arg7, main_arg8, main_v0] (by decide) (by decide)]
  rfl
theorem routed_eq (c : Dev nD) (W : (b : Ref sig .tc) → Buf (Elt F) ((c : Thread nD τ).loc b)) :
    (Pipeline.routed R0 c W : sProp 𝕄) = iprop(pt c o0 fullShare (W main_v1_0) ∗ pt c o1 fullShare (W main_v1_1) ∗ pt c o2 fullShare (W main_v1_2)) := by
  unfold Pipeline.routed
  rw [BI.bigSep_eq_bigSepL_of_eq [main_v1_0, main_v1_1, main_v1_2] (by decide) (by decide)]
  rfl

/-- Contents of the three results, as contents of the core's buffers. -/
theorem three (m : (ℓ : Loc nD τ sig) → Buf (Elt F) ℓ) (c : Dev nD) (W0 : Bf F c o0) (W1 : Bf F c o1) (W2 : Bf F c o2) :
    ∃ W : (b : Ref sig .tc) → Buf (Elt F) ((c : Thread nD τ).loc b), W main_v1_0 = W0 ∧ W main_v1_1 = W1 ∧ W main_v1_2 = W2 :=
  ⟨Function.update (Function.update (Function.update (V m c) main_v1_0 W0) main_v1_1 W1) main_v1_2 W2,
    by rw [Function.update_of_ne (by decide), Function.update_of_ne (by decide), Function.update_self],
    by rw [Function.update_of_ne (by decide), Function.update_self], by rw [Function.update_self]⟩

variable (hch : ∀ c : Dev nD, ChOk c (a2.view.read (Elt F) (arr m c).w2 : Bf F c bChS))

/-- What the results hold at the end. -/
def Good (c : Dev nD) (W : (b : Ref sig .tc) → Buf (Elt F) ((c : Thread nD τ).loc b)) : Prop :=
  Result (arr m c) (hch c) (W main_v1_0) (W main_v1_1) (W main_v1_2)

/-- What the core holds before and after the body. -/
def Before (c : Dev nD) : sProp 𝕄 := Pipeline.ΦDRG osem0 cfg0.spec H0 R0 (V m) (V m) c
def After (c : Dev nD) : sProp 𝕄 := iprop(Pipeline.ΦD osem0 cfg0.spec H0 (V m) c ∗ Pipeline.routedSat R0 c (Good m hch c))

/-- The proof data of the one launch. -/
def dats (_ : Fin 1) (c : Dev nD) : Dat τ (Elt F) Unit ℕ (Pipeline.UD sig nD τ) ℕ cfg0 c where
  A w := V m c (Pipeline.arrRef cfg0.spec w)
  after w := w.elim0
  Φ t := if t.val = 0 then Before m c else After m hch c
  q _ := fullShare
  owed _ := 0

def bodyPre (c : Dev nD) (t : Fin cfg0.N) : sProp 𝕄 := iprop((dats m hch 0 c).Φ t.castSucc ∗ (dats m hch 0 c).owesAt () t.castSucc ∗ emp)
def bodyPost (c : Dev nD) (t : Fin cfg0.N) : sProp 𝕄 := iprop((dats m hch 0 c).Φ t.succ ∗ (dats m hch 0 c).owesAt () t.succ ∗ emp)

theorem bodyAt_eq (t : Fin cfg0.N) : bodyAt0 (F := F) t = body := body_eq

theorem before_out (c : Dev nD) : Before m c ⊢ iprop((∃ r, prngReg c r) ∗ Scr c ∗ Sems c ∗ Hbm (arr m c) ∗ ((∃ f, pt (F := F) c o0 fullShare f) ∗ (∃ f, pt (F := F) c o1 fullShare f) ∗ (∃ f, pt (F := F) c o2 fullShare f))) := by
  unfold Before
  rw [Pipeline.ΦDRG_eq, scr_eq, sems_eq, hbm_eq, routed_eq]
  iintro ⟨HS, Hg, HV, HH, H0, H1, H2⟩
  isplitl [Hg]; · iexact Hg
  isplitl [HS]; · iexact HS
  isplitl [HV]; · iexact HV
  isplitl [HH]; · iexact HH
  isplitl [H0]; · iexists _; iexact H0
  isplitl [H1]; · iexists _; iexact H1
  iexists _; iexact H2

theorem after_in (c : Dev nD) : iprop((∃ r, prngReg c r) ∗ Scr (F := F) c ∗ Sems (F := F) c ∗ Hbm (arr m c) ∗ (∃ W0 W1 W2, ⌜Result (arr m c) (hch c) W0 W1 W2⌝ ∗ pt c o0 fullShare W0 ∗ pt c o1 fullShare W1 ∗ pt c o2 fullShare W2)) ⊢ After m hch c := by
  unfold After Pipeline.routedSat
  rw [Pipeline.ΦD_eq, scr_eq, sems_eq, hbm_eq]
  simp only [routed_eq]
  iintro ⟨Hg, HS, HV, HH, ⟨%W0, %W1, %W2, %hW, H0, H1, H2⟩⟩
  obtain ⟨W, h0, h1, h2⟩ := three m c W0 W1 W2
  subst h0 h1 h2
  isplitl [HS Hg HV HH]
  · isplitl [HS]; · iexact HS
    isplitl [Hg]; · iexact Hg
    isplitl [HV]; · iexact HV
    iexact HH
  iexists W
  isplitr
  · ipureintro; exact hW
  isplitl [H0]; · iexact H0
  isplitl [H1]; · iexact H1
  iexact H2

theorem body_run (c : Dev nD) : iprop(Before m c ∗ ow c) ⊢ wpk c body (fun _ => iprop(After m hch c ∗ ow c)) := by
  have h := run_body (arr m c) (hch c)
  iintro ⟨HB, HW⟩
  ihave HB := (before_out m c) $$ HB
  icases HB with ⟨Hg, HS, HV, HH, HO⟩
  ihave HR := h $$ [HS HV HH HO HW]
  · isplitl [HS]; · iexact HS
    isplitl [HV]; · iexact HV
    isplitl [HH]; · iexact HH
    isplitl [HO]; · iexact HO
    iexact HW
  iapply (wp_wand frame (wpE (defs₀ (F := F)) Variants.none (c : Thread nD τ) none) Set.univ) $$ HR
  iintro %_ ⟨HS, HV, HH, HO, HW⟩
  isplitr [HW]
  · iapply (after_in m hch c)
    isplitl [Hg]; · iexact Hg
    isplitl [HS]; · iexact HS
    isplitl [HV]; · iexact HV
    isplitl [HH]; · iexact HH
    iexact HO
  iexact HW

theorem point0 (t : Fin cfg0.N) : t.val = 0 := by
  have h := t.isLt
  have h1 : cfg0.N = 1 := Gen.N_0
  omega

theorem ow_of (c : Dev nD) (W : Waits sig Unit) : (owes (c : Thread nD τ) 0 W : sProp 𝕄) ⊢ ow c := by
  iintro H; iexists W; iexact H

theorem sound_body (c : Dev nD) (t : Fin cfg0.N) :
    bodyPre m hch c t ⊢ wp frame (wpE (defs₀ (F := F)) Variants.none c none) Set.univ (bodyAt0 t) (fun _ => bodyPost m hch c t) := by
  unfold bodyPre bodyPost
  rw [bodyAt_eq]
  rw [show (dats m hch 0 c).Φ t.castSucc = Before m c from by show ite (t.castSucc.val = 0) (Before m c) (After m hch c) = _; exact if_pos (point0 t), show (dats m hch 0 c).Φ t.succ = After m hch c from by show ite (t.succ.val = 0) (Before m c) (After m hch c) = _; exact if_neg (Nat.succ_ne_zero t.val)]
  unfold Dat.owesAt Pipeline.owesWithin
  rw [show (dats m hch 0 c).owed t.castSucc = 0 from rfl, show (dats m hch 0 c).owed t.succ = 0 from rfl]
  iintro ⟨HB, ⟨%W, %hw, HW⟩, HE⟩
  ihave HR := (body_run m hch c) $$ [HB HW]
  · isplitl [HB]; · iexact HB
    iapply (ow_of c W); iexact HW
  iapply (wp_wand frame (wpE (defs₀ (F := F)) Variants.none (c : Thread nD τ) none) Set.univ) $$ HR
  iintro %_ ⟨HA, ⟨%W', HW⟩⟩
  isplitl [HA]; · iexact HA
  isplitl [HW]
  · iexists W'; isplitr; · ipureintro; exact fun _ _ => Or.inl trivial
    iexact HW
  iexact HE

theorem defs₀_row (t : Fin cfg0.N) : defs₀ (F := F) .tc cfg0.body (cfg0.bodyArgs t (cfg0.slots t)) = bodyAt0 t := by
  unfold defs₀; rw [Defs.onTc_tc]

theorem bigSep_W0 (P : Fin cfg0.W → sProp 𝕄) : bigSep Finset.univ P = iprop(emp) := bigSep_empty

theorem body_obligation (c : Dev nD) : BodyObligation (dats (F := F) m hch 0 c) (defs₀ (F := F)) Variants.none () Set.univ := fun t => by
  rw [bigSep_W0, bigSep_W0, defs₀_row]
  exact triple_restated (sound_body m hch c t) rfl .rfl fun _ => .rfl

theorem left_of {P Q : sProp 𝕄} : iprop(P ∗ Q) ⊢ P := by iintro ⟨H, -⟩; iexact H

/-- The post of the run. -/
def RunPost (r : PUnit × MemSt nD τ sig (Elt F)) : Prop :=
  ((∀ c : Dev nD, ∀ b ∈ Pipeline.restRefs sig cfg0.spec \ R0, r.2.mem ((c.tc : Thread nD τ).loc b) = V m c b)
    ∧ ∀ c : Dev nD, Result (arr m c) (hch c) (r.2.mem ((c.tc : Thread nD τ).loc main_v1_0)) (r.2.mem ((c.tc : Thread nD τ).loc main_v1_1)) (r.2.mem ((c.tc : Thread nD τ).loc main_v1_2)))
  ∧ r.2.sem = fun _ => 0

set_option backward.isDefEq.respectTransparency.types false in
theorem run_main : θ_run defs (onTc (τ := τ) (main (F := F))) (s₀ m ρ) (RunPost m hch) :=
  have hrest : Pipeline.restRefs sig cfg0.spec ⊆ Pipeline.restRefsP sig Pipeline.Prefetch.none cfg0.spec :=
    fun b hb => Finset.mem_sdiff.mpr ⟨hb, fun h => ((Finset.mem_image.mp h).elim fun k _ => k.elim0)⟩
  Pipeline.RDat.θ_run_frameP_dmaRSat_shared (fun q => (cfgs q).toPCfg (Val := Elt F)) (fun q => (cfgs q).toPCfg_adm) (0 : Fin 1) launch0.toP.to₀ osem0 defs₀ Variants.none
    (fun c => (dats m hch 0 c).toR) ownSemFacts0 H0 R0 (H0_sub.trans hrest) (R0_sub.trans (Finset.sdiff_subset_sdiff hrest subset_rfl)) m ρ main
    (fun c => (body_obligation m hch c).toR) (fun c w => w.elim0) (fun _ _ => rfl) (V m) (hmain0 m) (fun c w => w.elim0) (fun _ k => k.elim0)
    (Good m hch) (fun c => left_of) (fun c => .rfl)
    (RunPost m hch)
    (fun r h => ⟨⟨fun c b hb => (h.1.1 c).2 b hb, fun c => by
      obtain ⟨W, hW, hb⟩ := h.1.2 c
      rw [hb main_v1_0 (by decide), hb main_v1_1 (by decide), hb main_v1_2 (by decide)]
      exact hW⟩, h.2⟩)

/-- The arguments end unchanged. -/
theorem args_of (r : PUnit × MemSt nD τ sig (Elt F)) (h : RunPost m hch r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.1.1 c main_arg0 (Finset.mem_sdiff.mpr ⟨Pipeline.mem_restRefs_of main_arg0 (by decide) (by decide), by decide⟩)).trans (V_main_arg0 m c),
    (h.1.1 c main_arg1 (Finset.mem_sdiff.mpr ⟨Pipeline.mem_restRefs_of main_arg1 (by decide) (by decide), by decide⟩)).trans (V_main_arg1 m c),
    (h.1.1 c main_arg2 (Finset.mem_sdiff.mpr ⟨Pipeline.mem_restRefs_of main_arg2 (by decide) (by decide), by decide⟩)).trans (V_main_arg2 m c),
    (h.1.1 c main_arg3 (Finset.mem_sdiff.mpr ⟨Pipeline.mem_restRefs_of main_arg3 (by decide) (by decide), by decide⟩)).trans (V_main_arg3 m c),
    (h.1.1 c main_arg4 (Finset.mem_sdiff.mpr ⟨Pipeline.mem_restRefs_of main_arg4 (by decide) (by decide), by decide⟩)).trans (V_main_arg4 m c),
    (h.1.1 c main_arg5 (Finset.mem_sdiff.mpr ⟨Pipeline.mem_restRefs_of main_arg5 (by decide) (by decide), by decide⟩)).trans (V_main_arg5 m c),
    (h.1.1 c main_arg6 (Finset.mem_sdiff.mpr ⟨Pipeline.mem_restRefs_of main_arg6 (by decide) (by decide), by decide⟩)).trans (V_main_arg6 m c),
    (h.1.1 c main_arg7 (Finset.mem_sdiff.mpr ⟨Pipeline.mem_restRefs_of main_arg7 (by decide) (by decide), by decide⟩)).trans (V_main_arg7 m c),
    (h.1.1 c main_arg8 (Finset.mem_sdiff.mpr ⟨Pipeline.mem_restRefs_of main_arg8 (by decide) (by decide), by decide⟩)).trans (V_main_arg8 m c)⟩

include hch in
/-- The kernel terminates, no argument changes, every semaphore ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨args_of m hch r h, h.2⟩) (run_main m ρ hch)
end

end Cert.KernelIdeal.Body
-- ==== Proof.Ideal.Tokens.lean ====
module

public import proofs.«01_k».proof.Proof.Ideal.Run
public import Idealize.ShloMosaic.Lib.WordCmp
public import proofs.«01_k».proof.Defs
public import proofs.«01_k».proof.Proof.Gen.Pre_tokens_exist

/-! The precondition says that every chosen token exists; what the run needs of it. -/

@[expose] public section

set_option synthInstance.maxSize 4096
set_option maxRecDepth 16384

noncomputable section

namespace Cert.KernelIdeal.Body

open Cert.KernelIdeal Cert.KernelIdeal.Facts₀ Cert.KernelIdeal.Facts
open Idealize.ShloMosaic Idealize.ShloMosaic.Transfers Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A word that the two comparisons accept names a row of the accumulator. -/
theorem tok_ok {w : BitVec 32} (h : IntOp.andi (IntOp.cmpi .sge w 0#32) (IntOp.cmpi .slt w 1024#32) = 1#1) : w.toNat < 1024 := by
  exact (WordCmp.ofBool_decide_eq_one_iff _).1 ((WordCmp.andi_sge_zero_slt_ofNat (k := 1024) (by decide) w).symm.trans h)

theorem chOk_of (c : Dev nD) (ch : Bf F c bChS) (h : ∀ j : S64x32.Idx, IntOp.andi (IntOp.cmpi .sge (ch j) 0#32) (IntOp.cmpi .slt (ch j) 1024#32) = 1#1) : ChOk c ch := by
  intro w hw i n hn a
  have hw' : (chWord c ch w hw i).toNat < 1024 := tok_ok (h _)
  have hn' : n + 512 ≤ 2048 := hn
  fin_cases a
  · show (chWord c ch w hw i).toNat + 1 ≤ 1024; omega
  · exact hn'

variable (m : (ℓ : Loc nD τ sig) → Buf (Elt F) ℓ)

theorem chOk_mem (h : ∀ (c : Dev nD) (j : S64x32.Idx), IntOp.andi (IntOp.cmpi .sge (m ((c.tc : Thread nD τ).loc main_arg2) j) 0#32) (IntOp.cmpi .slt (m ((c.tc : Thread nD τ).loc main_arg2) j) 1024#32) = 1#1) (c : Dev nD) :
    ChOk c (a2.view.read (Elt F) (arr m c).w2 : Bf F c bChS) := by
  refine chOk_of c _ fun j => ?_
  have e : (arr m c).w2 = m ((c.tc : Thread nD τ).loc main_arg2) := Gen.V_main_arg2 m c
  rw [e]
  exact h c _

end Cert.KernelIdeal.Body
-- ==== Proof.Spec.lean ====
module

public import Idealize.ShloMosaic.Lib.Pointwise

/-! The row quantiser and the expert's activation, on extended reals, one element at a time. Both programs are read
against these. -/

@[expose] public section

noncomputable section

namespace Cert.Spec

open Idealize.ShloMosaic

/-- The largest magnitude of a row. -/
def amax {n : ℕ} (f : Fin n → EReal) : EReal :=
  Finset.univ.fold max (Ideal.ofBits FTy.f32 4286578688#32) (fun k => FloatOps.absf (F := Ideal) (φ := .f32) (f k))

/-- The exponent of the scale of a row whose largest magnitude is `a`. -/
def kx (a : EReal) : EReal :=
  Scalar.select (IntOp.ori (BitVec.ofBool (decide (a = 0))) (BitVec.ofBool (decide (a * Ideal.ofBits FTy.f32 991054117#32 = Ideal.ofBits FTy.f32 2139095040#32)))) 0
    (Ideal.liftRound Int.floor (Ideal.div (Ideal.log (a * Ideal.ofBits FTy.f32 991054117#32)) (Ideal.log (Ideal.ofBits FTy.f32 1073741824#32))) + 1)

/-- The scale of a row whose largest magnitude is `a`. -/
def scl (a : EReal) : EReal := FloatOps.exp2 (F := Ideal) (φ := .f32) (kx a)

/-- The code of `v` in a row whose largest magnitude is `a`. -/
def code (a v : EReal) : EReal :=
  min (Ideal.ofBits FTy.f32 1138753536#32) (max (Ideal.ofBits FTy.f32 3286237184#32) (v * FloatOps.exp2 (F := Ideal) (φ := .f32) (0 - kx a)))

end Cert.Spec

end
-- ==== Proof.PayK.lean ====
module

public import proofs.«01_k».proof.Proof.Spec
public import proofs.«01_k».proof.Proof.Ideal.Moves
public import Idealize.ShloMosaic.Lib.StableHlo.Predicate

@[expose] public section
noncomputable section
namespace Cert.KernelIdeal.Pay
open Idealize.ShloMosaic Cert.Spec Cert.KernelIdeal Cert.KernelIdeal.Gen

/-! ## The kernel's values, element by element -/

/-- A word that names index `i` of a vector picks that element. -/
theorem pick {n : ℕ} (hn : n ≤ 4294967296) (w : BitVec 32) (hw : w.toNat < n) (f : Fin n → EReal) :
    ∑ x : Fin n, Scalar.select (IntOp.cmpi .eq (BitVec.ofNat 32 x.val) w) (f x) 0 = f ⟨w.toNat, hw⟩ := by
  rw [Finset.sum_eq_single (⟨w.toNat, hw⟩ : Fin n)]
  · unfold Scalar.select
    rw [if_pos]
    refine StableHlo.Predicate.cmpi_eq_iff.2 ?_
    exact BitVec.eq_of_toNat_eq (by rw [BitVec.toNat_ofNat]; exact Nat.mod_eq_of_lt w.isLt)
  · intro b _ hb
    unfold Scalar.select
    rw [if_neg]
    intro h
    have h2 := congrArg BitVec.toNat (StableHlo.Predicate.cmpi_eq_iff.1 h)
    rw [BitVec.toNat_ofNat, Nat.mod_eq_of_lt (by have := b.isLt; omega)] at h2
    exact hb (Fin.ext h2)
  · intro h; exact absurd (Finset.mem_univ _) h

theorem pick_fin {n : ℕ} (hn : n ≤ 4294967296) (c : Fin n) (f : Fin n → EReal) :
    ∑ x : Fin n, Scalar.select (IntOp.cmpi .eq (BitVec.ofNat 32 x.val) (BitVec.ofNat 32 c.val)) (f x) 0 = f c := by
  have hc : (BitVec.ofNat 32 c.val).toNat = c.val := by rw [BitVec.toNat_ofNat]; exact Nat.mod_eq_of_lt (by have := c.isLt; omega)
  rw [pick hn _ (by rw [hc]; exact c.isLt)]
  exact congrArg f (Fin.ext hc)

theorem cmpi_eq_comm (a b : BitVec 32) : IntOp.cmpi .eq a b = IntOp.cmpi .eq b a := by
  unfold IntOp.cmpi; rw [Bool.beq_comm]

/-- A small word survives the trip through the reals. -/
theorem word_real (w : BitVec 32) (hw : w.toNat < 1024) : FloatOps.fptosi (F := Ideal) (φ := .f32) 32 (FloatOps.sitofp (F := Ideal) .f32 w) = w := by
  show Ideal.fptosi 32 ((w.toInt : ℝ) : EReal) = w
  have h : w.toInt = (w.toNat : ℤ) := BitVec.toInt_eq_toNat_of_lt (by omega)
  rw [h]
  show BitVec.ofInt 32 (max (-(2 ^ (32 - 1) : Nat)) (min ((2 ^ (32 - 1) : Nat) - 1) (if (0:ℝ) ≤ (((w.toNat : ℤ) : ℝ)) then ⌊(((w.toNat : ℤ) : ℝ))⌋ else ⌈(((w.toNat : ℤ) : ℝ))⌉))) = w
  rw [if_pos (by positivity), Int.floor_intCast, min_eq_right (by norm_num; omega), max_eq_right (by omega)]
  apply BitVec.eq_of_toNat_eq
  simp only [BitVec.toNat_ofInt]
  omega

theorem t3 (x : FVec Ideal S256x1 .f32) (r : Fin 128) : k0_pay6 (F := Ideal) k0_pay171 x (ix2 0 r) = x (ix2 ⟨r.val, by omega⟩ 0) := by
  pointwise [k0_pay6, k0_pay171]
  exact pick_fin (by decide) r (fun k : Fin 128 => x (ix2 ⟨k.val, by omega⟩ 0))
theorem t4 (x : FVec Ideal S256x1 .f32) (r : Fin 128) : k0_pay7 (F := Ideal) k0_pay171 x (ix2 0 r) = x (ix2 ⟨128 + r.val, by omega⟩ 0) := by
  pointwise [k0_pay7, k0_pay171]
  exact pick_fin (by decide) r (fun k : Fin 128 => x (ix2 ⟨128 + k.val, by omega⟩ 0))

/-- Row `c` of expert's mask: the token that its word names. -/
theorem pay9 (ch : Vec Ideal S1x32 .i32) (c : Fin 32) (t : Fin 1024) (h : (ch (ix2 0 c)).toNat < 1024) :
    k0_pay9 (F := Ideal) k0_pay174 ch (ix2 c t) = IntOp.cmpi .eq (BitVec.ofNat 32 t.val) (ch (ix2 0 c)) := by
  pointwise [k0_pay9, k0_pay174]
  simp only [cmpi_eq_comm (BitVec.ofNat 32 c.val)]
  rw [pick_fin (by decide) c (fun x => FloatOps.sitofp (F := Ideal) FTy.f32 (ch (ix2 0 x))), word_real _ h]
theorem pay10 (ch : Vec Ideal S1x32 .i32) (p : Vec Ideal S1x1024 .f32) (c : Fin 32) (h : (ch (ix2 0 c)).toNat < 1024) :
    k0_pay10 (F := Ideal) k0_pay174 ch p (ix2 c 0) = p (ix2 0 ⟨(ch (ix2 0 c)).toNat, h⟩) := by
  pointwise [k0_pay10]
  simp only [pay9 ch c _ h]
  exact pick (by decide) _ h (fun x => p (ix2 0 x))
theorem pay11 (ch : Vec Ideal S1x32 .i32) (p : Vec Ideal S1x1024 .f32) (c : Fin 32) (h : (ch (ix2 0 c)).toNat < 1024) :
    k0_pay11 (F := Ideal) k0_pay174 ch p (ix2 c 0) = p (ix2 0 ⟨(ch (ix2 0 c)).toNat, h⟩) := by
  pointwise [k0_pay11]
  simp only [pay9 ch c _ h]
  exact pick (by decide) _ h (fun x => p (ix2 0 x))
theorem pay12 (ch : Vec Ideal S1x32 .i32) (p : Vec Ideal S1024x2048 .fp8e4m3) (c : Fin 32) (d : Fin 2048) (h : (ch (ix2 0 c)).toNat < 1024) :
    k0_pay12 (F := Ideal) k0_pay174 ch p (ix2 c d) = p (ix2 ⟨(ch (ix2 0 c)).toNat, h⟩ d) := by
  pointwise [k0_pay12]
  simp only [pay9 ch c _ h]
  exact pick (by decide) _ h (fun x => p (ix2 x d))

/-- The hidden values before their quantisation. -/
theorem pay13 (s : FVec Ideal S32x1 .f32) (xc : FVec Ideal S32x2048 .fp8e4m3) (g u : Vec Ideal S1x2048x1408 .fp8e4m3) (sg su : Vec Ideal S1x1408 .f32) (c : Fin 32) (f : Fin 1408) :
    k0_pay13 (F := Ideal) s xc g sg u su (ix2 c f) = (∑ x, xc (ix2 c x) * g (ix3 0 x f)) * s (ix2 c 0) * sg (ix2 0 f) *
        Ideal.logistic ((∑ x, xc (ix2 c x) * g (ix3 0 x f)) * s (ix2 c 0) * sg (ix2 0 f)) *
      ((∑ x, xc (ix2 c x) * u (ix3 0 x f)) * s (ix2 c 0) * su (ix2 0 f)) := by
  pointwise [k0_pay13]
theorem pay14 (s : FVec Ideal S32x1 .f32) (xc : FVec Ideal S32x2048 .fp8e4m3) (g u : Vec Ideal S1x2048x1408 .fp8e4m3) (sg su : Vec Ideal S1x1408 .f32) (c : Fin 32) :
    k0_pay14 (F := Ideal) s xc g sg u su (ix2 c 0) = amax fun f => k0_pay13 (F := Ideal) s xc g sg u su (ix2 c f)  := by
  pointwise [k0_pay14]
  rfl
theorem pay15 (s : FVec Ideal S32x1 .f32) (xc : FVec Ideal S32x2048 .fp8e4m3) (g u : Vec Ideal S1x2048x1408 .fp8e4m3) (sg su : Vec Ideal S1x1408 .f32) (c : Fin 32) :
    k0_pay15 (F := Ideal) s xc g sg u su (ix2 c 0) = k0_pay14 (F := Ideal) s xc g sg u su (ix2 c 0) * Ideal.ofBits FTy.f32 991054117#32 := by
  pointwise [k0_pay15]
theorem pay18 (v : FVec Ideal S32x1408 .f32) (a t : FVec Ideal S32x1 .f32) (c : Fin 32) (f : Fin 1408) (h : t (ix2 c 0) = a (ix2 c 0) *  Ideal.ofBits FTy.f32 991054117#32) :
    k0_pay18 (F := Ideal) v a t Cert.KernelIdeal.Body.zeroF (ix3 0 c f) = code (a (ix2 c 0)) (v (ix2 c f))  := by
  pointwise [k0_pay18, k0_pay16, Cert.KernelIdeal.Body.zeroF]
  rw [h]
  rfl
theorem pay17 (a t : FVec Ideal S32x1 .f32) (c : Fin 32) (h : t (ix2 c 0) = a (ix2 c 0) *  Ideal.ofBits FTy.f32 991054117#32) :
    k0_pay17 (F := Ideal) a t Cert.KernelIdeal.Body.zeroF (ix2 c 0) = scl (a (ix2 c 0)) := by
  pointwise [k0_pay17, k0_pay16, Cert.KernelIdeal.Body.zeroF]
  rw [h]
  rfl

theorem payY (hs r : FVec Ideal S32x1 .f32) (h : FVec Ideal S32x1408 .fp8e4m3) (wd : Vec Ideal S1x1x1408x512 .fp8e4m3) (sd : Vec Ideal S1x512 .f32) (c : Fin 32) (j : Fin 512) :
    Cert.KernelIdeal.Body.yPay hs r h wd sd (ix2 c j) = (∑ x, h (ix2 c x) * wd (ix4 0 0 x j)) * hs (ix2 c 0) * sd (ix2 0 j) * r (ix2 c 0) := by
  pointwise [Cert.KernelIdeal.Body.yPay]

/-- The logit of expert `e` and row `r`, from the split weight's three parts. -/
def logit (x : Vec Ideal S256x2048 .bf16) (w : Vec Ideal S192x2048 .bf16) (e : Fin 64) (r : Fin 256) : EReal :=
  ∑ k, w (ix2 ⟨128 + e.val, by omega⟩ k) * x (ix2 r k) + ∑ k, w (ix2 ⟨64 + e.val, by omega⟩ k) * x (ix2 r k) + ∑ k, w (ix2 ⟨e.val, by omega⟩ k) * x (ix2 r k)

/-- The router's probabilities. -/
theorem pay172 (x : Vec Ideal S256x2048 .bf16) (w : Vec Ideal S192x2048 .bf16) (e : Fin 64) (r : Fin 256) : k0_pay172 (F := Ideal) (k0_pay8 (F := Ideal) x w) (ix2 e r) =
    Ideal.div (Ideal.exp (logit x w e r - Finset.univ.fold max (Ideal.ofBits FTy.f32 4286578688#32) fun e' => logit x w e' r))
      (∑ e'' : Fin 64, Ideal.exp (logit x w e'' r - Finset.univ.fold max (Ideal.ofBits FTy.f32 4286578688#32) fun e' => logit x w e' r)) := by
  pointwise [k0_pay8, k0_pay172]
  rfl

theorem red2 (v : FVec Ideal S256x2048 .f32) (r : Fin 256) : multiReduction .maximumf [1] S256 v 0xFF800000#32 reduces_S256x2048_S256 (.inl rfl) rfl (ix1 r) = Finset.univ.fold max (Ideal.ofBits FTy.f32 4286578688#32) (fun k => v (ix2 r k)) := by
  pointwise []

end Cert.KernelIdeal.Pay

end
-- ==== Proof.PayQ.lean ====
module

public import proofs.«01_k».proof.Proof.Spec
public import proofs.«01_k».proof.Proof.Gen.KernelIdeal.Skeleton

@[expose] public section
noncomputable section
namespace Cert.KernelIdeal.Pay
open Idealize.ShloMosaic Cert.Spec Cert.KernelIdeal Cert.KernelIdeal.Gen

/-! ## The quantised tokens, element by element -/

/-- The quantised codes of a block. -/
theorem codes (x : Vec Ideal S256x2048 .bf16) (r : Fin 256) (d : Fin 2048) : k0_pay5 (F := Ideal) (k0_pay4 (F := Ideal) x) (ix2 r d) = code (amax fun k => x (ix2 r k)) (x (ix2 r d)) := by
  pointwise [k0_pay4, k0_pay2, k0_pay1, k0_pay5]
  rfl
/-- The quantisation scales of a block. -/
theorem scales (x : Vec Ideal S256x2048 .bf16) (r : Fin 256) : k0_pay3 (F := Ideal) x (ix2 r 0) = scl (amax fun k => x (ix2 r k)) := by
  pointwise [k0_pay3, k0_pay2, k0_pay1]
  rfl

end Cert.KernelIdeal.Pay

end
-- ==== Proof.KWrite.lean ====
module

public import proofs.«01_k».proof.Proof.Spec
public import Idealize.ShloMosaic.Lib.Pipeline.Value

/-! What a buffer holds after a rectangle of it is written. -/

@[expose] public section
noncomputable section
namespace Cert.Spec
open Idealize.ShloMosaic

variable {sig : RefSig} {κ : Kind} {Val : EltTy → Type}

/-- An element inside the written rectangle is the payload's. -/
theorem wr_in (b : Ref sig κ) (off size : Fin b.ty.shape.rank → Nat) (inb : ∀ a, off a + size a ≤ b.ty.shape.size a)
    (f : b.ty.Contents Val) (w : (Rect.unit off size inb).shape.Idx → Val b.ty.elt) (i : b.ty.shape.Idx) (j : (Rect.unit off size inb).shape.Idx) (h : ∀ a, (i a).val = off a + (j a).val) :
    ((View.whole b).slice (Rect.unit off size inb)).write Val f w Finset.univ i = w j := by
  have e : ((View.whole b).slice (Rect.unit off size inb)).emb j = i := by
    funext a; apply Fin.ext
    rw [View.emb_slice, Function.Embedding.trans_apply, View.emb_whole, Function.Embedding.refl_apply, Rect.emb_apply]
    show off a + 1 * (j a).val = (i a).val
    rw [h a]; omega
  rw [← e]
  exact View.write_emb_of_mem _ _ (Finset.mem_univ j)

/-- An element outside it keeps its value. -/
theorem wr_out (b : Ref sig κ) (off size : Fin b.ty.shape.rank → Nat) (inb : ∀ a, off a + size a ≤ b.ty.shape.size a)
    (f : b.ty.Contents Val) (w : (Rect.unit off size inb).shape.Idx → Val b.ty.elt) (i : b.ty.shape.Idx) (a) (h : (i a).val < off a ∨ off a + size a ≤ (i a).val) :
    ((View.whole b).slice (Rect.unit off size inb)).write Val f w Finset.univ i = f i := by
  rw [View.write_whole_slice_unit]
  unfold updateSlice
  rw [dif_neg]
  intro hin
  have h1 := hin a
  have h2 : (i a).val < off a + size a := h1.2
  have h3 : off a ≤ (i a).val := h1.1
  omega

end Cert.Spec

end
-- ==== Proof.KQuant.lean ====
module

public import proofs.«01_k».proof.Proof.PayK
public import proofs.«01_k».proof.Proof.PayQ
public import proofs.«01_k».proof.Proof.KWrite
public import proofs.«01_k».proof.Proof.Ideal.Deal

/-! What the loop over blocks of tokens leaves: the codes and the scales of every token. -/

@[expose] public section
noncomputable section
namespace Cert.KernelIdeal.Body
open Cert.KernelIdeal Cert.KernelIdeal.Facts₀ Cert.KernelIdeal.Facts
open Cert.KernelIdeal.Gen (k0_pay3 k0_pay4 k0_pay5 k0_pay6 k0_pay7 k0_pay8 k0_pay171 k0_pay172 k0_pay173)
open Idealize.ShloMosaic Idealize.ShloMosaic.TcCoe Cert.Spec

variable {c : Dev nD}

theorem off14_0 (k : Fin k0_t1_loop.trips) : k0_off14 k 0 = 256 * k.val := by revert k; decide
theorem off14_1 (k : Fin k0_t1_loop.trips) : k0_off14 k 1 = 0 := by revert k; decide
theorem off15_0 (k : Fin k0_t1_loop.trips) (h : Fin 2) : k0_off15 k (if h = 0 then 0#32 else 128#32) 0 = 0 := by revert k h; decide
theorem off15_1 (k : Fin k0_t1_loop.trips) (h : Fin 2) : k0_off15 k (if h = 0 then 0#32 else 128#32) 1 = 256 * k.val + 128 * h.val := by revert k h; decide
theorem off16_0 (k : Fin k0_t1_loop.trips) : k0_off16 k 0 = 0 := by revert k; decide
theorem off16_1 (k : Fin k0_t1_loop.trips) : k0_off16 k 1 = 256 * k.val := by revert k; decide

theorem xRow_val (k : Fin k0_t1_loop.trips) : (xRow k).toNat = 256 * k.val := by revert k; decide

/-- Block `k` of the tokens. -/
theorem xIn_at (w : Bf Ideal c a0) (k : Fin k0_t1_loop.trips) (r : Fin 256) (d : Fin 2048) (t : Fin 1024) (h : t.val = 256 * k.val + r.val) :
    xIn w k (ix2 r d) = (w : FVec Ideal S1024x2048 .bf16) (ix2 t d) := by
  show (w : FVec Ideal S1024x2048 .bf16) _ = _
  refine congrArg (w : FVec Ideal S1024x2048 .bf16) (funext fun a => Fin.ext ?_)
  have hr := xRow_val k
  match a with
  | ⟨0, _⟩ => show (xRow k).toNat + 1 * r.val = t.val; omega
  | ⟨1, _⟩ => show 0 + 1 * d.val = d.val; omega

variable (w : Bf Ideal c a0)

def rowMax (t : Fin 1024) : EReal := amax fun k => (w : FVec Ideal S1024x2048 .bf16) (ix2 t k)

theorem codesF_in (k : Fin k0_t1_loop.trips) (f : Bf Ideal c bCodes) (t : Fin 1024) (d : Fin 2048) (h : 256 * k.val ≤ t.val) (h' : t.val < 256 * k.val + 256) :
    (codesF w k f : FVec Ideal S1024x2048 .fp8e4m3) (ix2 t d) = code (rowMax w t) ((w : FVec Ideal S1024x2048 .bf16) (ix2 t d)) := by
  have e := wr_in cc0_scratch1 (k0_off14 k) S256x2048.size (k0_off14_inb k) f (k0_pay5 (k0_pay4 (xIn w k))) (ix2 t d) (ix2 (⟨t.val - 256 * k.val, by omega⟩ : Fin 256) d) (by
    intro a
    have h0 := off14_0 k; have h1 := off14_1 k
    match a with
    | ⟨0, _⟩ => show t.val = k0_off14 k 0 + (t.val - 256 * k.val); omega
    | ⟨1, _⟩ => show d.val = k0_off14 k 1 + d.val; omega)
  refine Eq.trans e ?_
  rw [Pay.codes]
  unfold rowMax
  have hx : ∀ d, xIn w k (ix2 (⟨t.val - 256 * k.val, by omega⟩ : Fin 256) d) = (w : FVec Ideal S1024x2048 .bf16) (ix2 t d) := fun d => xIn_at w k _ d t (by show t.val = 256 * k.val + (t.val - 256 * k.val); omega)
  simp only [hx]

theorem codesF_out (k : Fin k0_t1_loop.trips) (f : Bf Ideal c bCodes) (t : Fin 1024) (d : Fin 2048) (h : t.val < 256 * k.val ∨ 256 * k.val + 256 ≤ t.val) :
    (codesF w k f : FVec Ideal S1024x2048 .fp8e4m3) (ix2 t d) = (f : FVec Ideal S1024x2048 .fp8e4m3) (ix2 t d) :=
  wr_out cc0_scratch1 (k0_off14 k) S256x2048.size (k0_off14_inb k) f (k0_pay5 (k0_pay4 (xIn w k))) (ix2 t d) (0 : Fin 2) (by
    have h0 := off14_0 k
    show t.val < k0_off14 k 0 ∨ k0_off14 k 0 + 256 ≤ t.val
    omega)

theorem trip_codes (ws : Bf Ideal c bWs) (k : Fin k0_t1_loop.trips) (S : Xs Ideal c) : (xTripF w ws k S).codes = codesF w k S.codes := by simp only [xTripF]
theorem trip_xs (ws : Bf Ideal c bWs) (k : Fin k0_t1_loop.trips) (S : Xs Ideal c) : (xTripF w ws k S).xs = xsF1 w k (xsF0 w k S.xs) := by simp only [xTripF]
theorem codes_succ (ws : Bf Ideal c bWs) (S : Xs Ideal c) (k : Fin k0_t1_loop.trips) : (xIter w ws S (k.val + 1)).codes = codesF w k (xIter w ws S k.val).codes := by
  rw [xIter_succ, trip_codes]

/-- After `n` trips the tokens below `256 n` have their codes. -/
theorem codes_iter (ws : Bf Ideal c bWs) (S : Xs Ideal c) (t : Fin 1024) (d : Fin 2048) : ∀ n ≤ 4, t.val < 256 * n →
    ((xIter w ws S n).codes : FVec Ideal S1024x2048 .fp8e4m3) (ix2 t d) = code (rowMax w t) ((w : FVec Ideal S1024x2048 .bf16) (ix2 t d)) := by
  intro n
  induction n with
  | zero => intro _ h; omega
  | succ n ih =>
    intro hn h
    obtain ⟨k, hk⟩ : ∃ k : Fin k0_t1_loop.trips, k.val = n := ⟨⟨n, by rw [trips4]; omega⟩, rfl⟩
    subst hk
    rw [codes_succ]
    by_cases hb : 256 * k.val ≤ t.val
    · exact codesF_in w _ _ t d hb (by omega)
    · exact (codesF_out w _ _ t d (Or.inl (by omega))).trans (ih (by omega) (by omega))

theorem scl_at (k : Fin k0_t1_loop.trips) (r : Fin 256) (t : Fin 1024) (h : t.val = 256 * k.val + r.val) : k0_pay3 (F := Ideal) (xIn w k) (ix2 r 0) = scl (rowMax w t) := by
  rw [Pay.scales]
  unfold rowMax
  simp only [xIn_at w k r _ t h]

theorem xsF_at (k : Fin k0_t1_loop.trips) (f : Bf Ideal c bXs) (t : Fin 1024) (h : 256 * k.val ≤ t.val) (h' : t.val < 256 * k.val + 256) :
    (xsF1 w k (xsF0 w k f) : FVec Ideal S1x1024 .f32) (ix2 0 t) = scl (rowMax w t) := by
  have h0 : k0_off15 k 0#32 0 = 0 := off15_0 k 0
  have h1 : k0_off15 k 0#32 1 = 256 * k.val + 128 * 0 := off15_1 k 0
  have g0 : k0_off15 k 128#32 0 = 0 := off15_0 k 1
  have g1 : k0_off15 k 128#32 1 = 256 * k.val + 128 * 1 := off15_1 k 1
  by_cases hb : t.val < 256 * k.val + 128
  · refine Eq.trans (wr_out cc0_scratch11 (k0_off15 k 128#32) S1x128.size (k0_off15_inb k 1) (xsF0 w k f) (k0_pay7 k0_pay171 (k0_pay3 (xIn w k))) (ix2 0 t) (1 : Fin 2) (Or.inl (by show t.val < k0_off15 k 128#32 1; omega))) ?_
    refine Eq.trans (wr_in cc0_scratch11 (k0_off15 k 0#32) S1x128.size (k0_off15_inb k 0) f (k0_pay6 k0_pay171 (k0_pay3 (xIn w k))) (ix2 0 t) (ix2 0 (⟨t.val - 256 * k.val, by omega⟩ : Fin 128)) (by
      intro a
      match a with
      | ⟨0, _⟩ => show 0 = k0_off15 k 0#32 0 + 0; omega
      | ⟨1, _⟩ => show t.val = k0_off15 k 0#32 1 + (t.val - 256 * k.val); omega)) ?_
    rw [Pay.t3]
    exact scl_at w k _ t (by show t.val = 256 * k.val + (t.val - 256 * k.val); omega)
  · refine Eq.trans (wr_in cc0_scratch11 (k0_off15 k 128#32) S1x128.size (k0_off15_inb k 1) (xsF0 w k f) (k0_pay7 k0_pay171 (k0_pay3 (xIn w k))) (ix2 0 t) (ix2 0 (⟨t.val - 256 * k.val - 128, by omega⟩ : Fin 128)) (by
      intro a
      match a with
      | ⟨0, _⟩ => show 0 = k0_off15 k 128#32 0 + 0; omega
      | ⟨1, _⟩ => show t.val = k0_off15 k 128#32 1 + (t.val - 256 * k.val - 128); omega)) ?_
    rw [Pay.t4]
    exact scl_at w k _ t (by show t.val = 256 * k.val + (128 + (t.val - 256 * k.val - 128)); omega)

theorem xsF_out (k : Fin k0_t1_loop.trips) (f : Bf Ideal c bXs) (t : Fin 1024) (h : t.val < 256 * k.val) :
    (xsF1 w k (xsF0 w k f) : FVec Ideal S1x1024 .f32) (ix2 0 t) = (f : FVec Ideal S1x1024 .f32) (ix2 0 t) := by
  have h1 : k0_off15 k 0#32 1 = 256 * k.val + 128 * 0 := off15_1 k 0
  have g1 : k0_off15 k 128#32 1 = 256 * k.val + 128 * 1 := off15_1 k 1
  refine Eq.trans (wr_out cc0_scratch11 (k0_off15 k 128#32) S1x128.size (k0_off15_inb k 1) (xsF0 w k f) (k0_pay7 k0_pay171 (k0_pay3 (xIn w k))) (ix2 0 t) (1 : Fin 2) (Or.inl (by show t.val < k0_off15 k 128#32 1; omega))) ?_
  exact wr_out cc0_scratch11 (k0_off15 k 0#32) S1x128.size (k0_off15_inb k 0) f (k0_pay6 k0_pay171 (k0_pay3 (xIn w k))) (ix2 0 t) (1 : Fin 2) (Or.inl (by show t.val < k0_off15 k 0#32 1; omega))

theorem xs_succ (ws : Bf Ideal c bWs) (S : Xs Ideal c) (k : Fin k0_t1_loop.trips) : (xIter w ws S (k.val + 1)).xs = xsF1 w k (xsF0 w k (xIter w ws S k.val).xs) := by
  rw [xIter_succ, trip_xs]

/-- After `n` trips the tokens below `256 n` have their scales. -/
theorem xs_iter (ws : Bf Ideal c bWs) (S : Xs Ideal c) (t : Fin 1024) : ∀ n ≤ 4, t.val < 256 * n →
    ((xIter w ws S n).xs : FVec Ideal S1x1024 .f32) (ix2 0 t) = scl (rowMax w t) := by
  intro n
  induction n with
  | zero => intro _ h; omega
  | succ n ih =>
    intro hn h
    obtain ⟨k, hk⟩ : ∃ k : Fin k0_t1_loop.trips, k.val = n := ⟨⟨n, by rw [trips4]; omega⟩, rfl⟩
    subst hk
    rw [xs_succ]
    by_cases hb : 256 * k.val ≤ t.val
    · exact xsF_at w _ _ t hb (by omega)
    · exact (xsF_out w _ _ t (by omega)).trans (ih (by omega) (by omega))

end Cert.KernelIdeal.Body

end
-- ==== Proof.PayR.lean ====
module

public import proofs.«01_k».proof.Proof.Spec
public import proofs.«01_k».proof.Proof.Gen.ReferenceIdeal.Skeleton

@[expose] public section
noncomputable section
namespace Cert.ReferenceIdeal.Pay
open Idealize.ShloMosaic Cert.Spec Cert.ReferenceIdeal Cert.ReferenceIdeal.Gen

/-! ## The reference's values, element by element -/

theorem red2 (v : FVec Ideal S1024x2048 .f32) (r : Fin 1024) : multiReduction .maximumf [1] S1024 v 0xFF800000#32 reduces_S1024x2048_S1024 (.inl rfl) rfl (ix1 r) = Finset.univ.fold max (Ideal.ofBits FTy.f32 4286578688#32) (fun k => v (ix2 r k)) := by
  pointwise []

theorem pay3_of (x : Vec Ideal S1024x2048 .bf16) (r : Fin 1024) (R : FVec Ideal S1024 .f32) (hR : multiReduction .maximumf [1] S1024 (absf (k0_pay2 (F := Ideal) x)) 0xFF800000#32 reduces_S1024x2048_S1024 (.inl rfl) rfl = R) :
    k0_pay3 (F := Ideal) x (ix2 r 0) = kx (R (ix1 r)) := by
  unfold k0_pay3
  rw [hR]
  pointwise []
  rfl

theorem pay3 (x : Vec Ideal S1024x2048 .bf16) (r : Fin 1024) : k0_pay3 (F := Ideal) x (ix2 r 0) = kx (amax fun k => x (ix2 r k)) := by
  rw [pay3_of x r _ rfl, red2]; rfl

theorem pay4_of (x : Vec Ideal S1024x2048 .bf16) (r : Fin 1024) (d : Fin 2048) (K : FVec Ideal S1024x1 .f32) (hR : k0_pay3 (F := Ideal) x  = K) : k0_pay4 (F := Ideal) x (ix2 r d) = min (Ideal.ofBits FTy.f32 1138753536#32) (max (Ideal.ofBits FTy.f32 3286237184#32) (x (ix2 r d) * FloatOps.exp2 (F := Ideal) (φ := .f32) (0 - K (ix2 r 0)))) := by
  unfold k0_pay4
  rw [hR]
  unfold k0_pay2
  pointwise []

/-- The first array's codes. -/
theorem pay4 (x : Vec Ideal S1024x2048 .bf16) (r : Fin 1024) (d : Fin 2048) : k0_pay4 (F := Ideal) x (ix2 r d) = code (amax fun k => x (ix2 r k)) (x (ix2 r d)) := by
  rw [pay4_of x r d _ rfl, pay3]; rfl

theorem pay5_of (K : FVec Ideal S1024x1 .f32) (r : Fin 1024) : (transpose S1x1024 [1, 0] (exp2 K) transposes_S1024x1_p1_0_S1x1024 : FVec Ideal S1x1024 .f32) (ix2 0 r) = FloatOps.exp2 (F := Ideal) (φ := .f32) (K (ix2 r 0)) := by
  pointwise []

/-- The first array's scales. -/
theorem pay5 (x : Vec Ideal S1024x2048 .bf16) (r : Fin 1024) : k0_pay5 (F := Ideal) x (ix2 0 r) = scl (amax fun k => x (ix2 r k)) :=
  (pay5_of _ r).trans (by rw [pay3]; rfl)

end Cert.ReferenceIdeal.Pay

end
-- ==== Proof.RefBlocks.lean ====
module

public import proofs.«01_k».proof.Proof.Gen.ReferenceIdeal.Frame
public import Idealize.ShloMosaic.Lib.Pipeline.Value

/-! The run of the reference, with each output array named, and its blocks. -/

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S1024x2048.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S1024x2048.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S1x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v37_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v37_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v37_2) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: input window 5 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- After the frame run, argument `main_arg5` is as launched: input window 6 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 6).trans (((dats m 0 c).arrAt_in 6 rfl _).trans ((A_eq m c 6).trans (V_main_arg5 m c)))

/-- After the frame run, argument `main_arg6` is as launched: input window 7 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 7).trans (((dats m 0 c).arrAt_in 7 rfl _).trans ((A_eq m c 7).trans (V_main_arg6 m c)))

/-- After the frame run, argument `main_arg7` is as launched: input window 8 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 8).trans (((dats m 0 c).arrAt_in 8 rfl _).trans ((A_eq m c 8).trans (V_main_arg7 m c)))

/-- After the frame run, argument `main_arg8` is as launched: input window 9 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 9).trans (((dats m 0 c).arrAt_in 9 rfl _).trans ((A_eq m c 9).trans (V_main_arg8 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v37_0) = (dats m 0 c).arrAt 10 cfg0.N
      ∧ r.2.mem ((c : Thread nD τ).loc main_v37_1) = (dats m 0 c).arrAt 11 cfg0.N
      ∧ r.2.mem ((c : Thread nD τ).loc main_v37_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.ReferenceIdeal.Value

end
-- ==== Proof.RQuant.lean ====
module

public import proofs.«01_k».proof.Proof.PayR
public import proofs.«01_k».proof.Proof.RefBlocks
public import Idealize.ShloMosaic.Lib.Pipeline.ValueKit.Basic

/-! What the reference leaves in its arrays of codes and scales. -/

@[expose] public section
noncomputable section
namespace Cert.ReferenceIdeal.Value
open Cert.ReferenceIdeal Cert.ReferenceIdeal.Gen Cert.Spec Idealize.ShloMosaic Idealize.ShloMosaic.TcCoe Idealize.SL.Sem

def t0 : Fin cfg0.N := ⟨0, by decide⟩

variable (m : (ℓ : Loc nD τ sig) → Buf (Elt Ideal) ℓ)

/-- The tokens. -/
def tok (c : Dev nD) : FVec Ideal S1024x2048 .bf16 := m ((c : Thread nD τ).loc main_arg0)

theorem iblk0 (c : Dev nD) (t : Fin cfg0.N) : (iblk m c 0 t : FVec Ideal S1024x2048 .bf16) = tok m c := by
  have hv : V m c (Pipeline.arrRef spec0 0) = m ((c : Thread nD τ).loc main_arg0) := V_main_arg0 m c
  unfold iblk tok
  rw [← hv]
  obtain rfl : t = ⟨0, by decide⟩ := by revert t; decide
  funext i
  refine congrArg (V m c (Pipeline.arrRef spec0 0)) (funext fun a => Fin.ext ?_)
  match a with
  | ⟨0, _⟩ => show 0 * 1024 + 1 * (i 0).val = (i 0).val; omega
  | ⟨1, _⟩ => show 0 * 2048 + 1 * (i 1).val = (i 1).val; omega

theorem blk11 (t : Fin cfg0.N) (y : S1024x2048.Idx) : ((cfg0.win 11).blk t).view.emb y = y := by
  obtain rfl : t = ⟨0, by decide⟩ := by revert t; decide
  funext a; apply Fin.ext
  match a with
  | ⟨0, _⟩ => show 0 * 1024 + 1 * (y 0).val = (y 0).val; omega
  | ⟨1, _⟩ => show 0 * 2048 + 1 * (y 1).val = (y 1).val; omega

theorem blk12 (t : Fin cfg0.N) (y : S1x1024.Idx) : ((cfg0.win 12).blk t).view.emb y = y := by
  obtain rfl : t = ⟨0, by decide⟩ := by revert t; decide
  funext a; apply Fin.ext
  match a with
  | ⟨0, _⟩ => show 0 * 1 + 1 * (y 0).val = (y 0).val; omega
  | ⟨1, _⟩ => show 0 * 1024 + 1 * (y 1).val = (y 1).val; omega

theorem out11 (x0 : Vec Ideal S1024x2048 .bf16) (x1 x2 x3 x4 x5 x6 x7 x8 x9) : out0_11 (F := Ideal) x0 x1 x2 x3 x4 x5 x6 x7 x8 x9 = k0_pay4 (F := Ideal) x0 := by
  unfold out0_11
  rw [View.canon_cons_unit_lit _ _ _ (by decide), View.ld_unit_lit _ _ (by decide)]

theorem out12 (x0 : Vec Ideal S1024x2048 .bf16) (x1 x2 x3 x4 x5 x6 x7 x8 x9) : out0_12 (F := Ideal) x0 x1 x2 x3 x4 x5 x6 x7 x8 x9 = k0_pay5 (F := Ideal) x0 := by
  unfold out0_12
  rw [View.canon_cons_unit_lit _ _ _ (by decide), View.ld_unit_lit _ _ (by decide)]

theorem whole11 (c : Dev nD) (t : Fin cfg0.N) (y : S1024x2048.Idx) : ((cfg0.win 11).blk t).view.read (Elt Ideal) ((dats m 0 c).arrAt 11 cfg0.N) y = (dats m 0 c).arrAt 11 cfg0.N y := by
  generalize (dats m 0 c).arrAt 11 cfg0.N = A
  show A (((cfg0.win 11).blk t).view.emb y) = A y
  rw [blk11]

/-- The array of codes. -/
theorem arr11 (c : Dev nD) (r : Fin 1024) (d : Fin 2048) :
    ((dats m 0 c).arrAt 11 cfg0.N : FVec Ideal S1024x2048 .fp8e4m3) (ix2 r d) = code (amax fun k => tok m c (ix2 r k)) (tok m c (ix2 r d)) := by
  have h := congrFun (blocks11 m c t0 (flush0_11 _)) (ix2 r d)
  rw [flushed11, out11] at h
  rw [whole11] at h
  refine h.trans ?_
  show k0_pay4 (F := Ideal) (iblk m c 0 t0) (ix2 r d) = _
  rw [Pay.pay4, iblk0]

theorem whole12 (c : Dev nD) (t : Fin cfg0.N) (y : S1x1024.Idx) : ((cfg0.win 12).blk t).view.read (Elt Ideal) ((dats m 0 c).arrAt 12 cfg0.N) y = (dats m 0 c).arrAt 12 cfg0.N y := by
  generalize (dats m 0 c).arrAt 12 cfg0.N = A
  show A (((cfg0.win 12).blk t).view.emb y) = A y
  rw [blk12]

/-- The array of scales. -/
theorem arr12 (c : Dev nD) (r : Fin 1024) :
    ((dats m 0 c).arrAt 12 cfg0.N : FVec Ideal S1x1024 .f32) (ix2 0 r) = scl (amax fun k => tok m c (ix2 r k)) := by
  have h := congrFun (blocks12 m c t0 (flush0_12 _)) (ix2 0 r)
  rw [flushed12, out12] at h
  rw [whole12] at h
  refine h.trans ?_
  show k0_pay5 (F := Ideal) (iblk m c 0 t0) (ix2 0 r) = _
  rw [Pay.pay5, iblk0]

end Cert.ReferenceIdeal.Value

end
-- ==== Proof.Equal.lean ====
module

public import proofs.«01_k».proof.Defs
public import proofs.«01_k».proof.Proof.KQuant
public import proofs.«01_k».proof.Proof.RQuant
public import proofs.«01_k».proof.Proof.Ideal.Tokens
public import proofs.«01_k».proof.Proof.Gen.KernelIdeal
public import proofs.«01_k».proof.Proof.Gen.ReferenceIdeal
public import proofs.«01_k».proof.Proof.Gen.On_codes_and_scales

/-! The codes and the scales that the kernel and the reference leave are the same arrays of the tokens. -/

@[expose] public section
noncomputable section
namespace Cert.Equal
open Idealize.ShloMosaic Idealize.ShloMosaic.TcCoe Idealize.SL.Sem Cert.Spec

abbrev T2 : Shape := ⟨2, ![1024, 2048]⟩
abbrev T1 : Shape := ⟨2, ![1, 1024]⟩

/-- The array of codes of the tokens `x`. -/
def qCodes (x : FVec Ideal T2 .bf16) : FVec Ideal T2 .fp8e4m3 := fun i => code (amax fun k => x (ix2 (i 0) k)) (x i)
/-- The array of scales of the tokens `x`. -/
def qScale (x : FVec Ideal T2 .bf16) : FVec Ideal T1 .f32 := fun i => scl (amax fun k => x (ix2 (i 1) k))

theorem ext2 {n0 n1 : ℕ} {α : Type} (f g : (⟨2, ![n0, n1]⟩ : Shape).Idx → α) (h : ∀ a b, f (ix2 a b) = g (ix2 a b)) : f = g := by
  funext i
  have e : ix2 (i 0) (i 1) = i := by funext a; match a with | ⟨0, _⟩ => rfl | ⟨1, _⟩ => rfl
  rw [← e]; exact h _ _

/-- The kernel's codes and scales. -/
theorem kernel (c : Dev Cert.KernelIdeal.nD) (A : Cert.KernelIdeal.Body.Arrays Ideal c) (hch) (W0 W1 W2) (h : Cert.KernelIdeal.Body.Result A hch W0 W1 W2) :
    (W1 : FVec Ideal T2 .fp8e4m3) = qCodes A.w0 ∧ (W2 : FVec Ideal T1 .f32) = qScale A.w0 := by
  obtain ⟨ws, S, yb, hc, h1, h2, -⟩ := h
  constructor
  · refine ext2 _ _ fun a b => ?_
    rw [h1]
    exact Cert.KernelIdeal.Body.codes_iter A.w0 _ S a b 4 (by omega) (by have := a.isLt; omega)
  · refine ext2 _ _ fun a b => ?_
    rw [h2]
    obtain rfl : a = 0 := Subsingleton.elim _ _
    exact Cert.KernelIdeal.Body.xs_iter A.w0 _ S b 4 (by omega) (by have := b.isLt; omega)

/-- The reference's codes. -/
theorem ref_codes (m : (ℓ : Loc Cert.ReferenceIdeal.nD Cert.ReferenceIdeal.τ Cert.ReferenceIdeal.sig) → Buf (Elt Ideal) ℓ) (c : Dev Cert.ReferenceIdeal.nD) :
    ((Cert.ReferenceIdeal.Gen.dats m 0 c).arrAt 11 Cert.ReferenceIdeal.cfg0.N : FVec Ideal T2 .fp8e4m3) = qCodes (Cert.ReferenceIdeal.Value.tok m c) :=
  ext2 _ _ fun a b => Cert.ReferenceIdeal.Value.arr11 m c a b

/-- The reference's scales. -/
theorem ref_scale (m : (ℓ : Loc Cert.ReferenceIdeal.nD Cert.ReferenceIdeal.τ Cert.ReferenceIdeal.sig) → Buf (Elt Ideal) ℓ) (c : Dev Cert.ReferenceIdeal.nD) :
    ((Cert.ReferenceIdeal.Gen.dats m 0 c).arrAt 12 Cert.ReferenceIdeal.cfg0.N : FVec Ideal T1 .f32) = qScale (Cert.ReferenceIdeal.Value.tok m c) :=
  ext2 _ _ fun a b => by
    obtain rfl : a = 0 := Subsingleton.elim _ _
    exact Cert.ReferenceIdeal.Value.arr12 m c b

/-- Where the mask is set — on the codes and the scales — the two programs' results are equal. -/
theorem algebraic : Cert.algebraic_KernelIdeal_ReferenceIdeal_on_codes_and_scales := by
  intro m g m' g' hpre hm
  have hch := Cert.KernelIdeal.Body.chOk_mem m fun c j => congrFun (hpre c) j
  refine ⟨fun c => m ((c.tc : Thread Cert.KernelIdeal.nD Cert.KernelIdeal.τ).loc Cert.KernelIdeal.main_v1_0), fun c => qCodes (Cert.KernelIdeal.Body.arr m c).w0, fun c => qScale (Cert.KernelIdeal.Body.arr m c).w0, ?_, ?_⟩
  · refine (θ_run _ _ _).mono (fun r h c => ?_) (Cert.KernelIdeal.Body.run_main m g hch)
    obtain ⟨e1, e2⟩ := kernel c _ _ _ _ _ (h.1.2 c)
    refine ⟨fun i hi => ?_, fun i _ => congrFun e1 i, fun i _ => congrFun e2 i, Cert.KernelIdeal.Body.args_of m hch r h c⟩
    exact absurd hi (by show ¬ ((0#1 : BitVec 1) = 1#1); decide)
  · refine (θ_run _ _ _).mono (fun r h c => ?_) (Cert.ReferenceIdeal.Value.run_blocks m' g')
    obtain ⟨-, e1, e2, hargs⟩ := h c
    have e0 : Cert.ReferenceIdeal.Value.tok m' c = (Cert.KernelIdeal.Body.arr m c).w0 :=
      ((hm c).1).trans (Cert.KernelIdeal.Gen.V_main_arg0 m c).symm
    refine ⟨fun i hi => ?_, fun i _ => ?_, fun i _ => ?_, hargs⟩
    · exact absurd hi (by show ¬ ((0#1 : BitVec 1) = 1#1); decide)
    · rw [e1]; exact (congrFun (ref_codes m' c) i).trans (by rw [e0])
    · rw [e2]; exact (congrFun (ref_scale m' c) i).trans (by rw [e0])

end Cert.Equal

end
-- ==== Proof.KEnv.lean ====
module

public import proofs.«01_k».proof.Proof.PayK
public import proofs.«01_k».proof.Proof.KWrite
public import proofs.«01_k».proof.Proof.Ideal.Deal

/-! What one expert's hidden codes, scales and output are. -/

@[expose] public section
noncomputable section
namespace Cert.KernelIdeal.Body
open Cert.KernelIdeal Cert.KernelIdeal.Facts₀ Cert.KernelIdeal.Facts
open Cert.KernelIdeal.Gen
open Idealize.ShloMosaic Idealize.ShloMosaic.TcCoe Cert.Spec

variable {c : Dev nD}

variable (E : Env Ideal c)

/-! ## The environment's elements -/
def chV (e : Fin 64) (i : Fin 32) : BitVec 32 := (E.ch : IVec S64x32 32) (ix2 e i)
def sgV (e : Fin 64) (f : Fin 1408) : EReal := (E.sg : FVec Ideal S64x1408 .f32) (ix2 e f)
def suV (e : Fin 64) (f : Fin 1408) : EReal := (E.su : FVec Ideal S64x1408 .f32) (ix2 e f)
def sdV (e : Fin 64) (d : Fin 2048) : EReal := (E.sd : FVec Ideal S64x2048 .f32) (ix2 e d)
def prV (e : Fin 64) (t : Fin 1024) : EReal := (E.pr : FVec Ideal S64x1024 .f32) (ix2 e t)
def xsV (t : Fin 1024) : EReal := (E.xs : FVec Ideal S1x1024 .f32) (ix2 0 t)
def codesV (t : Fin 1024) (d : Fin 2048) : EReal := (E.codes : FVec Ideal S1024x2048 .fp8e4m3) (ix2 t d)
def w3V (e : Fin 64) (d : Fin 2048) (f : Fin 1408) : EReal := (E.w3 : FVec Ideal S64x2048x1408 .fp8e4m3) (ix3 e d f)
def w4V (e : Fin 64) (d : Fin 2048) (f : Fin 1408) : EReal := (E.w4 : FVec Ideal S64x2048x1408 .fp8e4m3) (ix3 e d f)
def w7V (e : Fin 64) (f : Fin 1408) (d : Fin 2048) : EReal := (E.w7 : FVec Ideal S64x1408x2048 .fp8e4m3) (ix3 e f d)

variable {e : ℕ} (he : e < 64)

theorem chRow_at (i : Fin 32) : chRow E he (ix2 0 i) = chV E ⟨e, he⟩ i := by
  show (E.ch : IVec S64x32 32) _ = _
  refine congrArg (E.ch : IVec S64x32 32) (funext fun a => Fin.ext ?_)
  match a with
  | ⟨0, _⟩ => show e + 1 * 0 = e; omega
  | ⟨1, _⟩ => show 0 + 1 * i.val = i.val; omega
theorem prRow_at (t : Fin 1024) : prRow E he (ix2 0 t) = prV E ⟨e, he⟩ t := by
  show (E.pr : FVec Ideal S64x1024 .f32) _ = _
  refine congrArg (E.pr : FVec Ideal S64x1024 .f32) (funext fun a => Fin.ext ?_)
  match a with
  | ⟨0, _⟩ => show e + 1 * 0 = e; omega
  | ⟨1, _⟩ => show 0 + 1 * t.val = t.val; omega
theorem xsRow_at (t : Fin 1024) : xsRow E (ix2 0 t) = xsV E t := by
  show (E.xs : FVec Ideal S1x1024 .f32) _ = _
  refine congrArg (E.xs : FVec Ideal S1x1024 .f32) (funext fun a => Fin.ext ?_)
  match a with
  | ⟨0, _⟩ => rfl
  | ⟨1, _⟩ => show 0 + 1 * t.val = t.val; omega
theorem codesAll_at (t : Fin 1024) (d : Fin 2048) : codesAll E (ix2 t d) = codesV E t d := by
  show (E.codes : FVec Ideal S1024x2048 .fp8e4m3) _ = _
  refine congrArg (E.codes : FVec Ideal S1024x2048 .fp8e4m3) (funext fun a => Fin.ext ?_)
  match a with
  | ⟨0, _⟩ => show 0 + 1 * t.val = t.val; omega
  | ⟨1, _⟩ => show 0 + 1 * d.val = d.val; omega
theorem sgRow_at (f : Fin 1408) : sgRow E he (ix2 0 f) = sgV E ⟨e, he⟩ f := by
  show (E.sg : FVec Ideal S64x1408 .f32) _ = _
  refine congrArg (E.sg : FVec Ideal S64x1408 .f32) (funext fun a => Fin.ext ?_)
  match a with
  | ⟨0, _⟩ => show e + 1 * 0 = e; omega
  | ⟨1, _⟩ => show 0 + 1 * f.val = f.val; omega
theorem suRow_at (f : Fin 1408) : suRow E he (ix2 0 f) = suV E ⟨e, he⟩ f := by
  show (E.su : FVec Ideal S64x1408 .f32) _ = _
  refine congrArg (E.su : FVec Ideal S64x1408 .f32) (funext fun a => Fin.ext ?_)
  match a with
  | ⟨0, _⟩ => show e + 1 * 0 = e; omega
  | ⟨1, _⟩ => show 0 + 1 * f.val = f.val; omega
end Cert.KernelIdeal.Body

end
-- ==== Proof.KRows.lean ====
module

public import proofs.«01_k».proof.Proof.PayK
public import proofs.«01_k».proof.Proof.KWrite
public import proofs.«01_k».proof.Proof.Ideal.Deal

/-! The accumulator after a chunk's rows are added. -/

@[expose] public section
noncomputable section
namespace Cert.KernelIdeal.Body
open Cert.KernelIdeal Cert.KernelIdeal.Facts₀ Cert.KernelIdeal.Facts
open Cert.KernelIdeal.Gen
open Idealize.ShloMosaic Idealize.ShloMosaic.TcCoe Cert.Spec

variable {c : Dev nD}

/-! Elements of the buffers, as extended reals -/
def accV (f : Bf Ideal c bAcc) (t : Fin 1024) (d : Fin 2048) : EReal := (f : FVec Ideal S1024x2048 .f32) (ix2 t d)
def ybV (f : Bf Ideal c bY) (i : Fin 32) (d : Fin 2048) : EReal := (f : FVec Ideal S32x2048 .f32) (ix2 i d)
def hcV (f : Bf Ideal c bHc) (s : Fin 2) (i : Fin 32) (x : Fin 1408) : EReal := (f : FVec Ideal S2x32x1408 .fp8e4m3) (ix3 s i x)

/-- The word of slot `i` of expert `w`. -/
theorem chWord_at (ch : Bf Ideal c bChS) (w : BitVec 32) (hw : w.toNat < 64) (i : Fin 32) :
    chWord c ch w hw i = (ch : IVec S64x32 32) (ix2 ⟨w.toNat, hw⟩ i) := by
  unfold chWord
  show (ch : IVec S64x32 32) _ = _
  refine congrArg (ch : IVec S64x32 32) (funext fun a => Fin.ext ?_)
  match a with
  | ⟨0, _⟩ => rfl
  | ⟨1, _⟩ => rfl

/-- The accumulator after a row of 512 is written into it: inside the row, and outside it. -/
theorem acc_in (off : Fin 2 → ℕ) (inb : ∀ a, off a + S1x512.size a ≤ S1024x2048.size a) (acc : Bf Ideal c bAcc) (P : FVec Ideal S1x512 .f32) (t : Fin 1024) (d : Fin 2048) (j : Fin 512) (h0 : t.val = off 0) (h1 : d.val = off 1 + j.val) :
    accV (c := c) ((bAcc.access (Rect.unit (s := S1024x2048) off S1x512.size inb)).write (Elt Ideal) acc P Finset.univ) t d = P (ix2 0 j) := by
  have e := wr_in cc0_scratch2 off S1x512.size inb acc P (ix2 t d) (ix2 0 j) (by
    intro a
    match a with
    | ⟨0, _⟩ => show t.val = off 0 + 0; omega
    | ⟨1, _⟩ => show d.val = off 1 + j.val; omega)
  unfold accV
  exact e
theorem acc_out (off : Fin 2 → ℕ) (inb : ∀ a, off a + S1x512.size a ≤ S1024x2048.size a) (acc : Bf Ideal c bAcc) (P : FVec Ideal S1x512 .f32) (t : Fin 1024) (d : Fin 2048) (h : t.val ≠ off 0 ∨ d.val < off 1 ∨ off 1 + 512 ≤ d.val) :
    accV (c := c) ((bAcc.access (Rect.unit (s := S1024x2048) off S1x512.size inb)).write (Elt Ideal) acc P Finset.univ) t d = accV acc t d := by
  rcases h with h | h
  · have e := wr_out cc0_scratch2 off S1x512.size inb acc P (ix2 t d) (0 : Fin 2) (by show t.val < off 0 ∨ off 0 + 1 ≤ t.val; omega)
    unfold accV
    exact e
  · have e := wr_out cc0_scratch2 off S1x512.size inb acc P (ix2 t d) (1 : Fin 2) h
    unfold accV
    exact e
/-- A row of 512 read from the accumulator, and from the expert's output. -/
theorem acc_read (off : Fin 2 → ℕ) (inb : ∀ a, off a + S1x512.size a ≤ S1024x2048.size a) (acc : Bf Ideal c bAcc) (t : Fin 1024) (d : Fin 2048) (j : Fin 512) (h0 : t.val = off 0) (h1 : d.val = off 1 + j.val) :
    ((bAcc.access (Rect.unit (s := S1024x2048) off S1x512.size inb)).read (Elt Ideal) acc : Vec Ideal S1x512 .f32) (ix2 0 j) = accV acc t d := by
  unfold accV
  show (acc : FVec Ideal S1024x2048 .f32) _ = _
  refine congrArg (acc : FVec Ideal S1024x2048 .f32) (funext fun a => Fin.ext ?_)
  match a with
  | ⟨0, _⟩ => show off 0 + 1 * 0 = t.val; omega
  | ⟨1, _⟩ => show off 1 + 1 * j.val = d.val; omega
theorem y_read (i : Fin 32) {n : ℕ} (hn : ColOk n) (yb : Bf Ideal c bY) (d : Fin 2048) (j : Fin 512) (h1 : d.val = n + j.val) :
    ((bY.access (Rect.unit (s := S32x2048) ![i.val, n] S1x512.size (inbYRow i.isLt hn))).read (Elt Ideal) yb : Vec Ideal S1x512 .f32) (ix2 0 j) = ybV yb i d := by
  unfold ybV
  show (yb : FVec Ideal S32x2048 .f32) _ = _
  refine congrArg (yb : FVec Ideal S32x2048 .f32) (funext fun a => Fin.ext ?_)
  match a with
  | ⟨0, _⟩ => show i.val + 1 * 0 = i.val; omega
  | ⟨1, _⟩ => show n + 1 * j.val = d.val; omega
/-- The expert's output after a chunk is written into it. -/
theorem y_in {n : ℕ} (hn : ColOk n) (yb : Bf Ideal c bY) (P : FVec Ideal S32x512 .f32) (i : Fin 32) (d : Fin 2048) (j : Fin 512) (h1 : d.val = n + j.val) :
    ybV (c := c) ((bY.access (Rect.unit (s := S32x2048) ![0, n] S32x512.size (inbY hn))).write (Elt Ideal) yb P Finset.univ) i d = P (ix2 i j) := by
  have e := wr_in cc0_scratch16 ![0, n] S32x512.size (inbY hn) yb P (ix2 i d) (ix2 i j) (by
    intro a
    match a with
    | ⟨0, _⟩ => show i.val = 0 + i.val; omega
    | ⟨1, _⟩ => show d.val = n + j.val; omega)
  unfold ybV
  exact e

section
variable {ch : Bf Ideal c bChS} (hch : ChOk c ch)

/-- One row: the token's row gets the slot's row added, on the chunk's columns. -/
theorem rowF_at (w : BitVec 32) (hw : w.toNat < 64) (n : ℕ) (hn : ColOk n) (yb : Bf Ideal c bY) (acc : Bf Ideal c bAcc) (i : Fin 32) (t : Fin 1024) (d : Fin 2048) :
    accV (rowF hch w hw n hn yb acc i) t d = accV acc t d +
      (if (chWord c ch w hw i).toNat = t.val ∧ n ≤ d.val ∧ d.val < n + 512 then ybV yb i d else 0) := by
  by_cases h : (chWord c ch w hw i).toNat = t.val ∧ n ≤ d.val ∧ d.val < n + 512
  · rw [if_pos h]
    obtain ⟨h1, h2, h3⟩ := h
    have e1 := acc_read (tokOff (chWord c ch w hw i) n) (hch w hw i n hn) acc t d ⟨d.val - n, by omega⟩ h1.symm (show d.val = n + (d.val - n) by omega)
    have e2 := y_read i hn yb d ⟨d.val - n, by omega⟩ (show d.val = n + (d.val - n) by omega)
    rw [← e1, ← e2]
    unfold rowF
    refine Eq.trans (acc_in (tokOff (chWord c ch w hw i) n) (hch w hw i n hn) acc _ t d ⟨d.val - n, by omega⟩ h1.symm (show d.val = n + (d.val - n) by omega)) ?_
    rw [shapeCast_self]
    rfl
  · rw [if_neg h, add_zero]
    unfold rowF
    refine acc_out _ _ _ _ t d ?_
    show t.val ≠ (chWord c ch w hw i).toNat ∨ d.val < n ∨ n + 512 ≤ d.val
    omega

/-- A list of rows, one after the other. -/
theorem rows_list (w : BitVec 32) (hw : w.toNat < 64) (n : ℕ) (hn : ColOk n) (yb : Bf Ideal c bY) (t : Fin 1024) (d : Fin 2048) : ∀ (l : List (Fin 32)) (acc : Bf Ideal c bAcc),
    accV (l.foldl (rowF hch w hw n hn yb) acc) t d = accV acc t d +
      (l.map fun i => if (chWord c ch w hw i).toNat = t.val ∧ n ≤ d.val ∧ d.val < n + 512 then ybV yb i d else 0).sum := by
  intro l
  induction l with
  | nil => intro acc; simp
  | cons i l ih =>
    intro acc
    rw [List.foldl_cons, ih, rowF_at, List.map_cons, List.sum_cons, add_assoc]

/-- The rows of all slots. -/
theorem rows_at (w : BitVec 32) (hw : w.toNat < 64) (n : ℕ) (hn : ColOk n) (yb : Bf Ideal c bY) (t : Fin 1024) (d : Fin 2048) (acc : Bf Ideal c bAcc) :
    accV (slots.foldl (rowF hch w hw n hn yb) acc) t d = accV acc t d +
      ∑ i : Fin 32, (if (chWord c ch w hw i).toNat = t.val ∧ n ≤ d.val ∧ d.val < n + 512 then ybV yb i d else 0) := by
  rw [rows_list]
  unfold slots
  rw [List.map_ofFn, List.sum_ofFn]
  rfl
end

theorem cast_hc (v : FVec Ideal S1x32x1408 .fp8e4m3) (i : Fin 32) (x : Fin 1408) : (shapeCast S32x1408 v Facts₀.shapeCasts_S1x32x1408_S32x1408 : FVec Ideal S32x1408 .fp8e4m3) (ix2 i x) = v (ix3 0 i x) := by
  pointwise []
theorem cast_wd (v : FVec Ideal S1408x512 .fp8e4m3) (h : S1408x512.ShapeCasts S1x1x1408x512) (x : Fin 1408) (j : Fin 512) : (shapeCast S1x1x1408x512 v h : FVec Ideal S1x1x1408x512 .fp8e4m3) (ix4 0 0 x j) = v (ix2 x j) := by
  pointwise []
theorem cast_g (v : FVec Ideal S2048x1408 .fp8e4m3) (h : S2048x1408.ShapeCasts S1x2048x1408) (x : Fin 2048) (j : Fin 1408) : (shapeCast S1x2048x1408 v h : FVec Ideal S1x2048x1408 .fp8e4m3) (ix3 0 x j) = v (ix2 x j) := by
  pointwise []

/-- The expert's output on the chunk's columns. -/
theorem yF_at (w : BitVec 32) (hw : w.toNat < 64) (n : ℕ) (hn : ColOk n) (hs r : FVec Ideal S32x1 .f32) (hc : Bf Ideal c bHc) (wd : Vec Ideal S1408x512 .fp8e4m3) (sd : Bf Ideal c bSd) (yb : Bf Ideal c bY)
    (i : Fin 32) (d : Fin 2048) (h2 : n ≤ d.val) (h3 : d.val < n + 512) :
    ybV (yF w hw n hn hs r hc wd sd yb) i d =
      (∑ x : Fin 1408, hcV hc ⟨w.toNat % 2, Nat.mod_lt _ (by decide)⟩ i x * wd (ix2 x ⟨d.val - n, by omega⟩)) * hs (ix2 i 0) * (sd : FVec Ideal S64x2048 .f32) (ix2 ⟨w.toNat, hw⟩ d) * r (ix2 i 0) := by
  unfold yF
  refine Eq.trans (y_in hn yb _ i d ⟨d.val - n, by omega⟩ (show d.val = n + (d.val - n) by omega)) ?_
  rw [shapeCast_self, Pay.payY]
  have h1 : ∀ x, (shapeCast S32x1408 ((bHc.access (Rect.unit (s := S2x32x1408) ![(Scalar.indexCast (Scalar.remsi w 2#32)).toNat, 0, 0] S1x32x1408.size (inbHc hw))).read (Elt Ideal) hc : Vec Ideal S1x32x1408 .fp8e4m3) Facts₀.shapeCasts_S1x32x1408_S32x1408 : FVec Ideal S32x1408 .fp8e4m3) (ix2 i x) =
      hcV hc ⟨w.toNat % 2, Nat.mod_lt _ (by decide)⟩ i x := by
    intro x
    rw [cast_hc]
    unfold hcV
    show (hc : FVec Ideal S2x32x1408 .fp8e4m3) _ = _
    refine congrArg (hc : FVec Ideal S2x32x1408 .fp8e4m3) (funext fun a => Fin.ext ?_)
    match a with
    | ⟨0, _⟩ => show (Scalar.remsi w 2#32).toNat + 1 * 0 = w.toNat % 2; rw [rem2 hw]; omega
    | ⟨1, _⟩ => show 0 + 1 * i.val = i.val; omega
    | ⟨2, _⟩ => show 0 + 1 * x.val = x.val; omega
  have h2 : ((bSd.access (Rect.unit (s := S64x2048) ![(Scalar.indexCast w).toNat, n] S1x512.size (inbSd hw hn))).read (Elt Ideal) sd : Vec Ideal S1x512 .f32) (ix2 0 ⟨d.val - n, by omega⟩) = (sd : FVec Ideal S64x2048 .f32) (ix2 ⟨w.toNat, hw⟩ d) := by
    show (sd : FVec Ideal S64x2048 .f32) _ = _
    refine congrArg (sd : FVec Ideal S64x2048 .f32) (funext fun a => Fin.ext ?_)
    match a with
    | ⟨0, _⟩ => show w.toNat + 1 * 0 = w.toNat; omega
    | ⟨1, _⟩ => show n + 1 * (d.val - n) = d.val; omega
  simp only [h1, h2, cast_wd]

end Cert.KernelIdeal.Body

end
-- ==== Proof.KHid.lean ====
module

public import proofs.«01_k».proof.Proof.PayK
public import proofs.«01_k».proof.Proof.KWrite
public import proofs.«01_k».proof.Proof.KEnv
public import proofs.«01_k».proof.Proof.KRows

/-! The hidden codes, their scales and the probabilities of one expert. -/

@[expose] public section
noncomputable section
namespace Cert.KernelIdeal.Body
open Cert.KernelIdeal Cert.KernelIdeal.Facts₀ Cert.KernelIdeal.Facts
open Cert.KernelIdeal.Gen
open Idealize.ShloMosaic Idealize.ShloMosaic.TcCoe Cert.Spec

variable {c : Dev nD}

variable (E : Env Ideal c) (hE : ∀ e i, (chV E e i).toNat < 1024)

/-- The token of slot `i` of expert `e`. -/
def tok (e : Fin 64) (i : Fin 32) : Fin 1024 := ⟨(chV E e i).toNat, hE e i⟩
/-- The gate's value, and the hidden value, of slot `i`. -/
def gateV (e : Fin 64) (i : Fin 32) (f : Fin 1408) : EReal := (∑ d, codesV E (tok E hE e i) d * w3V E e d f) * xsV E (tok E hE e i) * sgV E e f
def hidV (e : Fin 64) (i : Fin 32) (f : Fin 1408) : EReal :=
  gateV E hE e i f * Ideal.logistic (gateV E hE e i f) * ((∑ d, codesV E (tok E hE e i) d * w4V E e d f) * xsV E (tok E hE e i) * suV E e f)

variable {e : ℕ} (he : e < 64)

theorem gMat_at (d : Fin 2048) (f : Fin 1408) : gMat E he (ix3 0 d f) = w3V E ⟨e, he⟩ d f := by
  unfold gMat
  refine Eq.trans (congrFun (read_unsqueeze a3 (Rect.unit (s := S64x2048x1408) ![e, 0, 0] S1x2048x1408.size (inbGS he)) (fun _ => rfl) Facts₀.squeezes_S1x2048x1408_S2048x1408 (show S2048x1408.ShapeCasts S1x2048x1408 by decide) E.w3 _ rfl) (ix3 0 d f)).symm ?_
  unfold w3V
  show (E.w3 : FVec Ideal S64x2048x1408 .fp8e4m3) _ = _
  refine congrArg (E.w3 : FVec Ideal S64x2048x1408 .fp8e4m3) (funext fun a => Fin.ext ?_)
  match a with
  | ⟨0, _⟩ => show e + 1 * 0 = e; omega
  | ⟨1, _⟩ => show 0 + 1 * d.val = d.val; omega
  | ⟨2, _⟩ => show 0 + 1 * f.val = f.val; omega
theorem uMat_at (d : Fin 2048) (f : Fin 1408) : uMat E he (ix3 0 d f) = w4V E ⟨e, he⟩ d f := by
  unfold uMat
  refine Eq.trans (congrFun (read_unsqueeze a4 (Rect.unit (s := S64x2048x1408) ![e, 0, 0] S1x2048x1408.size (inbGS he)) (fun _ => rfl) Facts₀.squeezes_S1x2048x1408_S2048x1408 (show S2048x1408.ShapeCasts S1x2048x1408 by decide) E.w4 _ rfl) (ix3 0 d f)).symm ?_
  unfold w4V
  show (E.w4 : FVec Ideal S64x2048x1408 .fp8e4m3) _ = _
  refine congrArg (E.w4 : FVec Ideal S64x2048x1408 .fp8e4m3) (funext fun a => Fin.ext ?_)
  match a with
  | ⟨0, _⟩ => show e + 1 * 0 = e; omega
  | ⟨1, _⟩ => show 0 + 1 * d.val = d.val; omega
  | ⟨2, _⟩ => show 0 + 1 * f.val = f.val; omega

theorem cast_d (v : FVec Ideal S1408x512 .fp8e4m3) (h : S1408x512.ShapeCasts S1x1408x512) (x : Fin 1408) (j : Fin 512) : (shapeCast S1x1408x512 v h : FVec Ideal S1x1408x512 .fp8e4m3) (ix3 0 x j) = v (ix2 x j) := by
  pointwise []
theorem dMat_at {n : ℕ} (hn : ColOk n) (x : Fin 1408) (j : Fin 512) (d : Fin 2048) (hd : d.val = n + j.val) : (dSrc he hn).view.read (Elt Ideal) E.w7 (ix2 x j) = w7V E ⟨e, he⟩ x d := by
  refine Eq.trans (cast_d ((dSrc he hn).view.read (Elt Ideal) E.w7) (by decide) x j).symm ?_
  refine Eq.trans (congrFun (read_unsqueeze (Memref.whole main_arg7) (Rect.unit (s := S64x1408x2048) ![e, 0, n] S1x1408x512.size (inbDS he hn)) (fun _ => rfl) Facts₀.squeezes_S1x1408x512_S1408x512 (show S1408x512.ShapeCasts S1x1408x512 by decide) E.w7 _ rfl) (ix3 0 x j)).symm ?_
  unfold w7V
  show (E.w7 : FVec Ideal S64x1408x2048 .fp8e4m3) _ = _
  refine congrArg (E.w7 : FVec Ideal S64x1408x2048 .fp8e4m3) (funext fun a => Fin.ext ?_)
  match a with
  | ⟨0, _⟩ => show e + 1 * 0 = e; omega
  | ⟨1, _⟩ => show 0 + 1 * x.val = x.val; omega
  | ⟨2, _⟩ => show n + 1 * j.val = d.val; omega

include hE in
theorem tok_lt (i : Fin 32) : (chRow E he (ix2 0 i)).toNat < 1024 := by rw [chRow_at]; exact hE _ _

theorem row_of (p : Fin 1024 → EReal) (i : Fin 32) (h : (chRow E he (ix2 0 i)).toNat < 1024) : p ⟨(chRow E he (ix2 0 i)).toNat, h⟩ = p (tok E hE ⟨e, he⟩ i) := by
  refine congrArg p (Fin.ext ?_)
  show (chRow E he (ix2 0 i)).toNat = (chV E ⟨e, he⟩ i).toNat
  rw [chRow_at]

theorem pScale_at (i : Fin 32) : pScale E k0_pay174 he (ix2 i 0) = xsV E (tok E hE ⟨e, he⟩ i) := by
  unfold pScale
  rw [Pay.pay11 _ _ i (tok_lt E hE he i)]
  exact (xsRow_at E _).trans (row_of E hE he (xsV E) i _)
theorem pCodes_at (i : Fin 32) (d : Fin 2048) : pCodes E k0_pay174 he (ix2 i d) = codesV E (tok E hE ⟨e, he⟩ i) d := by
  unfold pCodes
  rw [Pay.pay12 _ _ i d (tok_lt E hE he i)]
  exact (codesAll_at E _ d).trans (row_of E hE he (fun t => codesV E t d) i _)
theorem rOf_at (i : Fin 32) : rOf E k0_pay174 he (ix2 i 0) = prV E ⟨e, he⟩ (tok E hE ⟨e, he⟩ i) := by
  unfold rOf
  rw [Pay.pay10 _ _ i (tok_lt E hE he i)]
  exact (prRow_at E he _).trans (row_of E hE he (prV E ⟨e, he⟩) i _)

/-- The hidden values before their quantisation. -/
theorem hid_at (i : Fin 32) (f : Fin 1408) : k0_pay13 (F := Ideal) (pScale E k0_pay174 he) (pCodes E k0_pay174 he) (gMat E he) (sgRow E he) (uMat E he) (suRow E he) (ix2 i f) = hidV E hE ⟨e, he⟩ i f := by
  rw [Pay.pay13]
  simp only [pScale_at E hE he, pCodes_at E hE he, gMat_at, uMat_at, sgRow_at, suRow_at]
  rfl
theorem top_at (i : Fin 32) : k0_pay14 (F := Ideal) (pScale E k0_pay174 he) (pCodes E k0_pay174 he) (gMat E he) (sgRow E he) (uMat E he) (suRow E he) (ix2 i 0) = amax (hidV E hE ⟨e, he⟩ i) := by
  rw [Pay.pay14]
  exact congrArg amax (funext fun f => hid_at E hE he i f)
/-- The hidden codes' scales. -/
theorem hsOf_at (i : Fin 32) : hsOf E k0_pay174 he (ix2 i 0) = scl (amax (hidV E hE ⟨e, he⟩ i)) := by
  unfold hsOf
  rw [Pay.pay17 _ _ i (Pay.pay15 _ _ _ _ _ _ i), top_at E hE]
/-- The hidden codes. -/
theorem hcOf_at (i : Fin 32) (f : Fin 1408) : hcOf E k0_pay174 he (ix3 0 i f) = code (amax (hidV E hE ⟨e, he⟩ i)) (hidV E hE ⟨e, he⟩ i f) := by
  unfold hcOf
  rw [Pay.pay18 _ _ _ i f (Pay.pay15 _ _ _ _ _ _ i), top_at E hE, hid_at E hE]

/-- The pair of buffers of hidden codes after slot `h` is written: that slot, and the other one. -/
theorem hc_in {h : ℕ} (hh : h < 2) (hc : Bf Ideal c bHc) (P : FVec Ideal S1x32x1408 .fp8e4m3) (s : Fin 2) (hs : s.val = h) (i : Fin 32) (f : Fin 1408) :
    hcV (c := c) ((bHc.access (Rect.unit (s := S2x32x1408) ![h, 0, 0] S1x32x1408.size (inbH2 hh))).write (Elt Ideal) hc P Finset.univ) s i f = P (ix3 0 i f) := by
  have e := wr_in cc0_scratch15 ![h, 0, 0] S1x32x1408.size (inbH2 hh) hc P (ix3 s i f) (ix3 0 i f) (by
    intro a
    match a with
    | ⟨0, _⟩ => show s.val = h + 0; omega
    | ⟨1, _⟩ => show i.val = 0 + i.val; omega
    | ⟨2, _⟩ => show f.val = 0 + f.val; omega)
  unfold hcV
  exact e
theorem hc_out {h : ℕ} (hh : h < 2) (hc : Bf Ideal c bHc) (P : FVec Ideal S1x32x1408 .fp8e4m3) (s : Fin 2) (hs : s.val ≠ h) (i : Fin 32) (f : Fin 1408) :
    hcV (c := c) ((bHc.access (Rect.unit (s := S2x32x1408) ![h, 0, 0] S1x32x1408.size (inbH2 hh))).write (Elt Ideal) hc P Finset.univ) s i f = hcV hc s i f := by
  have e := wr_out cc0_scratch15 ![h, 0, 0] S1x32x1408.size (inbH2 hh) hc P (ix3 s i f) (0 : Fin 3) (by show s.val < h ∨ h + 1 ≤ s.val; omega)
  unfold hcV
  exact e
theorem hcF_in {h : ℕ} (hh : h < 2) (hc : Bf Ideal c bHc) (s : Fin 2) (hs : s.val = h) (i : Fin 32) (f : Fin 1408) : hcV (hcF E k0_pay174 he hh hc) s i f = code (amax (hidV E hE ⟨e, he⟩ i)) (hidV E hE ⟨e, he⟩ i f) := by
  unfold hcF
  exact (hc_in hh hc (hcOf E k0_pay174 he) s hs i f).trans (hcOf_at E hE he i f)
theorem hcF_out {h : ℕ} (hh : h < 2) (hc : Bf Ideal c bHc) (s : Fin 2) (hs : s.val ≠ h) (i : Fin 32) (f : Fin 1408) : hcV (hcF E k0_pay174 he hh hc) s i f = hcV hc s i f := by
  unfold hcF
  exact hc_out hh hc (hcOf E k0_pay174 he) s hs i f

end Cert.KernelIdeal.Body

end
-- ==== Proof.KLoop.lean ====
module

public import proofs.«01_k».proof.Proof.PayK
public import proofs.«01_k».proof.Proof.KWrite
public import proofs.«01_k».proof.Proof.KHid

/-! The accumulator after the loop over experts. -/

@[expose] public section
noncomputable section
namespace Cert.KernelIdeal.Body
open Cert.KernelIdeal Cert.KernelIdeal.Facts₀ Cert.KernelIdeal.Facts
open Cert.KernelIdeal.Gen
open Idealize.ShloMosaic Idealize.ShloMosaic.TcCoe Cert.Spec

variable {c : Dev nD}

variable (E : Env Ideal c) (hE : ∀ e i, (chV E e i).toNat < 1024) (hch : ChOk c E.chS) (hS : ∀ e i, (E.chS : IVec S64x32 32) (ix2 e i) = chV E e i)

/-- What expert `e`'s slot `i` gives its token. -/
def outE (e : Fin 64) (i : Fin 32) (d : Fin 2048) : EReal :=
  (∑ f, code (amax (hidV E hE e i)) (hidV E hE e i f) * w7V E e f d) * scl (amax (hidV E hE e i)) * sdV E e d * prV E e (tok E hE e i)
/-- What expert `e` adds to the accumulator. -/
def addE (e : Fin 64) (t : Fin 1024) (d : Fin 2048) : EReal := ∑ i, if tok E hE e i = t then outE E hE e i d else 0

/-- The hidden state holds expert `e`. -/
def HOk (e : Fin 64) (H : Hr Ideal c) : Prop :=
  (∀ i f, hcV H.hc ⟨e.val % 2, Nat.mod_lt _ (by decide)⟩ i f = code (amax (hidV E hE e i)) (hidV E hE e i f)) ∧ (∀ i, H.hs (ix2 i 0) = scl (amax (hidV E hE e i))) ∧ (∀ i, H.r (ix2 i 0) = prV E e (tok E hE e i))

/-- One chunk of the expert's output. -/
theorem chunkY_at {e : ℕ} (he : e < 64) (w : BitVec 32) (hw : w.toNat < 64) (hwe : w.toNat = e) (n : ℕ) (hn : ColOk n) (H : Hr Ideal c) (S : Ya Ideal c) (hH : HOk E hE ⟨e, he⟩ H)
    (i : Fin 32) (d : Fin 2048) (h2 : n ≤ d.val) (h3 : d.val < n + 512) : ybV (chunkY E he w hw n hn H S) i d = outE E hE ⟨e, he⟩ i d := by
  subst hwe
  unfold chunkY
  rw [yF_at w hw n hn _ _ _ _ _ _ i d h2 h3]
  obtain ⟨h4, h5, h6⟩ := hH
  unfold outE
  rw [h5, h6]
  simp only [h4, dMat_at E he hn _ ⟨d.val - n, by omega⟩ d (show d.val = n + (d.val - n) by omega)]
  rfl

include hS in
/-- One chunk of columns of the accumulator. -/
theorem chunkA_at {e : ℕ} (he : e < 64) (w : BitVec 32) (hw : w.toNat < 64) (hwe : w.toNat = e) (n : ℕ) (hn : ColOk n) (H : Hr Ideal c) (S : Ya Ideal c) (hH : HOk E hE ⟨e, he⟩ H)
    (t : Fin 1024) (d : Fin 2048) : accV (chunkF E hch he w hw n hn H S).acc t d = accV S.acc t d + (if n ≤ d.val ∧ d.val < n + 512 then addE E hE ⟨e, he⟩ t d else 0) := by
  unfold chunkF
  dsimp only
  unfold chunkA
  rw [rows_at]
  refine congrArg (accV S.acc t d + ·) ?_
  have hw' : ∀ i, (chWord c E.chS w hw i).toNat = (tok E hE ⟨e, he⟩ i).val := by
    intro i
    subst hwe
    rw [chWord_at, hS]
    rfl
  by_cases h : n ≤ d.val ∧ d.val < n + 512
  · rw [if_pos h]
    unfold addE
    refine Finset.sum_congr rfl fun i _ => ?_
    rw [hw' i, chunkY_at E hE he w hw hwe n hn H S hH i d h.1 h.2]
    by_cases ht : tok E hE ⟨e, he⟩ i = t
    · rw [if_pos ht, if_pos ⟨congrArg Fin.val ht, h⟩]
    · rw [if_neg ht, if_neg fun hc => ht (Fin.ext hc.1)]
  · rw [if_neg h]
    refine Finset.sum_eq_zero fun i _ => if_neg fun hc => h hc.2

include hS in
/-- All four chunks. -/
theorem chunks_at {e : ℕ} (he : e < 64) (w : BitVec 32) (hw : w.toNat < 64) (hwe : w.toNat = e) (H : Hr Ideal c) (S : Ya Ideal c) (hH : HOk E hE ⟨e, he⟩ H)
    (t : Fin 1024) (d : Fin 2048) : accV (chunksF E hch he w hw H S).acc t d = accV S.acc t d + addE E hE ⟨e, he⟩ t d := by
  unfold chunksF
  simp only [chunkA_at E hE hch hS he w hw hwe _ _ H _ hH]
  have hd := d.isLt
  rw [add_assoc, add_assoc, add_assoc]
  refine congrArg (accV S.acc t d + ·) ?_
  by_cases h1 : d.val < 512
  · rw [if_pos (by omega), if_neg (by omega), if_neg (by omega), if_neg (by omega)]; simp
  · by_cases h2 : d.val < 1024
    · rw [if_neg (by omega), if_pos (by omega), if_neg (by omega), if_neg (by omega)]; simp
    · by_cases h3 : d.val < 1536
      · rw [if_neg (by omega), if_neg (by omega), if_pos (by omega), if_neg (by omega)]; simp
      · rw [if_neg (by omega), if_neg (by omega), if_neg (by omega), if_pos (by omega)]; simp

theorem hok_mk (e : Fin 64) (hc : Bf Ideal c bHc) (hs r : FVec Ideal S32x1 .f32) (h1 : ∀ i f, hcV hc ⟨e.val % 2, Nat.mod_lt _ (by decide)⟩ i f = code (amax (hidV E hE e i)) (hidV E hE e i f))
    (h2 : ∀ i, hs (ix2 i 0) = scl (amax (hidV E hE e i))) (h3 : ∀ i, r (ix2 i 0) = prV E e (tok E hE e i)) : HOk E hE e ⟨hc, hs, r⟩ := ⟨h1, h2, h3⟩

/-- The first expert's hidden state. -/
theorem first_ok (hc : Bf Ideal c bHc) : HOk E hE ⟨0, by decide⟩ (firstH E k0_pay174 hc) :=
  hok_mk E hE ⟨0, by decide⟩ _ _ _ (hcF_in E hE (e := 0) (by decide) (h := 0) (by decide) hc ⟨0 % 2, by decide⟩ rfl) (hsOf_at E hE (e := 0) (by decide)) (rOf_at E hE (e := 0) (by decide))

/-- Expert `k + 1`'s hidden state. -/
theorem next_ok (k : Fin k0_t2_loop.trips) (H : Hr Ideal c) (e : Fin 64) (h : e.val = k.val + 1) : HOk E hE e (nextH E k0_pay174 k H) := by
  have hn := nextWord_eq k
  obtain rfl : e = ⟨(nextWord k).toNat, nextWord_lt k⟩ := Fin.ext (by show e.val = (nextWord k).toNat; omega)
  exact hok_mk E hE ⟨(nextWord k).toNat, nextWord_lt k⟩ _ _ _ (hcF_in E hE (nextWord_lt k) (lt2 (nextWord_lt k)) H.hc ⟨(nextWord k).toNat % 2, Nat.mod_lt _ (by decide)⟩ (rem2 (nextWord_lt k)).symm) (hsOf_at E hE (nextWord_lt k)) (rOf_at E hE (nextWord_lt k))

/-- Expert `k`'s hidden state stays while that of expert `k + 1` is made. -/
theorem keep_ok (k : Fin k0_t2_loop.trips) (H : Hr Ideal c) (e : Fin 64) (h : e.val = k.val) (hH : HOk E hE e H) : HOk E hE e ⟨(nextH E k0_pay174 k H).hc, H.hs, H.r⟩ := by
  have hn := nextWord_eq k
  have hne : (⟨e.val % 2, Nat.mod_lt _ (by decide)⟩ : Fin 2).val ≠ (Scalar.remsi (nextWord k) 2#32).toNat := by
    rw [rem2 (nextWord_lt k)]
    show e.val % 2 ≠ (nextWord k).toNat % 2
    omega
  have ho := hcF_out E (nextWord_lt k) (lt2 (nextWord_lt k)) H.hc ⟨e.val % 2, Nat.mod_lt _ (by decide)⟩ hne
  have hx : (nextH E k0_pay174 k H).hc = hcF E k0_pay174 (nextWord_lt k) (lt2 (nextWord_lt k)) H.hc := by simp only [nextH]
  rw [hx]
  generalize hcF E k0_pay174 (nextWord_lt k) (lt2 (nextWord_lt k)) H.hc = HC at ho ⊢
  exact hok_mk E hE e HC H.hs H.r (fun i f => (ho i f).trans (hH.1 i f)) hH.2.1 hH.2.2

/-- What the experts below `n` add. -/
def sumE (n : ℕ) (t : Fin 1024) (d : Fin 2048) : EReal := ∑ k ∈ Finset.range n, if h : k < 64 then addE E hE ⟨k, h⟩ t d else 0

include hS in
/-- After `n` trips the experts below `n` are added, and the hidden state is expert `n`'s. -/
theorem iter_ok (hc : Bf Ideal c bHc) (S : Ya Ideal c) (t : Fin 1024) (d : Fin 2048) : ∀ (n : ℕ) (hn : n < 64),
    HOk E hE ⟨n, hn⟩ (iter E hch k0_pay174 (firstH E k0_pay174 hc, S) n).1 ∧ accV (iter E hch k0_pay174 (firstH E k0_pay174 hc, S) n).2.acc t d = accV S.acc t d + sumE E hE n t d := by
  intro n
  induction n with
  | zero => intro hn; exact ⟨first_ok E hE hc, by unfold sumE; rw [Finset.sum_range_zero, add_zero]; rfl⟩
  | succ n ih =>
    intro hn
    obtain ⟨k, hk⟩ : ∃ k : Fin k0_t2_loop.trips, k.val = n := ⟨⟨n, by rw [trips63]; omega⟩, rfl⟩
    subst hk
    obtain ⟨i1, i2⟩ := ih (by omega)
    rw [iter_succ]
    generalize iter E hch k0_pay174 (firstH E k0_pay174 hc, S) k.val = p at i1 i2 ⊢
    unfold tripF
    dsimp only
    refine ⟨next_ok E hE k p.1 _ rfl, ?_⟩
    have ht := tripWord_eq k
    have hH : HOk E hE ⟨(tripWord k).toNat, tripWord_lt k⟩ ⟨(nextH E k0_pay174 k p.1).hc, p.1.hs, p.1.r⟩ := by
      refine keep_ok E hE k p.1 _ ht ?_
      rwa [show (⟨(tripWord k).toNat, tripWord_lt k⟩ : Fin 64) = ⟨k.val, by omega⟩ from Fin.ext ht]
    rw [chunks_at E hE hch hS (tripWord_lt k) (tripWord k) (tripWord_lt k) rfl _ _ hH, i2, add_assoc]
    refine congrArg (accV S.acc t d + ·) ?_
    unfold sumE
    rw [Finset.sum_range_succ, dif_pos (show k.val < 64 by omega)]
    refine congrArg (_ + ·) ?_
    rw [show (⟨(tripWord k).toNat, tripWord_lt k⟩ : Fin 64) = ⟨k.val, by omega⟩ from Fin.ext ht]

/-- What all experts add. -/
def allE (t : Fin 1024) (d : Fin 2048) : EReal := ∑ e : Fin 64, addE E hE e t d

theorem sum_all (t : Fin 1024) (d : Fin 2048) : sumE E hE 63 t d + addE E hE 63 t d = allE E hE t d := by
  unfold allE
  rw [Fin.sum_univ_castSucc]
  refine congr_arg₂ (· + ·) ?_ rfl
  unfold sumE
  rw [Finset.sum_range]
  refine Finset.sum_congr rfl fun k _ => ?_
  rw [dif_pos (show k.val < 64 by omega)]
  rfl

end Cert.KernelIdeal.Body

end
-- ==== Proof.KLast.lean ====
module

public import proofs.«01_k».proof.Proof.PayK
public import proofs.«01_k».proof.Proof.KWrite
public import proofs.«01_k».proof.Proof.KLoop

/-! The first result's blocks. -/

@[expose] public section
noncomputable section
namespace Cert.KernelIdeal.Body
open Cert.KernelIdeal Cert.KernelIdeal.Facts₀ Cert.KernelIdeal.Facts
open Cert.KernelIdeal.Gen
open Idealize.ShloMosaic Idealize.ShloMosaic.TcCoe Cert.Spec

variable {c : Dev nD}

variable (E : Env Ideal c) (hE : ∀ e i, (chV E e i).toNat < 1024) (hch : ChOk c E.chS) (hS : ∀ e i, (E.chS : IVec S64x32 32) (ix2 e i) = chV E e i)

theorem pay221 (v : Vec Ideal S1024x512 .f32) (t : Fin 1024) (j : Fin 512) : k0_pay221 (F := Ideal) v (ix2 t j) = v (ix2 t j) := by
  pointwise [k0_pay221]

/-- A block of columns of the accumulator, as it is sent. -/
theorem outV_at (acc : Bf Ideal c bAcc) {n : ℕ} (hn : ColOk n) (t : Fin 1024) (j : Fin 512) (d : Fin 2048) (hd : d.val = n + j.val) : outV acc hn (ix2 t j) = accV acc t d := by
  unfold outV
  rw [pay221]
  unfold accV
  show (acc : FVec Ideal S1024x2048 .f32) _ = _
  refine congrArg (acc : FVec Ideal S1024x2048 .f32) (funext fun a => Fin.ext ?_)
  match a with
  | ⟨0, _⟩ => show 0 + 1 * t.val = t.val; omega
  | ⟨1, _⟩ => show n + 1 * j.val = d.val; omega

include hS in
/-- The last expert's chunk. -/
theorem lastF_at (H : Hr Ideal c) (hH : HOk E hE ⟨63, by decide⟩ H) {n : ℕ} (hn : ColOk n) (S : Ya Ideal c) (t : Fin 1024) (d : Fin 2048) :
    accV (lastF E hch H hn S).acc t d = accV S.acc t d + (if n ≤ d.val ∧ d.val < n + 512 then addE E hE ⟨63, by decide⟩ t d else 0) :=
  chunkA_at E hE hch hS (e := 63) (by decide) 63#32 (by decide) rfl n hn H S hH t d

include hS in
/-- Every block of columns holds what all experts add, over what the accumulator held first. -/
theorem last_at (H : Hr Ideal c) (hH : HOk E hE ⟨63, by decide⟩ H) (S : Ya Ideal c) (t : Fin 1024) (j : Fin 512) (d : Fin 2048) :
    (d.val = 0 + j.val → outV (last0 E hch H S).acc col0 (ix2 t j) = accV S.acc t d + addE E hE ⟨63, by decide⟩ t d) ∧
    (d.val = 512 + j.val → outV (last1 E hch H S).acc col1 (ix2 t j) = accV S.acc t d + addE E hE ⟨63, by decide⟩ t d) ∧
    (d.val = 1024 + j.val → outV (last2 E hch H S).acc col2 (ix2 t j) = accV S.acc t d + addE E hE ⟨63, by decide⟩ t d) ∧
    (d.val = 1536 + j.val → outV (last3 E hch H S).acc col3 (ix2 t j) = accV S.acc t d + addE E hE ⟨63, by decide⟩ t d) := by
  have hj := j.isLt
  refine ⟨fun hd => ?_, fun hd => ?_, fun hd => ?_, fun hd => ?_⟩
  · rw [outV_at _ col0 t j d hd]
    unfold last0
    rw [lastF_at E hE hch hS H hH, if_pos (by omega)]
  · rw [outV_at _ col1 t j d hd]
    unfold last1 last0
    rw [lastF_at E hE hch hS H hH, lastF_at E hE hch hS H hH, if_neg (by omega), if_pos (by omega), add_zero]
  · rw [outV_at _ col2 t j d hd]
    unfold last2 last1 last0
    rw [lastF_at E hE hch hS H hH, lastF_at E hE hch hS H hH, lastF_at E hE hch hS H hH, if_neg (by omega), if_neg (by omega), if_pos (by omega), add_zero, add_zero]
  · rw [outV_at _ col3 t j d hd]
    unfold last3 last2 last1 last0
    rw [lastF_at E hE hch hS H hH, lastF_at E hE hch hS H hH, lastF_at E hE hch hS H hH, lastF_at E hE hch hS H hH, if_neg (by omega), if_neg (by omega), if_neg (by omega), if_pos (by omega), add_zero, add_zero, add_zero]

include hS in
/-- The state after the loop, and what it holds once the last expert is added. -/
theorem end_at (hc : Bf Ideal c bHc) (S : Ya Ideal c) (hS0 : ∀ t d, accV S.acc t d = 0) (t : Fin 1024) (j : Fin 512) (d : Fin 2048) :
    (d.val = 0 + j.val → outV (last0 E hch (loopEnd E hch hc S).1 (loopEnd E hch hc S).2).acc col0 (ix2 t j) = allE E hE t d) ∧
    (d.val = 512 + j.val → outV (last1 E hch (loopEnd E hch hc S).1 (loopEnd E hch hc S).2).acc col1 (ix2 t j) = allE E hE t d) ∧
    (d.val = 1024 + j.val → outV (last2 E hch (loopEnd E hch hc S).1 (loopEnd E hch hc S).2).acc col2 (ix2 t j) = allE E hE t d) ∧
    (d.val = 1536 + j.val → outV (last3 E hch (loopEnd E hch hc S).1 (loopEnd E hch hc S).2).acc col3 (ix2 t j) = allE E hE t d) := by
  have h := iter_ok E hE hch hS hc S t d 63 (by decide)
  unfold loopEnd
  generalize iter E hch k0_pay174 (firstH E k0_pay174 hc, S) 63 = p at h ⊢
  have e : accV p.2.acc t d + addE E hE ⟨63, by decide⟩ t d = allE E hE t d := by
    rw [h.2, hS0, zero_add]
    exact sum_all E hE t d
  rw [← e]
  exact last_at E hE hch hS p.1 h.1 p.2 t j d
end Cert.KernelIdeal.Body

end
-- ==== Proof.Layer.lean ====
module

public import proofs.«01_k».proof.Proof.Spec

/-! The layer, written out on its arrays' elements. -/

@[expose] public section
noncomputable section
namespace Cert.Spec
open Idealize.ShloMosaic

/-- The softmax of the logits `l` at `e`. -/
def soft (l : Fin 64 → EReal) (e : Fin 64) : EReal :=
  Ideal.div (Ideal.exp (l e - Finset.univ.fold max (Ideal.ofBits FTy.f32 4286578688#32) l)) (∑ e'', Ideal.exp (l e'' - Finset.univ.fold max (Ideal.ofBits FTy.f32 4286578688#32) l))

/-- The layer's arrays: the tokens, the router's weight by expert, each expert's chosen tokens, and the experts' weights
    and scales. -/
structure Layer where
  x : Fin 1024 → Fin 2048 → EReal
  wr : Fin 64 → Fin 2048 → EReal
  ch : Fin 64 → Fin 32 → Fin 1024
  wg : Fin 64 → Fin 2048 → Fin 1408 → EReal
  wu : Fin 64 → Fin 2048 → Fin 1408 → EReal
  sg : Fin 64 → Fin 1408 → EReal
  su : Fin 64 → Fin 1408 → EReal
  wd : Fin 64 → Fin 1408 → Fin 2048 → EReal
  sd : Fin 64 → Fin 2048 → EReal

variable (L : Layer)

/-- The chosen token `i` of expert `e`, quantised, against a column `w`. -/
def Layer.dot (e : Fin 64) (i : Fin 32) (w : Fin 2048 → EReal) : EReal :=
  (∑ d, code (amax (L.x (L.ch e i))) (L.x (L.ch e i) d) * w d) * scl (amax (L.x (L.ch e i)))
/-- That against a column of the gate's weight, scaled. -/
def Layer.gate (e : Fin 64) (i : Fin 32) (f : Fin 1408) : EReal := L.dot e i (fun d => L.wg e d f) * L.sg e f
/-- The hidden row: the gate through silu, times the up projection. -/
def Layer.hid (e : Fin 64) (i : Fin 32) (f : Fin 1408) : EReal :=
  L.gate e i f * Ideal.logistic (L.gate e i f) * (L.dot e i (fun d => L.wu e d f) * L.su e f)
/-- The expert's output for the token, times the router's probability. -/
def Layer.out (e : Fin 64) (i : Fin 32) (d : Fin 2048) : EReal :=
  (∑ f, code (amax (L.hid e i)) (L.hid e i f) * L.wd e f d) * scl (amax (L.hid e i)) * L.sd e d * soft (fun e' => ∑ k, L.wr e' k * L.x (L.ch e i) k) e
/-- Each token's sum over the experts that chose it. -/
def Layer.sum (t : Fin 1024) (d : Fin 2048) : EReal := ∑ e, ∑ i, if L.ch e i = t then L.out e i d else 0

end Cert.Spec

end
-- ==== Proof.KSoft.lean ====
module

public import proofs.«01_k».proof.Proof.PayK
public import proofs.«01_k».proof.Proof.KWrite
public import proofs.«01_k».proof.Proof.KQuant
public import proofs.«01_k».proof.Proof.KRows
public import proofs.«01_k».proof.Proof.Layer

/-! The accumulator's zeros, and the router's probabilities. -/

@[expose] public section
noncomputable section
namespace Cert.KernelIdeal.Body
open Cert.KernelIdeal Cert.KernelIdeal.Facts₀ Cert.KernelIdeal.Facts
open Cert.KernelIdeal.Gen
open Idealize.ShloMosaic Idealize.ShloMosaic.TcCoe Cert.Spec

variable {c : Dev nD}

/-! ## The accumulator's zeros -/
theorem pay173 (r : Fin 256) (d : Fin 2048) : k0_pay173 (F := Ideal) (ix2 r d) = 0 := by
  pointwise [k0_pay173]
theorem trip_acc (w : Bf Ideal c a0) (ws : Bf Ideal c bWs) (k : Fin k0_t1_loop.trips) (S : Xs Ideal c) : (xTripF w ws k S).acc = accF k S.acc := by simp only [xTripF]
theorem trip_pr (w : Bf Ideal c a0) (ws : Bf Ideal c bWs) (k : Fin k0_t1_loop.trips) (S : Xs Ideal c) : (xTripF w ws k S).pr = prF w ws k S.pr := by simp only [xTripF]

theorem accF_in (k : Fin k0_t1_loop.trips) (f : Bf Ideal c bAcc) (t : Fin 1024) (d : Fin 2048) (h : 256 * k.val ≤ t.val) (h' : t.val < 256 * k.val + 256) : accV (accF k f) t d = 0 := by
  have e := wr_in cc0_scratch2 (k0_off14 k) S256x2048.size (Facts₀.k0_off14_inb k) f (k0_pay173 (F := Ideal)) (ix2 t d) (ix2 (⟨t.val - 256 * k.val, by omega⟩ : Fin 256) d) (by
    intro a
    have h0 := off14_0 k; have h1 := off14_1 k
    match a with
    | ⟨0, _⟩ => show t.val = k0_off14 k 0 + (t.val - 256 * k.val); omega
    | ⟨1, _⟩ => show d.val = k0_off14 k 1 + d.val; omega)
  unfold accV
  refine Eq.trans e ?_
  rw [pay173]
theorem accF_out (k : Fin k0_t1_loop.trips) (f : Bf Ideal c bAcc) (t : Fin 1024) (d : Fin 2048) (h : t.val < 256 * k.val) : accV (accF k f) t d = accV f t d := by
  have e := wr_out cc0_scratch2 (k0_off14 k) S256x2048.size (Facts₀.k0_off14_inb k) f (k0_pay173 (F := Ideal)) (ix2 t d) (0 : Fin 2) (by
    have h0 := off14_0 k
    show t.val < k0_off14 k 0 ∨ k0_off14 k 0 + 256 ≤ t.val
    omega)
  unfold accV
  exact e

/-- After `n` trips the rows below `256 n` are zero. -/
theorem acc_iter (w : Bf Ideal c a0) (ws : Bf Ideal c bWs) (S : Xs Ideal c) (t : Fin 1024) (d : Fin 2048) : ∀ n ≤ 4, t.val < 256 * n → accV (xIter w ws S n).acc t d = 0 := by
  intro n
  induction n with
  | zero => intro _ h; omega
  | succ n ih =>
    intro hn h
    obtain ⟨k, hk⟩ : ∃ k : Fin k0_t1_loop.trips, k.val = n := ⟨⟨n, by rw [trips4]; omega⟩, rfl⟩
    subst hk
    rw [xIter_succ, trip_acc]
    by_cases hb : 256 * k.val ≤ t.val
    · exact accF_in k _ t d hb (by omega)
    · exact (accF_out k _ t d (by omega)).trans (ih (by omega) (by omega))

/-! ## The router's probabilities -/

def prB (f : Bf Ideal c bPr) (e : Fin 64) (t : Fin 1024) : EReal := (f : FVec Ideal S64x1024 .f32) (ix2 e t)
/-- The logit of expert `e` and token `t`, from the split weight's three parts. -/
def logitT (w : Bf Ideal c a0) (ws : Bf Ideal c bWs) (t : Fin 1024) (e : Fin 64) : EReal :=
  ∑ k : Fin 2048, (wsIn ws : FVec Ideal S192x2048 .bf16) (ix2 ⟨128 + e.val, by omega⟩ k) * (w : FVec Ideal S1024x2048 .bf16) (ix2 t k) + ∑ k : Fin 2048, (wsIn ws : FVec Ideal S192x2048 .bf16) (ix2 ⟨64 + e.val, by omega⟩ k) * (w : FVec Ideal S1024x2048 .bf16) (ix2 t k)
    + ∑ k : Fin 2048, (wsIn ws : FVec Ideal S192x2048 .bf16) (ix2 ⟨e.val, by omega⟩ k) * (w : FVec Ideal S1024x2048 .bf16) (ix2 t k)

theorem prF_in (w : Bf Ideal c a0) (ws : Bf Ideal c bWs) (k : Fin k0_t1_loop.trips) (f : Bf Ideal c bPr) (e : Fin 64) (t : Fin 1024) (h : 256 * k.val ≤ t.val) (h' : t.val < 256 * k.val + 256) :
    prB (prF w ws k f) e t = soft (logitT w ws t) e := by
  have eq := wr_in cc0_scratch10 (k0_off16 k) S64x256.size (Facts₀.k0_off16_inb k) f (k0_pay172 (k0_pay8 (xIn w k) (wsIn ws))) (ix2 e t) (ix2 e (⟨t.val - 256 * k.val, by omega⟩ : Fin 256)) (by
    intro a
    have h0 := off16_0 k; have h1 := off16_1 k
    match a with
    | ⟨0, _⟩ => show e.val = k0_off16 k 0 + e.val; omega
    | ⟨1, _⟩ => show t.val = k0_off16 k 1 + (t.val - 256 * k.val); omega)
  unfold prB
  refine Eq.trans eq ?_
  rw [Pay.pay172]
  have hl : ∀ e', Pay.logit (xIn w k) (wsIn ws) e' (⟨t.val - 256 * k.val, by omega⟩ : Fin 256) = logitT w ws t e' := by
    intro e'
    unfold Pay.logit logitT
    simp only [xIn_at w k (⟨t.val - 256 * k.val, by omega⟩ : Fin 256) _ t (by show t.val = 256 * k.val + (t.val - 256 * k.val); omega)]
  simp only [hl]
  rfl
theorem prF_out (w : Bf Ideal c a0) (ws : Bf Ideal c bWs) (k : Fin k0_t1_loop.trips) (f : Bf Ideal c bPr) (e : Fin 64) (t : Fin 1024) (h : t.val < 256 * k.val) : prB (prF w ws k f) e t = prB f e t := by
  have eq := wr_out cc0_scratch10 (k0_off16 k) S64x256.size (Facts₀.k0_off16_inb k) f (k0_pay172 (k0_pay8 (xIn w k) (wsIn ws))) (ix2 e t) (1 : Fin 2) (by
    have h1 := off16_1 k
    show t.val < k0_off16 k 1 ∨ k0_off16 k 1 + 256 ≤ t.val
    omega)
  unfold prB
  exact eq

/-- After `n` trips the tokens below `256 n` have their probabilities. -/
theorem pr_iter (w : Bf Ideal c a0) (ws : Bf Ideal c bWs) (S : Xs Ideal c) (e : Fin 64) (t : Fin 1024) : ∀ n ≤ 4, t.val < 256 * n → prB (xIter w ws S n).pr e t = soft (logitT w ws t) e := by
  intro n
  induction n with
  | zero => intro _ h; omega
  | succ n ih =>
    intro hn h
    obtain ⟨k, hk⟩ : ∃ k : Fin k0_t1_loop.trips, k.val = n := ⟨⟨n, by rw [trips4]; omega⟩, rfl⟩
    subst hk
    rw [xIter_succ, trip_pr]
    by_cases hb : 256 * k.val ≤ t.val
    · exact prF_in w ws k _ e t hb (by omega)
    · exact (prF_out w ws k _ e t (by omega)).trans (ih (by omega) (by omega))
end Cert.KernelIdeal.Body

end
-- ==== Proof.KWeight.lean ====
module

public import proofs.«01_k».proof.Proof.PayK
public import proofs.«01_k».proof.Proof.KWrite
public import proofs.«01_k».proof.Proof.KSoft

/-! The router's weight, split in three parts that add up to it. -/

@[expose] public section
noncomputable section
namespace Cert.KernelIdeal.Body
open Cert.KernelIdeal Cert.KernelIdeal.Facts₀ Cert.KernelIdeal.Facts
open Cert.KernelIdeal.Gen
open Idealize.ShloMosaic Idealize.ShloMosaic.TcCoe Cert.Spec

variable {c : Dev nD}

def wsV (f : Bf Ideal c bWs) (r : Fin 192) (k : Fin 2048) : EReal := (f : FVec Ideal S192x2048 .bf16) (ix2 r k)
theorem ws_in (o : ℕ) (ho : ∀ a, (![o, 0] : Fin 2 → ℕ) a + S64x2048.size a ≤ S192x2048.size a) (f : Bf Ideal c bWs) (P : FVec Ideal S64x2048 .bf16) (r : Fin 192) (k : Fin 2048) (e : Fin 64) (h : r.val = o + e.val) :
    wsV (c := c) ((bWs.access (Rect.unit (s := S192x2048) ![o, 0] S64x2048.size ho)).write (Elt Ideal) f P Finset.univ) r k = P (ix2 e k) := by
  have q := wr_in cc0_scratch4 ![o, 0] S64x2048.size ho f P (ix2 r k) (ix2 e k) (by
    intro a
    match a with
    | ⟨0, _⟩ => exact h
    | ⟨1, _⟩ => show k.val = 0 + k.val; omega)
  unfold wsV
  exact q
theorem ws_out (o : ℕ) (ho : ∀ a, (![o, 0] : Fin 2 → ℕ) a + S64x2048.size a ≤ S192x2048.size a) (f : Bf Ideal c bWs) (P : FVec Ideal S64x2048 .bf16) (r : Fin 192) (k : Fin 2048) (h : r.val < o) :
    wsV (c := c) ((bWs.access (Rect.unit (s := S192x2048) ![o, 0] S64x2048.size ho)).write (Elt Ideal) f P Finset.univ) r k = wsV f r k := by
  have q := wr_out cc0_scratch4 ![o, 0] S64x2048.size ho f P (ix2 r k) (0 : Fin 2) (by
    show r.val < o ∨ o + 64 ≤ r.val
    omega)
  unfold wsV
  exact q
theorem wsIn_at (ws : Bf Ideal c bWs) (r : Fin 192) (k : Fin 2048) : (wsIn ws : FVec Ideal S192x2048 .bf16) (ix2 r k) = wsV ws r k := by
  show (ws : FVec Ideal S192x2048 .bf16) _ = (ws : FVec Ideal S192x2048 .bf16) _
  refine congrArg (ws : FVec Ideal S192x2048 .bf16) (funext fun a => Fin.ext ?_)
  match a with
  | ⟨0, _⟩ => show 0 + 1 * r.val = r.val; omega
  | ⟨1, _⟩ => show 0 + 1 * k.val = k.val; omega

variable (I : Start Ideal c)
def w1V (e : Fin 64) (k : Fin 2048) : EReal := (I.w1 : FVec Ideal S64x2048 .f32) (ix2 e k)
theorem wrtIn_at (e : Fin 64) (k : Fin 2048) : wrtIn I (ix2 e k) = w1V I e k := by
  show (I.w1 : FVec Ideal S64x2048 .f32) _ = (I.w1 : FVec Ideal S64x2048 .f32) _
  refine congrArg (I.w1 : FVec Ideal S64x2048 .f32) (funext fun a => Fin.ext ?_)
  match a with
  | ⟨0, _⟩ => show 0 + 1 * e.val = e.val; omega
  | ⟨1, _⟩ => show 0 + 1 * k.val = k.val; omega

theorem pay168 (v : Vec Ideal S64x2048 .f32) (e : Fin 64) (k : Fin 2048) : k0_pay168 (F := Ideal) v (ix2 e k) = v (ix2 e k) := by
  unfold k0_pay168 k0_pay164
  rw [shapeCast_self]; rfl
theorem pay169 (v : Vec Ideal S64x2048 .f32) (e : Fin 64) (k : Fin 2048) : k0_pay169 (F := Ideal) v (ix2 e k) = v (ix2 e k) - v (ix2 e k) := by
  unfold k0_pay169 k0_pay166 k0_pay165 k0_pay164
  rw [shapeCast_self]; rfl
theorem pay170 (v : Vec Ideal S64x2048 .f32) (e : Fin 64) (k : Fin 2048) : k0_pay170 (F := Ideal) (k0_pay167 v) (ix2 e k) = v (ix2 e k) - v (ix2 e k) - (v (ix2 e k) - v (ix2 e k)) := by
  unfold k0_pay170 k0_pay167 k0_pay166 k0_pay165 k0_pay164
  rw [shapeCast_self]; rfl

theorem ws_hi (e : Fin 64) (k : Fin 2048) : wsV (wsF I) ⟨e.val, by omega⟩ k = w1V I e k := by
  unfold wsF
  refine (ws_out 128 _ _ _ _ k (by show e.val < 128; omega)).trans ((ws_out 64 _ _ _ _ k (by show e.val < 64; omega)).trans ((ws_in 0 _ _ _ _ k e (by show e.val = 0 + e.val; omega)).trans ?_))
  rw [pay168, wrtIn_at]
theorem ws_mid (e : Fin 64) (k : Fin 2048) : wsV (wsF I) ⟨64 + e.val, by omega⟩ k = w1V I e k - w1V I e k := by
  unfold wsF
  refine (ws_out 128 _ _ _ _ k (by show 64 + e.val < 128; omega)).trans ((ws_in 64 _ _ _ _ k e rfl).trans ?_)
  rw [pay169, wrtIn_at]
theorem ws_lo (e : Fin 64) (k : Fin 2048) : wsV (wsF I) ⟨128 + e.val, by omega⟩ k = w1V I e k - w1V I e k - (w1V I e k - w1V I e k) := by
  unfold wsF
  refine (ws_in 128 _ _ _ _ k e rfl).trans ?_
  rw [pay170, wrtIn_at]

/-- Of a finite weight, the second and third parts are zero, and the logit is the product with the weight. -/
theorem logit_at (hf : ∀ e k, w1V I e k ≠ ⊤ ∧ w1V I e k ≠ ⊥) (w : Bf Ideal c a0) (t : Fin 1024) (e : Fin 64) :
    logitT w (wsF I) t e = ∑ k, w1V I e k * (w : FVec Ideal S1024x2048 .bf16) (ix2 t k) := by
  have h0 : ∀ k, w1V I e k - w1V I e k = 0 := fun k => EReal.sub_self (hf e k).1 (hf e k).2
  unfold logitT
  simp only [wsIn_at, ws_hi, ws_mid, ws_lo, h0, sub_zero, zero_mul, Finset.sum_const_zero, zero_add]
end Cert.KernelIdeal.Body

end
-- ==== Proof.KOut.lean ====
module

public import proofs.«01_k».proof.Proof.PayK
public import proofs.«01_k».proof.Proof.KWrite
public import proofs.«01_k».proof.Proof.KLast
public import proofs.«01_k».proof.Proof.KSoft
public import proofs.«01_k».proof.Proof.KWeight
public import proofs.«01_k».proof.Proof.Layer

/-! What the kernel leaves in its first result. -/

@[expose] public section
noncomputable section
namespace Cert.KernelIdeal.Body
open Cert.KernelIdeal Cert.KernelIdeal.Facts₀ Cert.KernelIdeal.Facts
open Cert.KernelIdeal.Gen
open Idealize.ShloMosaic Idealize.ShloMosaic.TcCoe Cert.Spec

variable {c : Dev nD}

variable (A : Arrays Ideal c)

/-- The chosen tokens exist. -/
abbrev ChosenOk : Prop := ∀ e i, ((A.w2 : IVec S64x32 32) (ix2 e i)).toNat < 1024

/-- The layer of the arrays. -/
def layerOf (hT : ChosenOk A) : Layer where
  x t k := (A.w0 : FVec Ideal S1024x2048 .bf16) (ix2 t k)
  wr e k := (A.w1 : FVec Ideal S64x2048 .f32) (ix2 e k)
  ch e i := ⟨((A.w2 : IVec S64x32 32) (ix2 e i)).toNat, hT e i⟩
  wg e d f := (A.w3 : FVec Ideal S64x2048x1408 .fp8e4m3) (ix3 e d f)
  wu e d f := (A.w4 : FVec Ideal S64x2048x1408 .fp8e4m3) (ix3 e d f)
  sg e f := (A.w5 : FVec Ideal S64x1408 .f32) (ix2 e f)
  su e f := (A.w6 : FVec Ideal S64x1408 .f32) (ix2 e f)
  wd e f d := (A.w7 : FVec Ideal S64x1408x2048 .fp8e4m3) (ix3 e f d)
  sd e d := (A.w8 : FVec Ideal S64x2048 .f32) (ix2 e d)

variable (ws : Bf Ideal c bWs) (S : Xs Ideal c)

theorem env_ch (e : Fin 64) (i : Fin 32) : chV (envOf A (xEnd A ws S)) e i = (A.w2 : IVec S64x32 32) (ix2 e i) := rfl
theorem env_sg (e : Fin 64) (f : Fin 1408) : sgV (envOf A (xEnd A ws S)) e f = (A.w5 : FVec Ideal S64x1408 .f32) (ix2 e f) := rfl
theorem env_su (e : Fin 64) (f : Fin 1408) : suV (envOf A (xEnd A ws S)) e f = (A.w6 : FVec Ideal S64x1408 .f32) (ix2 e f) := rfl
theorem env_sd (e : Fin 64) (d : Fin 2048) : sdV (envOf A (xEnd A ws S)) e d = (A.w8 : FVec Ideal S64x2048 .f32) (ix2 e d) := rfl
theorem env_w3 (e : Fin 64) (d : Fin 2048) (f : Fin 1408) : w3V (envOf A (xEnd A ws S)) e d f = (A.w3 : FVec Ideal S64x2048x1408 .fp8e4m3) (ix3 e d f) := rfl
theorem env_w4 (e : Fin 64) (d : Fin 2048) (f : Fin 1408) : w4V (envOf A (xEnd A ws S)) e d f = (A.w4 : FVec Ideal S64x2048x1408 .fp8e4m3) (ix3 e d f) := rfl
theorem env_w7 (e : Fin 64) (f : Fin 1408) (d : Fin 2048) : w7V (envOf A (xEnd A ws S)) e f d = (A.w7 : FVec Ideal S64x1408x2048 .fp8e4m3) (ix3 e f d) := rfl
theorem env_codes (t : Fin 1024) (d : Fin 2048) : codesV (envOf A (xEnd A ws S)) t d = code (rowMax A.w0 t) ((A.w0 : FVec Ideal S1024x2048 .bf16) (ix2 t d)) :=
  codes_iter A.w0 _ S t d 4 (by omega) (by have := t.isLt; omega)
theorem env_xs (t : Fin 1024) : xsV (envOf A (xEnd A ws S)) t = scl (rowMax A.w0 t) :=
  xs_iter A.w0 _ S t 4 (by omega) (by have := t.isLt; omega)
theorem env_pr (hf : ∀ e k, (A.w1 : FVec Ideal S64x2048 .f32) (ix2 e k) ≠ (⊤ : EReal) ∧ (A.w1 : FVec Ideal S64x2048 .f32) (ix2 e k) ≠ (⊥ : EReal)) (e : Fin 64) (t : Fin 1024) :
    prV (envOf A (xEnd A ws S)) e t = soft (fun e' => ∑ k, w1V (startOf A ws) e' k * (A.w0 : FVec Ideal S1024x2048 .bf16) (ix2 t k)) e := by
  refine Eq.trans (pr_iter A.w0 (wsF (startOf A ws)) S e t 4 (by omega) (by have := t.isLt; omega)) ?_
  exact congrArg (fun l => soft l e) (funext fun e' => logit_at (startOf A ws) hf A.w0 t e')

/-- The sum over experts is the layer's. -/
theorem all_at (hT : ChosenOk A) (hE) (hf : ∀ e k, (A.w1 : FVec Ideal S64x2048 .f32) (ix2 e k) ≠ (⊤ : EReal) ∧ (A.w1 : FVec Ideal S64x2048 .f32) (ix2 e k) ≠ (⊥ : EReal)) (t : Fin 1024) (d : Fin 2048) :
    allE (envOf A (xEnd A ws S)) hE t d = (layerOf A hT).sum t d := by
  have ht : ∀ e i, tok (envOf A (xEnd A ws S)) hE e i = (layerOf A hT).ch e i := fun e i => rfl
  have hg : ∀ e i f, gateV (envOf A (xEnd A ws S)) hE e i f = (layerOf A hT).gate e i f := by
    intro e i f
    unfold gateV
    simp only [env_codes, env_xs, env_sg, env_w3, ht]
    rfl
  have hh : ∀ e i, hidV (envOf A (xEnd A ws S)) hE e i = (layerOf A hT).hid e i := by
    intro e i
    funext f
    unfold hidV
    simp only [hg, env_codes, env_xs, env_su, env_w4, ht]
    rfl
  unfold allE addE outE Layer.sum
  simp only [hh, ht, env_pr A ws S hf, env_sd, env_w7]
  rfl

/-- The kernel's first result is the layer's sum. -/
theorem first_at (hch) (W0 W1 W2) (h : Result A hch W0 W1 W2) (hT : ChosenOk A) (hf : ∀ e k, (A.w1 : FVec Ideal S64x2048 .f32) (ix2 e k) ≠ (⊤ : EReal) ∧ (A.w1 : FVec Ideal S64x2048 .f32) (ix2 e k) ≠ (⊥ : EReal)) (t : Fin 1024) (d : Fin 2048) :
    (W0 : FVec Ideal S1024x2048 .bf16) (ix2 t d) = (layerOf A hT).sum t d := by
  obtain ⟨ws, S, yb, hc, -, -, h0⟩ := h
  rw [← all_at A ws S hT hT hf t d]
  have hS0 : ∀ t d, accV (xEnd A ws S).acc t d = 0 := fun t d => acc_iter A.w0 _ S t d 4 (by omega) (by have := t.isLt; omega)
  have key := fun j => end_at (envOf A (xEnd A ws S)) hT hch (fun _ _ => rfl) hc ⟨yb, (xEnd A ws S).acc⟩ hS0 t j d
  have hr : ∀ (b : Fin 4) (j : Fin 512), d.val = 512 * b.val + j.val → (W0 : FVec Ideal S1024x2048 .bf16) (ix2 t d) = outVal A hch ws S yb hc b (ix2 t j) := by
    intro b j hd
    rw [← h0 b]
    show (W0 : FVec Ideal S1024x2048 .bf16) _ = (W0 : FVec Ideal S1024x2048 .bf16) _
    refine congrArg (W0 : FVec Ideal S1024x2048 .bf16) (funext fun a => Fin.ext ?_)
    match a with
    | ⟨0, _⟩ => show t.val = 0 + 1 * t.val; omega
    | ⟨1, _⟩ => show d.val = 512 * b.val + 1 * j.val; omega
  have hd := d.isLt
  obtain h | h | h | h : d.val < 512 ∨ (512 ≤ d.val ∧ d.val < 1024) ∨ (1024 ≤ d.val ∧ d.val < 1536) ∨ 1536 ≤ d.val := by omega
  · exact (hr 0 ⟨d.val, by omega⟩ (by show d.val = 512 * 0 + d.val; omega)).trans ((key ⟨d.val, by omega⟩).1 (by show d.val = 0 + d.val; omega))
  · exact (hr 1 ⟨d.val - 512, by omega⟩ (by show d.val = 512 * 1 + (d.val - 512); omega)).trans ((key ⟨d.val - 512, by omega⟩).2.1 (by show d.val = 512 + (d.val - 512); omega))
  · exact (hr 2 ⟨d.val - 1024, by omega⟩ (by show d.val = 512 * 2 + (d.val - 1024); omega)).trans ((key ⟨d.val - 1024, by omega⟩).2.2.1 (by show d.val = 1024 + (d.val - 1024); omega))
  · exact (hr 3 ⟨d.val - 1536, by omega⟩ (by show d.val = 512 * 3 + (d.val - 1536); omega)).trans ((key ⟨d.val - 1536, by omega⟩).2.2.2 (by show d.val = 1536 + (d.val - 1536); omega))
end Cert.KernelIdeal.Body

end
-- ==== Proof.KHost.lean ====
module

public import proofs.«01_k».proof.Proof.KOut
public import proofs.«01_k».proof.Proof.Ideal.Run
public import Idealize.ShloMosaic.Lib.StableHlo.RunRead

/-! The router's weight as the kernel finds it: its argument, transposed. -/

@[expose] public section
noncomputable section
namespace Cert.KernelIdeal.Body
open Cert.KernelIdeal
open Cert.KernelIdeal.Gen
open Idealize.ShloMosaic Idealize.ShloMosaic.TcCoe Idealize.SL.Sem Cert.Spec

variable (m : (ℓ : Loc nD τ sig) → Buf (Elt Ideal) ℓ) (c : Dev nD)

theorem V_v0 : V m c main_v0 = transpose S64x2048 [1, 0] (m ((c : Thread nD τ).loc main_arg1) : FVec Ideal S2048x64 .f32) Gen.transposes_S2048x64_S64x2048_1_0 := by
  show StableHlo.after hostOps0 _ (Proc.devRef .tc main_v0) = _
  after_reads_simp
theorem tr_at (v : FVec Ideal S2048x64 .f32) (e : Fin 64) (k : Fin 2048) : transpose S64x2048 [1, 0] v Gen.transposes_S2048x64_S64x2048_1_0 (ix2 e k) = v (ix2 k e) := by
  pointwise []
/-- The weight of expert `e`. -/
theorem w1_at (e : Fin 64) (k : Fin 2048) : ((arr m c).w1 : FVec Ideal S64x2048 .f32) (ix2 e k) = (m ((c : Thread nD τ).loc main_arg1) : FVec Ideal S2048x64 .f32) (ix2 k e) := by
  show (V m c main_v0 : FVec Ideal S64x2048 .f32) (ix2 e k) = _
  rw [V_v0 m c, tr_at]
end Cert.KernelIdeal.Body

end
-- ==== Proof.PayR2.lean ====
module

public import proofs.«01_k».proof.Proof.PayR

/-! The reference's experts, element by element. -/

@[expose] public section
noncomputable section
namespace Cert.ReferenceIdeal.Pay
open Idealize.ShloMosaic Cert.Spec Cert.ReferenceIdeal Cert.ReferenceIdeal.Gen

theorem red3 (v : FVec Ideal S64x32x2048 .f32) (e : Fin 64) (c : Fin 32) : multiReduction .maximumf [2] S64x32 v 0xFF800000#32 reduces_S64x32x2048_S64x32 (.inl rfl) rfl (ix2 e c) = Finset.univ.fold max (Ideal.ofBits FTy.f32 4286578688#32) (fun k => v (ix3 e c k)) := by
  pointwise []

theorem pay8_of (v : FVec Ideal S64x32x2048 .f32) (e : Fin 64) (c : Fin 32) (R : FVec Ideal S64x32 .f32) (hR : multiReduction .maximumf [2] S64x32 v 0xFF800000#32 reduces_S64x32x2048_S64x32 (.inl rfl) rfl = R) :
    k0_pay8 (F := Ideal) v (ix3 e c 0) = kx (R (ix2 e c)) := by
  unfold k0_pay8
  rw [hR]
  pointwise []
  rfl

theorem pay6 (v : Vec Ideal S64x32x2048 .bf16) (e : Fin 64) (c : Fin 32) (d : Fin 2048) : k0_pay6 (F := Ideal) v (ix3 e c d) = v (ix3 e c d) := by
  pointwise [k0_pay6]

theorem pay7_of (v : Vec Ideal S64x32x2048 .bf16) (e : Fin 64) (c : Fin 32) (d : Fin 2048) : k0_pay7 (F := Ideal) v (ix3 e c d) = FloatOps.absf (F := Ideal) (φ := .f32) (k0_pay6 (F := Ideal) v (ix3 e c d)) := by
  pointwise [k0_pay7]

theorem pay8 (v : Vec Ideal S64x32x2048 .bf16) (e : Fin 64) (c : Fin 32) : k0_pay8 (F := Ideal) (k0_pay7 (F := Ideal) v) (ix3 e c 0) = kx (amax fun k => v (ix3 e c k)) := by
  rw [pay8_of _ e c _ rfl, red3]
  unfold amax
  simp only [pay7_of, pay6]

theorem pay9_of (v w : FVec Ideal S64x32x2048 .f32) (e : Fin 64) (c : Fin 32) (d : Fin 2048) (K : FVec Ideal S64x32x1 .f32) (hR : k0_pay8 (F := Ideal) w  = K) : k0_pay9 (F := Ideal) v w (ix3 e c d) = min (Ideal.ofBits FTy.f32 1138753536#32) (max (Ideal.ofBits FTy.f32 3286237184#32) (v (ix3 e c d) * FloatOps.exp2 (F := Ideal) (φ := .f32) (0 - K (ix3 e c 0)))) := by
  unfold k0_pay9
  rw [hR]
  pointwise []

theorem pay10_of (w : FVec Ideal S64x32x2048 .f32) (e : Fin 64) (c : Fin 32) (K : FVec Ideal S64x32x1 .f32) (hR : k0_pay8 (F := Ideal) w  = K) : k0_pay10 (F := Ideal) w (ix3 e c 0) = FloatOps.exp2 (F := Ideal) (φ := .f32) (K (ix3 e c 0)) := by
  unfold k0_pay10
  rw [hR]
  pointwise []

/-- The gathered rows' codes. -/
theorem pay9 (v : Vec Ideal S64x32x2048 .bf16) (e : Fin 64) (c : Fin 32) (d : Fin 2048) : k0_pay9 (F := Ideal) (k0_pay6 (F := Ideal) v) (k0_pay7 (F := Ideal) v) (ix3 e c d) = code (amax fun k => v (ix3 e c k)) (v (ix3 e c d)) := by
  rw [pay9_of _ _ e c d _ rfl, pay8, pay6]; rfl

/-- The gathered rows' scales. -/
theorem pay10 (v : Vec Ideal S64x32x2048 .bf16) (e : Fin 64) (c : Fin 32) : k0_pay10 (F := Ideal) (k0_pay7 (F := Ideal) v) (ix3 e c 0) = scl (amax fun k => v (ix3 e c k)) := by
  rw [pay10_of _ e c _ rfl, pay8]; rfl

theorem pay11_of (v w : FVec Ideal S64x32x2048 .f32) (g : Vec Ideal S64x2048x1408 .fp8e4m3) (s : Vec Ideal S64x1408 .f32) (e : Fin 64) (c : Fin 32) (f : Fin 1408) : k0_pay11 (F := Ideal) v w g s (ix3 e c f) = (∑ d, k0_pay9 (F := Ideal) v w (ix3 e c d) * g (ix3 e d f)) * k0_pay10 (F := Ideal) w (ix3 e c 0) * s (ix2 e f)  := by
  pointwise [k0_pay11]
theorem pay12_of (v w : FVec Ideal S64x32x2048 .f32) (g : Vec Ideal S64x2048x1408 .fp8e4m3) (e : Fin 64) (c : Fin 32) (f : Fin 1408) : k0_pay12 (F := Ideal) v w g (ix3 e c f) = (∑ d, k0_pay9 (F := Ideal) v w (ix3 e c d) * g (ix3 e d f)) := by
  pointwise [k0_pay12]
theorem pay13_of (w : FVec Ideal S64x32x2048 .f32) (e : Fin 64) (c : Fin 32) (f : Fin 1408) : k0_pay13 (F := Ideal) w (ix3 e c f) = k0_pay10 (F := Ideal) w (ix3 e c 0)  := by
  pointwise [k0_pay13]

/-- The gate's product, scaled. -/
theorem pay11 (v : Vec Ideal S64x32x2048 .bf16) (g : Vec Ideal S64x2048x1408 .fp8e4m3) (s : Vec Ideal S64x1408 .f32) (e : Fin 64) (c : Fin 32) (f : Fin 1408) :
    k0_pay11 (F := Ideal) (k0_pay6 (F := Ideal) v) (k0_pay7 (F := Ideal) v) g s (ix3 e c f) = (∑ d, code (amax fun k => v (ix3 e c k)) (v (ix3 e c d)) * g (ix3 e d f)) * scl (amax fun k => v (ix3 e c k)) * s (ix2 e f)  := by
  rw [pay11_of, pay10]; simp only [pay9]
/-- The up product. -/
theorem pay12 (v : Vec Ideal S64x32x2048 .bf16) (g : Vec Ideal S64x2048x1408 .fp8e4m3) (e : Fin 64) (c : Fin 32) (f : Fin 1408) :
    k0_pay12 (F := Ideal) (k0_pay6 (F := Ideal) v) (k0_pay7 (F := Ideal) v) g (ix3 e c f) = (∑ d, code (amax fun k => v (ix3 e c k)) (v (ix3 e c d)) * g (ix3 e d f))  := by
  rw [pay12_of]; simp only [pay9]
theorem pay13 (v : Vec Ideal S64x32x2048 .bf16) (e : Fin 64) (c : Fin 32) (f : Fin 1408) : k0_pay13 (F := Ideal) (k0_pay7 (F := Ideal) v) (ix3 e c f) = scl (amax fun k => v (ix3 e c k)) := by
  rw [pay13_of, pay10]

theorem red3f (v : FVec Ideal S64x32x1408 .f32) (e : Fin 64) (c : Fin 32) : multiReduction .maximumf [2] S64x32 v 0xFF800000#32 reduces_S64x32x1408_S64x32 (.inl rfl) rfl (ix2 e c) = Finset.univ.fold max (Ideal.ofBits FTy.f32 4286578688#32) (fun k => v (ix3 e c k)) := by
  pointwise []

theorem act_of (v75 v77 v78 : FVec Ideal S64x32x1408 .f32) (v80 : Vec Ideal S64x1408 .f32)  (e : Fin 64) (c : Fin 32) (f : Fin 1408) : mulf (F := Ideal) (φ := .f32) (mulf v75 (logistic v75)) (mulf (mulf v77 v78) (broadcastTo S64x32x1408 (shapeCast S64x1x1408 v80 shapeCasts_S64x1408_S64x1x1408) broadcasts_S64x1x1408_S64x32x1408)) (ix3 e c f) = v75 (ix3 e c f) * Ideal.logistic (v75 (ix3 e c f)) * (v77 (ix3 e c f) * v78 (ix3 e c f) * v80 (ix2 e f)) := by
  pointwise []

theorem pay14_of (v75 v77 v78 : FVec Ideal S64x32x1408 .f32) (v80 : Vec Ideal S64x1408 .f32) (v117 : Vec Ideal S64x1408x2048 .fp8e4m3) (e : Fin 64) (c : Fin 32) (d : Fin 2048) (M : FVec Ideal S64x32x1408 .f32) (R : FVec Ideal S64x32 .f32)
    (hM : mulf (F := Ideal) (φ := .f32) (mulf v75 (logistic v75)) (mulf (mulf v77 v78) (broadcastTo S64x32x1408 (shapeCast S64x1x1408 v80 shapeCasts_S64x1408_S64x1x1408) broadcasts_S64x1x1408_S64x32x1408)) = M)
    (hR : multiReduction .maximumf [2] S64x32 (absf M) 0xFF800000#32 reduces_S64x32x1408_S64x32 (.inl rfl) rfl = R) :
    k0_pay14 (F := Ideal) v75 v77 v78 v80 v117 (ix3 e c d) = (∑ f, code (R (ix2 e c)) (M (ix3 e c f)) * v117 (ix3 e f d)) * scl (R (ix2 e c)) := by
  unfold k0_pay14
  rw [hM, hR]
  pointwise []
  rfl

/-- An expert's output before its scale: the hidden codes against the down weight. -/
theorem pay14 (v75 v77 v78 : FVec Ideal S64x32x1408 .f32) (v80 : Vec Ideal S64x1408 .f32) (v117 : Vec Ideal S64x1408x2048 .fp8e4m3) (e : Fin 64) (c : Fin 32) (d : Fin 2048) (h : Fin 1408 → EReal)
    (hh : ∀ f, v75 (ix3 e c f) * Ideal.logistic (v75 (ix3 e c f)) * (v77 (ix3 e c f) * v78 (ix3 e c f) * v80 (ix2 e f)) = h f) :
    k0_pay14 (F := Ideal) v75 v77 v78 v80 v117 (ix3 e c d) = (∑ f, code (amax h) (h f) * v117 (ix3 e f d)) * scl (amax h) := by
  rw [pay14_of v75 v77 v78 v80 v117 e c d _ _ rfl rfl, red3f]
  have ha : Finset.univ.fold max (Ideal.ofBits FTy.f32 4286578688#32) (fun k => absf (F := Ideal) (φ := .f32) (mulf (F := Ideal) (φ := .f32) (mulf v75 (logistic v75)) (mulf (mulf v77 v78) (broadcastTo S64x32x1408 (shapeCast S64x1x1408 v80 shapeCasts_S64x1408_S64x1x1408) broadcasts_S64x1x1408_S64x32x1408))) (ix3 e c k)) = amax h := by
    unfold amax
    refine congrArg (fun g => Finset.univ.fold max (Ideal.ofBits FTy.f32 4286578688#32) g) (funext fun k => ?_)
    show FloatOps.absf (F := Ideal) (φ := .f32) (mulf (F := Ideal) (φ := .f32) (mulf v75 (logistic v75)) _ (ix3 e c k)) = _
    rw [act_of, hh]
  rw [ha]
  simp only [act_of, hh]

/-- The accumulated result: the sum over the pairs that name the token. -/
theorem pay1 (v120 : FVec Ideal S64x32x2048 .f32) (v121 : Vec Ideal S64x2048 .f32) (v125 : Vec Ideal S64x32 .f32) (v131 : Vec Ideal S64x32 .i32) (t : Fin 1024) (d : Fin 2048) :
    k0_pay1 (F := Ideal) v120 v121 v125 v131 (ix2 t d) = ∑ x : Fin 2048,
      Scalar.select (IntOp.cmpi CmpIPredicate.eq (BitVec.ofNat 32 t) (v131 (ix2 ⟨x / 32, by omega⟩ ⟨x % 32, by omega⟩)))
        (v120 (ix3 ⟨x / 32, by omega⟩ ⟨x % 32, by omega⟩ d) * v121 (ix2 ⟨x / 32, by omega⟩ d) * v125 (ix2 ⟨x / 32, by omega⟩ ⟨x % 32, by omega⟩)) 0 := by
  pointwise [k0_pay1]

end Cert.ReferenceIdeal.Pay

end
-- ==== Proof.RFirst.lean ====
module

public import proofs.«01_k».proof.Proof.PayR2
public import proofs.«01_k».proof.Proof.RQuant
public import proofs.«01_k».proof.Proof.Layer
public import Idealize.ShloMosaic.Lib.StableHlo.Predicate

/-! What the reference leaves in its first result, from what its kernel call reads. -/

@[expose] public section
noncomputable section
namespace Cert.ReferenceIdeal.Value
open Cert.ReferenceIdeal Cert.ReferenceIdeal.Gen Cert.Spec Idealize.ShloMosaic Idealize.ShloMosaic.TcCoe Idealize.SL.Sem

/-- The pairs of an expert and a slot, counted in one row. -/
theorem sum_pairs (f : Fin 64 → Fin 32 → EReal) : (∑ x : Fin 2048, f ⟨x / 32, by omega⟩ ⟨x % 32, by omega⟩) = ∑ e, ∑ i, f e i := by
  rw [← Finset.sum_product', Finset.univ_product_univ]
  refine Finset.sum_bij' (fun (x : Fin 2048) _ => ((⟨x.val / 32, by omega⟩ : Fin 64), (⟨x.val % 32, by omega⟩ : Fin 32))) (fun p _ => (⟨32 * p.1.val + p.2.val, by have := p.1.isLt; have := p.2.isLt; omega⟩ : Fin 2048)) ?_ ?_ ?_ ?_ ?_
  · intro x _; exact Finset.mem_univ _
  · intro p _; exact Finset.mem_univ _
  · intro x _; exact Fin.ext (by show 32 * (x.val / 32) + x.val % 32 = x.val; omega)
  · intro p _
    have := p.1.isLt; have := p.2.isLt
    exact Prod.ext (Fin.ext (by show (32 * p.1.val + p.2.val) / 32 = p.1.val; omega)) (Fin.ext (by show (32 * p.1.val + p.2.val) % 32 = p.2.val; omega))
  · intro x _; rfl

theorem pick (t : Fin 1024) (w : BitVec 32) (h : w.toNat < 1024) (y : EReal) :
    Scalar.select (IntOp.cmpi CmpIPredicate.eq (BitVec.ofNat 32 t.val) w) y 0 = if (⟨w.toNat, h⟩ : Fin 1024) = t then y else 0 := by
  have ht := t.isLt
  by_cases hw : (⟨w.toNat, h⟩ : Fin 1024) = t
  · have e : BitVec.ofNat 32 t.val = w := by rw [← hw]; exact BitVec.eq_of_toNat_eq (by rw [BitVec.toNat_ofNat]; exact Nat.mod_eq_of_lt w.isLt)
    have e1 : IntOp.cmpi CmpIPredicate.eq (BitVec.ofNat 32 t.val) w = 1#1 := StableHlo.Predicate.cmpi_eq_iff.2 e
    rw [e1, if_pos hw]; rfl
  · have e1 : IntOp.cmpi CmpIPredicate.eq (BitVec.ofNat 32 t.val) w = 0#1 := by
      have hn : IntOp.cmpi CmpIPredicate.eq (BitVec.ofNat 32 t.val) w ≠ 1#1 := fun h1 => hw (Fin.ext (by
        have e := StableHlo.Predicate.cmpi_eq_iff.1 h1
        show w.toNat = t.val
        rw [← e, BitVec.toNat_ofNat]; omega))
      revert hn
      generalize IntOp.cmpi CmpIPredicate.eq (BitVec.ofNat 32 t.val) w = b
      revert b; decide
    rw [e1, if_neg hw]; rfl

/-- The call's first result, when its inputs are a layer's arrays. -/
theorem call_at (L : Layer) (x1 : Vec Ideal S64x32x2048 .bf16) (x2 : Vec Ideal S64x32 .i32) (x3 : Vec Ideal S64x32 .f32) (x4 x5 : Vec Ideal S64x2048x1408 .fp8e4m3) (x6 x7 : Vec Ideal S64x1408 .f32) (x8 : Vec Ideal S64x1408x2048 .fp8e4m3) (x9 : Vec Ideal S64x2048 .f32)
    (h1 : ∀ e i k, x1 (ix3 e i k) = L.x (L.ch e i) k) (h2 : ∀ e i, (x2 (ix2 e i)).toNat = (L.ch e i).val)
    (h3 : ∀ e i, x3 (ix2 e i) = soft (fun e' => ∑ k, L.wr e' k * L.x (L.ch e i) k) e)
    (h4 : ∀ e d f, x4 (ix3 e d f) = L.wg e d f) (h5 : ∀ e d f, x5 (ix3 e d f) = L.wu e d f) (h6 : ∀ e f, x6 (ix2 e f) = L.sg e f) (h7 : ∀ e f, x7 (ix2 e f) = L.su e f)
    (h8 : ∀ e f d, x8 (ix3 e f d) = L.wd e f d) (h9 : ∀ e d, x9 (ix2 e d) = L.sd e d) (t : Fin 1024) (d : Fin 2048) :
    k0_pay1 (F := Ideal) (k0_pay14 (k0_pay11 (k0_pay6 x1) (k0_pay7 x1) x4 x6) (k0_pay12 (k0_pay6 x1) (k0_pay7 x1) x5) (k0_pay13 (k0_pay7 x1)) x7 x8) x9 x3 x2 (ix2 t d) = L.sum t d := by
  rw [Pay.pay1]
  have hy : ∀ e i, k0_pay14 (F := Ideal) (k0_pay11 (k0_pay6 x1) (k0_pay7 x1) x4 x6) (k0_pay12 (k0_pay6 x1) (k0_pay7 x1) x5) (k0_pay13 (k0_pay7 x1)) x7 x8 (ix3 e i d) = (∑ f, code (amax (L.hid e i)) (L.hid e i f) * L.wd e f d) * scl (amax (L.hid e i)) := by
    intro e i
    rw [Pay.pay14 _ _ _ _ _ e i d (L.hid e i) (fun f => by
      rw [Pay.pay11, Pay.pay12, Pay.pay13]
      simp only [h1, h4, h5, h6, h7]
      rfl)]
    simp only [h8]
  refine Eq.trans (Finset.sum_congr rfl fun x _ => ?_) (sum_pairs fun e i => if L.ch e i = t then L.out e i d else 0)
  have hx := h2 ⟨x.val / 32, by omega⟩ ⟨x.val % 32, by omega⟩
  rw [pick t _ (by rw [hx]; exact Fin.isLt _), hy, h9, h3]
  have he : (⟨(x2 (ix2 ⟨x.val / 32, by omega⟩ ⟨x.val % 32, by omega⟩)).toNat, by rw [hx]; exact Fin.isLt _⟩ : Fin 1024) = L.ch ⟨x.val / 32, by omega⟩ ⟨x.val % 32, by omega⟩ := Fin.ext hx
  rw [he]
  rfl

theorem out10 (x0 x1 x2 x3 x4 x5 x6 x7 x8 x9) : out0_10 (F := Ideal) x0 x1 x2 x3 x4 x5 x6 x7 x8 x9 =
    k0_pay1 (F := Ideal) (k0_pay14 (k0_pay11 (k0_pay6 x1) (k0_pay7 x1) x4 x6) (k0_pay12 (k0_pay6 x1) (k0_pay7 x1) x5) (k0_pay13 (k0_pay7 x1)) x7 x8) x9 x3 x2 := by
  unfold out0_10 k0_pay16 k0_pay15
  rw [View.canon_cons_unit_lit _ _ _ (by decide)]
  repeat rw [View.ld_unit_lit _ _ (by decide)]

variable (m : (ℓ : Loc nD τ sig) → Buf (Elt Ideal) ℓ)

theorem blk10 (t : Fin cfg0.N) (y : S1024x2048.Idx) : ((cfg0.win 10).blk t).view.emb y = y := by
  obtain rfl : t = ⟨0, by decide⟩ := by revert t; decide
  funext a; apply Fin.ext
  match a with
  | ⟨0, _⟩ => show 0 * 1024 + 1 * (y 0).val = (y 0).val; omega
  | ⟨1, _⟩ => show 0 * 2048 + 1 * (y 1).val = (y 1).val; omega
theorem whole10 (c : Dev nD) (t : Fin cfg0.N) (y : S1024x2048.Idx) : ((cfg0.win 10).blk t).view.read (Elt Ideal) ((dats m 0 c).arrAt 10 cfg0.N) y = (dats m 0 c).arrAt 10 cfg0.N y := by
  generalize (dats m 0 c).arrAt 10 cfg0.N = A
  show A (((cfg0.win 10).blk t).view.emb y) = A y
  rw [blk10]

/-- An index of rank two, and one of rank three, whose block starts at zero. -/
theorem iblk1 (c : Dev nD) (t : Fin cfg0.N) : (iblk m c 1 t : FVec Ideal S64x32x2048 .bf16) = V m c main_v36 := by
  obtain rfl : t = ⟨0, by decide⟩ := by revert t; decide
  funext i
  refine congrArg (V m c (Pipeline.arrRef spec0 1)) (funext fun a => Fin.ext ?_)
  match a with
  | ⟨0, _⟩ => show 0 * 64 + 1 * (i 0).val = (i 0).val; omega
  | ⟨1, _⟩ => show 0 * 32 + 1 * (i 1).val = (i 1).val; omega
  | ⟨2, _⟩ => show 0 * 2048 + 1 * (i 2).val = (i 2).val; omega
theorem iblk2 (c : Dev nD) (t : Fin cfg0.N) : (iblk m c 2 t : IVec S64x32 32) = V m c main_arg2 := by
  obtain rfl : t = ⟨0, by decide⟩ := by revert t; decide
  funext i
  refine congrArg (V m c (Pipeline.arrRef spec0 2)) (funext fun a => Fin.ext ?_)
  match a with
  | ⟨0, _⟩ => show 0 * 64 + 1 * (i 0).val = (i 0).val; omega
  | ⟨1, _⟩ => show 0 * 32 + 1 * (i 1).val = (i 1).val; omega
theorem iblk3 (c : Dev nD) (t : Fin cfg0.N) : (iblk m c 3 t : FVec Ideal S64x32 .f32) = V m c main_v29 := by
  obtain rfl : t = ⟨0, by decide⟩ := by revert t; decide
  funext i
  refine congrArg (V m c (Pipeline.arrRef spec0 3)) (funext fun a => Fin.ext ?_)
  match a with
  | ⟨0, _⟩ => show 0 * 64 + 1 * (i 0).val = (i 0).val; omega
  | ⟨1, _⟩ => show 0 * 32 + 1 * (i 1).val = (i 1).val; omega
theorem iblk4 (c : Dev nD) (t : Fin cfg0.N) : (iblk m c 4 t : FVec Ideal S64x2048x1408 .fp8e4m3) = V m c main_arg3 := by
  obtain rfl : t = ⟨0, by decide⟩ := by revert t; decide
  funext i
  refine congrArg (V m c (Pipeline.arrRef spec0 4)) (funext fun a => Fin.ext ?_)
  match a with
  | ⟨0, _⟩ => show 0 * 64 + 1 * (i 0).val = (i 0).val; omega
  | ⟨1, _⟩ => show 0 * 2048 + 1 * (i 1).val = (i 1).val; omega
  | ⟨2, _⟩ => show 0 * 1408 + 1 * (i 2).val = (i 2).val; omega
theorem iblk5 (c : Dev nD) (t : Fin cfg0.N) : (iblk m c 5 t : FVec Ideal S64x2048x1408 .fp8e4m3) = V m c main_arg4 := by
  obtain rfl : t = ⟨0, by decide⟩ := by revert t; decide
  funext i
  refine congrArg (V m c (Pipeline.arrRef spec0 5)) (funext fun a => Fin.ext ?_)
  match a with
  | ⟨0, _⟩ => show 0 * 64 + 1 * (i 0).val = (i 0).val; omega
  | ⟨1, _⟩ => show 0 * 2048 + 1 * (i 1).val = (i 1).val; omega
  | ⟨2, _⟩ => show 0 * 1408 + 1 * (i 2).val = (i 2).val; omega
theorem iblk6 (c : Dev nD) (t : Fin cfg0.N) : (iblk m c 6 t : FVec Ideal S64x1408 .f32) = V m c main_arg5 := by
  obtain rfl : t = ⟨0, by decide⟩ := by revert t; decide
  funext i
  refine congrArg (V m c (Pipeline.arrRef spec0 6)) (funext fun a => Fin.ext ?_)
  match a with
  | ⟨0, _⟩ => show 0 * 64 + 1 * (i 0).val = (i 0).val; omega
  | ⟨1, _⟩ => show 0 * 1408 + 1 * (i 1).val = (i 1).val; omega
theorem iblk7 (c : Dev nD) (t : Fin cfg0.N) : (iblk m c 7 t : FVec Ideal S64x1408 .f32) = V m c main_arg6 := by
  obtain rfl : t = ⟨0, by decide⟩ := by revert t; decide
  funext i
  refine congrArg (V m c (Pipeline.arrRef spec0 7)) (funext fun a => Fin.ext ?_)
  match a with
  | ⟨0, _⟩ => show 0 * 64 + 1 * (i 0).val = (i 0).val; omega
  | ⟨1, _⟩ => show 0 * 1408 + 1 * (i 1).val = (i 1).val; omega
theorem iblk8 (c : Dev nD) (t : Fin cfg0.N) : (iblk m c 8 t : FVec Ideal S64x1408x2048 .fp8e4m3) = V m c main_arg7 := by
  obtain rfl : t = ⟨0, by decide⟩ := by revert t; decide
  funext i
  refine congrArg (V m c (Pipeline.arrRef spec0 8)) (funext fun a => Fin.ext ?_)
  match a with
  | ⟨0, _⟩ => show 0 * 64 + 1 * (i 0).val = (i 0).val; omega
  | ⟨1, _⟩ => show 0 * 1408 + 1 * (i 1).val = (i 1).val; omega
  | ⟨2, _⟩ => show 0 * 2048 + 1 * (i 2).val = (i 2).val; omega
theorem iblk9 (c : Dev nD) (t : Fin cfg0.N) : (iblk m c 9 t : FVec Ideal S64x2048 .f32) = V m c main_arg8 := by
  obtain rfl : t = ⟨0, by decide⟩ := by revert t; decide
  funext i
  refine congrArg (V m c (Pipeline.arrRef spec0 9)) (funext fun a => Fin.ext ?_)
  match a with
  | ⟨0, _⟩ => show 0 * 64 + 1 * (i 0).val = (i 0).val; omega
  | ⟨1, _⟩ => show 0 * 2048 + 1 * (i 1).val = (i 1).val; omega

/-- The array of the first result. -/
theorem arr10 (c : Dev nD) (L : Layer)
    (h1 : ∀ e i k, (V m c main_v36 : FVec Ideal S64x32x2048 .bf16) (ix3 e i k) = L.x (L.ch e i) k) (h2 : ∀ e i, ((V m c main_arg2 : IVec S64x32 32) (ix2 e i)).toNat = (L.ch e i).val)
    (h3 : ∀ e i, (V m c main_v29 : FVec Ideal S64x32 .f32) (ix2 e i) = soft (fun e' => ∑ k, L.wr e' k * L.x (L.ch e i) k) e)
    (h4 : ∀ e d f, (V m c main_arg3 : FVec Ideal S64x2048x1408 .fp8e4m3) (ix3 e d f) = L.wg e d f) (h5 : ∀ e d f, (V m c main_arg4 : FVec Ideal S64x2048x1408 .fp8e4m3) (ix3 e d f) = L.wu e d f)
    (h6 : ∀ e f, (V m c main_arg5 : FVec Ideal S64x1408 .f32) (ix2 e f) = L.sg e f) (h7 : ∀ e f, (V m c main_arg6 : FVec Ideal S64x1408 .f32) (ix2 e f) = L.su e f)
    (h8 : ∀ e f d, (V m c main_arg7 : FVec Ideal S64x1408x2048 .fp8e4m3) (ix3 e f d) = L.wd e f d) (h9 : ∀ e d, (V m c main_arg8 : FVec Ideal S64x2048 .f32) (ix2 e d) = L.sd e d) (t : Fin 1024) (d : Fin 2048) :
    ((dats m 0 c).arrAt 10 cfg0.N : FVec Ideal S1024x2048 .bf16) (ix2 t d) = L.sum t d := by
  have h := congrFun (blocks10 m c t0 (flush0_10 _)) (ix2 t d)
  rw [flushed10, out10] at h
  rw [whole10] at h
  refine h.trans ?_
  refine Eq.trans ?_ (call_at L (V m c main_v36) (V m c main_arg2) (V m c main_v29) (V m c main_arg3) (V m c main_arg4) (V m c main_arg5) (V m c main_arg6) (V m c main_arg7) (V m c main_arg8) h1 h2 h3 h4 h5 h6 h7 h8 h9 t d)
  rw [← iblk1 m c t0, ← iblk2 m c t0, ← iblk3 m c t0, ← iblk4 m c t0, ← iblk5 m c t0, ← iblk6 m c t0, ← iblk7 m c t0, ← iblk8 m c t0, ← iblk9 m c t0]
  rfl

end Cert.ReferenceIdeal.Value

end
-- ==== Proof.RHost.lean ====
module

public import proofs.«01_k».proof.Proof.Spec
public import proofs.«01_k».proof.Proof.RefBlocks
public import Idealize.ShloMosaic.Lib.StableHlo.RunRead

/-! What the reference computes before its kernel call: the probabilities, and the chosen tokens gathered. -/

@[expose] public section
noncomputable section
namespace Cert.ReferenceIdeal.Value
open Cert.ReferenceIdeal Cert.ReferenceIdeal.Gen Cert.Spec Idealize.ShloMosaic Idealize.ShloMosaic.TcCoe Idealize.SL.Sem

/-- The logits. -/
def hLogit (x : FVec Ideal S1024x2048 .bf16) (w : FVec Ideal S2048x64 .f32) : FVec Ideal S1024x64 .f32 :=
  Host.dotGeneral dot_S1024x2048_S2048x64_S1024x64_1_0_0_1_n_n (some .fp32) (extf .f32 x bitsLt_bf16_f32) w
/-- The largest logit of each token. -/
def hMax (l : FVec Ideal S1024x64 .f32) : FVec Ideal S1024 .f32 :=
  maximumf (broadcastInDim S1024 ![] bcast_S_S1024 (constant S_ .f32 0xFF800000#32)) (Host.reduce FloatOps.maximumf l (constant S_ .f32 0xFF800000#32) reducesTo_S1024x64_S1024_d1 h_S_)
/-- A value per token, spread over the experts. -/
def hSpread (v : FVec Ideal S1024 .f32) : FVec Ideal S1024x64 .f32 := broadcastInDim S1024x64 ![0, 1] bcast_S1024x1_S1024x64_0_1 (broadcastInDim S1024x1 ![0] bcast_S1024_S1024x1_0 v)
def hExp (l : FVec Ideal S1024x64 .f32) : FVec Ideal S1024x64 .f32 := Host.exp (subf l (hSpread (hMax l)))
/-- The probabilities. -/
def hProb (l : FVec Ideal S1024x64 .f32) : FVec Ideal S1024x64 .f32 :=
  Host.divf (hExp l) (hSpread (Host.reduceAdd (hExp l) (constant S_ .f32 0x00000000#32) reducesTo_S1024x64_S1024_d1 h_S_))
/-- The chosen tokens' indices, negative ones counted from the end. -/
def hTok (ch : IVec S64x32 32) : IVec S64x32 32 :=
  select (cmpi .slt ch (broadcastInDim S64x32 ![] bcast_S_S64x32 (constantI S_ 32 0#32))) (addi ch (broadcastInDim S64x32 ![] bcast_S_S64x32 (constantI S_ 32 1024#32))) ch
/-- The experts' indices. -/
def hIota : IVec S64x1 32 := broadcastInDim S64x1 ![0] bcast_S64_S64x1_0 (iotaInDim S64 32 0)
def hExpert : IVec S64x1 32 :=
  select (cmpi .slt hIota (broadcastInDim S64x1 ![] bcast_S_S64x1 (constantI S_ 32 0#32))) (addi hIota (broadcastInDim S64x1 ![] bcast_S_S64x1 (constantI S_ 32 64#32))) hIota
/-- Each slot's token and expert. -/
def hPair (ch : IVec S64x32 32) : IVec S64x32x2 32 :=
  concatenate S64x32x2 2 [⟨S64x32x1, broadcastInDim S64x32x1 ![0, 1] bcast_S64x32_S64x32x1_0_1 (hTok ch)⟩, ⟨S64x32x1, broadcastInDim S64x32x1 ![0, 1] bcast_S64x32_S64x32x1_0_1 (broadcastInDim S64x32 ![0, 1] bcast_S64x1_S64x32_0_1 hExpert)⟩] concatenates_S64x32x1_S64x32x1_S64x32x2_d2

variable (m : (ℓ : Loc nD τ sig) → Buf (Elt Ideal) ℓ)

theorem V_v36 (c : Dev nD) : V m c main_v36 = Host.gather gather_S1024x2048_S64x32x1_S64x32x2048_2_0_n_n_0_2_12048 (m ((c : Thread nD τ).loc main_arg0) : FVec Ideal S1024x2048 .bf16) (broadcastInDim S64x32x1 ![0, 1] bcast_S64x32_S64x32x1_0_1 (hTok (m ((c : Thread nD τ).loc main_arg2)))) := by
  show StableHlo.after hostOps0 _ (Proc.devRef .tc main_v36) = _
  after_reads_simp
  rfl
theorem V_v29 (c : Dev nD) : V m c main_v29 = Host.gather gather_S1024x64_S64x32x2_S64x32_n_01_n_n_01_2_11 (hProb (hLogit (m ((c : Thread nD τ).loc main_arg0)) (m ((c : Thread nD τ).loc main_arg1)))) (hPair (m ((c : Thread nD τ).loc main_arg2))) := by
  show StableHlo.after hostOps0 _ (Proc.devRef .tc main_v29) = _
  after_reads_simp
  rfl
end Cert.ReferenceIdeal.Value

end
-- ==== Proof.RProb.lean ====
module

public import proofs.«01_k».proof.Proof.RHost
public import proofs.«01_k».proof.Proof.Layer

/-! The reference's probabilities and indices, element by element. -/

@[expose] public section
noncomputable section
namespace Cert.ReferenceIdeal.Value
open Cert.ReferenceIdeal Cert.ReferenceIdeal.Gen Cert.Spec Idealize.ShloMosaic Idealize.ShloMosaic.TcCoe Idealize.SL.Sem

theorem hLogit_at (x : FVec Ideal S1024x2048 .bf16) (w : FVec Ideal S2048x64 .f32) (t : Fin 1024) (e : Fin 64) : hLogit x w (ix2 t e) = ∑ k, x (ix2 t k) * w (ix2 k e) := by
  pointwise [hLogit]
theorem redMax_at (l : FVec Ideal S1024x64 .f32) (t : Fin 1024) :
    Host.reduce FloatOps.maximumf l (constant S_ .f32 0xFF800000#32) reducesTo_S1024x64_S1024_d1 h_S_ (ix1 t) = Finset.univ.fold max (Ideal.ofBits FTy.f32 4286578688#32) (fun e => l (ix2 t e)) := by
  pointwise []
theorem redAdd_at (l : FVec Ideal S1024x64 .f32) (t : Fin 1024) :
    Host.reduceAdd l (constant S_ .f32 0x00000000#32) reducesTo_S1024x64_S1024_d1 h_S_ (ix1 t) = ∑ e, l (ix2 t e) := by
  pointwise []
theorem hSpread_at (v : FVec Ideal S1024 .f32) (t : Fin 1024) (e : Fin 64) : hSpread v (ix2 t e) = v (ix1 t) := by
  pointwise [hSpread]
theorem hMax_of (l : FVec Ideal S1024x64 .f32) (t : Fin 1024) (R : FVec Ideal S1024 .f32) (hR : Host.reduce FloatOps.maximumf l (constant S_ .f32 0xFF800000#32) reducesTo_S1024x64_S1024_d1 h_S_ = R) :
    hMax l (ix1 t) = max (Ideal.ofBits FTy.f32 4286578688#32) (R (ix1 t)) := by
  unfold hMax
  rw [hR]
  pointwise []
theorem max_fold {n : ℕ} (a : EReal) (f : Fin n → EReal) : max a (Finset.univ.fold max a f) = Finset.univ.fold max a f := by
  refine max_eq_right ?_
  exact (Finset.le_fold_max a).2 (Or.inl le_rfl)
theorem hMax_at (l : FVec Ideal S1024x64 .f32) (t : Fin 1024) : hMax l (ix1 t) = Finset.univ.fold max (Ideal.ofBits FTy.f32 4286578688#32) (fun e => l (ix2 t e)) := by
  rw [hMax_of l t _ rfl, redMax_at, max_fold]
theorem hExp_of (l : FVec Ideal S1024x64 .f32) (t : Fin 1024) (e : Fin 64) (R : FVec Ideal S1024x64 .f32) (hR : hSpread (hMax l) = R) : hExp l (ix2 t e) = Ideal.exp (l (ix2 t e) - R (ix2 t e)) := by
  unfold hExp
  rw [hR]
  pointwise []
theorem hExp_at (l : FVec Ideal S1024x64 .f32) (t : Fin 1024) (e : Fin 64) : hExp l (ix2 t e) = Ideal.exp (l (ix2 t e) - Finset.univ.fold max (Ideal.ofBits FTy.f32 4286578688#32) (fun e => l (ix2 t e))) := by
  rw [hExp_of l t e _ rfl, hSpread_at, hMax_at]
theorem hProb_of (l : FVec Ideal S1024x64 .f32) (t : Fin 1024) (e : Fin 64) (E R : FVec Ideal S1024x64 .f32) (hE : hExp l = E) (hR : hSpread (Host.reduceAdd E (constant S_ .f32 0x00000000#32) reducesTo_S1024x64_S1024_d1 h_S_) = R) :
    hProb l (ix2 t e) = Ideal.div (E (ix2 t e)) (R (ix2 t e)) := by
  unfold hProb
  rw [hE, hR]
  pointwise []
/-- The probabilities are the softmax of the logits. -/
theorem hProb_at (l : FVec Ideal S1024x64 .f32) (t : Fin 1024) (e : Fin 64) : hProb l (ix2 t e) = soft (fun e => l (ix2 t e)) e := by
  rw [hProb_of l t e _ _ rfl rfl, hSpread_at, redAdd_at]
  simp only [hExp_at]
  rfl
end Cert.ReferenceIdeal.Value

end
-- ==== Proof.RIdx.lean ====
module

public import proofs.«01_k».proof.Proof.RHost
public import Idealize.ShloMosaic.Lib.WordCmp

/-! The reference's indices, and what it gathers by them. -/

@[expose] public section
noncomputable section
namespace Cert.ReferenceIdeal.Value
open Cert.ReferenceIdeal Cert.ReferenceIdeal.Gen Cert.Spec Idealize.ShloMosaic Idealize.ShloMosaic.TcCoe Idealize.SL.Sem

theorem hTok_of (ch : IVec S64x32 32) (e : Fin 64) (i : Fin 32) : hTok ch (ix2 e i) = Scalar.select (IntOp.cmpi .slt (ch (ix2 e i)) 0#32) (IntOp.addi (ch (ix2 e i)) 1024#32) (ch (ix2 e i)) := by
  pointwise [hTok]
theorem wrap_pos (w a : BitVec 32) (h : w.toNat < 2 ^ 31) : Scalar.select (IntOp.cmpi .slt w 0#32) a w = w := by
  have hs : w.slt 0#32 = false := by
    simp only [BitVec.slt, BitVec.toInt_eq_toNat_cond]
    simp; omega
  unfold IntOp.cmpi Scalar.select
  simp [hs]
theorem hTok_at (ch : IVec S64x32 32) (e : Fin 64) (i : Fin 32) (h : (ch (ix2 e i)).toNat < 1024) : hTok ch (ix2 e i) = ch (ix2 e i) := by
  rw [hTok_of]
  exact wrap_pos _ _ (by omega)
theorem hIota_at (e : Fin 64) : hIota (ix2 e 0) = BitVec.ofNat 32 e.val := by
  pointwise [hIota]
theorem hExpert_of (e : Fin 64) (I : IVec S64x1 32) (hI : hIota = I) : hExpert (ix2 e 0) = Scalar.select (IntOp.cmpi .slt (I (ix2 e 0)) 0#32) (IntOp.addi (I (ix2 e 0)) 64#32) (I (ix2 e 0)) := by
  unfold hExpert
  rw [hI]
  pointwise []
theorem hExpert_at (e : Fin 64) : hExpert (ix2 e 0) = BitVec.ofNat 32 e.val := by
  rw [hExpert_of e _ rfl, hIota_at]
  exact wrap_pos _ _ (by rw [BitVec.toNat_ofNat]; omega)
theorem bTok_at (v : IVec S64x32 32) (e : Fin 64) (i : Fin 32) : broadcastInDim S64x32x1 ![0, 1] bcast_S64x32_S64x32x1_0_1 v (ix3 e i 0) = v (ix2 e i) := by
  pointwise []
theorem bExp_at (v : IVec S64x1 32) (e : Fin 64) (i : Fin 32) : broadcastInDim S64x32x1 ![0, 1] bcast_S64x32_S64x32x1_0_1 (broadcastInDim S64x32 ![0, 1] bcast_S64x1_S64x32_0_1 v) (ix3 e i 0) = v (ix2 e 0) := by
  pointwise []
theorem cat_0 (a b : IVec S64x32x1 32) (e : Fin 64) (i : Fin 32) : concatenate S64x32x2 2 [⟨S64x32x1, a⟩, ⟨S64x32x1, b⟩] concatenates_S64x32x1_S64x32x1_S64x32x2_d2 (ix3 e i 0) = a (ix3 e i 0) := by
  pointwise []
theorem cat_1 (a b : IVec S64x32x1 32) (e : Fin 64) (i : Fin 32) : concatenate S64x32x2 2 [⟨S64x32x1, a⟩, ⟨S64x32x1, b⟩] concatenates_S64x32x1_S64x32x1_S64x32x2_d2 (ix3 e i 1) = b (ix3 e i 0) := by
  pointwise []
end Cert.ReferenceIdeal.Value

end
-- ==== Proof.RGather.lean ====
module

public import proofs.«01_k».proof.Proof.RHost

/-! The reference's two gathers, read at an index. -/

@[expose] public section
noncomputable section
namespace Cert.ReferenceIdeal.Value
open Cert.ReferenceIdeal Cert.ReferenceIdeal.Gen Cert.Spec Idealize.ShloMosaic Idealize.ShloMosaic.TcCoe Idealize.SL.Sem

theorem toInt_small (w : BitVec 32) (h : w.toNat < 1024) : w.toInt.toNat = w.toNat := by
  rw [BitVec.toInt_eq_toNat_cond]
  have : 2 * w.toNat < 2 ^ 32 := by omega
  rw [if_pos this]; rfl

/-- Rows gathered by index. -/
theorem rows_gather (x : FVec Ideal S1024x2048 .bf16) (idx : IVec S64x32x1 32) (e : Fin 64) (i : Fin 32) (d : Fin 2048) (t : Fin 1024) (h : (idx (ix3 e i 0)).toNat = t.val) :
    Host.gather gather_S1024x2048_S64x32x1_S64x32x2048_2_0_n_n_0_2_12048 x idx (ix3 e i d) = x (ix2 t d) := by
  unfold Host.gather
  refine congrArg x (funext fun a => Fin.ext ?_)
  show (gather_S1024x2048_S64x32x1_S64x32x2048_2_0_n_n_0_2_12048).start (ix3 e i d) idx a + (gather_S1024x2048_S64x32x1_S64x32x2048_2_0_n_n_0_2_12048).batchCoord (ix3 e i d) a + (gather_S1024x2048_S64x32x1_S64x32x2048_2_0_n_n_0_2_12048).offCoord (ix3 e i d) a = _
  rw [GatherDims.batchCoord_eq_zero _ _ _ List.not_mem_nil]
  obtain rfl | rfl : a = 0 ∨ a = 1 := by
    match a with
    | ⟨0, _⟩ => exact Or.inl rfl
    | ⟨1, _⟩ => exact Or.inr rfl
  · rw [GatherDims.offCoord_eq_zero _ _ _ (by decide)]
    unfold GatherDims.start
    rw [dif_pos (by decide)]
    have hsi : (gather_S1024x2048_S64x32x1_S64x32x2048_2_0_n_n_0_2_12048).siIdx (ix3 e i d) ⟨List.idxOf (0 : Fin 2) (gather_S1024x2048_S64x32x1_S64x32x2048_2_0_n_n_0_2_12048).startIndexMap, by decide⟩ = ix3 e i 0 := by
      funext b; refine Fin.ext ?_
      match b with
      | ⟨0, _⟩ => rfl
      | ⟨1, _⟩ => rfl
      | ⟨2, _⟩ => rfl
    have e1 := toInt_small (idx (ix3 e i 0)) (by omega)
    show min (idx ((gather_S1024x2048_S64x32x1_S64x32x2048_2_0_n_n_0_2_12048).siIdx (ix3 e i d) ⟨List.idxOf (0 : Fin 2) (gather_S1024x2048_S64x32x1_S64x32x2048_2_0_n_n_0_2_12048).startIndexMap, by decide⟩)).toInt.toNat 1023 + 0 + 0 = t.val
    rw [hsi, e1]; omega
  · unfold GatherDims.start
    rw [dif_neg (by decide)]
    show 0 + 0 + d.val = d.val
    omega

/-- Single elements gathered by pairs of indices. -/
theorem elems_gather (x : FVec Ideal S1024x64 .f32) (idx : IVec S64x32x2 32) (e : Fin 64) (i : Fin 32) (t : Fin 1024) (h : (idx (ix3 e i 0)).toNat = t.val) (h' : (idx (ix3 e i 1)).toNat = e.val) :
    Host.gather gather_S1024x64_S64x32x2_S64x32_n_01_n_n_01_2_11 x idx (ix2 e i) = x (ix2 t e) := by
  unfold Host.gather
  refine congrArg x (funext fun a => Fin.ext ?_)
  show (gather_S1024x64_S64x32x2_S64x32_n_01_n_n_01_2_11).start (ix2 e i) idx a + (gather_S1024x64_S64x32x2_S64x32_n_01_n_n_01_2_11).batchCoord (ix2 e i) a + (gather_S1024x64_S64x32x2_S64x32_n_01_n_n_01_2_11).offCoord (ix2 e i) a = _
  rw [GatherDims.batchCoord_eq_zero _ _ _ List.not_mem_nil]
  obtain rfl | rfl : a = 0 ∨ a = 1 := by
    match a with
    | ⟨0, _⟩ => exact Or.inl rfl
    | ⟨1, _⟩ => exact Or.inr rfl
  · rw [GatherDims.offCoord_eq_zero _ _ _ (by decide)]
    unfold GatherDims.start
    rw [dif_pos (by decide)]
    have hsi : (gather_S1024x64_S64x32x2_S64x32_n_01_n_n_01_2_11).siIdx (ix2 e i) ⟨List.idxOf (0 : Fin 2) (gather_S1024x64_S64x32x2_S64x32_n_01_n_n_01_2_11).startIndexMap, by decide⟩ = ix3 e i 0 := by
      funext b; refine Fin.ext ?_
      match b with
      | ⟨0, _⟩ => rfl
      | ⟨1, _⟩ => rfl
      | ⟨2, _⟩ => rfl
    have e1 := toInt_small (idx (ix3 e i 0)) (by omega)
    show min (idx ((gather_S1024x64_S64x32x2_S64x32_n_01_n_n_01_2_11).siIdx (ix2 e i) ⟨List.idxOf (0 : Fin 2) (gather_S1024x64_S64x32x2_S64x32_n_01_n_n_01_2_11).startIndexMap, by decide⟩)).toInt.toNat 1023 + 0 + 0 = t.val
    rw [hsi, e1]; omega
  · rw [GatherDims.offCoord_eq_zero _ _ _ (by decide)]
    unfold GatherDims.start
    rw [dif_pos (by decide)]
    have hsi : (gather_S1024x64_S64x32x2_S64x32_n_01_n_n_01_2_11).siIdx (ix2 e i) ⟨List.idxOf (1 : Fin 2) (gather_S1024x64_S64x32x2_S64x32_n_01_n_n_01_2_11).startIndexMap, by decide⟩ = ix3 e i 1 := by
      funext b; refine Fin.ext ?_
      match b with
      | ⟨0, _⟩ => rfl
      | ⟨1, _⟩ => rfl
      | ⟨2, _⟩ => rfl
    have e1 := toInt_small (idx (ix3 e i 1)) (by omega)
    show min (idx ((gather_S1024x64_S64x32x2_S64x32_n_01_n_n_01_2_11).siIdx (ix2 e i) ⟨List.idxOf (1 : Fin 2) (gather_S1024x64_S64x32x2_S64x32_n_01_n_n_01_2_11).startIndexMap, by decide⟩)).toInt.toNat 63 + 0 + 0 = e.val
    rw [hsi, e1]; omega
end Cert.ReferenceIdeal.Value

end
-- ==== Proof.RLayer.lean ====
module

public import proofs.«01_k».proof.Proof.RFirst
public import proofs.«01_k».proof.Proof.RProb
public import proofs.«01_k».proof.Proof.RIdx
public import proofs.«01_k».proof.Proof.RGather

/-! What the reference leaves in its first result, from its arguments. -/

@[expose] public section
noncomputable section
namespace Cert.ReferenceIdeal.Value
open Cert.ReferenceIdeal Cert.ReferenceIdeal.Gen Cert.Spec Idealize.ShloMosaic Idealize.ShloMosaic.TcCoe Idealize.SL.Sem

variable (m : (ℓ : Loc nD τ sig) → Buf (Elt Ideal) ℓ) (c : Dev nD)

/-- The gathered tokens. -/
theorem v36_at (x : FVec Ideal S1024x2048 .bf16) (ch : IVec S64x32 32) (hx : (m ((c : Thread nD τ).loc main_arg0) : FVec Ideal S1024x2048 .bf16) = x) (hc : (m ((c : Thread nD τ).loc main_arg2) : IVec S64x32 32) = ch)
    (e : Fin 64) (i : Fin 32) (t : Fin 1024) (ht : (ch (ix2 e i)).toNat = t.val) (k : Fin 2048) : (V m c main_v36 : FVec Ideal S64x32x2048 .bf16) (ix3 e i k) = x (ix2 t k) := by
  rw [V_v36 m c, hx, hc]
  exact rows_gather x _ e i k t (by rw [bTok_at, hTok_at ch e i (by omega)]; exact ht)

/-- The gathered probabilities. -/
theorem v29_at (x : FVec Ideal S1024x2048 .bf16) (w : FVec Ideal S2048x64 .f32) (ch : IVec S64x32 32) (hx : (m ((c : Thread nD τ).loc main_arg0) : FVec Ideal S1024x2048 .bf16) = x) (hw : (m ((c : Thread nD τ).loc main_arg1) : FVec Ideal S2048x64 .f32) = w)
    (hc : (m ((c : Thread nD τ).loc main_arg2) : IVec S64x32 32) = ch)
    (e : Fin 64) (i : Fin 32) (t : Fin 1024) (ht : (ch (ix2 e i)).toNat = t.val) : (V m c main_v29 : FVec Ideal S64x32 .f32) (ix2 e i) = soft (fun e' => ∑ k, x (ix2 t k) * w (ix2 k e')) e := by
  rw [V_v29 m c, hx, hw, hc]
  refine Eq.trans (elems_gather _ _ e i t ?_ ?_) ?_
  · unfold hPair; rw [cat_0, bTok_at, hTok_at ch e i (by omega)]; exact ht
  · unfold hPair; rw [cat_1, bExp_at, hExpert_at, BitVec.toNat_ofNat]; omega
  · rw [hProb_at]; simp only [hLogit_at]

/-- The reference's first result is the layer's sum. -/
theorem first_at (L : Layer)
    (h0 : ∀ t k, (m ((c : Thread nD τ).loc main_arg0) : FVec Ideal S1024x2048 .bf16) (ix2 t k) = L.x t k)
    (h1 : ∀ e k, (m ((c : Thread nD τ).loc main_arg1) : FVec Ideal S2048x64 .f32) (ix2 k e) = L.wr e k)
    (h2 : ∀ e i, ((m ((c : Thread nD τ).loc main_arg2) : IVec S64x32 32) (ix2 e i)).toNat = (L.ch e i).val)
    (h3 : ∀ e d f, (m ((c : Thread nD τ).loc main_arg3) : FVec Ideal S64x2048x1408 .fp8e4m3) (ix3 e d f) = L.wg e d f)
    (h4 : ∀ e d f, (m ((c : Thread nD τ).loc main_arg4) : FVec Ideal S64x2048x1408 .fp8e4m3) (ix3 e d f) = L.wu e d f)
    (h5 : ∀ e f, (m ((c : Thread nD τ).loc main_arg5) : FVec Ideal S64x1408 .f32) (ix2 e f) = L.sg e f)
    (h6 : ∀ e f, (m ((c : Thread nD τ).loc main_arg6) : FVec Ideal S64x1408 .f32) (ix2 e f) = L.su e f)
    (h7 : ∀ e f d, (m ((c : Thread nD τ).loc main_arg7) : FVec Ideal S64x1408x2048 .fp8e4m3) (ix3 e f d) = L.wd e f d)
    (h8 : ∀ e d, (m ((c : Thread nD τ).loc main_arg8) : FVec Ideal S64x2048 .f32) (ix2 e d) = L.sd e d) (t : Fin 1024) (d : Fin 2048) :
    ((dats m 0 c).arrAt 10 cfg0.N : FVec Ideal S1024x2048 .bf16) (ix2 t d) = L.sum t d := by
  refine arr10 m c L (fun e i k => ?_) (fun e i => ?_) (fun e i => ?_) (fun e d f => ?_) (fun e d f => ?_) (fun e f => ?_) (fun e f => ?_) (fun e f d => ?_) (fun e d => ?_) t d
  · exact (v36_at m c _ _ rfl rfl e i (L.ch e i) (h2 e i) k).trans (h0 _ _)
  · rw [V_main_arg2 m c]; exact h2 e i
  · refine (v29_at m c _ _ _ rfl rfl rfl e i (L.ch e i) (h2 e i)).trans (congrArg (fun l => soft l e) (funext fun e' => Finset.sum_congr rfl fun k _ => ?_))
    rw [h0, h1]
    exact mul_comm _ _
  · rw [V_main_arg3 m c]; exact h3 e d f
  · rw [V_main_arg4 m c]; exact h4 e d f
  · rw [V_main_arg5 m c]; exact h5 e f
  · rw [V_main_arg6 m c]; exact h6 e f
  · rw [V_main_arg7 m c]; exact h7 e f d
  · rw [V_main_arg8 m c]; exact h8 e d
end Cert.ReferenceIdeal.Value

end
-- ==== Proof.PreFin.lean ====
module

public import proofs.«01_k».proof.Pre_tokens_exist_router_finite
public import proofs.«01_k».proof.Proof.Gen.Pre_tokens_exist_router_finite
public import proofs.«01_k».proof.Proof.Spec
public import Idealize.ShloMosaic.Lib.ReduceAll

/-! What the precondition says: every chosen token exists, and every weight of the router is finite. -/

@[expose] public section
noncomputable section
namespace Cert.PreFin
open Cert.Pre_tokens_exist_router_finite Idealize.ShloMosaic Cert.Spec

variable [Facts]

/-- Both conjuncts of a conjunction that is one are one. -/
theorem and_one (a b : BitVec 1) (h : IntOp.andi a b = 1#1) : a = 1#1 ∧ b = 1#1 := by
  revert a b; decide

instance : Subsingleton S_.Idx := ⟨fun a b => funext fun i => i.elim0⟩

/-- A value whose magnitude is below infinity is finite. -/
theorem fin_of (x : EReal) (h : FloatOps.cmpf (F := Ideal) (φ := .f32) .olt (FloatOps.absf (F := Ideal) (φ := .f32) x) (Ideal.ofBits FTy.f32 0x7F800000#32) = 1#1) : x ≠ ⊤ ∧ x ≠ ⊥ := by
  have htop : Ideal.ofBits FTy.f32 0x7F800000#32 = ⊤ := by simp [Ideal.ofBits, Ideal.ieee]
  rw [htop] at h
  constructor
  · rintro rfl
    have h' : BitVec.ofBool (decide (max (⊤ : EReal) (-⊤) < ⊤)) = 1#1 := h
    simp at h'
  · rintro rfl
    have h' : BitVec.ofBool (decide (max (⊥ : EReal) (-⊥) < ⊤)) = 1#1 := h
    simp at h'

/-- The precondition, read element by element. -/
theorem read (a0 : FVec Ideal S1024x2048 .bf16) (a1 : FVec Ideal S2048x64 .f32) (a2 : IVec S64x32 32) (a3 a4 a5 a6 a7 a8)
    (h : fn (F := Ideal) a0 a1 a2 a3 a4 a5 a6 a7 a8 = fun _ => 1#1) :
    (∀ j, IntOp.andi (IntOp.cmpi .sge (a2 j) 0#32) (IntOp.cmpi .slt (a2 j) 1024#32) = 1#1) ∧ ∀ j, a1 j ≠ (⊤ : EReal) ∧ a1 j ≠ (⊥ : EReal) := by
  have h0 := congrFun h (fun i => i.elim0)
  obtain ⟨ht, hw⟩ := and_one _ _ h0
  refine ⟨fun j => ?_, fun j => ?_⟩
  · have := Host.reduce_andi_all _ _ _ _ _ ht j
    exact this
  · have := Host.reduce_andi_all _ _ _ _ _ hw j
    exact fin_of _ this
end Cert.PreFin

end
-- ==== Proof.EqualAll.lean ====
module

public import proofs.«01_k».proof.Proof.Equal
public import proofs.«01_k».proof.Proof.KHost
public import proofs.«01_k».proof.Proof.RLayer
public import proofs.«01_k».proof.Proof.PreFin

/-! All three results of the kernel and of the reference are the same arrays of the arguments. -/

@[expose] public section
noncomputable section
namespace Cert.Equal
open Idealize.ShloMosaic Idealize.ShloMosaic.TcCoe Idealize.SL.Sem Cert.Spec

/-- The array of a layer's sums. -/
def qSum (L : Layer) : FVec Ideal T2 .bf16 := fun i => L.sum (i 0) (i 1)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- What the precondition says of the arguments. -/
theorem pre_read (h : Cert.Pre_KernelIdeal_tokens_exist_router_finite m) (c : Dev Cert.KernelIdeal.nD) :
    (∀ j, IntOp.andi (IntOp.cmpi .sge (m ((c.tc : Thread Cert.KernelIdeal.nD Cert.KernelIdeal.τ).loc Cert.KernelIdeal.main_arg2) j) 0#32) (IntOp.cmpi .slt (m ((c.tc : Thread Cert.KernelIdeal.nD Cert.KernelIdeal.τ).loc Cert.KernelIdeal.main_arg2) j) 1024#32) = 1#1)
    ∧ ∀ j, (m ((c.tc : Thread Cert.KernelIdeal.nD Cert.KernelIdeal.τ).loc Cert.KernelIdeal.main_arg1) : FVec Ideal Cert.KernelIdeal.S2048x64 .f32) j ≠ (⊤ : EReal) ∧ (m ((c.tc : Thread Cert.KernelIdeal.nD Cert.KernelIdeal.τ).loc Cert.KernelIdeal.main_arg1) : FVec Ideal Cert.KernelIdeal.S2048x64 .f32) j ≠ (⊥ : EReal) :=
  Cert.PreFin.read _ _ _ _ _ _ _ _ _ (h c)

/-- The chosen tokens exist in the arrays that the kernel finds. -/
theorem chosen_ok (h : Cert.Pre_KernelIdeal_tokens_exist_router_finite m) (c : Dev Cert.KernelIdeal.nD) : Cert.KernelIdeal.Body.ChosenOk (Cert.KernelIdeal.Body.arr m c) := by
  intro e i
  have e2 : (Cert.KernelIdeal.Body.arr m c).w2 = m ((c.tc : Thread Cert.KernelIdeal.nD Cert.KernelIdeal.τ).loc Cert.KernelIdeal.main_arg2) := Cert.KernelIdeal.Gen.V_main_arg2 m c
  rw [e2]
  exact Cert.KernelIdeal.Body.tok_ok ((pre_read m h c).1 _)

/-- The layer of the kernel's arguments. -/
def layerM (h : Cert.Pre_KernelIdeal_tokens_exist_router_finite m) (c : Dev Cert.KernelIdeal.nD) : Layer := Cert.KernelIdeal.Body.layerOf (Cert.KernelIdeal.Body.arr m c) (chosen_ok m h c)

/-- The kernel's first result. -/
theorem kernel_first (h : Cert.Pre_KernelIdeal_tokens_exist_router_finite m) (c : Dev Cert.KernelIdeal.nD) (hch W0 W1 W2)
    (hr : Cert.KernelIdeal.Body.Result (Cert.KernelIdeal.Body.arr m c) hch W0 W1 W2) : (W0 : FVec Ideal T2 .bf16) = qSum (layerM m h c) :=
  ext2 _ _ fun a b => Cert.KernelIdeal.Body.first_at _ hch W0 W1 W2 hr (chosen_ok m h c) (fun e k => by
    rw [Cert.KernelIdeal.Body.w1_at m c e k]; exact (pre_read m h c).2 _) a b

/-- The reference's first result, from arguments equal to the kernel's. -/
theorem ref_first (h : Cert.Pre_KernelIdeal_tokens_exist_router_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    ((Cert.ReferenceIdeal.Gen.dats m' 0 c).arrAt 10 Cert.ReferenceIdeal.cfg0.N : FVec Ideal T2 .bf16) = qSum (layerM m h c) :=
  ext2 _ _ fun a b => Cert.ReferenceIdeal.Value.first_at m' c (layerM m h c)
    (fun t k => congrFun (h0.trans (Cert.KernelIdeal.Gen.V_main_arg0 m c).symm) (ix2 t k))
    (fun e k => (congrFun h1 (ix2 k e)).trans (Cert.KernelIdeal.Body.w1_at m c e k).symm)
    (fun e i => by
      have hi : m' ((c.tc : Thread Cert.ReferenceIdeal.nD Cert.ReferenceIdeal.τ).loc Cert.ReferenceIdeal.main_arg2) (ix2 e i) = (Cert.KernelIdeal.Body.arr m c).w2 (ix2 e i) := congrFun (h2.trans (Cert.KernelIdeal.Gen.V_main_arg2 m c).symm) (ix2 e i)
      rw [hi]
      rfl)
    (fun e d f => congrFun (h3.trans (Cert.KernelIdeal.Gen.V_main_arg3 m c).symm) (ix3 e d f))
    (fun e d f => congrFun (h4.trans (Cert.KernelIdeal.Gen.V_main_arg4 m c).symm) (ix3 e d f))
    (fun e f => congrFun (h5.trans (Cert.KernelIdeal.Gen.V_main_arg5 m c).symm) (ix2 e f))
    (fun e f => congrFun (h6.trans (Cert.KernelIdeal.Gen.V_main_arg6 m c).symm) (ix2 e f))
    (fun e f d => congrFun (h7.trans (Cert.KernelIdeal.Gen.V_main_arg7 m c).symm) (ix3 e f d))
    (fun e d => congrFun (h8.trans (Cert.KernelIdeal.Gen.V_main_arg8 m c).symm) (ix2 e d)) a b

/-- The two programs' three results are equal. -/
theorem algebraic_all : Cert.algebraic_KernelIdeal_ReferenceIdeal_pre_tokens_exist_router_finite := by
  intro m g m' g' hpre hm
  have hch := Cert.KernelIdeal.Body.chOk_mem m fun c => (pre_read m hpre c).1
  refine ⟨fun c => qSum (layerM m hpre c), fun c => qCodes (Cert.KernelIdeal.Body.arr m c).w0, fun c => qScale (Cert.KernelIdeal.Body.arr m c).w0, ?_, ?_⟩
  · refine (θ_run _ _ _).mono (fun r h c => ?_) (Cert.KernelIdeal.Body.run_main m g hch)
    obtain ⟨e1, e2⟩ := kernel c _ _ _ _ _ (h.1.2 c)
    exact ⟨kernel_first m hpre c _ _ _ _ (h.1.2 c), e1, e2, Cert.KernelIdeal.Body.args_of m hch r h c⟩
  · refine (θ_run _ _ _).mono (fun r h c => ?_) (Cert.ReferenceIdeal.Value.run_blocks m' g')
    obtain ⟨ea, e1, e2, hargs⟩ := h c
    have e0 : Cert.ReferenceIdeal.Value.tok m' c = (Cert.KernelIdeal.Body.arr m c).w0 :=
      ((hm c).1).trans (Cert.KernelIdeal.Gen.V_main_arg0 m c).symm
    obtain ⟨h0, h1, h2, h3, h4, h5, h6, h7, h8⟩ := hm c
    refine ⟨?_, ?_, ?_, hargs⟩
    · exact ea.trans (ref_first m m' hpre c h0 h1 h2 h3 h4 h5 h6 h7 h8)
    · exact e1.trans ((ref_codes m' c).trans (by rw [e0]))
    · exact e2.trans ((ref_scale m' c).trans (by rw [e0]))

end Cert.Equal

end
-- ==== Proof.lean ====
/- The proof of the certificate's claims. The kernel's run is in `Proof/Ideal/Run.lean`,
   for floats of any kind; `Proof/Same.lean` carries it over to the kernel as run; the equality of codes and scales in
   `Proof/Equal.lean`, that of all three results in `Proof/EqualAll.lean`; the frame of the reference is generated. -/
module

public import proofs.«01_k».proof.Defs
public import proofs.«01_k».proof.Proof.Same
public import proofs.«01_k».proof.Proof.Ideal.Tokens
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_tokens_exist
public import proofs.«01_k».proof.Proof.Gen.On_codes_and_scales
public import proofs.«01_k».proof.Proof.Gen.Pre_tokens_exist_router_finite
public import proofs.«01_k».proof.Proof.Equal
public import proofs.«01_k».proof.Proof.EqualAll

@[expose] public section

noncomputable section

namespace Cert.Proof

open Idealize.ShloMosaic Idealize.SL.Sem

/-- The kernel as run: it terminates, its arguments end unchanged and every semaphore ends at zero. -/
theorem frame_kernel : Cert.quiescent_Kernel := fun m g h => by
  rw [Cert.Same.defs_eq]
  exact Cert.KernelIdeal.Body.frame_main (F := Bits) m g
    (Cert.KernelIdeal.Body.chOk_mem (F := Bits) m fun c j => congrFun (h c) j)

/-- The kernel on extended reals: the same. -/
theorem frame_kernelIdeal : Cert.quiescent_KernelIdeal := fun m g h =>
  Cert.KernelIdeal.Body.frame_main m g (Cert.KernelIdeal.Body.chOk_mem m fun c j => congrFun (h c) j)

/-- The reference on extended reals: the same. -/
theorem frame_reference : Cert.quiescent_ReferenceIdeal := fun m g _ =>
  Cert.ReferenceIdeal.Gen.frame m g

/-- The kernel on extended reals, from the memories that the equality of all results speaks of. -/
theorem frame_kernelIdeal_finite : Cert.quiescent_KernelIdeal_pre_tokens_exist_router_finite := fun m g h =>
  Cert.KernelIdeal.Body.frame_main m g (Cert.KernelIdeal.Body.chOk_mem m fun c => (Cert.Equal.pre_read m h c).1)

/-- The reference on extended reals, from the same memories. -/
theorem frame_reference_finite : Cert.quiescent_ReferenceIdeal_pre_tokens_exist_router_finite := fun m g _ =>
  Cert.ReferenceIdeal.Gen.frame m g

/-- The reference on extended reals, from the memories that the equality of codes and scales speaks of. -/
theorem frame_reference_tokens : Cert.quiescent_ReferenceIdeal_pre_tokens_exist := fun m g _ =>
  Cert.ReferenceIdeal.Gen.frame m g

theorem claim : Cert.Claim :=
  ⟨Cert.Kernel.Gen.facts, Cert.KernelIdeal.Gen.facts, Cert.ReferenceIdeal.Gen.facts, Cert.Pre_tokens_exist.Gen.facts,
    Cert.Pre_tokens_exist_router_finite.Gen.facts, Cert.On_codes_and_scales.Gen.facts,
    frame_kernel, frame_kernelIdeal, frame_kernelIdeal_finite, frame_reference, frame_reference_finite,
    frame_reference_tokens, trivial, Cert.Equal.algebraic_all, Cert.Equal.algebraic⟩

end Cert.Proof

end
